-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120_0) = v0 c
          ∧ r.2.mem ((c.tc : Thread Cert.ReferenceIdeal.nD Cert.ReferenceIdeal.τ).loc Cert.ReferenceIdeal.main_v120_1) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1536x4096 : Shape := ⟨3, ![8, 1536, 4096]⟩
abbrev S4096x2816 : Shape := ⟨2, ![4096, 2816]⟩
abbrev S128x5632 : Shape := ⟨2, ![128, 5632]⟩
abbrev S_ : Shape := ⟨0, ![]⟩

class Facts : Prop where
  bitsLt_bf16_f32 : FTy.bits .bf16 < FTy.bits .f32
  bcast_S_S8x1536x4096 : S_.BroadcastsInDim S8x1536x4096 (![] : Fin 0 → Fin S8x1536x4096.rank)
  reducesTo_S8x1536x4096_S_d0_1_2 : S8x1536x4096.ReducesTo [0, 1, 2] S_
  h_S_ : 0 < S_.numel

variable [Facts]

def fn {F : FTy → Type} [FloatOps F] (main_arg0 : FVec F S8x1536x4096 .bf16) (main_arg1 : IVec S4096x2816 8) (main_arg2 : IVec S128x5632 8) : IVec S_ 1 :=
  let main_v0 : FVec F S8x1536x4096 .f32 := (extf .f32 · bitsLt_bf16_f32) main_arg0
  let main_v1 : FVec F S8x1536x4096 .f32 := Host.absf main_v0
  let main_cst : FVec F S_ .f32 := constant S_ .f32 0x7F7F0000#32
  let main_v2 : FVec F S8x1536x4096 .f32 := broadcastInDim S8x1536x4096 ![] bcast_S_S8x1536x4096 main_cst
  let main_v3 : IVec S8x1536x4096 1 := cmpf .ole main_v1 main_v2
  let main_c : IVec S_ 1 := constantI S_ 1 1#1
  let main_v4 : IVec S_ 1 := (fun x v => Host.reduce IntOp.andi x v reducesTo_S8x1536x4096_S_d0_1_2 h_S_) main_v3 main_c
  main_v4
-- ==== Kernel.lean ====
abbrev S8x1536x4096 : Shape := ⟨3, ![8, 1536, 4096]⟩
abbrev S4096x2816 : Shape := ⟨2, ![4096, 2816]⟩
abbrev S128x5632 : Shape := ⟨2, ![128, 5632]⟩
abbrev S12288x4096 : Shape := ⟨2, ![12288, 4096]⟩
abbrev S12288x5632 : Shape := ⟨2, ![12288, 5632]⟩
abbrev S8x1x1536 : Shape := ⟨3, ![8, 1, 1536]⟩
abbrev S4096x5632 : Shape := ⟨2, ![4096, 5632]⟩
abbrev S2x256x4096 : Shape := ⟨3, ![2, 256, 4096]⟩
abbrev S2x256x5632 : Shape := ⟨3, ![2, 256, 5632]⟩
abbrev S2x4096x256 : Shape := ⟨3, ![2, 4096, 256]⟩
abbrev S128x512 : Shape := ⟨2, ![128, 512]⟩
abbrev S2 : Shape := ⟨1, ![2]⟩
abbrev S_ : Shape := ⟨0, ![]⟩
abbrev S1 : Shape := ⟨1, ![1]⟩
abbrev S1x4096x256 : Shape := ⟨3, ![1, 4096, 256]⟩
abbrev S4096x256 : Shape := ⟨2, ![4096, 256]⟩
abbrev S1x256x4096 : Shape := ⟨3, ![1, 256, 4096]⟩
abbrev S256x4096 : Shape := ⟨2, ![256, 4096]⟩
abbrev S128x256 : Shape := ⟨2, ![128, 256]⟩
abbrev S32x256 : Shape := ⟨2, ![32, 256]⟩
abbrev S8x256 : Shape := ⟨2, ![8, 256]⟩
abbrev S1x256 : Shape := ⟨2, ![1, 256]⟩
abbrev S16x256 : Shape := ⟨2, ![16, 256]⟩
abbrev S1x32x4096 : Shape := ⟨3, ![1, 32, 4096]⟩
abbrev S32x4096 : Shape := ⟨2, ![32, 4096]⟩
abbrev S32x128 : Shape := ⟨2, ![32, 128]⟩
abbrev S32 : Shape := ⟨1, ![32]⟩
abbrev S32x1 : Shape := ⟨2, ![32, 1]⟩
abbrev S256x128 : Shape := ⟨2, ![256, 128]⟩
abbrev S1x1x256 : Shape := ⟨3, ![1, 1, 256]⟩
abbrev S256x5632 : Shape := ⟨2, ![256, 5632]⟩
abbrev S1x256x5632 : Shape := ⟨3, ![1, 256, 5632]⟩
abbrev S4096x512 : Shape := ⟨2, ![4096, 512]⟩
abbrev S256x512 : Shape := ⟨2, ![256, 512]⟩
abbrev S1x256x512 : Shape := ⟨3, ![1, 256, 512]⟩

abbrev nBuf : Space → Nat
  | .hbm => 7
  | .vmem => 9
  | .smem => 0
  | _ => 0

abbrev bufTy : (tb : Table) → Fin (tcTables nBuf tb) → BufTy
  | .hbm, ⟨0, _⟩ => ⟨S8x1536x4096, .bf16⟩
  | .hbm, ⟨1, _⟩ => ⟨S4096x2816, .i8⟩
  | .hbm, ⟨2, _⟩ => ⟨S128x5632, .i8⟩
  | .hbm, ⟨3, _⟩ => ⟨S12288x4096, .bf16⟩
  | .hbm, ⟨4, _⟩ => ⟨S12288x5632, .bf16⟩
  | .hbm, ⟨5, _⟩ => ⟨S12288x4096, .fp8e4m3⟩
  | .hbm, ⟨6, _⟩ => ⟨S8x1x1536, .f32⟩
  | .local _ .vmem, ⟨0, _⟩ => ⟨S8x1x1536, .f32⟩
  | .local _ .vmem, ⟨1, _⟩ => ⟨S4096x5632, .bf16⟩
  | .local _ .vmem, ⟨2, _⟩ => ⟨S2x256x4096, .bf16⟩
  | .local _ .vmem, ⟨3, _⟩ => ⟨S2x256x4096, .fp8e4m3⟩
  | .local _ .vmem, ⟨4, _⟩ => ⟨S2x256x4096, .bf16⟩
  | .local _ .vmem, ⟨5, _⟩ => ⟨S2x256x5632, .bf16⟩
  | .local _ .vmem, ⟨6, _⟩ => ⟨S2x4096x256, .i8⟩
  | .local _ .vmem, ⟨7, _⟩ => ⟨S128x5632, .i8⟩
  | .local _ .vmem, ⟨8, _⟩ => ⟨S128x512, .i32⟩
  | _, _ => ⟨S8x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_35 : BitVec 32 := 0#32
  let c128_i32 : BitVec 32 := 128#32
  let v45 : BitVec 32 := Scalar.addi c0_i32_35 c128_i32
  let c1_i32_36 : BitVec 32 := 1#32
  ⟨c0_i32_35, v45, c1_i32_36⟩
def k0_mult1 (k0_t1 : Fin k0_t1_loop.trips) : BitVec 32 :=
  let c0_i32_535 : BitVec 32 := 0#32
  let c0_i32_35 : BitVec 32 := 0#32
  let c1_i32_36 : BitVec 32 := 1#32
  let arg19 : BitVec 32 := Scf.iv c0_i32_35 c1_i32_36 k0_t1
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off1 (k0_t1 : Fin k0_t1_loop.trips) : Fin 2 → Nat :=
  let c0_i32_535 : BitVec 32 := 0#32
  let c0_i32_35 : BitVec 32 := 0#32
  let c1_i32_36 : BitVec 32 := 1#32
  let arg19 : BitVec 32 := Scf.iv c0_i32_35 c1_i32_36 k0_t1
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off2 (k0_t1 : Fin k0_t1_loop.trips) : Fin 2 → Nat :=
  let c0_i32_535 : BitVec 32 := 0#32
  let c0_i32_35 : BitVec 32 := 0#32
  let c1_i32_36 : BitVec 32 := 1#32
  let arg19 : BitVec 32 := Scf.iv c0_i32_35 c1_i32_36 k0_t1
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off3 (k0_t1 : Fin k0_t1_loop.trips) : Fin 2 → Nat :=
  let c0_i32_535 : BitVec 32 := 0#32
  let c0_i32_35 : BitVec 32 := 0#32
  let c1_i32_36 : BitVec 32 := 1#32
  let arg19 : BitVec 32 := Scf.iv c0_i32_35 c1_i32_36 k0_t1
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c0_542 : Index := 0#32
  ![v1424.toNat, 0]
def k0_off4 (k0_t1 : Fin k0_t1_loop.trips) : Fin 2 → Nat :=
  let c0_i32_535 : BitVec 32 := 0#32
  let c0_i32_35 : BitVec 32 := 0#32
  let c1_i32_36 : BitVec 32 := 1#32
  let arg19 : BitVec 32 := Scf.iv c0_i32_35 c1_i32_36 k0_t1
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off5 (k0_t1 : Fin k0_t1_loop.trips) : Fin 2 → Nat :=
  let c0_i32_535 : BitVec 32 := 0#32
  let c0_i32_35 : BitVec 32 := 0#32
  let c1_i32_36 : BitVec 32 := 1#32
  let arg19 : BitVec 32 := Scf.iv c0_i32_35 c1_i32_36 k0_t1
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c2816_545 : Index := 2816#32
  ![v1439.toNat, 2816]
@[reducible] def k0_t2_loop : Scf.Loop 32 :=
  let c0_i32_61 : BitVec 32 := 0#32
  let c128_i32_62 : BitVec 32 := 128#32
  let v76 : BitVec 32 := Scalar.addi c0_i32_61 c128_i32_62
  let c1_i32_63 : BitVec 32 := 1#32
  ⟨c0_i32_61, v76, c1_i32_63⟩
def k0_mult2 (k0_t2 : Fin k0_t2_loop.trips) : BitVec 32 :=
  let c0_i32_535 : BitVec 32 := 0#32
  let c0_i32_61 : BitVec 32 := 0#32
  let c1_i32_63 : BitVec 32 := 1#32
  let arg19 : BitVec 32 := Scf.iv c0_i32_61 c1_i32_63 k0_t2
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off6 (k0_t2 : Fin k0_t2_loop.trips) : Fin 2 → Nat :=
  let c0_i32_535 : BitVec 32 := 0#32
  let c0_i32_61 : BitVec 32 := 0#32
  let c1_i32_63 : BitVec 32 := 1#32
  let arg19 : BitVec 32 := Scf.iv c0_i32_61 c1_i32_63 k0_t2
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off7 (k0_t2 : Fin k0_t2_loop.trips) : Fin 2 → Nat :=
  let c0_i32_535 : BitVec 32 := 0#32
  let c0_i32_61 : BitVec 32 := 0#32
  let c1_i32_63 : BitVec 32 := 1#32
  let arg19 : BitVec 32 := Scf.iv c0_i32_61 c1_i32_63 k0_t2
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off8 (k0_t2 : Fin k0_t2_loop.trips) : Fin 2 → Nat :=
  let c0_i32_535 : BitVec 32 := 0#32
  let c0_i32_61 : BitVec 32 := 0#32
  let c1_i32_63 : BitVec 32 := 1#32
  let arg19 : BitVec 32 := Scf.iv c0_i32_61 c1_i32_63 k0_t2
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c256_542 : Index := 256#32
  ![v1424.toNat, 256]
def k0_off9 (k0_t2 : Fin k0_t2_loop.trips) : Fin 2 → Nat :=
  let c0_i32_535 : BitVec 32 := 0#32
  let c0_i32_61 : BitVec 32 := 0#32
  let c1_i32_63 : BitVec 32 := 1#32
  let arg19 : BitVec 32 := Scf.iv c0_i32_61 c1_i32_63 k0_t2
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off10 (k0_t2 : Fin k0_t2_loop.trips) : Fin 2 → Nat :=
  let c0_i32_535 : BitVec 32 := 0#32
  let c0_i32_61 : BitVec 32 := 0#32
  let c1_i32_63 : BitVec 32 := 1#32
  let arg19 : BitVec 32 := Scf.iv c0_i32_61 c1_i32_63 k0_t2
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c3072_545 : Index := 3072#32
  ![v1439.toNat, 3072]
@[reducible] def k0_t3_loop : Scf.Loop 32 :=
  let c0_i32_87 : BitVec 32 := 0#32
  let c128_i32_88 : BitVec 32 := 128#32
  let v107 : BitVec 32 := Scalar.addi c0_i32_87 c128_i32_88
  let c1_i32_89 : BitVec 32 := 1#32
  ⟨c0_i32_87, v107, c1_i32_89⟩
def k0_mult3 (k0_t3 : Fin k0_t3_loop.trips) : BitVec 32 :=
  let c0_i32_535 : BitVec 32 := 0#32
  let c0_i32_87 : BitVec 32 := 0#32
  let c1_i32_89 : BitVec 32 := 1#32
  let arg19 : BitVec 32 := Scf.iv c0_i32_87 c1_i32_89 k0_t3
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off11 (k0_t3 : Fin k0_t3_loop.trips) : Fin 2 → Nat :=
  let c0_i32_535 : BitVec 32 := 0#32
  let c0_i32_87 : BitVec 32 := 0#32
  let c1_i32_89 : BitVec 32 := 1#32
  let arg19 : BitVec 32 := Scf.iv c0_i32_87 c1_i32_89 k0_t3
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off12 (k0_t3 : Fin k0_t3_loop.trips) : Fin 2 → Nat :=
  let c0_i32_535 : BitVec 32 := 0#32
  let c0_i32_87 : BitVec 32 := 0#32
  let c1_i32_89 : BitVec 32 := 1#32
  let arg19 : BitVec 32 := Scf.iv c0_i32_87 c1_i32_89 k0_t3
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off13 (k0_t3 : Fin k0_t3_loop.trips) : Fin 2 → Nat :=
  let c0_i32_535 : BitVec 32 := 0#32
  let c0_i32_87 : BitVec 32 := 0#32
  let c1_i32_89 : BitVec 32 := 1#32
  let arg19 : BitVec 32 := Scf.iv c0_i32_87 c1_i32_89 k0_t3
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c512_542 : Index := 512#32
  ![v1424.toNat, 512]
def k0_off14 (k0_t3 : Fin k0_t3_loop.trips) : Fin 2 → Nat :=
  let c0_i32_535 : BitVec 32 := 0#32
  let c0_i32_87 : BitVec 32 := 0#32
  let c1_i32_89 : BitVec 32 := 1#32
  let arg19 : BitVec 32 := Scf.iv c0_i32_87 c1_i32_89 k0_t3
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off15 (k0_t3 : Fin k0_t3_loop.trips) : Fin 2 → Nat :=
  let c0_i32_535 : BitVec 32 := 0#32
  let c0_i32_87 : BitVec 32 := 0#32
  let c1_i32_89 : BitVec 32 := 1#32
  let arg19 : BitVec 32 := Scf.iv c0_i32_87 c1_i32_89 k0_t3
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c3328_545 : Index := 3328#32
  ![v1439.toNat, 3328]
@[reducible] def k0_t4_loop : Scf.Loop 32 :=
  let c0_i32_113 : BitVec 32 := 0#32
  let c128_i32_114 : BitVec 32 := 128#32
  let v138 : BitVec 32 := Scalar.addi c0_i32_113 c128_i32_114
  let c1_i32_115 : BitVec 32 := 1#32
  ⟨c0_i32_113, v138, c1_i32_115⟩
def k0_mult4 (k0_t4 : Fin k0_t4_loop.trips) : BitVec 32 :=
  let c0_i32_535 : BitVec 32 := 0#32
  let c0_i32_113 : BitVec 32 := 0#32
  let c1_i32_115 : BitVec 32 := 1#32
  let arg19 : BitVec 32 := Scf.iv c0_i32_113 c1_i32_115 k0_t4
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off16 (k0_t4 : Fin k0_t4_loop.trips) : Fin 2 → Nat :=
  let c0_i32_535 : BitVec 32 := 0#32
  let c0_i32_113 : BitVec 32 := 0#32
  let c1_i32_115 : BitVec 32 := 1#32
  let arg19 : BitVec 32 := Scf.iv c0_i32_113 c1_i32_115 k0_t4
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off17 (k0_t4 : Fin k0_t4_loop.trips) : Fin 2 → Nat :=
  let c0_i32_535 : BitVec 32 := 0#32
  let c0_i32_113 : BitVec 32 := 0#32
  let c1_i32_115 : BitVec 32 := 1#32
  let arg19 : BitVec 32 := Scf.iv c0_i32_113 c1_i32_115 k0_t4
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off18 (k0_t4 : Fin k0_t4_loop.trips) : Fin 2 → Nat :=
  let c0_i32_535 : BitVec 32 := 0#32
  let c0_i32_113 : BitVec 32 := 0#32
  let c1_i32_115 : BitVec 32 := 1#32
  let arg19 : BitVec 32 := Scf.iv c0_i32_113 c1_i32_115 k0_t4
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c768_542 : Index := 768#32
  ![v1424.toNat, 768]
def k0_off19 (k0_t4 : Fin k0_t4_loop.trips) : Fin 2 → Nat :=
  let c0_i32_535 : BitVec 32 := 0#32
  let c0_i32_113 : BitVec 32 := 0#32
  let c1_i32_115 : BitVec 32 := 1#32
  let arg19 : BitVec 32 := Scf.iv c0_i32_113 c1_i32_115 k0_t4
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off20 (k0_t4 : Fin k0_t4_loop.trips) : Fin 2 → Nat :=
  let c0_i32_535 : BitVec 32 := 0#32
  let c0_i32_113 : BitVec 32 := 0#32
  let c1_i32_115 : BitVec 32 := 1#32
  let arg19 : BitVec 32 := Scf.iv c0_i32_113 c1_i32_115 k0_t4
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c3584_545 : Index := 3584#32
  ![v1439.toNat, 3584]
@[reducible] def k0_t5_loop : Scf.Loop 32 :=
  let c0_i32_139 : BitVec 32 := 0#32
  let c128_i32_140 : BitVec 32 := 128#32
  let v169 : BitVec 32 := Scalar.addi c0_i32_139 c128_i32_140
  let c1_i32_141 : BitVec 32 := 1#32
  ⟨c0_i32_139, v169, c1_i32_141⟩
def k0_mult5 (k0_t5 : Fin k0_t5_loop.trips) : BitVec 32 :=
  let c0_i32_535 : BitVec 32 := 0#32
  let c0_i32_139 : BitVec 32 := 0#32
  let c1_i32_141 : BitVec 32 := 1#32
  let arg19 : BitVec 32 := Scf.iv c0_i32_139 c1_i32_141 k0_t5
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off21 (k0_t5 : Fin k0_t5_loop.trips) : Fin 2 → Nat :=
  let c0_i32_535 : BitVec 32 := 0#32
  let c0_i32_139 : BitVec 32 := 0#32
  let c1_i32_141 : BitVec 32 := 1#32
  let arg19 : BitVec 32 := Scf.iv c0_i32_139 c1_i32_141 k0_t5
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off22 (k0_t5 : Fin k0_t5_loop.trips) : Fin 2 → Nat :=
  let c0_i32_535 : BitVec 32 := 0#32
  let c0_i32_139 : BitVec 32 := 0#32
  let c1_i32_141 : BitVec 32 := 1#32
  let arg19 : BitVec 32 := Scf.iv c0_i32_139 c1_i32_141 k0_t5
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off23 (k0_t5 : Fin k0_t5_loop.trips) : Fin 2 → Nat :=
  let c0_i32_535 : BitVec 32 := 0#32
  let c0_i32_139 : BitVec 32 := 0#32
  let c1_i32_141 : BitVec 32 := 1#32
  let arg19 : BitVec 32 := Scf.iv c0_i32_139 c1_i32_141 k0_t5
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c1024_542 : Index := 1024#32
  ![v1424.toNat, 1024]
def k0_off24 (k0_t5 : Fin k0_t5_loop.trips) : Fin 2 → Nat :=
  let c0_i32_535 : BitVec 32 := 0#32
  let c0_i32_139 : BitVec 32 := 0#32
  let c1_i32_141 : BitVec 32 := 1#32
  let arg19 : BitVec 32 := Scf.iv c0_i32_139 c1_i32_141 k0_t5
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off25 (k0_t5 : Fin k0_t5_loop.trips) : Fin 2 → Nat :=
  let c0_i32_535 : BitVec 32 := 0#32
  let c0_i32_139 : BitVec 32 := 0#32
  let c1_i32_141 : BitVec 32 := 1#32
  let arg19 : BitVec 32 := Scf.iv c0_i32_139 c1_i32_141 k0_t5
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c3840_545 : Index := 3840#32
  ![v1439.toNat, 3840]
@[reducible] def k0_t6_loop : Scf.Loop 32 :=
  let c0_i32_165 : BitVec 32 := 0#32
  let c128_i32_166 : BitVec 32 := 128#32
  let v200 : BitVec 32 := Scalar.addi c0_i32_165 c128_i32_166
  let c1_i32_167 : BitVec 32 := 1#32
  ⟨c0_i32_165, v200, c1_i32_167⟩
def k0_mult6 (k0_t6 : Fin k0_t6_loop.trips) : BitVec 32 :=
  let c0_i32_535 : BitVec 32 := 0#32
  let c0_i32_165 : BitVec 32 := 0#32
  let c1_i32_167 : BitVec 32 := 1#32
  let arg19 : BitVec 32 := Scf.iv c0_i32_165 c1_i32_167 k0_t6
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off26 (k0_t6 : Fin k0_t6_loop.trips) : Fin 2 → Nat :=
  let c0_i32_535 : BitVec 32 := 0#32
  let c0_i32_165 : BitVec 32 := 0#32
  let c1_i32_167 : BitVec 32 := 1#32
  let arg19 : BitVec 32 := Scf.iv c0_i32_165 c1_i32_167 k0_t6
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off27 (k0_t6 : Fin k0_t6_loop.trips) : Fin 2 → Nat :=
  let c0_i32_535 : BitVec 32 := 0#32
  let c0_i32_165 : BitVec 32 := 0#32
  let c1_i32_167 : BitVec 32 := 1#32
  let arg19 : BitVec 32 := Scf.iv c0_i32_165 c1_i32_167 k0_t6
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off28 (k0_t6 : Fin k0_t6_loop.trips) : Fin 2 → Nat :=
  let c0_i32_535 : BitVec 32 := 0#32
  let c0_i32_165 : BitVec 32 := 0#32
  let c1_i32_167 : BitVec 32 := 1#32
  let arg19 : BitVec 32 := Scf.iv c0_i32_165 c1_i32_167 k0_t6
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c1280_542 : Index := 1280#32
  ![v1424.toNat, 1280]
def k0_off29 (k0_t6 : Fin k0_t6_loop.trips) : Fin 2 → Nat :=
  let c0_i32_535 : BitVec 32 := 0#32
  let c0_i32_165 : BitVec 32 := 0#32
  let c1_i32_167 : BitVec 32 := 1#32
  let arg19 : BitVec 32 := Scf.iv c0_i32_165 c1_i32_167 k0_t6
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off30 (k0_t6 : Fin k0_t6_loop.trips) : Fin 2 → Nat :=
  let c0_i32_535 : BitVec 32 := 0#32
  let c0_i32_165 : BitVec 32 := 0#32
  let c1_i32_167 : BitVec 32 := 1#32
  let arg19 : BitVec 32 := Scf.iv c0_i32_165 c1_i32_167 k0_t6
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c4096_545 : Index := 4096#32
  ![v1439.toNat, 4096]
@[reducible] def k0_t7_loop : Scf.Loop 32 :=
  let c0_i32_191 : BitVec 32 := 0#32
  let c128_i32_192 : BitVec 32 := 128#32
  let v231 : BitVec 32 := Scalar.addi c0_i32_191 c128_i32_192
  let c1_i32_193 : BitVec 32 := 1#32
  ⟨c0_i32_191, v231, c1_i32_193⟩
def k0_mult7 (k0_t7 : Fin k0_t7_loop.trips) : BitVec 32 :=
  let c0_i32_535 : BitVec 32 := 0#32
  let c0_i32_191 : BitVec 32 := 0#32
  let c1_i32_193 : BitVec 32 := 1#32
  let arg19 : BitVec 32 := Scf.iv c0_i32_191 c1_i32_193 k0_t7
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off31 (k0_t7 : Fin k0_t7_loop.trips) : Fin 2 → Nat :=
  let c0_i32_535 : BitVec 32 := 0#32
  let c0_i32_191 : BitVec 32 := 0#32
  let c1_i32_193 : BitVec 32 := 1#32
  let arg19 : BitVec 32 := Scf.iv c0_i32_191 c1_i32_193 k0_t7
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off32 (k0_t7 : Fin k0_t7_loop.trips) : Fin 2 → Nat :=
  let c0_i32_535 : BitVec 32 := 0#32
  let c0_i32_191 : BitVec 32 := 0#32
  let c1_i32_193 : BitVec 32 := 1#32
  let arg19 : BitVec 32 := Scf.iv c0_i32_191 c1_i32_193 k0_t7
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off33 (k0_t7 : Fin k0_t7_loop.trips) : Fin 2 → Nat :=
  let c0_i32_535 : BitVec 32 := 0#32
  let c0_i32_191 : BitVec 32 := 0#32
  let c1_i32_193 : BitVec 32 := 1#32
  let arg19 : BitVec 32 := Scf.iv c0_i32_191 c1_i32_193 k0_t7
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c1536_542 : Index := 1536#32
  ![v1424.toNat, 1536]
def k0_off34 (k0_t7 : Fin k0_t7_loop.trips) : Fin 2 → Nat :=
  let c0_i32_535 : BitVec 32 := 0#32
  let c0_i32_191 : BitVec 32 := 0#32
  let c1_i32_193 : BitVec 32 := 1#32
  let arg19 : BitVec 32 := Scf.iv c0_i32_191 c1_i32_193 k0_t7
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off35 (k0_t7 : Fin k0_t7_loop.trips) : Fin 2 → Nat :=
  let c0_i32_535 : BitVec 32 := 0#32
  let c0_i32_191 : BitVec 32 := 0#32
  let c1_i32_193 : BitVec 32 := 1#32
  let arg19 : BitVec 32 := Scf.iv c0_i32_191 c1_i32_193 k0_t7
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c4352_545 : Index := 4352#32
  ![v1439.toNat, 4352]
@[reducible] def k0_t8_loop : Scf.Loop 32 :=
  let c0_i32_217 : BitVec 32 := 0#32
  let c128_i32_218 : BitVec 32 := 128#32
  let v262 : BitVec 32 := Scalar.addi c0_i32_217 c128_i32_218
  let c1_i32_219 : BitVec 32 := 1#32
  ⟨c0_i32_217, v262, c1_i32_219⟩
def k0_mult8 (k0_t8 : Fin k0_t8_loop.trips) : BitVec 32 :=
  let c0_i32_535 : BitVec 32 := 0#32
  let c0_i32_217 : BitVec 32 := 0#32
  let c1_i32_219 : BitVec 32 := 1#32
  let arg19 : BitVec 32 := Scf.iv c0_i32_217 c1_i32_219 k0_t8
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off36 (k0_t8 : Fin k0_t8_loop.trips) : Fin 2 → Nat :=
  let c0_i32_535 : BitVec 32 := 0#32
  let c0_i32_217 : BitVec 32 := 0#32
  let c1_i32_219 : BitVec 32 := 1#32
  let arg19 : BitVec 32 := Scf.iv c0_i32_217 c1_i32_219 k0_t8
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off37 (k0_t8 : Fin k0_t8_loop.trips) : Fin 2 → Nat :=
  let c0_i32_535 : BitVec 32 := 0#32
  let c0_i32_217 : BitVec 32 := 0#32
  let c1_i32_219 : BitVec 32 := 1#32
  let arg19 : BitVec 32 := Scf.iv c0_i32_217 c1_i32_219 k0_t8
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off38 (k0_t8 : Fin k0_t8_loop.trips) : Fin 2 → Nat :=
  let c0_i32_535 : BitVec 32 := 0#32
  let c0_i32_217 : BitVec 32 := 0#32
  let c1_i32_219 : BitVec 32 := 1#32
  let arg19 : BitVec 32 := Scf.iv c0_i32_217 c1_i32_219 k0_t8
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c1792_542 : Index := 1792#32
  ![v1424.toNat, 1792]
def k0_off39 (k0_t8 : Fin k0_t8_loop.trips) : Fin 2 → Nat :=
  let c0_i32_535 : BitVec 32 := 0#32
  let c0_i32_217 : BitVec 32 := 0#32
  let c1_i32_219 : BitVec 32 := 1#32
  let arg19 : BitVec 32 := Scf.iv c0_i32_217 c1_i32_219 k0_t8
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off40 (k0_t8 : Fin k0_t8_loop.trips) : Fin 2 → Nat :=
  let c0_i32_535 : BitVec 32 := 0#32
  let c0_i32_217 : BitVec 32 := 0#32
  let c1_i32_219 : BitVec 32 := 1#32
  let arg19 : BitVec 32 := Scf.iv c0_i32_217 c1_i32_219 k0_t8
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c4608_545 : Index := 4608#32
  ![v1439.toNat, 4608]
@[reducible] def k0_t9_loop : Scf.Loop 32 :=
  let c0_i32_243 : BitVec 32 := 0#32
  let c128_i32_244 : BitVec 32 := 128#32
  let v293 : BitVec 32 := Scalar.addi c0_i32_243 c128_i32_244
  let c1_i32_245 : BitVec 32 := 1#32
  ⟨c0_i32_243, v293, c1_i32_245⟩
def k0_mult9 (k0_t9 : Fin k0_t9_loop.trips) : BitVec 32 :=
  let c0_i32_535 : BitVec 32 := 0#32
  let c0_i32_243 : BitVec 32 := 0#32
  let c1_i32_245 : BitVec 32 := 1#32
  let arg19 : BitVec 32 := Scf.iv c0_i32_243 c1_i32_245 k0_t9
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off41 (k0_t9 : Fin k0_t9_loop.trips) : Fin 2 → Nat :=
  let c0_i32_535 : BitVec 32 := 0#32
  let c0_i32_243 : BitVec 32 := 0#32
  let c1_i32_245 : BitVec 32 := 1#32
  let arg19 : BitVec 32 := Scf.iv c0_i32_243 c1_i32_245 k0_t9
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off42 (k0_t9 : Fin k0_t9_loop.trips) : Fin 2 → Nat :=
  let c0_i32_535 : BitVec 32 := 0#32
  let c0_i32_243 : BitVec 32 := 0#32
  let c1_i32_245 : BitVec 32 := 1#32
  let arg19 : BitVec 32 := Scf.iv c0_i32_243 c1_i32_245 k0_t9
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off43 (k0_t9 : Fin k0_t9_loop.trips) : Fin 2 → Nat :=
  let c0_i32_535 : BitVec 32 := 0#32
  let c0_i32_243 : BitVec 32 := 0#32
  let c1_i32_245 : BitVec 32 := 1#32
  let arg19 : BitVec 32 := Scf.iv c0_i32_243 c1_i32_245 k0_t9
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c2048_542 : Index := 2048#32
  ![v1424.toNat, 2048]
def k0_off44 (k0_t9 : Fin k0_t9_loop.trips) : Fin 2 → Nat :=
  let c0_i32_535 : BitVec 32 := 0#32
  let c0_i32_243 : BitVec 32 := 0#32
  let c1_i32_245 : BitVec 32 := 1#32
  let arg19 : BitVec 32 := Scf.iv c0_i32_243 c1_i32_245 k0_t9
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off45 (k0_t9 : Fin k0_t9_loop.trips) : Fin 2 → Nat :=
  let c0_i32_535 : BitVec 32 := 0#32
  let c0_i32_243 : BitVec 32 := 0#32
  let c1_i32_245 : BitVec 32 := 1#32
  let arg19 : BitVec 32 := Scf.iv c0_i32_243 c1_i32_245 k0_t9
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c4864_545 : Index := 4864#32
  ![v1439.toNat, 4864]
@[reducible] def k0_t10_loop : Scf.Loop 32 :=
  let c0_i32_269 : BitVec 32 := 0#32
  let c128_i32_270 : BitVec 32 := 128#32
  let v324 : BitVec 32 := Scalar.addi c0_i32_269 c128_i32_270
  let c1_i32_271 : BitVec 32 := 1#32
  ⟨c0_i32_269, v324, c1_i32_271⟩
def k0_mult10 (k0_t10 : Fin k0_t10_loop.trips) : BitVec 32 :=
  let c0_i32_535 : BitVec 32 := 0#32
  let c0_i32_269 : BitVec 32 := 0#32
  let c1_i32_271 : BitVec 32 := 1#32
  let arg19 : BitVec 32 := Scf.iv c0_i32_269 c1_i32_271 k0_t10
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off46 (k0_t10 : Fin k0_t10_loop.trips) : Fin 2 → Nat :=
  let c0_i32_535 : BitVec 32 := 0#32
  let c0_i32_269 : BitVec 32 := 0#32
  let c1_i32_271 : BitVec 32 := 1#32
  let arg19 : BitVec 32 := Scf.iv c0_i32_269 c1_i32_271 k0_t10
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off47 (k0_t10 : Fin k0_t10_loop.trips) : Fin 2 → Nat :=
  let c0_i32_535 : BitVec 32 := 0#32
  let c0_i32_269 : BitVec 32 := 0#32
  let c1_i32_271 : BitVec 32 := 1#32
  let arg19 : BitVec 32 := Scf.iv c0_i32_269 c1_i32_271 k0_t10
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off48 (k0_t10 : Fin k0_t10_loop.trips) : Fin 2 → Nat :=
  let c0_i32_535 : BitVec 32 := 0#32
  let c0_i32_269 : BitVec 32 := 0#32
  let c1_i32_271 : BitVec 32 := 1#32
  let arg19 : BitVec 32 := Scf.iv c0_i32_269 c1_i32_271 k0_t10
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c2304_542 : Index := 2304#32
  ![v1424.toNat, 2304]
def k0_off49 (k0_t10 : Fin k0_t10_loop.trips) : Fin 2 → Nat :=
  let c0_i32_535 : BitVec 32 := 0#32
  let c0_i32_269 : BitVec 32 := 0#32
  let c1_i32_271 : BitVec 32 := 1#32
  let arg19 : BitVec 32 := Scf.iv c0_i32_269 c1_i32_271 k0_t10
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off50 (k0_t10 : Fin k0_t10_loop.trips) : Fin 2 → Nat :=
  let c0_i32_535 : BitVec 32 := 0#32
  let c0_i32_269 : BitVec 32 := 0#32
  let c1_i32_271 : BitVec 32 := 1#32
  let arg19 : BitVec 32 := Scf.iv c0_i32_269 c1_i32_271 k0_t10
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c5120_545 : Index := 5120#32
  ![v1439.toNat, 5120]
@[reducible] def k0_t11_loop : Scf.Loop 32 :=
  let c0_i32_290 : BitVec 32 := 0#32
  let c128_i32_291 : BitVec 32 := 128#32
  let v350 : BitVec 32 := Scalar.addi c0_i32_290 c128_i32_291
  let c1_i32_292 : BitVec 32 := 1#32
  ⟨c0_i32_290, v350, c1_i32_292⟩
def k0_mult11 (k0_t11 : Fin k0_t11_loop.trips) : BitVec 32 :=
  let c0_i32_535 : BitVec 32 := 0#32
  let c0_i32_290 : BitVec 32 := 0#32
  let c1_i32_292 : BitVec 32 := 1#32
  let arg19 : BitVec 32 := Scf.iv c0_i32_290 c1_i32_292 k0_t11
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  v1390
def k0_off51 (k0_t11 : Fin k0_t11_loop.trips) : Fin 2 → Nat :=
  let c0_i32_535 : BitVec 32 := 0#32
  let c0_i32_290 : BitVec 32 := 0#32
  let c1_i32_292 : BitVec 32 := 1#32
  let arg19 : BitVec 32 := Scf.iv c0_i32_290 c1_i32_292 k0_t11
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1394 : Index := Scalar.indexCast v1391
  let c0_538 : Index := 0#32
  ![v1394.toNat, 0]
def k0_off52 (k0_t11 : Fin k0_t11_loop.trips) : Fin 2 → Nat :=
  let c0_i32_535 : BitVec 32 := 0#32
  let c0_i32_290 : BitVec 32 := 0#32
  let c1_i32_292 : BitVec 32 := 1#32
  let arg19 : BitVec 32 := Scf.iv c0_i32_290 c1_i32_292 k0_t11
  let c1_i32_534 : BitVec 32 := 1#32
  let v1388 : BitVec 32 := Scalar.muli arg19 c1_i32_534
  let v1389 : BitVec 32 := Scalar.addi c0_i32_535 v1388
  let v1415 : Index := Scalar.indexCast v1389
  let c0_540 : Index := 0#32
  ![v1415.toNat, 0]
def k0_off53 (k0_t11 : Fin k0_t11_loop.trips) : Fin 2 → Nat :=
  let c0_i32_535 : BitVec 32 := 0#32
  let c0_i32_290 : BitVec 32 := 0#32
  let c1_i32_292 : BitVec 32 := 1#32
  let arg19 : BitVec 32 := Scf.iv c0_i32_290 c1_i32_292 k0_t11
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1424 : Index := Scalar.indexCast v1391
  let c2560_542 : Index := 2560#32
  ![v1424.toNat, 2560]
def k0_off54 (k0_t11 : Fin k0_t11_loop.trips) : Fin 2 → Nat :=
  let c0_i32_535 : BitVec 32 := 0#32
  let c0_i32_290 : BitVec 32 := 0#32
  let c1_i32_292 : BitVec 32 := 1#32
  let arg19 : BitVec 32 := Scf.iv c0_i32_290 c1_i32_292 k0_t11
  let c1_i32_534 : BitVec 32 := 1#32
  let v1388 : BitVec 32 := Scalar.muli arg19 c1_i32_534
  let v1389 : BitVec 32 := Scalar.addi c0_i32_535 v1388
  let v1430 : Index := Scalar.indexCast v1389
  let c256_543 : Index := 256#32
  ![v1430.toNat, 256]
def k0_off55 (k0_t11 : Fin k0_t11_loop.trips) : Fin 2 → Nat :=
  let c0_i32_535 : BitVec 32 := 0#32
  let c0_i32_290 : BitVec 32 := 0#32
  let c1_i32_292 : BitVec 32 := 1#32
  let arg19 : BitVec 32 := Scf.iv c0_i32_290 c1_i32_292 k0_t11
  let c1_i32_534 : BitVec 32 := 1#32
  let v1388 : BitVec 32 := Scalar.muli arg19 c1_i32_534
  let v1389 : BitVec 32 := Scalar.addi c0_i32_535 v1388
  let c32_i32 : BitVec 32 := 32#32
  let v1390 : BitVec 32 := Scalar.muli v1389 c32_i32
  let v1391 : BitVec 32 := v1390
  let v1439 : Index := Scalar.indexCast v1391
  let c5376_545 : Index := 5376#32
  ![v1439.toNat, 5376]
def k0_mult12 : BitVec 32 :=
  let c0_i32_506 : BitVec 32 := 0#32
  let c1536_i32_507 : BitVec 32 := 1536#32
  let v1357 : BitVec 32 := Scalar.remsi c0_i32_506 c1536_i32_507
  v1357
def k0_off56 : Fin 3 → Nat :=
  let c0_i32_504 : BitVec 32 := 0#32
  let c1536_i32_505 : BitVec 32 := 1536#32
  let v1356 : BitVec 32 := Scalar.divsi c0_i32_504 c1536_i32_505
  let v1362 : Index := Scalar.indexCast v1356
  let c0_508 : Index := 0#32
  let c0_i32_506 : BitVec 32 := 0#32
  let c1536_i32_507 : BitVec 32 := 1536#32
  let v1357 : BitVec 32 := Scalar.remsi c0_i32_506 c1536_i32_507
  let v1358 : BitVec 32 := v1357
  let v1363 : Index := Scalar.indexCast v1358
  ![v1362.toNat, 0, v1363.toNat]
@[reducible] def k0_t12_loop : Scf.Loop 32 :=
  let c0_i32_509 : BitVec 32 := 0#32
  let c48_i32 : BitVec 32 := 48#32
  let v1367 : BitVec 32 := Scalar.addi c0_i32_509 c48_i32
  let c1_i32_510 : BitVec 32 := 1#32
  ⟨c0_i32_509, v1367, c1_i32_510⟩
def k0_cond1 (k0_t12 : Fin k0_t12_loop.trips) : BitVec 1 :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c0_i32_537 : BitVec 32 := 0#32
  let v1392 : BitVec 1 := Scalar.cmpi .sgt v1389 c0_i32_537
  let v1393 : BitVec 32 := Scalar.extui v1392
  let c0_i32_538 : BitVec 32 := 0#32
  let v1394 : BitVec 1 := Scalar.cmpi .ne v1393 c0_i32_538
  v1394

def k0_off57 (k0_t12 : Fin k0_t12_loop.trips) : Fin 1 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  ![v1391.toNat]
def k0_off58 (k0_t12 : Fin k0_t12_loop.trips) : Fin 2 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c1_i32_831 : BitVec 32 := 1#32
  let v2567 : BitVec 32 := Scalar.subi v1389 c1_i32_831
  let c256_i32_832 : BitVec 32 := 256#32
  let v2568 : BitVec 32 := Scalar.muli v2567 c256_i32_832
  let c0_i32_833 : BitVec 32 := 0#32
  ![v2568.toNat, 0]
def k0_off59 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let c0_i32_834 : BitVec 32 := 0#32
  let c0_i32_835 : BitVec 32 := 0#32
  ![v1391.toNat, 0, 0]
def k0_cond2 (k0_t12 : Fin k0_t12_loop.trips) : BitVec 1 :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c1_i32_539 : BitVec 32 := 1#32
  let v1395 : BitVec 1 := Scalar.cmpi .sgt v1389 c1_i32_539
  let v1396 : BitVec 32 := Scalar.extui v1395
  let c0_i32_540 : BitVec 32 := 0#32
  let v1397 : BitVec 1 := Scalar.cmpi .ne v1396 c0_i32_540
  v1397

def k0_off60 (k0_t12 : Fin k0_t12_loop.trips) : Fin 1 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  ![v1390.toNat]
def k0_off61 (k0_t12 : Fin k0_t12_loop.trips) : Fin 2 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32_831 : BitVec 32 := 2#32
  let v2567 : BitVec 32 := Scalar.subi v1389 c2_i32_831
  let c256_i32_832 : BitVec 32 := 256#32
  let v2568 : BitVec 32 := Scalar.muli v2567 c256_i32_832
  let c0_i32_833 : BitVec 32 := 0#32
  ![v2568.toNat, 0]
def k0_off62 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let c0_i32_834 : BitVec 32 := 0#32
  let c0_i32_835 : BitVec 32 := 0#32
  ![v1390.toNat, 0, 0]
def k0_cond3 (k0_t12 : Fin k0_t12_loop.trips) : BitVec 1 :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c0_i32_541 : BitVec 32 := 0#32
  let v1398 : BitVec 1 := Scalar.cmpi .sgt v1389 c0_i32_541
  let v1399 : BitVec 32 := Scalar.extui v1398
  let c0_i32_542 : BitVec 32 := 0#32
  let v1400 : BitVec 1 := Scalar.cmpi .ne v1399 c0_i32_542
  v1400

def k0_off63 (k0_t12 : Fin k0_t12_loop.trips) : Fin 1 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  ![v1391.toNat]
def k0_off64 (k0_t12 : Fin k0_t12_loop.trips) : Fin 2 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c1_i32_831 : BitVec 32 := 1#32
  let v2567 : BitVec 32 := Scalar.subi v1389 c1_i32_831
  let c256_i32_832 : BitVec 32 := 256#32
  let v2568 : BitVec 32 := Scalar.muli v2567 c256_i32_832
  let c0_i32_833 : BitVec 32 := 0#32
  ![v2568.toNat, 0]
def k0_off65 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let c0_i32_834 : BitVec 32 := 0#32
  let c0_i32_835 : BitVec 32 := 0#32
  ![v1391.toNat, 0, 0]
def k0_off66 (k0_t12 : Fin k0_t12_loop.trips) : Fin 1 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  ![v1390.toNat]
def k0_off67 (k0_t12 : Fin k0_t12_loop.trips) : Fin 2 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c256_i32_543 : BitVec 32 := 256#32
  let v1401 : BitVec 32 := Scalar.muli v1389 c256_i32_543
  let c0_i32_544 : BitVec 32 := 0#32
  ![v1401.toNat, 0]
def k0_off68 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let c0_i32_545 : BitVec 32 := 0#32
  let c0_i32_546 : BitVec 32 := 0#32
  ![v1390.toNat, 0, 0]
def k0_cond4 (k0_t12 : Fin k0_t12_loop.trips) : BitVec 1 :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32_547 : BitVec 32 := 2#32
  let v1407 : BitVec 32 := Scalar.addi v1389 c2_i32_547
  let c48_i32_548 : BitVec 32 := 48#32
  let v1408 : BitVec 1 := Scalar.cmpi .slt v1407 c48_i32_548
  let v1409 : BitVec 32 := Scalar.extui v1408
  let c0_i32_549 : BitVec 32 := 0#32
  let v1410 : BitVec 1 := Scalar.cmpi .ne v1409 c0_i32_549
  v1410

def k0_off69 (k0_t12 : Fin k0_t12_loop.trips) : Fin 1 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  ![v1390.toNat]
def k0_off70 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let c0_i32_833 : BitVec 32 := 0#32
  let c0_i32_834 : BitVec 32 := 0#32
  ![v1390.toNat, 0, 0]
def k0_off71 (k0_t12 : Fin k0_t12_loop.trips) : Fin 2 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32_831 : BitVec 32 := 2#32
  let v2567 : BitVec 32 := Scalar.addi v1389 c2_i32_831
  let c256_i32_832 : BitVec 32 := 256#32
  let v2568 : BitVec 32 := Scalar.muli v2567 c256_i32_832
  let c0_i32_835 : BitVec 32 := 0#32
  ![v2568.toNat, 0]
def k0_cond5 (k0_t12 : Fin k0_t12_loop.trips) : BitVec 1 :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c1_i32_550 : BitVec 32 := 1#32
  let v1411 : BitVec 32 := Scalar.addi v1389 c1_i32_550
  let c48_i32_551 : BitVec 32 := 48#32
  let v1412 : BitVec 1 := Scalar.cmpi .slt v1411 c48_i32_551
  let v1413 : BitVec 32 := Scalar.extui v1412
  let c0_i32_552 : BitVec 32 := 0#32
  let v1414 : BitVec 1 := Scalar.cmpi .ne v1413 c0_i32_552
  v1414

def k0_off72 (k0_t12 : Fin k0_t12_loop.trips) : Fin 1 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  ![v1391.toNat]
def k0_off73 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let c0_i32_833 : BitVec 32 := 0#32
  let c0_i32_834 : BitVec 32 := 0#32
  ![v1391.toNat, 0, 0]
def k0_off74 (k0_t12 : Fin k0_t12_loop.trips) : Fin 2 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c1_i32_831 : BitVec 32 := 1#32
  let v2567 : BitVec 32 := Scalar.addi v1389 c1_i32_831
  let c256_i32_832 : BitVec 32 := 256#32
  let v2568 : BitVec 32 := Scalar.muli v2567 c256_i32_832
  let c0_i32_835 : BitVec 32 := 0#32
  ![v2568.toNat, 0]
def k0_off75 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let v1420 : Index := Scalar.indexCast v1391
  let c0_557 : Index := 0#32
  let c0_558 : Index := 0#32
  ![v1420.toNat, 0, 0]
def k0_off76 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let v1548 : Index := Scalar.indexCast v1391
  let c32_581 : Index := 32#32
  let c0_582 : Index := 0#32
  ![v1548.toNat, 32, 0]
def k0_off77 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let v1676 : Index := Scalar.indexCast v1391
  let c64_605 : Index := 64#32
  let c0_606 : Index := 0#32
  ![v1676.toNat, 64, 0]
def k0_off78 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let v1804 : Index := Scalar.indexCast v1391
  let c96_629 : Index := 96#32
  let c0_630 : Index := 0#32
  ![v1804.toNat, 96, 0]
def k0_off79 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let v1932 : Index := Scalar.indexCast v1391
  let c128_653 : Index := 128#32
  let c0_654 : Index := 0#32
  ![v1932.toNat, 128, 0]
def k0_off80 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let v2060 : Index := Scalar.indexCast v1391
  let c160_677 : Index := 160#32
  let c0_678 : Index := 0#32
  ![v2060.toNat, 160, 0]
def k0_off81 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let v2188 : Index := Scalar.indexCast v1391
  let c192_701 : Index := 192#32
  let c0_702 : Index := 0#32
  ![v2188.toNat, 192, 0]
def k0_off82 (k0_t12 : Fin k0_t12_loop.trips) : Fin 3 → Nat :=
  let c1_i32_536 : BitVec 32 := 1#32
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v1391 : BitVec 32 := Scalar.subi c1_i32_536 v1390
  let v2316 : Index := Scalar.indexCast v1391
  let c224_725 : Index := 224#32
  let c0_726 : Index := 0#32
  ![v2316.toNat, 224, 0]
def k0_mult13 (k0_t12 : Fin k0_t12_loop.trips) : BitVec 32 :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c1_i32_553 : BitVec 32 := 1#32
  let v1415 : BitVec 32 := Scalar.addi v1389 c1_i32_553
  let c48_i32_554 : BitVec 32 := 48#32
  let v1416 : BitVec 1 := Scalar.cmpi .slt v1415 c48_i32_554
  let c1_i32_555 : BitVec 32 := 1#32
  let v1417 : BitVec 32 := Scalar.addi v1389 c1_i32_555
  let c1_i32_556 : BitVec 32 := 1#32
  let v1418 : BitVec 32 := Scalar.subi v1389 c1_i32_556
  let v1419 : BitVec 32 := Scalar.select v1416 v1417 v1418
  let c256_i32_751 : BitVec 32 := 256#32
  let v2446 : BitVec 32 := Scalar.muli v1419 c256_i32_751
  let c1536_i32_752 : BitVec 32 := 1536#32
  let v2447 : BitVec 32 := Scalar.remsi v2446 c1536_i32_752
  v2447
def k0_off83 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c1_i32_553 : BitVec 32 := 1#32
  let v1415 : BitVec 32 := Scalar.addi v1389 c1_i32_553
  let c48_i32_554 : BitVec 32 := 48#32
  let v1416 : BitVec 1 := Scalar.cmpi .slt v1415 c48_i32_554
  let c1_i32_555 : BitVec 32 := 1#32
  let v1417 : BitVec 32 := Scalar.addi v1389 c1_i32_555
  let c1_i32_556 : BitVec 32 := 1#32
  let v1418 : BitVec 32 := Scalar.subi v1389 c1_i32_556
  let v1419 : BitVec 32 := Scalar.select v1416 v1417 v1418
  let c256_i32_749 : BitVec 32 := 256#32
  let v2444 : BitVec 32 := Scalar.muli v1419 c256_i32_749
  let c1536_i32_750 : BitVec 32 := 1536#32
  let v2445 : BitVec 32 := Scalar.divsi v2444 c1536_i32_750
  let v2452 : Index := Scalar.indexCast v2445
  let c0_753 : Index := 0#32
  let c256_i32_751 : BitVec 32 := 256#32
  let v2446 : BitVec 32 := Scalar.muli v1419 c256_i32_751
  let c1536_i32_752 : BitVec 32 := 1536#32
  let v2447 : BitVec 32 := Scalar.remsi v2446 c1536_i32_752
  let v2448 : BitVec 32 := v2447
  let v2453 : Index := Scalar.indexCast v2448
  ![v2452.toNat, 0, v2453.toNat]
def k0_off84 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2457 : Index := Scalar.indexCast v1390
  let c0_754 : Index := 0#32
  let c0_755 : Index := 0#32
  ![v2457.toNat, 0, 0]
def k0_off85 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2463 : Index := Scalar.indexCast v1390
  let c0_759 : Index := 0#32
  let c0_760 : Index := 0#32
  ![v2463.toNat, 0, 0]
def k0_off86 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2473 : Index := Scalar.indexCast v1390
  let c0_766 : Index := 0#32
  let c512_767 : Index := 512#32
  ![v2473.toNat, 0, 512]
def k0_off87 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2483 : Index := Scalar.indexCast v1390
  let c0_773 : Index := 0#32
  let c1024_774 : Index := 1024#32
  ![v2483.toNat, 0, 1024]
def k0_off88 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2493 : Index := Scalar.indexCast v1390
  let c0_780 : Index := 0#32
  let c1536_781 : Index := 1536#32
  ![v2493.toNat, 0, 1536]
def k0_off89 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2503 : Index := Scalar.indexCast v1390
  let c0_787 : Index := 0#32
  let c2048_788 : Index := 2048#32
  ![v2503.toNat, 0, 2048]
def k0_off90 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2513 : Index := Scalar.indexCast v1390
  let c0_794 : Index := 0#32
  let c2560_795 : Index := 2560#32
  ![v2513.toNat, 0, 2560]
def k0_off91 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2523 : Index := Scalar.indexCast v1390
  let c0_801 : Index := 0#32
  let c3072_802 : Index := 3072#32
  ![v2523.toNat, 0, 3072]
def k0_off92 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2533 : Index := Scalar.indexCast v1390
  let c0_808 : Index := 0#32
  let c3584_809 : Index := 3584#32
  ![v2533.toNat, 0, 3584]
def k0_off93 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2543 : Index := Scalar.indexCast v1390
  let c0_815 : Index := 0#32
  let c4096_816 : Index := 4096#32
  ![v2543.toNat, 0, 4096]
def k0_off94 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2553 : Index := Scalar.indexCast v1390
  let c0_822 : Index := 0#32
  let c4608_823 : Index := 4608#32
  ![v2553.toNat, 0, 4608]
def k0_off95 (k0_t12 : Fin k0_t12_loop.trips) : Fin 3 → Nat :=
  let c0_i32_535 : BitVec 32 := 0#32
  let c0_i32_509 : BitVec 32 := 0#32
  let c1_i32_510 : BitVec 32 := 1#32
  let arg19 : BitVec 32 := Scf.iv c0_i32_509 c1_i32_510 k0_t12
  let c1_i32_534 : BitVec 32 := 1#32
  let v1388 : BitVec 32 := Scalar.muli arg19 c1_i32_534
  let v1389 : BitVec 32 := Scalar.addi c0_i32_535 v1388
  let c2_i32 : BitVec 32 := 2#32
  let v1390 : BitVec 32 := Scalar.remsi v1389 c2_i32
  let v2563 : Index := Scalar.indexCast v1390
  let c0_829 : Index := 0#32
  let c5120_830 : Index := 5120#32
  ![v2563.toNat, 0, 5120]
abbrev stage0_0 : Fin 1 → Memref sig .tc .vmem S8x1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8x1536x4096 : Shape := ⟨3, ![8, 1536, 4096]⟩
abbrev S4096x2816 : Shape := ⟨2, ![4096, 2816]⟩
abbrev S128x5632 : Shape := ⟨2, ![128, 5632]⟩
abbrev S12288x4096 : Shape := ⟨2, ![12288, 4096]⟩
abbrev S_ : Shape := ⟨0, ![]⟩
abbrev S12288 : Shape := ⟨1, ![12288]⟩
abbrev S12288x1 : Shape := ⟨2, ![12288, 1]⟩
abbrev S254 : Shape := ⟨1, ![254]⟩
abbrev S1x254 : Shape := ⟨2, ![1, 254]⟩
abbrev S12288x254 : Shape := ⟨2, ![12288, 254]⟩
abbrev S8x1x1536 : Shape := ⟨3, ![8, 1, 1536]⟩
abbrev S128x2816 : Shape := ⟨2, ![128, 2816]⟩
abbrev S128x32x2816 : Shape := ⟨3, ![128, 32, 2816]⟩
abbrev S128x1x2816 : Shape := ⟨3, ![128, 1, 2816]⟩
abbrev S12288x5632 : Shape := ⟨2, ![12288, 5632]⟩
abbrev S12288x2816 : Shape := ⟨2, ![12288, 2816]⟩

abbrev nBuf : Space → Nat
  | .hbm => 216
  | .vmem => 7
  | .smem => 0
  | _ => 0

abbrev hbmTy0_0 (i : Nat) : BufTy := match i % 128 with
  | 0 => ⟨S8x1536x4096, .bf16⟩
  | 1 => ⟨S4096x2816, .i8⟩
  | 2 => ⟨S128x5632, .i8⟩
  | 3 => ⟨S12288x4096, .bf16⟩
  | 4 => ⟨S12288x4096, .f32⟩
  | 5 => ⟨S12288x4096, .f32⟩
  | 6 => ⟨S_, .f32⟩
  | 7 => ⟨S12288, .f32⟩
  | 8 => ⟨S12288x1, .f32⟩
  | 9 => ⟨S_, .f32⟩
  | 10 => ⟨S12288x1, .f32⟩
  | 11 => ⟨S12288x1, .f32⟩
  | 12 => ⟨S254, .f32⟩
  | 13 => ⟨S_, .f32⟩
  | 14 => ⟨S254, .f32⟩
  | 15 => ⟨S254, .f32⟩
  | 16 => ⟨S_, .f32⟩
  | 17 => ⟨S254, .f32⟩
  | 18 => ⟨S254, .f32⟩
  | 19 => ⟨S1x254, .f32⟩
  | 20 => ⟨S12288x254, .f32⟩
  | 21 => ⟨S12288x254, .f32⟩
  | 22 => ⟨S12288x254, .i1⟩
  | 23 => ⟨S_, .f32⟩
  | 24 => ⟨S_, .f32⟩
  | 25 => ⟨S12288x254, .f32⟩
  | 26 => ⟨S12288x254, .f32⟩
  | 27 => ⟨S12288x254, .f32⟩
  | 28 => ⟨S_, .f32⟩
  | 29 => ⟨S12288, .f32⟩
  | 30 => ⟨S12288x1, .f32⟩
  | 31 => ⟨S_, .f32⟩
  | 32 => ⟨S12288x1, .f32⟩
  | 33 => ⟨S12288x1, .i1⟩
  | 34 => ⟨S_, .f32⟩
  | 35 => ⟨S_, .f32⟩
  | 36 => ⟨S12288x1, .f32⟩
  | 37 => ⟨S12288x1, .f32⟩
  | 38 => ⟨S_, .f32⟩
  | 39 => ⟨S12288x1, .f32⟩
  | 40 => ⟨S12288x1, .i1⟩
  | 41 => ⟨S_, .f32⟩
  | 42 => ⟨S12288x1, .f32⟩
  | 43 => ⟨S12288x1, .i1⟩
  | 44 => ⟨S_, .f32⟩
  | 45 => ⟨S12288x1, .f32⟩
  | 46 => ⟨S12288x1, .f32⟩
  | 47 => ⟨S_, .f32⟩
  | 48 => ⟨S_, .f32⟩
  | 49 => ⟨S12288x1, .f32⟩
  | 50 => ⟨S12288x1, .f32⟩
  | 51 => ⟨S_, .f32⟩
  | 52 => ⟨S_, .f32⟩
  | 53 => ⟨S12288x1, .f32⟩
  | 54 => ⟨S12288x1, .f32⟩
  | 55 => ⟨S12288x1, .f32⟩
  | 56 => ⟨S_, .f32⟩
  | 57 => ⟨S12288x1, .f32⟩
  | 58 => ⟨S12288x1, .i1⟩
  | 59 => ⟨S_, .f32⟩
  | 60 => ⟨S12288x1, .f32⟩
  | 61 => ⟨S12288x1, .i1⟩
  | 62 => ⟨S_, .f32⟩
  | 63 => ⟨S12288x1, .f32⟩
  | 64 => ⟨S12288x1, .f32⟩
  | 65 => ⟨S_, .f32⟩
  | 66 => ⟨S_, .f32⟩
  | 67 => ⟨S12288x1, .f32⟩
  | 68 => ⟨S12288x1, .f32⟩
  | 69 => ⟨S_, .f32⟩
  | 70 => ⟨S_, .f32⟩
  | 71 => ⟨S12288x1, .f32⟩
  | 72 => ⟨S12288x1, .f32⟩
  | 73 => ⟨S8x1x1536, .f32⟩
  | 74 => ⟨S128x5632, .i32⟩
  | 75 => ⟨S_, .i32⟩
  | 76 => ⟨S128x5632, .i32⟩
  | 77 => ⟨S128x5632, .i32⟩
  | 78 => ⟨S128x5632, .f32⟩
  | 79 => ⟨S_, .f32⟩
  | 80 => ⟨S128x5632, .f32⟩
  | 81 => ⟨S128x5632, .i1⟩
  | 82 => ⟨S_, .f32⟩
  | 83 => ⟨S128x5632, .f32⟩
  | 84 => ⟨S128x5632, .i1⟩
  | 85 => ⟨S_, .f32⟩
  | 86 => ⟨S128x5632, .f32⟩
  | 87 => ⟨S128x5632, .f32⟩
  | 88 => ⟨S_, .f32⟩
  | 89 => ⟨S_, .f32⟩
  | 90 => ⟨S128x5632, .f32⟩
  | 91 => ⟨S128x5632, .f32⟩
  | 92 => ⟨S_, .f32⟩
  | 93 => ⟨S_, .f32⟩
  | 94 => ⟨S128x5632, .f32⟩
  | 95 => ⟨S128x5632, .f32⟩
  | 96 => ⟨S128x5632, .bf16⟩
  | 97 => ⟨S4096x2816, .i32⟩
  | 98 => ⟨S_, .i32⟩
  | 99 => ⟨S4096x2816, .i32⟩
  | 100 => ⟨S4096x2816, .i32⟩
  | 101 => ⟨S_, .i32⟩
  | 102 => ⟨S4096x2816, .i32⟩
  | 103 => ⟨S4096x2816, .i32⟩
  | 104 => ⟨S_, .i32⟩
  | 105 => ⟨S4096x2816, .i32⟩
  | 106 => ⟨S4096x2816, .i1⟩
  | 107 => ⟨S_, .i32⟩
  | 108 => ⟨S4096x2816, .i32⟩
  | 109 => ⟨S4096x2816, .i32⟩
  | 110 => ⟨S_, .i32⟩
  | 111 => ⟨S4096x2816, .i32⟩
  | 112 => ⟨S4096x2816, .i1⟩
  | 113 => ⟨S_, .i32⟩
  | 114 => ⟨S4096x2816, .i32⟩
  | 115 => ⟨S4096x2816, .i32⟩
  | 116 => ⟨S_, .i32⟩
  | 117 => ⟨S4096x2816, .i32⟩
  | 118 => ⟨S4096x2816, .i1⟩
  | 119 => ⟨S_, .i32⟩
  | 120 => ⟨S4096x2816, .i32⟩
  | 121 => ⟨S4096x2816, .i32⟩
  | 122 => ⟨S_, .i32⟩
  | 123 => ⟨S4096x2816, .i32⟩
  | 124 => ⟨S4096x2816, .i1⟩
  | 125 => ⟨S_, .bf16⟩
  | 126 => ⟨S_, .bf16⟩
  | 127 => ⟨S4096x2816, .bf16⟩
  | _ => ⟨S8x1536x4096, .bf16⟩

abbrev hbmTy0_1 (i : Nat) : BufTy := match i % 128 with
  | 0 => ⟨S4096x2816, .bf16⟩
  | 1 => ⟨S4096x2816, .bf16⟩
  | 2 => ⟨S_, .bf16⟩
  | 3 => ⟨S_, .bf16⟩
  | 4 => ⟨S4096x2816, .bf16⟩
  | 5 => ⟨S4096x2816, .bf16⟩
  | 6 => ⟨S4096x2816, .bf16⟩
  | 7 => ⟨S4096x2816, .bf16⟩
  | 8 => ⟨S_, .bf16⟩
  | 9 => ⟨S_, .bf16⟩
  | 10 => ⟨S4096x2816, .bf16⟩
  | 11 => ⟨S4096x2816, .bf16⟩
  | 12 => ⟨S4096x2816, .bf16⟩
  | 13 => ⟨S_, .bf16⟩
  | 14 => ⟨S_, .bf16⟩
  | 15 => ⟨S4096x2816, .bf16⟩
  | 16 => ⟨S4096x2816, .bf16⟩
  | 17 => ⟨S4096x2816, .bf16⟩
  | 18 => ⟨S4096x2816, .bf16⟩
  | 19 => ⟨S4096x2816, .bf16⟩
  | 20 => ⟨S4096x2816, .bf16⟩
  | 21 => ⟨S4096x2816, .bf16⟩
  | 22 => ⟨S128x2816, .bf16⟩
  | 23 => ⟨S128x32x2816, .bf16⟩
  | 24 => ⟨S128x1x2816, .bf16⟩
  | 25 => ⟨S128x32x2816, .bf16⟩
  | 26 => ⟨S128x32x2816, .bf16⟩
  | 27 => ⟨S4096x2816, .bf16⟩
  | 28 => ⟨S_, .i32⟩
  | 29 => ⟨S4096x2816, .i32⟩
  | 30 => ⟨S4096x2816, .i32⟩
  | 31 => ⟨S_, .i32⟩
  | 32 => ⟨S4096x2816, .i32⟩
  | 33 => ⟨S4096x2816, .i32⟩
  | 34 => ⟨S_, .i32⟩
  | 35 => ⟨S4096x2816, .i32⟩
  | 36 => ⟨S4096x2816, .i1⟩
  | 37 => ⟨S_, .i32⟩
  | 38 => ⟨S4096x2816, .i32⟩
  | 39 => ⟨S4096x2816, .i32⟩
  | 40 => ⟨S_, .i32⟩
  | 41 => ⟨S4096x2816, .i32⟩
  | 42 => ⟨S4096x2816, .i1⟩
  | 43 => ⟨S_, .i32⟩
  | 44 => ⟨S4096x2816, .i32⟩
  | 45 => ⟨S4096x2816, .i32⟩
  | 46 => ⟨S_, .i32⟩
  | 47 => ⟨S4096x2816, .i32⟩
  | 48 => ⟨S4096x2816, .i1⟩
  | 49 => ⟨S_, .i32⟩
  | 50 => ⟨S4096x2816, .i32⟩
  | 51 => ⟨S4096x2816, .i32⟩
  | 52 => ⟨S_, .i32⟩
  | 53 => ⟨S4096x2816, .i32⟩
  | 54 => ⟨S4096x2816, .i1⟩
  | 55 => ⟨S_, .bf16⟩
  | 56 => ⟨S_, .bf16⟩
  | 57 => ⟨S4096x2816, .bf16⟩
  | 58 => ⟨S4096x2816, .bf16⟩
  | 59 => ⟨S4096x2816, .bf16⟩
  | 60 => ⟨S_, .bf16⟩
  | 61 => ⟨S_, .bf16⟩
  | 62 => ⟨S4096x2816, .bf16⟩
  | 63 => ⟨S4096x2816, .bf16⟩
  | 64 => ⟨S4096x2816, .bf16⟩
  | 65 => ⟨S4096x2816, .bf16⟩
  | 66 => ⟨S_, .bf16⟩
  | 67 => ⟨S_, .bf16⟩
  | 68 => ⟨S4096x2816, .bf16⟩
  | 69 => ⟨S4096x2816, .bf16⟩
  | 70 => ⟨S4096x2816, .bf16⟩
  | 71 => ⟨S_, .bf16⟩
  | 72 => ⟨S_, .bf16⟩
  | 73 => ⟨S4096x2816, .bf16⟩
  | 74 => ⟨S4096x2816, .bf16⟩
  | 75 => ⟨S4096x2816, .bf16⟩
  | 76 => ⟨S4096x2816, .bf16⟩
  | 77 => ⟨S4096x2816, .bf16⟩
  | 78 => ⟨S4096x2816, .bf16⟩
  | 79 => ⟨S4096x2816, .bf16⟩
  | 80 => ⟨S128x2816, .bf16⟩
  | 81 => ⟨S128x32x2816, .bf16⟩
  | 82 => ⟨S128x1x2816, .bf16⟩
  | 83 => ⟨S128x32x2816, .bf16⟩
  | 84 => ⟨S128x32x2816, .bf16⟩
  | 85 => ⟨S4096x2816, .bf16⟩
  | 86 => ⟨S12288x5632, .bf16⟩
  | 87 => ⟨S12288x4096, .fp8e4m3⟩
  | _ => ⟨S8x1536x4096, .bf16⟩

abbrev hbmTy (i : Nat) : BufTy := match i / 128 with
  | 0 => hbmTy0_0 i
  | 1 => hbmTy0_1 i
  | _ => ⟨S8x1536x4096, .bf16⟩

abbrev bufTy : (tb : Table) → Fin (tcTables nBuf tb) → BufTy
  | .hbm, ⟨i, _⟩ => hbmTy i
  | .local _ .vmem, ⟨0, _⟩ => ⟨S12288x4096, .f32⟩
  | .local _ .vmem, ⟨1, _⟩ => ⟨S12288x1, .f32⟩
  | .local _ .vmem, ⟨2, _⟩ => ⟨S12288x1, .f32⟩
  | .local _ .vmem, ⟨3, _⟩ => ⟨S4096x2816, .bf16⟩
  | .local _ .vmem, ⟨4, _⟩ => ⟨S4096x2816, .bf16⟩
  | .local _ .vmem, ⟨5, _⟩ => ⟨S12288x5632, .bf16⟩
  | .local _ .vmem, ⟨6, _⟩ => ⟨S12288x4096, .fp8e4m3⟩
  | _, _ => ⟨S8x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_cst_11 : Ref sig .tc := ⟨.hbm, 51, rfl⟩
abbrev main_call3_v0 : Ref sig .tc := ⟨.hbm, 52, rfl⟩
abbrev main_call3_v1 : Ref sig .tc := ⟨.hbm, 53, rfl⟩
abbrev main_v29 : Ref sig .tc := ⟨.hbm, 54, rfl⟩
abbrev main_v30 : Ref sig .tc := ⟨.hbm, 55, rfl⟩
abbrev main_cst_12 : Ref sig .tc := ⟨.hbm, 56, rfl⟩
abbrev main_v31 : Ref sig .tc := ⟨.hbm, 57, rfl⟩
abbrev main_v32 : Ref sig .tc := ⟨.hbm, 58, rfl⟩
abbrev main_cst_13 : Ref sig .tc := ⟨.hbm, 59, rfl⟩
abbrev main_v33 : Ref sig .tc := ⟨.hbm, 60, rfl⟩
abbrev main_v34 : Ref sig .tc := ⟨.hbm, 61, rfl⟩
abbrev main_cst_14 : Ref sig .tc := ⟨.hbm, 62, rfl⟩
abbrev main_v35 : Ref sig .tc := ⟨.hbm, 63, rfl⟩
abbrev main_v36 : Ref sig .tc := ⟨.hbm, 64, rfl⟩
abbrev main_cst_15 : Ref sig .tc := ⟨.hbm, 65, rfl⟩
abbrev main_call4_v0 : Ref sig .tc := ⟨.hbm, 66, rfl⟩
abbrev main_call4_v1 : Ref sig .tc := ⟨.hbm, 67, rfl⟩
abbrev main_v37 : Ref sig .tc := ⟨.hbm, 68, rfl⟩
abbrev main_cst_16 : Ref sig .tc := ⟨.hbm, 69, rfl⟩
abbrev main_call5_v0 : Ref sig .tc := ⟨.hbm, 70, rfl⟩
abbrev main_call5_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_c : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_17 : Ref sig .tc := ⟨.hbm, 79, rfl⟩
abbrev main_v44 : Ref sig .tc := ⟨.hbm, 80, rfl⟩
abbrev main_v45 : Ref sig .tc := ⟨.hbm, 81, rfl⟩
abbrev main_cst_18 : Ref sig .tc := ⟨.hbm, 82, rfl⟩
abbrev main_v46 : Ref sig .tc := ⟨.hbm, 83, rfl⟩
abbrev main_v47 : Ref sig .tc := ⟨.hbm, 84, rfl⟩
abbrev main_cst_19 : Ref sig .tc := ⟨.hbm, 85, rfl⟩
abbrev main_v48 : Ref sig .tc := ⟨.hbm, 86, rfl⟩
abbrev main_v49 : Ref sig .tc := ⟨.hbm, 87, rfl⟩
abbrev main_cst_20 : Ref sig .tc := ⟨.hbm, 88, rfl⟩
abbrev main_call6_v0 : Ref sig .tc := ⟨.hbm, 89, rfl⟩
abbrev main_call6_v1 : Ref sig .tc := ⟨.hbm, 90, rfl⟩
abbrev main_v50 : Ref sig .tc := ⟨.hbm, 91, rfl⟩
abbrev main_cst_21 : Ref sig .tc := ⟨.hbm, 92, rfl⟩
abbrev main_call7_v0 : Ref sig .tc := ⟨.hbm, 93, rfl⟩
abbrev main_call7_v1 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_22 : Ref sig .tc := ⟨.hbm, 98, rfl⟩
abbrev main_v54 : Ref sig .tc := ⟨.hbm, 99, rfl⟩
abbrev main_v55 : Ref sig .tc := ⟨.hbm, 100, rfl⟩
abbrev main_c_23 : Ref sig .tc := ⟨.hbm, 101, rfl⟩
abbrev main_v56 : Ref sig .tc := ⟨.hbm, 102, rfl⟩
abbrev main_v57 : Ref sig .tc := ⟨.hbm, 103, rfl⟩
abbrev main_c_24 : Ref sig .tc := ⟨.hbm, 104, rfl⟩
abbrev main_v58 : Ref sig .tc := ⟨.hbm, 105, rfl⟩
abbrev main_v59 : Ref sig .tc := ⟨.hbm, 106, rfl⟩
abbrev main_c_25 : Ref sig .tc := ⟨.hbm, 107, rfl⟩
abbrev main_v60 : Ref sig .tc := ⟨.hbm, 108, rfl⟩
abbrev main_v61 : Ref sig .tc := ⟨.hbm, 109, rfl⟩
abbrev main_c_26 : Ref sig .tc := ⟨.hbm, 110, rfl⟩
abbrev main_v62 : Ref sig .tc := ⟨.hbm, 111, rfl⟩
abbrev main_v63 : Ref sig .tc := ⟨.hbm, 112, rfl⟩
abbrev main_c_27 : Ref sig .tc := ⟨.hbm, 113, rfl⟩
abbrev main_v64 : Ref sig .tc := ⟨.hbm, 114, rfl⟩
abbrev main_v65 : Ref sig .tc := ⟨.hbm, 115, rfl⟩
abbrev main_c_28 : Ref sig .tc := ⟨.hbm, 116, rfl⟩
abbrev main_v66 : Ref sig .tc := ⟨.hbm, 117, rfl⟩
abbrev main_v67 : Ref sig .tc := ⟨.hbm, 118, rfl⟩
abbrev main_c_29 : Ref sig .tc := ⟨.hbm, 119, rfl⟩
abbrev main_v68 : Ref sig .tc := ⟨.hbm, 120, rfl⟩
abbrev main_v69 : Ref sig .tc := ⟨.hbm, 121, rfl⟩
abbrev main_c_30 : Ref sig .tc := ⟨.hbm, 122, rfl⟩
abbrev main_v70 : Ref sig .tc := ⟨.hbm, 123, rfl⟩
abbrev main_v71 : Ref sig .tc := ⟨.hbm, 124, rfl⟩
abbrev main_cst_31 : Ref sig .tc := ⟨.hbm, 125, rfl⟩
abbrev main_cst_32 : Ref sig .tc := ⟨.hbm, 126, rfl⟩
abbrev main_call8_v0 : Ref sig .tc := ⟨.hbm, 127, rfl⟩
abbrev main_call8_v1 : Ref sig .tc := ⟨.hbm, 128, rfl⟩
abbrev main_v72 : Ref sig .tc := ⟨.hbm, 129, rfl⟩
abbrev main_cst_33 : Ref sig .tc := ⟨.hbm, 130, rfl⟩
abbrev main_cst_34 : Ref sig .tc := ⟨.hbm, 131, rfl⟩
abbrev main_call9_v0 : Ref sig .tc := ⟨.hbm, 132, rfl⟩
abbrev main_call9_v1 : Ref sig .tc := ⟨.hbm, 133, rfl⟩
abbrev main_v73 : Ref sig .tc := ⟨.hbm, 134, rfl⟩
abbrev main_v74 : Ref sig .tc := ⟨.hbm, 135, rfl⟩
abbrev main_cst_35 : Ref sig .tc := ⟨.hbm, 136, rfl⟩
abbrev main_cst_36 : Ref sig .tc := ⟨.hbm, 137, rfl⟩
abbrev main_call11_v0 : Ref sig .tc := ⟨.hbm, 138, rfl⟩
abbrev main_call11_v1 : Ref sig .tc := ⟨.hbm, 139, rfl⟩
abbrev main_v75 : Ref sig .tc := ⟨.hbm, 140, rfl⟩
abbrev main_cst_37 : Ref sig .tc := ⟨.hbm, 141, rfl⟩
abbrev main_cst_38 : Ref sig .tc := ⟨.hbm, 142, rfl⟩
abbrev main_call12_v0 : Ref sig .tc := ⟨.hbm, 143, rfl⟩
abbrev main_call12_v1 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_c_39 : Ref sig .tc := ⟨.hbm, 156, rfl⟩
abbrev main_v87 : Ref sig .tc := ⟨.hbm, 157, rfl⟩
abbrev main_v88 : Ref sig .tc := ⟨.hbm, 158, rfl⟩
abbrev main_c_40 : Ref sig .tc := ⟨.hbm, 159, rfl⟩
abbrev main_v89 : Ref sig .tc := ⟨.hbm, 160, rfl⟩
abbrev main_v90 : Ref sig .tc := ⟨.hbm, 161, rfl⟩
abbrev main_c_41 : Ref sig .tc := ⟨.hbm, 162, rfl⟩
abbrev main_v91 : Ref sig .tc := ⟨.hbm, 163, rfl⟩
abbrev main_v92 : Ref sig .tc := ⟨.hbm, 164, rfl⟩
abbrev main_c_42 : Ref sig .tc := ⟨.hbm, 165, rfl⟩
abbrev main_v93 : Ref sig .tc := ⟨.hbm, 166, rfl⟩
abbrev main_v94 : Ref sig .tc := ⟨.hbm, 167, rfl⟩
abbrev main_c_43 : Ref sig .tc := ⟨.hbm, 168, rfl⟩
abbrev main_v95 : Ref sig .tc := ⟨.hbm, 169, rfl⟩
abbrev main_v96 : Ref sig .tc := ⟨.hbm, 170, rfl⟩
abbrev main_c_44 : Ref sig .tc := ⟨.hbm, 171, rfl⟩
abbrev main_v97 : Ref sig .tc := ⟨.hbm, 172, rfl⟩
abbrev main_v98 : Ref sig .tc := ⟨.hbm, 173, rfl⟩
abbrev main_c_45 : Ref sig .tc := ⟨.hbm, 174, rfl⟩
abbrev main_v99 : Ref sig .tc := ⟨.hbm, 175, rfl⟩
abbrev main_v100 : Ref sig .tc := ⟨.hbm, 176, rfl⟩
abbrev main_c_46 : Ref sig .tc := ⟨.hbm, 177, rfl⟩
abbrev main_v101 : Ref sig .tc := ⟨.hbm, 178, rfl⟩
abbrev main_v102 : Ref sig .tc := ⟨.hbm, 179, rfl⟩
abbrev main_c_47 : Ref sig .tc := ⟨.hbm, 180, rfl⟩
abbrev main_v103 : Ref sig .tc := ⟨.hbm, 181, rfl⟩
abbrev main_v104 : Ref sig .tc := ⟨.hbm, 182, rfl⟩
abbrev main_cst_48 : Ref sig .tc := ⟨.hbm, 183, rfl⟩
abbrev main_cst_49 : Ref sig .tc := ⟨.hbm, 184, rfl⟩
abbrev main_call16_v0 : Ref sig .tc := ⟨.hbm, 185, rfl⟩
abbrev main_call16_v1 : Ref sig .tc := ⟨.hbm, 186, rfl⟩
abbrev main_v105 : Ref sig .tc := ⟨.hbm, 187, rfl⟩
abbrev main_cst_50 : Ref sig .tc := ⟨.hbm, 188, rfl⟩
abbrev main_cst_51 : Ref sig .tc := ⟨.hbm, 189, rfl⟩
abbrev main_call17_v0 : Ref sig .tc := ⟨.hbm, 190, rfl⟩
abbrev main_call17_v1 : Ref sig .tc := ⟨.hbm, 191, rfl⟩
abbrev main_v106 : Ref sig .tc := ⟨.hbm, 192, rfl⟩
abbrev main_v107 : Ref sig .tc := ⟨.hbm, 193, rfl⟩
abbrev main_cst_52 : Ref sig .tc := ⟨.hbm, 194, rfl⟩
abbrev main_cst_53 : Ref sig .tc := ⟨.hbm, 195, rfl⟩
abbrev main_call19_v0 : Ref sig .tc := ⟨.hbm, 196, rfl⟩
abbrev main_call19_v1 : Ref sig .tc := ⟨.hbm, 197, rfl⟩
abbrev main_v108 : Ref sig .tc := ⟨.hbm, 198, rfl⟩
abbrev main_cst_54 : Ref sig .tc := ⟨.hbm, 199, rfl⟩
abbrev main_cst_55 : Ref sig .tc := ⟨.hbm, 200, rfl⟩
abbrev main_call20_v0 : Ref sig .tc := ⟨.hbm, 201, rfl⟩
abbrev main_call20_v1 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120_0 : Ref sig .tc := ⟨.hbm, 214, rfl⟩
abbrev main_v120_1 : Ref sig .tc := ⟨.hbm, 215, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Steps.lean ====
/-
  What a thread owns of a memref, stated over the memref's OWN indices, and one rule per effect over it.

  `own c q m S g`: at share `q`, the elements of `m`'s buffer lying under the indices `S` of `m`, their contents read
  through `m` being `g`. A load needs its rectangle inside `S`; a store rewrites `g` on its rectangle; a memref sliced
  or squeezed owns what the larger one owned under the rectangle; a transfer hands the destination over holding what the
  source holds. No rule mentions the buffer behind the memref.
-/
module

public import Idealize.ShloMosaic.Rules.Step
public import Idealize.ShloMosaic.Lib.Transfers
public import Idealize.ShloMosaic.Lib.Scf
public import Idealize.ShloMosaic.Lib.Tactic

@[expose] public section

noncomputable section

namespace Cert.Proof.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

section Own

variable (c : Thread nD τ) (q : PosShare TreeShare) {sp : Space} {s : Shape} {e : EltTy}

/-- At share `q`, the elements under the indices `S` of `m`, reading `g` through `m`. -/
def own (m : Memref sig c.2.kind sp s e) (S : Finset s.Idx) (g : s.Idx → Val e) : sProp 𝕄 :=
  iprop(∃ f, ⌜m.view.read Val f = g⌝ ∗ (m.view.loc c ↦[m.view.setOn S]{q} f))

variable {c q} {m : Memref sig c.2.kind sp s e} {S T : Finset s.Idx} {g h : s.Idx → Val e}

/-- Contents matter on the owned indices only. -/
theorem own_congr (hgh : ∀ i ∈ S, g i = h i) : (own c q m S g : sProp 𝕄) ⊢ own c q m S h := by
  unfold own
  iintro ⟨%f, %hf, H⟩
  iexists (m.view.write Val f h Finset.univ)
  isplitr
  · ipureintro; exact View.read_write_univ f h
  · have hc : ∀ i ∈ m.view.setOn S, f i = m.view.write Val f h Finset.univ i := by
      intro i hi
      obtain ⟨x, hx, rfl⟩ := Finset.mem_map.mp hi
      rw [View.write_emb_of_mem _ _ (Finset.mem_univ x), ← hgh x hx, ← hf, View.read_apply, cast_cast, cast_eq]
    ihave H' := (BIBase.Entails.of_eq (pointsTo_congr hc)) $$ H
    iexact H'

/-- Owned on disjoint index sets, owned on their union. -/
theorem own_union (hST : Disjoint S T) : (own c q m (S ∪ T) g : sProp 𝕄) ⊢ own c q m S g ∗ own c q m T g := by
  unfold own
  iintro ⟨%f, %hf, H⟩
  have hd : Disjoint (m.view.setOn S) (m.view.setOn T) := (Finset.disjoint_map _).mpr hST
  have he : m.view.setOn (S ∪ T) = m.view.setOn S ∪ m.view.setOn T := Finset.map_union S T
  rw [he]
  ihave H' := (pointsTo_union (q := q) (f := f) hd).1 $$ H
  icases H' with ⟨H1, H2⟩
  isplitl [H1]
  · iexists f; isplitr; · ipureintro; exact hf
    iexact H1
  · iexists f; isplitr; · ipureintro; exact hf
    iexact H2

/-- Owned on disjoint index sets at the same contents, owned on their union. -/
theorem own_join (hST : Disjoint S T) : (iprop(own c q m S g ∗ own c q m T g) : sProp 𝕄) ⊢ own c q m (S ∪ T) g := by
  unfold own
  iintro ⟨⟨%f, %hf, H1⟩, ⟨%f', %hf', H2⟩⟩
  have hd : Disjoint (m.view.setOn S) (m.view.setOn T) := (Finset.disjoint_map _).mpr hST
  have he : m.view.setOn (S ∪ T) = m.view.setOn S ∪ m.view.setOn T := Finset.map_union S T
  have hc : ∀ i ∈ m.view.setOn T, f' i = f i := by
    intro i hi
    obtain ⟨x, -, rfl⟩ := Finset.mem_map.mp hi
    have := congrFun (hf'.trans hf.symm) x
    rw [View.read_apply, View.read_apply] at this
    exact (cast_bijective (congrArg Val m.view.elt_eq)).injective this
  rw [he]
  ihave H2' := (BIBase.Entails.of_eq (pointsTo_congr hc)) $$ H2
  iexists f
  isplitr; · ipureintro; exact hf
  iapply (pointsTo_union (q := q) (f := f) hd).2
  isplitl [H1] <;> iassumption

/-- A part of the indices taken out, and what is left. -/
theorem own_split (hTS : T ⊆ S) : (own c q m S g : sProp 𝕄) ⊢ own c q m T g ∗ own c q m (S \ T) g := by
  conv_lhs => rw [← Finset.union_sdiff_of_subset hTS]
  exact own_union Finset.disjoint_sdiff

/-- A part put back. -/
theorem own_unsplit (hTS : T ⊆ S) : (iprop(own c q m T g ∗ own c q m (S \ T) g) : sProp 𝕄) ⊢ own c q m S g := by
  conv_rhs => rw [← Finset.union_sdiff_of_subset hTS]
  exact own_join Finset.disjoint_sdiff

/-- What a memref owns under a rectangle is what its slice owns. -/
theorem own_slice (r : Rect s) (hr : ∀ a, r.stride a = 1) :
    (own c q m r.set g : sProp 𝕄) ⊢ own c q (m.slice r hr) Finset.univ (fun j => g (r.emb j)) := by
  unfold own
  iintro ⟨%f, %hf, H⟩
  iexists f
  isplitr
  · ipureintro; subst hf; rfl
  · rw [show ((m.slice r hr).view.setOn Finset.univ) = m.view.setOn r.set from by
      rw [View.setOn_univ]; exact View.set_slice _ r]
    iexact H

/-- What a slice owns, its memref owns under the rectangle: at any contents that agree there. -/
theorem own_unslice (r : Rect s) (hr : ∀ a, r.stride a = 1) {k : r.shape.Idx → Val e} (hk : ∀ j, k j = g (r.emb j)) :
    (own c q (m.slice r hr) Finset.univ k : sProp 𝕄) ⊢ own c q m r.set g := by
  refine BIBase.Entails.trans ?_ (own_congr (g := fun i => if h : ∃ j, r.emb j = i then k h.choose else g i) ?_)
  · unfold own
    iintro ⟨%f, %hf, H⟩
    iexists m.view.write Val f (fun i => if h : ∃ j, r.emb j = i then k h.choose else g i) Finset.univ
    isplitr
    · ipureintro; exact View.read_write_univ (v := m.view) f _
    · rw [show ((m.slice r hr).view.setOn Finset.univ) = m.view.setOn r.set from by
        rw [View.setOn_univ]; exact View.set_slice _ r]
      have hc : ∀ i ∈ m.view.setOn r.set, f i
          = m.view.write Val f (fun i => if h : ∃ j, r.emb j = i then k h.choose else g i) Finset.univ i := by
        intro i hi
        obtain ⟨x, hx, rfl⟩ := Finset.mem_map.mp hi
        rw [View.write_emb_of_mem _ _ (Finset.mem_univ x)]
        rw [← Rect.map_emb_univ] at hx
        obtain ⟨j, -, rfl⟩ := Finset.mem_map.mp hx
        have h : ∃ j', r.emb j' = r.emb j := ⟨j, rfl⟩
        rw [dif_pos h]
        have hj : h.choose = j := r.emb.injective h.choose_spec
        rw [hj, ← hf]
        exact eq_of_heq ((heq_of_eq rfl).trans ((cast_heq _ _).trans (cast_heq _ _)).symm)
      ihave H' := (BIBase.Entails.of_eq (pointsTo_congr hc)) $$ H
      iexact H'
  · intro i hi
    by_cases h : ∃ j, r.emb j = i
    · show (if h : ∃ j, r.emb j = i then k h.choose else g i) = g i
      rw [dif_pos h, hk, h.choose_spec]
    · show (if h : ∃ j, r.emb j = i then k h.choose else g i) = g i
      rw [dif_neg h]

/-- A squeezed memref owns the same elements. -/
theorem own_squeeze {s' : Shape} (hs : s.Squeezes s') :
    (own c q m Finset.univ g : sProp 𝕄) ⊢ own c q (m.squeeze s' hs) Finset.univ (fun j => g (Shape.reshapeEquiv hs.numel_eq j)) := by
  unfold own
  iintro ⟨%f, %hf, H⟩
  iexists f
  isplitr
  · ipureintro; subst hf; rfl
  · rw [View.setOn_univ, View.setOn_univ, show (m.squeeze s' hs).view.set = m.view.set from View.set_reshape _ _]
    iexact H

/-- and back. -/
theorem own_unsqueeze {s' : Shape} (hs : s.Squeezes s') {k : s'.Idx → Val e} (hk : ∀ j, k j = g (Shape.reshapeEquiv hs.numel_eq j)) :
    (own c q (m.squeeze s' hs) Finset.univ k : sProp 𝕄) ⊢ own c q m Finset.univ g := by
  unfold own
  iintro ⟨%f, %hf, H⟩
  iexists f
  isplitr
  · ipureintro
    funext i
    obtain ⟨j, rfl⟩ := (Shape.reshapeEquiv hs.numel_eq).surjective i
    rw [← hk, ← hf]; rfl
  · rw [View.setOn_univ, View.setOn_univ, show (m.squeeze s' hs).view.set = m.view.set from View.set_reshape _ _]
    iexact H

end Own

section Rules

variable [Preorder Lvl] {defs : Defs nD τ sig Val Λ} (𝒱 : Variants) (c : Thread nD τ) (bd : Option 𝒱.V)
variable {sp : Space} {s : Shape} {e : EltTy} {q : PosShare TreeShare} {S : Finset s.Idx} {g : s.Idx → Val e}

/-- A load inside the owned indices reads the contents. -/
theorem ld {cs : CoreSpace} {m : Memref sig c.2.kind cs s e} {r : LoadRect s} {hl : m.view.LoadsAt r}
    {Q : (r.shape.Idx → Val e) → sProp 𝕄} (hS : r.set ⊆ S) :
    (own c q m S g : sProp 𝕄) ⊢ iprop((∀ v, ⌜v = fun j => g (r.idx j)⌝ -∗ own c q m S g -∗ Q v)
      -∗ wp frame (wpE defs 𝒱 c bd) Set.univ (Prog.lift (.load m r hl)) Q) := by
  unfold own
  iintro ⟨%f, %hf, H⟩ HQ
  iapply (wp_load 𝒱 c bd Set.univ (m := m) (r := r) (S := m.view.setOn S) (f := f) (Finset.map_subset_map.mpr hS)) $$ H
  iintro H
  rw [wp_ret]
  imodintro
  iapply HQ
  · ipureintro; rw [← hf]; rfl
  · iexists f; isplitr; · ipureintro; exact hf
    iexact H

/-- A store inside the owned indices rewrites the contents there. -/
theorem st {cs : CoreSpace} {m : Memref sig c.2.kind cs s e} {r : Rect s} {w : r.shape.Idx → Val e}
    {hx : (m.access r).Stores Finset.univ} {hm : Finset.univ = Finset.univ ∨ ∀ a, r.stride a = 1}
    {Q : PUnit → sProp 𝕄} (hS : r.set ⊆ S) :
    (own c fullShare m S g : sProp 𝕄) ⊢ iprop((∀ g', ⌜(∀ j, g' (r.emb j) = w j) ∧ ∀ i, i ∉ r.set → g' i = g i⌝
        -∗ own c fullShare m S g' -∗ Q ⟨⟩)
      -∗ wp frame (wpE defs 𝒱 c bd) Set.univ (Prog.lift (.store m r w Finset.univ hx hm)) Q) := by
  unfold own
  iintro ⟨%f, %hf, H⟩ HQ
  iapply (wp_store 𝒱 c bd Set.univ (m := m) (r := r) (S := m.view.setOn S) (f := f) (by
    rw [View.setOn_univ]; intro i hi
    rw [show (m.access r).set = r.set.map m.view.emb from View.set_slice _ r] at hi
    exact Finset.map_subset_map.mpr hS hi)) $$ H
  iintro H
  rw [wp_ret]
  imodintro
  iapply HQ $$ %(m.view.read Val ((m.access r).write Val f w Finset.univ))
  · ipureintro
    refine ⟨fun j => ?_, fun i hi => ?_⟩
    · exact View.read_slice_write_emb r f w (Finset.mem_univ j)
    · rw [← hf]
      refine View.read_congr_at i ?_
      refine View.write_of_not_mem (v := m.access r) _ _ _ fun h => hi ?_
      rw [View.setOn_univ, show (m.access r).set = r.set.map m.view.emb from View.set_slice _ r] at h
      exact (Finset.mem_map' _).mp h
  · iexists _; isplitr; · ipureintro; rfl
    iexact H

variable [Infinite Name] [DecidableEq Ix] (EC : UEmb Counters (MT nD τ sig Ix Val Name U Lvl)) [EC.LandsIn (upEmb : UEmb _ (MT nD τ sig Ix Val Name U Lvl))]

/-- A local transfer on a cell at zero: the wait will hand the destination back holding what the source holds. -/
theorem dma {sp' : Space} {src : Memref sig c.2.kind sp s e} {dst : Memref sig c.2.kind sp' s e} {sm : SemLoc sig}
    {hsrc : src.view.WordExact} {hdst : dst.view.WordExact} {hsem : DmaTarget.Typed (nD := nD) sp sm (.here dst)}
    {Q : PUnit → sProp 𝕄} {gd : s.Idx → Val e} (ι : Ix) (N : ℕ) (hN : dst.view.amount sm = N) (hN0 : 0 < N) :
    iprop(own c q src Finset.univ g ∗ own c fullShare dst Finset.univ gd ∗ semVal (c, sm) 0)
      ⊢ iprop((Flight EC c sm ι N iprop(own c fullShare dst Finset.univ g ∗ own c q src Finset.univ g) -∗ Q ⟨⟩)
          -∗ wp frame (wpE defs 𝒱 c bd) Set.univ (Prog.lift (.enqueueDma src (.here dst) sm hsrc hdst hsem)) Q) := by
  unfold own
  iintro ⟨⟨%f, %hf, Hs⟩, ⟨%fd, %hfd, Hd⟩, Hv⟩ HQ
  iapply (wp_dmaLocal EC 𝒱 c bd ι N hN hN0 (src := src) (dst := dst) (via := .same) (q := q) (fs := f) (fd := fd)
    (Sd := dst.view.setOn Finset.univ) (Finset.Subset.refl _)) $$ [Hs Hd Hv]
  · isplitl [Hs]; · iexact Hs
    isplitl [Hd]; · iexact Hd
    iexact Hv
  iintro HF
  rw [wp_ret]
  imodintro
  iapply HQ
  iapply (Flight_mono EC c (D := iprop((dst.view.loc c ↦[dst.view.setOn Finset.univ]{fullShare} (dst.view.write Val fd (ReadAs.same.apply (src.view.read Val f)) Finset.univ)) ∗ (src.view.loc c ↦[src.view.set]{q} f))) ?_) $$ HF
  iintro ⟨Hd, Hs⟩
  isplitl [Hd]
  · iexists _; isplitr; swap; · iexact Hd
    ipureintro; rw [View.read_write_univ]; exact hf
  · iexists f; isplitr; · ipureintro; exact hf
    iexact Hs

/-- The wait for a transfer: what it delivers, the cell at zero again. -/
theorem wt {sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {Q : PUnit → sProp 𝕄} (ι : Ix) {N : ℕ} (hN : dstw.view.dmaCredit = N) {D : sProp 𝕄} {W : Waits sig Ix} :
    iprop(Flight EC c (.dma sem) ι N D ∗ owes c 0 W)
      ⊢ iprop((∀ W', D -∗ semVal (c, .dma sem) 0 -∗ owes c 0 W' -∗ Q ⟨⟩)
          -∗ wp frame (wpE defs 𝒱 c bd) Set.univ (Prog.lift (.waitDma2 sem srcw dstw hsrc hdst)) Q) := by
  iintro ⟨HF, HO⟩ HQ
  iapply (wp_waitLocal EC 𝒱 c bd ι hN (srcw := srcw) (dstw := dstw) (hsrc := hsrc) (hdst := hdst)) $$ [HF HO]
  · isplitl [HF] <;> iassumption
  iintro ⟨HD, Hv, HO⟩
  rw [wp_ret]
  imodintro
  iapply HQ $$ %_ HD Hv HO

end Rules

end Cert.Proof.Steps

end
-- ==== Proof.Tiles.lean ====
/-
  Rules for buffers cut in tiles, over `Steps.own`.

  An array of two axes is described by a function of two naturals (`n2`), a ring of two slots by one such function per
  slot (`n3` on `slot p`). A transfer copies a sub-array into a slot or a slot into a sub-array; its wait delivers both.
  `part … P C` is a buffer being filled: it reads `C` wherever `P` holds, and a store of `C`'s values widens `P`.
-/
module

public import proofs.«01_k».proof.Proof.Steps
public import Idealize.ShloMosaic.Lib.ValueLayout

@[expose] public section

noncomputable section

namespace Cert.Proof.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

/-- The shape of `A` rows of `B`, and of a ring of two slots of `R` rows of `C`. -/
abbrev Sh2 (A B : ℕ) : Shape := ⟨2, ![A, B]⟩
abbrev Sh3 (P R C : ℕ) : Shape := ⟨3, ![P, R, C]⟩

/-- The `R`×`C` sub-array at `(a, b)`. -/
def sub2 {A B : ℕ} (a b R C : ℕ) : Finset (Sh2 A B).Idx :=
  Finset.univ.filter fun i => (a ≤ (i (0 : Fin 2)).val ∧ (i (0 : Fin 2)).val < a + R) ∧ b ≤ (i (1 : Fin 2)).val ∧ (i (1 : Fin 2)).val < b + C

theorem mem_sub2 {A B a b R C : ℕ} {i : (Sh2 A B).Idx} : i ∈ sub2 (A := A) (B := B) a b R C
    ↔ (a ≤ (i (0 : Fin 2)).val ∧ (i (0 : Fin 2)).val < a + R) ∧ b ≤ (i (1 : Fin 2)).val ∧ (i (1 : Fin 2)).val < b + C := by
  simp [sub2]

/-- The slot `p` of a ring. -/
def slot {P R C : ℕ} (p : ℕ) : Finset (Sh3 P R C).Idx := Finset.univ.filter fun i => (i (0 : Fin 3)).val = p

theorem mem_slot {P R C p : ℕ} {i : (Sh3 P R C).Idx} : i ∈ slot (P := P) (R := R) (C := C) p ↔ (i (0 : Fin 3)).val = p := by
  simp [slot]

/-- Contents given by row and column. -/
def n2 {α : Type} {A B : ℕ} (G : ℕ → ℕ → α) : (Sh2 A B).Idx → α := fun i => G (i (0 : Fin 2)).val (i (1 : Fin 2)).val
def n3 {α : Type} {P R C : ℕ} (G : ℕ → ℕ → α) : (Sh3 P R C).Idx → α := fun i => G (i (1 : Fin 3)).val (i (2 : Fin 3)).val

/-- An array by row and column. -/
def at2 {α : Type} {A B : ℕ} [NeZero A] [NeZero B] (X : (Sh2 A B).Idx → α) (r k : ℕ) : α := X (ix2 (Fin.ofNat A r) (Fin.ofNat B k))

theorem n2_at2 {α : Type} {A B : ℕ} [NeZero A] [NeZero B] (X : (Sh2 A B).Idx → α) : n2 (at2 X) = X := by
  funext i
  show X (ix2 (Fin.ofNat A (i (0 : Fin 2)).val) (Fin.ofNat B (i (1 : Fin 2)).val)) = X i
  congr 1
  funext a
  match a with
  | 0 => exact Fin.ext (Nat.mod_eq_of_lt (i (0 : Fin 2)).isLt)
  | 1 => exact Fin.ext (Nat.mod_eq_of_lt (i (1 : Fin 2)).isLt)

theorem set_sub2 {A B a b R C : ℕ} {off : Fin 2 → ℕ} (hoff : off = ![a, b]) (inb : ∀ x, off x + (![R, C] : Fin 2 → ℕ) x ≤ (Sh2 A B).size x) :
    (Rect.unit (s := Sh2 A B) off ![R, C] inb).set = sub2 a b R C := by
  subst hoff
  ext i
  rw [Rect.mem_set_unit, mem_sub2]
  exact Fin.forall_fin_two

theorem set_slot {P R C p : ℕ} {off : Fin 3 → ℕ} (hoff : off = ![p, 0, 0]) (inb : ∀ x, off x + (![1, R, C] : Fin 3 → ℕ) x ≤ (Sh3 P R C).size x) :
    (Rect.unit (s := Sh3 P R C) off ![1, R, C] inb).set = slot p := by
  subst hoff
  ext i
  rw [Rect.mem_set_unit, mem_slot]
  constructor
  · intro h
    have := h (0 : Fin 3)
    have h1 : p ≤ (i (0 : Fin 3)).val ∧ (i (0 : Fin 3)).val < p + 1 := this
    omega
  · intro h a
    match a with
    | 0 => exact (show p ≤ (i (0 : Fin 3)).val ∧ (i (0 : Fin 3)).val < p + 1 by omega)
    | 1 => exact ⟨Nat.zero_le _, by have := (i (1 : Fin 3)).isLt; exact (Nat.zero_add R).symm ▸ this⟩
    | 2 => exact ⟨Nat.zero_le _, by have := (i (2 : Fin 3)).isLt; exact (Nat.zero_add C).symm ▸ this⟩

/-- Contents by row and column, under a rectangle at `(a, b)`. -/
theorem n2_emb {α : Type} {A B a b : ℕ} (G : ℕ → ℕ → α) {off size : Fin 2 → ℕ} (hoff : off = ![a, b]) (inb : ∀ x, off x + size x ≤ (Sh2 A B).size x)
    (j : (Rect.unit (s := Sh2 A B) off size inb).shape.Idx) :
    n2 G ((Rect.unit (s := Sh2 A B) off size inb).emb j) = G (a + (j (0 : Fin 2)).val) (b + (j (1 : Fin 2)).val) := by
  subst hoff
  show G (a + 1 * (j (0 : Fin 2)).val) (b + 1 * (j (1 : Fin 2)).val) = _
  rw [one_mul, one_mul]

theorem n2_idx {α : Type} {A B a b : ℕ} (G : ℕ → ℕ → α) {off size : Fin 2 → ℕ} (hoff : off = ![a, b]) (inb : ∀ x, off x + size x ≤ (Sh2 A B).size x)
    (j : (Rect.unit (s := Sh2 A B) off size inb).toLoadRect.shape.Idx) :
    n2 G ((Rect.unit (s := Sh2 A B) off size inb).toLoadRect.idx j) = G (a + (j (0 : Fin 2)).val) (b + (j (1 : Fin 2)).val) :=
  n2_emb G hoff inb j

theorem n3_emb {α : Type} {P R C p a b : ℕ} (G : ℕ → ℕ → α) {off size : Fin 3 → ℕ} (hoff : off = ![p, a, b]) (inb : ∀ x, off x + size x ≤ (Sh3 P R C).size x)
    (j : (Rect.unit (s := Sh3 P R C) off size inb).shape.Idx) :
    n3 G ((Rect.unit (s := Sh3 P R C) off size inb).emb j) = G (a + (j (1 : Fin 3)).val) (b + (j (2 : Fin 3)).val) := by
  subst hoff
  show G (a + 1 * (j (1 : Fin 3)).val) (b + 1 * (j (2 : Fin 3)).val) = _
  rw [one_mul, one_mul]

theorem n3_idx {α : Type} {P R C p a b : ℕ} (G : ℕ → ℕ → α) {off size : Fin 3 → ℕ} (hoff : off = ![p, a, b]) (inb : ∀ x, off x + size x ≤ (Sh3 P R C).size x)
    (j : (Rect.unit (s := Sh3 P R C) off size inb).toLoadRect.shape.Idx) :
    n3 G ((Rect.unit (s := Sh3 P R C) off size inb).toLoadRect.idx j) = G (a + (j (1 : Fin 3)).val) (b + (j (2 : Fin 3)).val) :=
  n3_emb G hoff inb j

/-- An index under a rectangle at `(a, b)`, at `(p, a, b)`. -/
theorem mem_set2 {A B a b R C : ℕ} {off size : Fin 2 → ℕ} (hoff : off = ![a, b]) (hsz : size = ![R, C]) (inb : ∀ x, off x + size x ≤ (Sh2 A B).size x) (i : (Sh2 A B).Idx) :
    i ∈ (Rect.unit (s := Sh2 A B) off size inb).set
      ↔ (a ≤ (i (0 : Fin 2)).val ∧ (i (0 : Fin 2)).val < a + R) ∧ b ≤ (i (1 : Fin 2)).val ∧ (i (1 : Fin 2)).val < b + C := by
  subst hoff hsz
  rw [Rect.mem_set_unit]
  exact Fin.forall_fin_two

theorem mem_set3 {P Q R p a b d r k : ℕ} {off size : Fin 3 → ℕ} (hoff : off = ![p, a, b]) (hsz : size = ![d, r, k]) (inb : ∀ x, off x + size x ≤ (Sh3 P Q R).size x) (i : (Sh3 P Q R).Idx) :
    i ∈ (Rect.unit (s := Sh3 P Q R) off size inb).set
      ↔ (p ≤ (i (0 : Fin 3)).val ∧ (i (0 : Fin 3)).val < p + d) ∧ (a ≤ (i (1 : Fin 3)).val ∧ (i (1 : Fin 3)).val < a + r)
        ∧ b ≤ (i (2 : Fin 3)).val ∧ (i (2 : Fin 3)).val < b + k := by
  subst hoff hsz
  rw [Rect.mem_set_unit]
  constructor
  · intro h; exact ⟨h (0 : Fin 3), h (1 : Fin 3), h (2 : Fin 3)⟩
  · rintro ⟨h0, h1, h2⟩ x
    match x with
    | 0 => exact h0
    | 1 => exact h1
    | 2 => exact h2

/-- A rectangle of one slot lies in it. -/
theorem sub_slot {P Q R p a b r k : ℕ} {off size : Fin 3 → ℕ} (hoff : off = ![p, a, b]) (hsz : size = ![1, r, k]) (inb : ∀ x, off x + size x ≤ (Sh3 P Q R).size x) :
    (Rect.unit (s := Sh3 P Q R) off size inb).set ⊆ slot p := fun i hi => by
  rw [mem_set3 hoff hsz] at hi
  rw [mem_slot]; omega

section Moves

variable {c : Thread nD τ} {q : PosShare TreeShare} {sp : Space} {e : EltTy}

theorem sub_in {A B a b R C : ℕ} {m : Memref sig c.2.kind sp (Sh2 A B) e} {off : Fin 2 → ℕ} (hoff : off = ![a, b])
    (inb : ∀ x, off x + (![R, C] : Fin 2 → ℕ) x ≤ (Sh2 A B).size x) (h : ∀ x, (Rect.unit (s := Sh2 A B) off ![R, C] inb).stride x = 1) (H : ℕ → ℕ → Val e) :
    (own c q m (sub2 a b R C) (n2 H) : sProp 𝕄)
      ⊢ own c q (s := Sh2 R C) (m.slice (Rect.unit off ![R, C] inb) h) Finset.univ (n2 fun r k => H (a + r) (b + k)) := by
  rw [← set_sub2 hoff inb]
  refine BIBase.Entails.trans (own_slice _ h) (BIBase.Entails.of_eq ?_)
  subst hoff
  congr 1
  funext j
  show H (a + 1 * (j (0 : Fin 2)).val) (b + 1 * (j (1 : Fin 2)).val) = H (a + (j (0 : Fin 2)).val) (b + (j (1 : Fin 2)).val)
  rw [one_mul, one_mul]

theorem sub_out {A B a b R C : ℕ} {m : Memref sig c.2.kind sp (Sh2 A B) e} {off : Fin 2 → ℕ} (hoff : off = ![a, b])
    (inb : ∀ x, off x + (![R, C] : Fin 2 → ℕ) x ≤ (Sh2 A B).size x) (h : ∀ x, (Rect.unit (s := Sh2 A B) off ![R, C] inb).stride x = 1) (H : ℕ → ℕ → Val e) :
    (own c q (s := Sh2 R C) (m.slice (Rect.unit off ![R, C] inb) h) Finset.univ (n2 fun r k => H (a + r) (b + k)) : sProp 𝕄)
      ⊢ own c q m (sub2 a b R C) (n2 H) := by
  rw [← set_sub2 hoff inb]
  refine own_unslice _ h ?_
  subst hoff
  intro j
  show H (a + (j (0 : Fin 2)).val) (b + (j (1 : Fin 2)).val) = H (a + 1 * (j (0 : Fin 2)).val) (b + 1 * (j (1 : Fin 2)).val)
  rw [one_mul, one_mul]

theorem slot_ix {P R C p : ℕ} {off : Fin 3 → ℕ} (hoff : off = ![p, 0, 0]) (inb : ∀ x, off x + (![1, R, C] : Fin 3 → ℕ) x ≤ (Sh3 P R C).size x)
    (hn : (Sh2 R C).numel = (Sh3 1 R C).numel) {α : Type} (G : ℕ → ℕ → α) (j : (Sh2 R C).Idx) :
    n3 (P := P) (R := R) (C := C) G ((Rect.unit (s := Sh3 P R C) off ![1, R, C] inb).emb (Shape.reshapeEquiv hn j)) = n2 G j := by
  subst hoff
  obtain ⟨x, y, rfl⟩ : ∃ (x : Fin R) (y : Fin C), j = ix2 x y := ⟨_, _, eq_ix2 j⟩
  rw [reshapeEquiv_ix2_1ab]
  show G (0 + 1 * _) (0 + 1 * _) = G _ _
  rw [Nat.zero_add, Nat.zero_add, one_mul, one_mul]

theorem slot_in {P R C p : ℕ} {m : Memref sig c.2.kind sp (Sh3 P R C) e} {off : Fin 3 → ℕ} (hoff : off = ![p, 0, 0])
    (inb : ∀ x, off x + (![1, R, C] : Fin 3 → ℕ) x ≤ (Sh3 P R C).size x) (h : ∀ x, (Rect.unit (s := Sh3 P R C) off ![1, R, C] inb).stride x = 1)
    (hsq : (Sh3 1 R C).Squeezes (Sh2 R C)) (G : ℕ → ℕ → Val e) :
    (own c q m (slot p) (n3 G) : sProp 𝕄)
      ⊢ own c q (Memref.squeeze (s := Sh3 1 R C) (m.slice (Rect.unit off ![1, R, C] inb) h) (Sh2 R C) hsq) Finset.univ (n2 G) := by
  rw [← set_slot hoff inb]
  refine BIBase.Entails.trans (own_slice _ h) (BIBase.Entails.trans (own_squeeze hsq) (BIBase.Entails.of_eq ?_))
  congr 1
  funext j
  exact slot_ix hoff inb _ G j

theorem slot_any {P R C p : ℕ} {m : Memref sig c.2.kind sp (Sh3 P R C) e} {off : Fin 3 → ℕ} (hoff : off = ![p, 0, 0])
    (inb : ∀ x, off x + (![1, R, C] : Fin 3 → ℕ) x ≤ (Sh3 P R C).size x) (h : ∀ x, (Rect.unit (s := Sh3 P R C) off ![1, R, C] inb).stride x = 1)
    (hsq : (Sh3 1 R C).Squeezes (Sh2 R C)) (g : (Sh3 P R C).Idx → Val e) :
    (own c q m (slot p) g : sProp 𝕄)
      ⊢ iprop(∃ k, own c q (Memref.squeeze (s := Sh3 1 R C) (m.slice (Rect.unit off ![1, R, C] inb) h) (Sh2 R C) hsq) Finset.univ k) := by
  rw [← set_slot hoff inb]
  refine BIBase.Entails.trans (own_slice _ h) (BIBase.Entails.trans (own_squeeze hsq) ?_)
  iintro H
  iexists _
  iexact H

theorem slot_out {P R C p : ℕ} {m : Memref sig c.2.kind sp (Sh3 P R C) e} {off : Fin 3 → ℕ} (hoff : off = ![p, 0, 0])
    (inb : ∀ x, off x + (![1, R, C] : Fin 3 → ℕ) x ≤ (Sh3 P R C).size x) (h : ∀ x, (Rect.unit (s := Sh3 P R C) off ![1, R, C] inb).stride x = 1)
    (hsq : (Sh3 1 R C).Squeezes (Sh2 R C)) (G : ℕ → ℕ → Val e) :
    (own c q (Memref.squeeze (s := Sh3 1 R C) (m.slice (Rect.unit off ![1, R, C] inb) h) (Sh2 R C) hsq) Finset.univ (n2 G) : sProp 𝕄)
      ⊢ own c q m (slot p) (n3 G) := by
  rw [← set_slot hoff inb]
  refine BIBase.Entails.trans (own_unsqueeze hsq (g := fun j => n3 G ((Rect.unit (s := Sh3 P R C) off ![1, R, C] inb).emb j)) fun j => ?_) (own_unslice _ h fun _ => rfl)
  exact (slot_ix hoff inb _ G j).symm

end Moves

/-- What a transfer into a view of `m` at the shape `s'` credits. -/
abbrev credit {κ : Kind} {sp : Space} {s : Shape} {e : EltTy} (m : Memref sig κ sp s e) (s' : Shape) : ℕ :=
  sig.dmaCredit κ (κ.table sp) m.view.buf s' e

/-- The cell `p` of a pair of cells. -/
def cellAt (a : DmaSems sig ⟨1, ![2]⟩) (p : ℕ) : DmaSem sig := a.ix (ix1 (Fin.ofNat 2 p))

theorem cellAt_eq {a : DmaSems sig ⟨1, ![2]⟩} {p : ℕ} {off : Fin 1 → ℕ} (hoff : off = ![p])
    (inb : ∀ x, off x + (![1] : Fin 1 → ℕ) x ≤ (⟨1, ![2]⟩ : Shape).size x) {d : Fin 0 → ℕ} (hsq : (⟨1, ![1]⟩ : Shape).Squeezes ⟨0, d⟩) :
    (SemArray.squeeze (s := ⟨1, ![1]⟩) (SemArray.slice a (Rect.unit off ![1] inb)) ⟨0, d⟩ hsq).sem = cellAt a p := by
  subst hoff
  unfold SemArray.sem SemArray.squeeze SemArray.slice cellAt
  dsimp only
  congr 1
  funext x
  match x with
  | 0 =>
    refine Fin.ext ?_
    have hp : p + 1 ≤ 2 := inb (0 : Fin 1)
    have key : ∀ z : (⟨1, ![1]⟩ : Shape).Idx, p + 1 * (z (0 : Fin 1)).val = p % 2 := fun z => by
      have h1 : (z (0 : Fin 1)).val < 1 := (z (0 : Fin 1)).isLt
      rw [Nat.mod_eq_of_lt hp]
      omega
    exact key _

section Rules

variable [Preorder Lvl] {defs : Defs nD τ sig Val Λ} (𝒱 : Variants) (c : Thread nD τ) (bd : Option 𝒱.V)
variable {sp sp' : Space} {e : EltTy} {q : PosShare TreeShare}
variable [Infinite Name] (EC : UEmb Counters (MT nD τ sig Ix Val Name U Lvl)) [EC.LandsIn (upEmb : UEmb _ (MT nD τ sig Ix Val Name U Lvl))]

/-- A sub-array copied into a slot. -/
theorem enq_in {A B P R C a b p : ℕ} {m2 : Memref sig c.2.kind sp (Sh2 A B) e} {m3 : Memref sig c.2.kind sp' (Sh3 P R C) e}
    {off2 : Fin 2 → ℕ} {inb2 : ∀ x, off2 x + (![R, C] : Fin 2 → ℕ) x ≤ (Sh2 A B).size x} {h2 : ∀ x, (Rect.unit (s := Sh2 A B) off2 ![R, C] inb2).stride x = 1}
    {off3 : Fin 3 → ℕ} {inb3 : ∀ x, off3 x + (![1, R, C] : Fin 3 → ℕ) x ≤ (Sh3 P R C).size x} {h3 : ∀ x, (Rect.unit (s := Sh3 P R C) off3 ![1, R, C] inb3).stride x = 1}
    {hsq : (Sh3 1 R C).Squeezes (Sh2 R C)} {sm : DmaSem sig} {hsrc hdst hsem} {Q : PUnit → sProp 𝕄} {H : ℕ → ℕ → Val e} {g : (Sh3 P R C).Idx → Val e}
    (ι : Ix) (s : DmaSem sig) (hs : sm = s) (ho2 : off2 = ![a, b]) (ho3 : off3 = ![p, 0, 0]) (hpos : 0 < (Sh2 R C).numel) :
    iprop(own c q m2 (sub2 a b R C) (n2 H) ∗ own c fullShare m3 (slot p) g ∗ semVal (c, .dma s) 0)
      ⊢ iprop((Flight EC c (.dma s) ι (credit m3 (Sh2 R C)) iprop(own c fullShare m3 (slot p) (n3 fun r k => H (a + r) (b + k)) ∗ own c q m2 (sub2 a b R C) (n2 H)) -∗ Q ⟨⟩)
          -∗ wp frame (wpE defs 𝒱 c bd) Set.univ (Prog.lift (.enqueueDma (s := Sh2 R C) (m2.slice (Rect.unit off2 ![R, C] inb2) h2)
            (.here (Memref.squeeze (s := Sh3 1 R C) (m3.slice (Rect.unit off3 ![1, R, C] inb3) h3) (Sh2 R C) hsq)) (.dma sm) hsrc hdst hsem)) Q) := by
  subst hs
  iintro ⟨H2, H3, Hv⟩ HQ
  ihave H2' := (sub_in ho2 inb2 h2 H) $$ H2
  ihave H3' := (slot_any ho3 inb3 h3 hsq g) $$ H3
  icases H3' with ⟨%k, H3'⟩
  iapply (dma 𝒱 c bd EC ι (credit m3 (Sh2 R C)) rfl (sig.dmaCredit_pos _ _ _ _ _ hpos)) $$ [H2' H3' Hv]
  · isplitl [H2']; · iexact H2'
    isplitl [H3']; · iexact H3'
    iexact Hv
  iintro HF
  iapply HQ
  iapply (Flight_mono EC c ?_) $$ HF
  iintro ⟨Hd, Hs⟩
  isplitl [Hd]
  · iapply (slot_out ho3 inb3 h3 hsq _) $$ Hd
  · iapply (sub_out ho2 inb2 h2 H) $$ Hs

/-- A slot copied into a sub-array. -/
theorem enq_out {A B P R C a b p : ℕ} {m2 : Memref sig c.2.kind sp (Sh2 A B) e} {m3 : Memref sig c.2.kind sp' (Sh3 P R C) e}
    {off2 : Fin 2 → ℕ} {inb2 : ∀ x, off2 x + (![R, C] : Fin 2 → ℕ) x ≤ (Sh2 A B).size x} {h2 : ∀ x, (Rect.unit (s := Sh2 A B) off2 ![R, C] inb2).stride x = 1}
    {off3 : Fin 3 → ℕ} {inb3 : ∀ x, off3 x + (![1, R, C] : Fin 3 → ℕ) x ≤ (Sh3 P R C).size x} {h3 : ∀ x, (Rect.unit (s := Sh3 P R C) off3 ![1, R, C] inb3).stride x = 1}
    {hsq : (Sh3 1 R C).Squeezes (Sh2 R C)} {sm : DmaSem sig} {hsrc hdst hsem} {Q : PUnit → sProp 𝕄} {H : ℕ → ℕ → Val e} {g : ℕ → ℕ → Val e}
    (ι : Ix) (s : DmaSem sig) (hs : sm = s) (ho2 : off2 = ![a, b]) (ho3 : off3 = ![p, 0, 0]) (hpos : 0 < (Sh2 R C).numel) :
    iprop(own c q m3 (slot p) (n3 fun r k => H (a + r) (b + k)) ∗ own c fullShare m2 (sub2 a b R C) (n2 g) ∗ semVal (c, .dma s) 0)
      ⊢ iprop((Flight EC c (.dma s) ι (credit m2 (Sh2 R C)) iprop(own c fullShare m2 (sub2 a b R C) (n2 H) ∗ own c q m3 (slot p) (n3 fun r k => H (a + r) (b + k))) -∗ Q ⟨⟩)
          -∗ wp frame (wpE defs 𝒱 c bd) Set.univ (Prog.lift (.enqueueDma (s := Sh2 R C)
            (Memref.squeeze (s := Sh3 1 R C) (m3.slice (Rect.unit off3 ![1, R, C] inb3) h3) (Sh2 R C) hsq)
            (.here (m2.slice (Rect.unit off2 ![R, C] inb2) h2)) (.dma sm) hsrc hdst hsem)) Q) := by
  subst hs
  iintro ⟨H3, H2, Hv⟩ HQ
  ihave H2' := (sub_in ho2 inb2 h2 g) $$ H2
  ihave H3' := (slot_in ho3 inb3 h3 hsq _) $$ H3
  iapply (dma 𝒱 c bd EC ι (credit m2 (Sh2 R C)) rfl (sig.dmaCredit_pos _ _ _ _ _ hpos)) $$ [H2' H3' Hv]
  · isplitl [H3']; · iexact H3'
    isplitl [H2']; · iexact H2'
    iexact Hv
  iintro HF
  iapply HQ
  iapply (Flight_mono EC c ?_) $$ HF
  iintro ⟨Hd, Hs⟩
  isplitl [Hd]
  · iapply (sub_out ho2 inb2 h2 H) $$ Hd
  · iapply (slot_out ho3 inb3 h3 hsq _) $$ Hs

end Rules

/-! ### Buffers being filled -/

section Part

variable {c : Thread nD τ} {sp : Space} {s : Shape} {e : EltTy}
variable {m : Memref sig c.2.kind sp s e} {S : Finset s.Idx} {P P' : s.Idx → Prop} {C : s.Idx → Val e}

variable (c m S P C) in
/-- Owned on `S`, reading `C` wherever `P`. -/
def part : sProp 𝕄 := iprop(∃ g, ⌜∀ i ∈ S, P i → g i = C i⌝ ∗ own c fullShare m S g)

theorem part_start {g : s.Idx → Val e} (h : ∀ i ∈ S, P i → g i = C i) : (own c fullShare m S g : sProp 𝕄) ⊢ part c m S P C := by
  unfold part
  iintro H
  iexists g
  isplitr; · ipureintro; exact h
  iexact H

theorem part_all (h : ∀ i ∈ S, P i) : (part c m S P C : sProp 𝕄) ⊢ own c fullShare m S C := by
  unfold part
  iintro ⟨%g, %hg, H⟩
  iapply (own_congr fun i hi => hg i hi (h i hi)) $$ H

theorem part_mono (h : ∀ i ∈ S, P' i → P i) : (part c m S P C : sProp 𝕄) ⊢ part c m S P' C := by
  unfold part
  iintro ⟨%g, %hg, H⟩
  iexists g
  isplitr; · ipureintro; exact fun i hi hp => hg i hi (h i hi hp)
  iexact H

variable [Preorder Lvl] {defs : Defs nD τ sig Val Λ} (𝒱 : Variants) (bd : Option 𝒱.V)

/-- A load of whatever is there. -/
theorem part_ld {cs : CoreSpace} {m : Memref sig c.2.kind cs s e} {r : LoadRect s} {hl : m.view.LoadsAt r}
    {Q : (r.shape.Idx → Val e) → sProp 𝕄} (hS : r.set ⊆ S) :
    (part c m S P C : sProp 𝕄) ⊢ iprop((∀ v, part c m S P C -∗ Q v)
      -∗ wp frame (wpE defs 𝒱 c bd) Set.univ (Prog.lift (.load m r hl)) Q) := by
  unfold part
  iintro ⟨%g, %hg, H⟩ HQ
  iapply (ld 𝒱 c bd hS) $$ H
  iintro %v %_ H
  iapply HQ
  iexists g
  isplitr; · ipureintro; exact hg
  iexact H

/-- A store of `C`'s values: `P` may grow by the rectangle. -/
theorem part_st {cs : CoreSpace} {m : Memref sig c.2.kind cs s e} {r : Rect s} {w : r.shape.Idx → Val e}
    {hx : (m.access r).Stores Finset.univ} {hm : Finset.univ = Finset.univ ∨ ∀ a, r.stride a = 1}
    {Q : PUnit → sProp 𝕄} (P' : s.Idx → Prop) (hS : r.set ⊆ S) (hP : ∀ i ∈ S, P' i → i ∉ r.set → P i) (hw : ∀ j, w j = C (r.emb j)) :
    (part c m S P C : sProp 𝕄) ⊢ iprop((part c m S P' C -∗ Q ⟨⟩)
      -∗ wp frame (wpE defs 𝒱 c bd) Set.univ (Prog.lift (.store m r w Finset.univ hx hm)) Q) := by
  unfold part
  iintro ⟨%g, %hg, H⟩ HQ
  iapply (st 𝒱 c bd hS) $$ H
  iintro %g' %hg' H
  iapply HQ
  iexists g'
  isplitr
  · ipureintro
    intro i hi hp
    by_cases hr : i ∈ r.set
    · rw [← Rect.map_emb_univ] at hr
      obtain ⟨j, -, rfl⟩ := Finset.mem_map.mp hr
      rw [hg'.1, hw]
    · rw [hg'.2 i hr, hg i hi (hP i hi hp hr)]
  · iexact H

end Part

end Cert.Proof.Steps

end
-- ==== Proof.KernelSpec.lean ====
/-
  What the kernel leaves in its buffers, as functions of its three inputs by row and column: the quantised codes, their
  dequantised values, the scales, the decoded weights and the product, each spelled with the payloads of the printed
  kernel at a tile of the inputs. Nothing is said here of what the payloads compute.
-/
module

public import proofs.«01_k».proof.Proof.Gen.Kernel
public import proofs.«01_k».proof.Proof.Gen.Kernel.Skeleton
public import proofs.«01_k».proof.Proof.Tiles

@[expose] public section

noncomputable section

namespace Cert.Proof.Kernel

open Cert.Kernel Cert.Kernel.Gen Cert.Proof.Steps
open Idealize.ShloMosaic Idealize.ShloMosaic.ValueIdx Idealize.SL.Sem

variable {F : FTy → Type} [FloatOps F]

/-! ### One block of 32 rows quantised -/

/-- The scale of each row of a block, its codes, and the values they stand for. -/
def qScl (v : Vec F S1x32x4096 .bf16) : FVec F S32x1 .f32 := k0_pay38 (k0_pay35 v) (k0_pay36 v)
def qCode (v : Vec F S1x32x4096 .bf16) : FVec F S1x32x4096 .fp8e4m3 := k0_pay41 (k0_pay34 v) (k0_pay39 (k0_pay35 v) (k0_pay36 v))
def qXw (v : Vec F S1x32x4096 .bf16) : FVec F S1x32x4096 .bf16 :=
  k0_pay42 (k0_pay34 v) (k0_pay38 (k0_pay35 v) (k0_pay36 v)) (k0_pay39 (k0_pay35 v) (k0_pay36 v))

/-- Block `b` of the rows. -/
def blk (X : ℕ → ℕ → Elt F .bf16) (b : ℕ) : Vec F S1x32x4096 .bf16 := fun j => X (32 * b + (j (1 : Fin 3)).val) (j (2 : Fin 3)).val

/-- The index `(0, r mod 32, k)` of a block. -/
def bix (r k : ℕ) : S1x32x4096.Idx := ix3 (0 : Fin 1) (Fin.ofNat 32 r) (Fin.ofNat 4096 k)

def codeN (X : ℕ → ℕ → Elt F .bf16) (r k : ℕ) : Elt F .fp8e4m3 := qCode (blk X (r / 32)) (bix r k)
def xwN (X : ℕ → ℕ → Elt F .bf16) (r k : ℕ) : Elt F .bf16 := qXw (blk X (r / 32)) (bix r k)

/-- The scales of a tile of 256 rows, as the row vector stored. -/
def tileScl (X : ℕ → ℕ → Elt F .bf16) (T : ℕ) : FVec F S1x1x256 .f32 :=
  k0_pay123 (k0_pay43 (qScl (blk X (8 * T)))) (k0_pay43 (qScl (blk X (8 * T + 1)))) (k0_pay43 (qScl (blk X (8 * T + 2))))
    (k0_pay43 (qScl (blk X (8 * T + 3)))) (k0_pay43 (qScl (blk X (8 * T + 4)))) (k0_pay43 (qScl (blk X (8 * T + 5))))
    (k0_pay43 (qScl (blk X (8 * T + 6)))) (qScl (blk X (8 * T + 7)))

/-- The scale of row `r`. -/
def sclN (X : ℕ → ℕ → Elt F .bf16) (r : ℕ) : Elt F .f32 := tileScl X (r / 256) (ix3 (0 : Fin 1) (0 : Fin 1) (Fin.ofNat 256 r))

/-! ### The weights decoded -/

/-- The shared exponent of group `g` and column `k`, placed. -/
def expN (WS : ℕ → ℕ → Elt F .i8) (g k : ℕ) : Elt F .i32 :=
  k0_pay137 (F := F) (fun j => WS (j (0 : Fin 2)).val (256 * (k / 256) + (j (1 : Fin 2)).val)) (ix2 (Fin.ofNat 128 g) (Fin.ofNat 256 k))

/-- One decoded group of 32 rows and 256 columns: low nibbles, high nibbles. -/
def loBlk (WP : ℕ → ℕ → Elt F .i8) (E : ℕ → Elt F .i32) (g n : ℕ) : FVec F S32x256 .bf16 :=
  k0_pay2 (fun j => WP (32 * g + (j (0 : Fin 2)).val) (256 * n + (j (1 : Fin 2)).val)) (fun j => E (j (1 : Fin 2)).val)
def hiBlk (WP : ℕ → ℕ → Elt F .i8) (E : ℕ → Elt F .i32) (g n : ℕ) : FVec F S32x256 .bf16 :=
  k0_pay139 (k0_pay3 (fun j => WP (32 * g + (j (0 : Fin 2)).val) (256 * n + (j (1 : Fin 2)).val))) (fun j => E (j (1 : Fin 2)).val)

/-- The weight at row `r` and column `k`: the low nibbles are the first 2816 columns. -/
def wN (WP WS : ℕ → ℕ → Elt F .i8) (r k : ℕ) : Elt F .bf16 :=
  if k / 256 < 11 then loBlk WP (fun j => expN WS (r / 32) (256 * (k / 256) + j)) (r / 32) (k / 256) (ix2 (Fin.ofNat 32 r) (Fin.ofNat 256 k))
  else hiBlk WP (fun j => expN WS (r / 32) (256 * (k / 256) + j)) (r / 32) (k / 256 - 11) (ix2 (Fin.ofNat 32 r) (Fin.ofNat 256 k))

/-! ### The product -/

def prod (a : Vec F S1x256x4096 .bf16) (b : Vec F S4096x512 .bf16) : FVec F S1x256x512 .bf16 := k0_pay126 a b

/-- The product at row `r` and column `k`, from the quantised rows `xw` and the weights `w`. -/
def yN (xw w : ℕ → ℕ → Elt F .bf16) (r k : ℕ) : Elt F .bf16 :=
  prod (fun j => xw (256 * (r / 256) + (j (1 : Fin 3)).val) (j (2 : Fin 3)).val)
    (fun j => w (j (0 : Fin 2)).val (512 * (k / 512) + (j (1 : Fin 2)).val))
    (ix3 (0 : Fin 1) (Fin.ofNat 256 r) (Fin.ofNat 512 k))

end Cert.Proof.Kernel

end
-- ==== Proof.KernelDecode.lean ====
/-
  The decode loops: eleven loops of 128 trips, each decoding one chunk of 256 columns of packed weights into the low
  and the high half of the weights. The eleven loop bodies are ONE program at different offsets (`decTrip`), so one
  lemma per trip and one per loop serve all.
-/
module

public import proofs.«01_k».proof.Proof.KernelSpec
public import Idealize.ShloMosaic.Lib.Pipeline.Kit

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

/-- The algebra: the pipeline library's beside the transfers' counters. -/
abbrev UU (nD : Nat) (τ : Topo) : Type := UR sig nD τ × Counters

local notation "𝕄" => MT nD τ sig Unit (Elt F) ℕ (UU nD τ) ℕ

/-- The chunks below `n` decoded, and the rows below `32 k` of chunk `n`. -/
def decoded (n k : ℕ) (i : (Sh2 4096 5632).Idx) : Prop :=
  (i (1 : Fin 2)).val % 2816 / 256 < n ∨ (i (1 : Fin 2)).val % 2816 / 256 = n ∧ (i (0 : Fin 2)).val < 32 * k

/-- The exponents of chunk `n` placed side by side: low columns, high columns. -/
def expPair (WS : ℕ → ℕ → Elt F .i8) (n : ℕ) (g k : ℕ) : Elt F .i32 := if k < 256 then expN WS g (256 * n + k) else expN WS g (256 * (n + 11) + (k - 256))

/-- One trip of a decode loop. -/
def decTrip (a6 : Memref sig .tc .vmem S4096x5632 .bf16) (h6 : a6.IsWhole) (a13 : Memref sig .tc .vmem S128x512 .i32) (v : Memref sig .tc .vmem S4096x256 .i8)
    (o1 o2 o3 o4 o5 : Fin 2 → ℕ) (i1 : ∀ a, o1 a + S32x256.size a ≤ S4096x256.size a) (i2 : ∀ a, o2 a + S1x256.size a ≤ S128x512.size a)
    (i3 : ∀ a, o3 a + S32x256.size a ≤ S4096x5632.size a) (i4 : ∀ a, o4 a + S1x256.size a ≤ S128x512.size a) (i5 : ∀ a, o5 a + S32x256.size a ≤ S4096x5632.size a)
    (p3 : (a6.access (Rect.unit (s := S4096x5632) o3 S32x256.size i3)).Stores Finset.univ) (p5 : (a6.access (Rect.unit (s := S4096x5632) o5 S32x256.size i5)).Stores Finset.univ) :
    Prog (TpuEff nD τ sig (Elt F) Λ₀ .tc) Unit := do
  let x : Vec F S32x256 .i8 ← Prog.lift (.load v (Rect.unit (s := S4096x256) o1 S32x256.size i1).toLoadRect (View.loadsAt_vmem h_S32x256))
  let e : Vec F S1x256 .i32 ← Prog.lift (.load a13 (Rect.unit (s := S128x512) o2 S1x256.size i2).toLoadRect (View.loadsAt_vmem h_S1x256))
  let _ : Vec F S32x256 .bf16 ← Prog.lift (.load a6 (Rect.unit (s := S4096x5632) o3 S32x256.size i3).toLoadRect (View.loadsAt_vmem h_S32x256))
  Prog.lift (.store a6 (Rect.unit (s := S4096x5632) o3 S32x256.size i3) (k0_pay2 x e) Finset.univ p3 (.inl rfl))
  let e' : Vec F S1x256 .i32 ← Prog.lift (.load a13 (Rect.unit (s := S128x512) o4 S1x256.size i4).toLoadRect (View.loadsAt_vmem h_S1x256))
  let _ : Vec F S32x256 .bf16 ← Prog.lift (.load a6 (Rect.unit (s := S4096x5632) o5 S32x256.size i5).toLoadRect (View.loadsAt_vmem h_S32x256))
  Prog.lift (.store a6 (Rect.unit (s := S4096x5632) o5 S32x256.size i5) (k0_pay139 (k0_pay3 x) e') Finset.univ p5 (.inl rfl))
  pure ()

variable (c : Dev nD)

/-- What a decode loop holds before trip `k`. -/
def decInv (a6 : Memref sig .tc .vmem S4096x5632 .bf16) (a13 : Memref sig .tc .vmem S128x512 .i32) (v : Memref sig .tc .vmem S4096x256 .i8)
    (WP WS : ℕ → ℕ → Elt F .i8) (n k : ℕ) : sProp 𝕄 :=
  iprop(own (c : Thread nD τ) fullShare v Finset.univ (n2 fun r k => WP r (256 * n + k))
    ∗ own (c : Thread nD τ) fullShare a13 Finset.univ (n2 (expPair WS n))
    ∗ part (c : Thread nD τ) a6 Finset.univ (decoded n k) (n2 (wN WP WS)))

/-- The low half of a trip stores the weights of its rows, -/
theorem lo_at (WP WS : ℕ → ℕ → Elt F .i8) (n k : ℕ) (hn : n < 11) (x : Vec F S32x256 .i8) (e : Vec F S1x256 .i32)
    (hx : x = fun j => WP (32 * k + (j (0 : Fin 2)).val) (256 * n + (j (1 : Fin 2)).val)) (he : e = fun j => expPair WS n (k + (j (0 : Fin 2)).val) (j (1 : Fin 2)).val)
    (a : Fin 32) (b : Fin 256) : k0_pay2 x e (ix2 a b) = wN WP WS (32 * k + a.val) (256 * n + b.val) := by
  have ha := a.isLt
  have hb := b.isLt
  have e1 : (32 * k + a.val) / 32 = k := by omega
  have e2 : (256 * n + b.val) / 256 = n := by omega
  have e3 : Fin.ofNat 32 (32 * k + a.val) = a := Fin.ext (by show (32 * k + a.val) % 32 = a.val; omega)
  have e4 : Fin.ofNat 256 (256 * n + b.val) = b := Fin.ext (by show (256 * n + b.val) % 256 = b.val; omega)
  have he' : e = fun j => expN WS k (256 * n + (j (1 : Fin 2)).val) := by
    rw [he]; funext j
    have h0 : (j (0 : Fin 2)).val < 1 := (j (0 : Fin 2)).isLt
    have h1 : (j (1 : Fin 2)).val < 256 := (j (1 : Fin 2)).isLt
    unfold expPair
    rw [if_pos h1, show k + (j (0 : Fin 2)).val = k by omega]
  unfold wN loBlk
  rw [e1, e2, e3, e4, if_pos hn, hx, he']

/-- and so does the high half. -/
theorem hi_at (WP WS : ℕ → ℕ → Elt F .i8) (n k : ℕ) (x : Vec F S32x256 .i8) (e : Vec F S1x256 .i32)
    (hx : x = fun j => WP (32 * k + (j (0 : Fin 2)).val) (256 * n + (j (1 : Fin 2)).val)) (he : e = fun j => expPair WS n (k + (j (0 : Fin 2)).val) (256 + (j (1 : Fin 2)).val))
    (a : Fin 32) (b : Fin 256) (r : ℕ) (hr : r = 2816 + 256 * n + b.val) : k0_pay139 (k0_pay3 x) e (ix2 a b) = wN WP WS (32 * k + a.val) r := by
  have ha := a.isLt
  have hb := b.isLt
  have e1 : (32 * k + a.val) / 32 = k := by omega
  have e2 : r / 256 = n + 11 := by omega
  have e3 : Fin.ofNat 32 (32 * k + a.val) = a := Fin.ext (by show (32 * k + a.val) % 32 = a.val; omega)
  have e4 : Fin.ofNat 256 r = b := Fin.ext (by show r % 256 = b.val; omega)
  have he' : e = fun j => expN WS k (256 * (n + 11) + (j (1 : Fin 2)).val) := by
    rw [he]; funext j
    have h0 : (j (0 : Fin 2)).val < 1 := (j (0 : Fin 2)).isLt
    unfold expPair
    rw [if_neg (by omega), show k + (j (0 : Fin 2)).val = k by omega, show 256 + (j (1 : Fin 2)).val - 256 = (j (1 : Fin 2)).val by omega]
  unfold wN hiBlk
  rw [e1, e2, e3, e4, if_neg (by omega), show n + 11 - 11 = n by omega, hx, he']

theorem decTrip_wp (a6 : Memref sig .tc .vmem S4096x5632 .bf16) (h6 : a6.IsWhole) (a13 : Memref sig .tc .vmem S128x512 .i32) (v : Memref sig .tc .vmem S4096x256 .i8)
    (o1 o2 o3 o4 o5 : Fin 2 → ℕ) (i1 i2 i3 i4 i5 p3 p5) (WP WS : ℕ → ℕ → Elt F .i8) (n k : ℕ) (hn : n < 11) (hk : k < 128)
    (ho1 : o1 = ![32 * k, 0]) (ho2 : o2 = ![k, 0]) (ho3 : o3 = ![32 * k, 256 * n]) (ho4 : o4 = ![k, 256]) (ho5 : o5 = ![32 * k, 2816 + 256 * n]) :
    (decInv c a6 a13 v WP WS n k : sProp 𝕄)
      ⊢ wp frame (wpE (defs₀ (F := F)) Variants.none (c : Thread nD τ) none) Set.univ (decTrip (F := F) a6 h6 a13 v o1 o2 o3 o4 o5 i1 i2 i3 i4 i5 p3 p5)
          fun _ => decInv c a6 a13 v WP WS n (k + 1) := by
  unfold decInv decTrip
  simp only [wp_bind, wp_pure]
  iintro ⟨Hv, H13, H6⟩
  iapply (ld Variants.none _ none (Finset.subset_univ _)) $$ Hv
  iintro %x %hx Hv
  iapply (ld Variants.none _ none (Finset.subset_univ _)) $$ H13
  iintro %e %he H13
  iapply (part_ld Variants.none none (Finset.subset_univ _)) $$ H6
  iintro %_ H6
  iapply (part_st Variants.none none (fun i => decoded n k i ∨ ((i (1 : Fin 2)).val / 256 = n ∧ (i (0 : Fin 2)).val / 32 = k)) (Finset.subset_univ _) ?_ ?_) $$ H6
  · intro i _ hi hr
    rcases hi with hi | ⟨h1, h0⟩
    · exact hi
    · refine absurd ?_ hr
      rw [mem_set2 ho3 rfl]
      omega
  · intro j
    rw [n2_emb _ ho3]
    obtain ⟨a, b, rfl⟩ : ∃ (a : Fin 32) (b : Fin 256), j = ix2 a b := ⟨_, _, eq_ix2 j⟩
    refine lo_at WP WS n k hn x e ?_ ?_ a b
    · rw [hx]; funext j'; rw [n2_idx _ ho1, Nat.zero_add]
    · rw [he]; funext j'; rw [n2_idx _ ho2, Nat.zero_add]
  iintro H6
  iapply (ld Variants.none _ none (Finset.subset_univ _)) $$ H13
  iintro %e' %he' H13
  iapply (part_ld Variants.none none (Finset.subset_univ _)) $$ H6
  iintro %_ H6
  iapply (part_st Variants.none none (decoded n (k + 1)) (Finset.subset_univ _) ?_ ?_) $$ H6
  · intro i _ hi hr
    unfold decoded at *
    by_contra hc
    refine hr ?_
    rw [mem_set2 ho5 rfl]
    have hb : (i (1 : Fin 2)).val < 5632 := (i (1 : Fin 2)).isLt
    omega
  · intro j
    rw [n2_emb _ ho5]
    obtain ⟨a, b, rfl⟩ : ∃ (a : Fin 32) (b : Fin 256), j = ix2 a b := ⟨_, _, eq_ix2 j⟩
    refine hi_at WP WS n k x e' ?_ ?_ a b _ rfl
    · rw [hx]; funext j'; rw [n2_idx _ ho1, Nat.zero_add]
    · rw [he']; funext j'; rw [n2_idx _ ho4]
  iintro H6
  imodintro
  isplitl [Hv]; · iexact Hv
  isplitl [H13]; · iexact H13
  iexact H6

/-- A decode trip of chunk `n` at its offsets. -/
def IsTrip (a6 : Memref sig .tc .vmem S4096x5632 .bf16) (a13 : Memref sig .tc .vmem S128x512 .i32) (v : Memref sig .tc .vmem S4096x256 .i8)
    (n k : ℕ) (p : Prog (TpuEff nD τ sig (Elt F) Λ₀ .tc) Unit) : Prop :=
  ∃ (h6 : a6.IsWhole) (o1 o2 o3 o4 o5 : Fin 2 → ℕ) (i1 : _) (i2 : _) (i3 : _) (i4 : _) (i5 : _) (p3 : _) (p5 : _),
    p = decTrip (F := F) a6 h6 a13 v o1 o2 o3 o4 o5 i1 i2 i3 i4 i5 p3 p5
      ∧ o1 = ![32 * k, 0] ∧ o2 = ![k, 0] ∧ o3 = ![32 * k, 256 * n] ∧ o4 = ![k, 256] ∧ o5 = ![32 * k, 2816 + 256 * n]

/-- A decode loop of 128 trips decodes chunk `n`. -/
theorem decLoop {a6 : Memref sig .tc .vmem S4096x5632 .bf16} {a13 : Memref sig .tc .vmem S128x512 .i32} {v : Memref sig .tc .vmem S4096x256 .i8}
    {WP WS : ℕ → ℕ → Elt F .i8} (n : ℕ) (hn : n < 11) (l : Scf.Loop 32) {hok : l.OK} (hl : l.trips = 128)
    {body : Fin l.trips → Unit → Prog (TpuEff nD τ sig (Elt F) Λ₀ .tc) Unit} (hb : ∀ k, IsTrip a6 a13 v n k.val (body k ()))
    {Q : Unit → sProp 𝕄} :
    (decInv c a6 a13 v WP WS n 0 : sProp 𝕄) ⊢ iprop((decInv c a6 a13 v WP WS n 128 -∗ Q ())
      -∗ wp frame (wpE (defs₀ (F := F)) Variants.none (c : Thread nD τ) none) Set.univ (Scf.Loop.for l hok () body) Q) := by
  iintro H HQ
  iapply (Scf.wp_for (M := 𝕄) frame (wpE (defs₀ (F := F)) Variants.none (c : Thread nD τ) none) Set.univ l.lb l.ub l.st hok () body
    (fun k _ => decInv c a6 a13 v WP WS n k) ?_)
  · intro k acc
    obtain ⟨h6, o1, o2, o3, o4, o5, i1, i2, i3, i4, i5, p3, p5, e, ho1, ho2, ho3, ho4, ho5⟩ := hb k
    cases acc
    rw [e]
    exact decTrip_wp c a6 h6 a13 v o1 o2 o3 o4 o5 i1 i2 i3 i4 i5 p3 p5 WP WS n k.val hn (lt_of_lt_of_eq k.isLt hl) ho1 ho2 ho3 ho4 ho5
  · isplitl [H]; · iexact H
    iintro %acc H
    iapply HQ
    rw [show Scf.trips l.lb l.ub l.st = 128 from hl]
    iexact H

end Cert.Proof.Kernel

end
-- ==== Proof.KernelTrips.lean ====
/-
  The eleven decode loops' bodies are decode trips: chunk `n`'s loop reads slot `n mod 2` of the ring of packed weights.
-/
module

public import proofs.«01_k».proof.Proof.KernelDecode

@[expose] public section

noncomputable section
namespace Cert.Proof.Kernel
open Cert.Kernel Cert.Kernel.Gen Cert.Proof.Steps
open Idealize.ShloMosaic Idealize.ShloMosaic.TcCoe Idealize.SL.Sem
variable {F : FTy → Type} [FloatOps F]

theorem trip1 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t1_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      0 k.val (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off1_eq k, k0_off2_eq k, k0_off3_eq k, k0_off4_eq k, k0_off5_eq k⟩

theorem trip2 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t2_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      1 k.val (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off6_eq k, k0_off7_eq k, k0_off8_eq k, k0_off9_eq k, k0_off10_eq k⟩

theorem trip3 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t3_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      2 k.val (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off11_eq k, k0_off12_eq k, k0_off13_eq k, k0_off14_eq k, k0_off15_eq k⟩

theorem trip4 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t4_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      3 k.val (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off16_eq k, k0_off17_eq k, k0_off18_eq k, k0_off19_eq k, k0_off20_eq k⟩

theorem trip5 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (c0_i32_139 : BitVec 32) (k : Fin k0_t5_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      4 k.val (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 c0_i32_139 k ()) :=
  ⟨harg6, _, _, _, _, _, _, _, _, _, _, _, _, rfl, k0_off21_eq k, k0_off22_eq k, k0_off23_eq k, k0_off24_eq k, k0_off25_eq k⟩

theorem trip6 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v199 : IVec S128x256 32) (k : Fin k0_t6_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      5 k.val (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v199 k ()) :=
  ⟨harg6, _, _, _, _, _, _, _, _, _, _, _, _, rfl, k0_off26_eq k, k0_off27_eq k, k0_off28_eq k, k0_off29_eq k, k0_off30_eq k⟩

theorem trip7 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v227 : IVec S128x256 32) (k : Fin k0_t7_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      6 k.val (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v227 k ()) :=
  ⟨harg6, _, _, _, _, _, _, _, _, _, _, _, _, rfl, k0_off31_eq k, k0_off32_eq k, k0_off33_eq k, k0_off34_eq k, k0_off35_eq k⟩

theorem trip8 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v253 : IVec S128x256 32) (v254 : IVec S128x256 32) (k : Fin k0_t8_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      7 k.val (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v253 v254 k ()) :=
  ⟨harg6, _, _, _, _, _, _, _, _, _, _, _, _, rfl, k0_off36_eq k, k0_off37_eq k, k0_off38_eq k, k0_off39_eq k, k0_off40_eq k⟩

theorem trip9 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t9_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      8 k.val (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off41_eq k, k0_off42_eq k, k0_off43_eq k, k0_off44_eq k, k0_off45_eq k⟩

theorem trip10 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v310 : IVec S128x256 32) (k : Fin k0_t10_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      9 k.val (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v310 k ()) :=
  ⟨harg6, _, _, _, _, _, _, _, _, _, _, _, _, rfl, k0_off46_eq k, k0_off47_eq k, k0_off48_eq k, k0_off49_eq k, k0_off50_eq k⟩

theorem trip11 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v340 : Vec F S128x256 .i8) (k : Fin k0_t11_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      10 k.val (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v340 k ()) :=
  ⟨harg6, _, _, _, _, _, _, _, _, _, _, _, _, rfl, k0_off51_eq k, k0_off52_eq k, k0_off53_eq k, k0_off54_eq k, k0_off55_eq k⟩

end Cert.Proof.Kernel
-- ==== Proof.Bands.lean ====
/-
  Transfers of whole tiles of rows: a matrix is cut in bands of rows, a tile of rows moves between the matrix and a slot,
  and a wait returns what the transfer holds.
-/
module

public import proofs.«01_k».proof.Proof.Tiles

@[expose] public section

noncomputable section

namespace Cert.Proof.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

/-- The rows from `a` below `d`. -/
def band {A B : ℕ} (a d : ℕ) : Finset (Sh2 A B).Idx := Finset.univ.filter fun i => a ≤ (i (0 : Fin 2)).val ∧ (i (0 : Fin 2)).val < d

theorem mem_band {A B a d : ℕ} {i : (Sh2 A B).Idx} : i ∈ band (A := A) (B := B) a d ↔ a ≤ (i (0 : Fin 2)).val ∧ (i (0 : Fin 2)).val < d := by
  simp [band]

theorem band_all {A B : ℕ} : band (A := A) (B := B) 0 A = Finset.univ := by
  ext i
  have h : (i (0 : Fin 2)).val < A := (i (0 : Fin 2)).isLt
  simp [mem_band, h]

theorem band_nil {A B a d : ℕ} (h : d ≤ a) : band (A := A) (B := B) a d = ∅ := by
  ext i
  simp only [mem_band, Finset.notMem_empty, iff_false]; omega

theorem band_cut {A B a d R : ℕ} (h : a + R ≤ d) : band (A := A) (B := B) a d = sub2 a 0 R B ∪ band (a + R) d := by
  ext i
  have h1 : (i (1 : Fin 2)).val < B := (i (1 : Fin 2)).isLt
  rw [Finset.mem_union, mem_band, mem_band, mem_sub2]; omega

theorem band_disj {A B a d R : ℕ} : Disjoint (sub2 (A := A) (B := B) a 0 R B) (band (a + R) d) :=
  Finset.disjoint_left.mpr fun i hi hj => by rw [mem_band] at hj; rw [mem_sub2] at hi; omega

theorem band_add {A B a R : ℕ} : band (A := A) (B := B) 0 (a + R) = band 0 a ∪ sub2 a 0 R B := by
  ext i
  have h1 : (i (1 : Fin 2)).val < B := (i (1 : Fin 2)).isLt
  rw [Finset.mem_union, mem_band, mem_band, mem_sub2]; omega

theorem band_disj' {A B a R : ℕ} : Disjoint (band (A := A) (B := B) 0 a) (sub2 a 0 R B) :=
  Finset.disjoint_left.mpr fun i hi hj => by rw [mem_band] at hi; rw [mem_sub2] at hj; omega

theorem sub2_disj {A B a a' R : ℕ} (h : a + R ≤ a') : sub2 (A := A) (B := B) a' 0 R B ⊆ Finset.univ \ sub2 a 0 R B := fun i hi => by
  rw [Finset.mem_sdiff, mem_sub2]; rw [mem_sub2] at hi
  exact ⟨Finset.mem_univ _, by omega⟩

/-- Rows from `256 T` on. -/
def tile {α : Type} (H : ℕ → ℕ → α) (T r k : ℕ) : α := H (256 * T + r) k

theorem tile_eq {α : Type} (H : ℕ → ℕ → α) (T : ℕ) : (fun r k => H (256 * T + r) (0 + k)) = tile H T := by
  funext r k
  rw [Nat.zero_add]; rfl

/-- What the waits count. -/
theorem credit_sub {κ : Kind} {sp : Space} {e : EltTy} {A B R C : ℕ} {m : Memref sig κ sp (Sh2 A B) e} {off : Fin 2 → ℕ}
    {inb : ∀ x, off x + (![R, C] : Fin 2 → ℕ) x ≤ (Sh2 A B).size x} {h : ∀ x, (Rect.unit (s := Sh2 A B) off ![R, C] inb).stride x = 1} :
    (m.slice (Rect.unit (s := Sh2 A B) off ![R, C] inb) h).view.dmaCredit = credit m (Sh2 R C) := rfl

theorem credit_slot {κ : Kind} {sp : Space} {e : EltTy} {P R C : ℕ} {m : Memref sig κ sp (Sh3 P R C) e} {off : Fin 3 → ℕ}
    {inb : ∀ x, off x + (![1, R, C] : Fin 3 → ℕ) x ≤ (Sh3 P R C).size x} {h : ∀ x, (Rect.unit (s := Sh3 P R C) off ![1, R, C] inb).stride x = 1}
    {hsq : (Sh3 1 R C).Squeezes (Sh2 R C)} :
    (Memref.squeeze (s := Sh3 1 R C) (m.slice (Rect.unit (s := Sh3 P R C) off ![1, R, C] inb) h) (Sh2 R C) hsq).view.dmaCredit = credit m (Sh2 R C) := rfl

section Rules

variable [Preorder Lvl] {defs : Defs nD τ sig Val Λ} (𝒱 : Variants) (c : Thread nD τ) (bd : Option 𝒱.V)
variable {sp sp' : Space} {e : EltTy}
variable [Infinite Name] (EC : UEmb Counters (MT nD τ sig Ix Val Name U Lvl)) [EC.LandsIn (upEmb : UEmb _ (MT nD τ sig Ix Val Name U Lvl))]

/-- Tile `T` on its way from the matrix into slot `p`, and from slot `p` into the matrix. -/
def flIn {A C : ℕ} (ι : Ix) (m2 : Memref sig c.2.kind sp (Sh2 A C) e) (m3 : Memref sig c.2.kind sp' (Sh3 2 256 C) e) (s : DmaSem sig) (H : ℕ → ℕ → Val e) (T p : ℕ) : sProp 𝕄 :=
  Flight EC c (.dma s) ι (credit m3 (Sh2 256 C)) iprop(own c fullShare m3 (slot p) (n3 (tile H T)) ∗ own c fullShare m2 (sub2 (256 * T) 0 256 C) (n2 H))
def flOut {A C : ℕ} (ι : Ix) (m2 : Memref sig c.2.kind sp (Sh2 A C) e) (m3 : Memref sig c.2.kind sp' (Sh3 2 256 C) e) (s : DmaSem sig) (H : ℕ → ℕ → Val e) (T p : ℕ) : sProp 𝕄 :=
  Flight EC c (.dma s) ι (credit m2 (Sh2 256 C)) iprop(own c fullShare m2 (sub2 (256 * T) 0 256 C) (n2 H) ∗ own c fullShare m3 (slot p) (n3 (tile H T)))

theorem tile_in {A C p : ℕ} {m2 : Memref sig c.2.kind sp (Sh2 A C) e} {m3 : Memref sig c.2.kind sp' (Sh3 2 256 C) e}
    {off2 : Fin 2 → ℕ} {inb2 : ∀ x, off2 x + (![256, C] : Fin 2 → ℕ) x ≤ (Sh2 A C).size x} {h2 : ∀ x, (Rect.unit (s := Sh2 A C) off2 ![256, C] inb2).stride x = 1}
    {off3 : Fin 3 → ℕ} {inb3 : ∀ x, off3 x + (![1, 256, C] : Fin 3 → ℕ) x ≤ (Sh3 2 256 C).size x} {h3 : ∀ x, (Rect.unit (s := Sh3 2 256 C) off3 ![1, 256, C] inb3).stride x = 1}
    {hsq : (Sh3 1 256 C).Squeezes (Sh2 256 C)} {sm : DmaSem sig} {hsrc hdst hsem} {Q : PUnit → sProp 𝕄} {H : ℕ → ℕ → Val e} {g : (Sh3 2 256 C).Idx → Val e}
    (ι : Ix) (T : ℕ) (s : DmaSem sig) (hs : sm = s) (ho2 : off2 = ![256 * T, 0]) (ho3 : off3 = ![p, 0, 0]) (hpos : 0 < (Sh2 256 C).numel) :
    iprop(own c fullShare m2 (sub2 (256 * T) 0 256 C) (n2 H) ∗ own c fullShare m3 (slot p) g ∗ semVal (c, .dma s) 0)
      ⊢ iprop((flIn c EC ι m2 m3 s H T p -∗ Q ⟨⟩)
          -∗ wp frame (wpE defs 𝒱 c bd) Set.univ (Prog.lift (.enqueueDma (s := Sh2 256 C) (m2.slice (Rect.unit off2 ![256, C] inb2) h2)
            (.here (Memref.squeeze (s := Sh3 1 256 C) (m3.slice (Rect.unit off3 ![1, 256, C] inb3) h3) (Sh2 256 C) hsq)) (.dma sm) hsrc hdst hsem)) Q) := by
  have h := enq_in 𝒱 c bd EC (q := fullShare) (m2 := m2) (m3 := m3) (h2 := h2) (h3 := h3) (hsq := hsq) (hsrc := hsrc) (hdst := hdst) (hsem := hsem) (Q := Q) (H := H) (g := g) (defs := defs) ι s hs ho2 ho3 hpos
  rw [tile_eq] at h
  exact h

theorem tile_out {A C p : ℕ} {m2 : Memref sig c.2.kind sp (Sh2 A C) e} {m3 : Memref sig c.2.kind sp' (Sh3 2 256 C) e} [NeZero A] [NeZero C]
    {off2 : Fin 2 → ℕ} {inb2 : ∀ x, off2 x + (![256, C] : Fin 2 → ℕ) x ≤ (Sh2 A C).size x} {h2 : ∀ x, (Rect.unit (s := Sh2 A C) off2 ![256, C] inb2).stride x = 1}
    {off3 : Fin 3 → ℕ} {inb3 : ∀ x, off3 x + (![1, 256, C] : Fin 3 → ℕ) x ≤ (Sh3 2 256 C).size x} {h3 : ∀ x, (Rect.unit (s := Sh3 2 256 C) off3 ![1, 256, C] inb3).stride x = 1}
    {hsq : (Sh3 1 256 C).Squeezes (Sh2 256 C)} {sm : DmaSem sig} {hsrc hdst hsem} {Q : PUnit → sProp 𝕄} {H : ℕ → ℕ → Val e} {g : (Sh2 A C).Idx → Val e}
    (ι : Ix) (T : ℕ) (s : DmaSem sig) (hs : sm = s) (ho2 : off2 = ![256 * T, 0]) (ho3 : off3 = ![p, 0, 0]) (hpos : 0 < (Sh2 256 C).numel) :
    iprop(own c fullShare m3 (slot p) (n3 (tile H T)) ∗ own c fullShare m2 (sub2 (256 * T) 0 256 C) g ∗ semVal (c, .dma s) 0)
      ⊢ iprop((flOut c EC ι m2 m3 s H T p -∗ Q ⟨⟩)
          -∗ wp frame (wpE defs 𝒱 c bd) Set.univ (Prog.lift (.enqueueDma (s := Sh2 256 C)
            (Memref.squeeze (s := Sh3 1 256 C) (m3.slice (Rect.unit off3 ![1, 256, C] inb3) h3) (Sh2 256 C) hsq)
            (.here (m2.slice (Rect.unit off2 ![256, C] inb2) h2)) (.dma sm) hsrc hdst hsem)) Q) := by
  have h := enq_out 𝒱 c bd EC (q := fullShare) (m2 := m2) (m3 := m3) (h2 := h2) (h3 := h3) (hsq := hsq) (hsrc := hsrc) (hdst := hdst) (hsem := hsem) (Q := Q) (H := H) (g := at2 g) (defs := defs) ι s hs ho2 ho3 hpos
  rw [tile_eq, n2_at2] at h
  exact h

/-- A wait, its cell named. -/
theorem wt_at {sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {Q : PUnit → sProp 𝕄} (ι : Ix) (x : DmaSem sig) (hs : sem = x) {N : ℕ} (hN : dstw.view.dmaCredit = N) {D : sProp 𝕄} :
    iprop(Flight EC c (.dma x) ι N D ∗ (∃ W : Waits sig Ix, owes c 0 W))
      ⊢ iprop((D -∗ semVal (c, .dma x) 0 -∗ (∃ W : Waits sig Ix, owes c 0 W) -∗ Q ⟨⟩)
          -∗ wp frame (wpE defs 𝒱 c bd) Set.univ (Prog.lift (.waitDma2 sem srcw dstw hsrc hdst)) Q) := by
  subst hs
  iintro ⟨HF, ⟨%W, HO⟩⟩ HQ
  iapply (wt 𝒱 c bd EC ι hN) $$ [HF HO]
  · isplitl [HF] <;> iassumption
  iintro %W' HD Hv HO
  iapply HQ $$ HD Hv [HO]
  iexists W'
  iexact HO

/-- A conditional step in front of the rest: either way it turns `P` into `R`. -/
theorem wp_when {α : Type} {p : Prop} [Decidable p] {t : p → Prog (TpuEff nD τ sig Val Λ c.2) PUnit} {J : Prog (TpuEff nD τ sig Val Λ c.2) α}
    {Q : α → sProp 𝕄} {P R : sProp 𝕄} (ht : ∀ h, ∀ K : PUnit → sProp 𝕄, P ⊢ iprop((R -∗ K ⟨⟩) -∗ wp frame (wpE defs 𝒱 c bd) Set.univ (t h) K))
    (hf : ¬p → P ⊢ R) :
    P ⊢ iprop((R -∗ wp frame (wpE defs 𝒱 c bd) Set.univ J Q) -∗ wp frame (wpE defs 𝒱 c bd) Set.univ (if h : p then (t h >>= fun _ => J) else J) Q) := by
  by_cases h : p
  · rw [dif_pos h, wp_bind]; exact ht h fun _ => wp frame (wpE defs 𝒱 c bd) Set.univ J Q
  · rw [dif_neg h]
    iintro HP HR
    ihave H := (hf h) $$ HP
    iapply HR $$ H

/-- The bookkeeping of waits. -/
def OW : sProp 𝕄 := iprop(∃ W : Waits sig Ix, owes c 0 W)

/-- Slot `p` holding anything, its cell idle. -/
def idle {C : ℕ} (m : Memref sig c.2.kind sp' (Sh3 2 256 C) e) (s : DmaSem sig) (p : ℕ) : sProp 𝕄 :=
  iprop((∃ g, own c fullShare m (slot p) g) ∗ semVal (c, .dma s) 0)

/-- Rows from `a` on, holding anything. -/
def rest {A C : ℕ} (m : Memref sig c.2.kind sp (Sh2 A C) e) (a : ℕ) : sProp 𝕄 := iprop(∃ g, own c fullShare m (band a A) g)

/-- A finished tile is sent. -/
theorem out_send {A C p : ℕ} {m2 : Memref sig c.2.kind sp (Sh2 A C) e} {m3 : Memref sig c.2.kind sp' (Sh3 2 256 C) e} [NeZero A] [NeZero C]
    {off2 : Fin 2 → ℕ} {inb2 : ∀ x, off2 x + (![256, C] : Fin 2 → ℕ) x ≤ (Sh2 A C).size x} {h2 : ∀ x, (Rect.unit (s := Sh2 A C) off2 ![256, C] inb2).stride x = 1}
    {off3 : Fin 3 → ℕ} {inb3 : ∀ x, off3 x + (![1, 256, C] : Fin 3 → ℕ) x ≤ (Sh3 2 256 C).size x} {h3 : ∀ x, (Rect.unit (s := Sh3 2 256 C) off3 ![1, 256, C] inb3).stride x = 1}
    {hsq : (Sh3 1 256 C).Squeezes (Sh2 256 C)} {sm : DmaSem sig} {hsrc hdst hsem} {Q : PUnit → sProp 𝕄} {H : ℕ → ℕ → Val e}
    (ι : Ix) (T : ℕ) (s : DmaSem sig) (hs : sm = s) (ho2 : off2 = ![256 * T, 0]) (ho3 : off3 = ![p, 0, 0]) (hpos : 0 < (Sh2 256 C).numel) (hT : 256 * (T + 1) ≤ A) :
    iprop(own c fullShare m3 (slot p) (n3 (tile H T)) ∗ semVal (c, .dma s) 0 ∗ rest c m2 (256 * T))
      ⊢ iprop((flOut c EC ι m2 m3 s H T p -∗ rest c m2 (256 * (T + 1)) -∗ Q ⟨⟩)
          -∗ wp frame (wpE defs 𝒱 c bd) Set.univ (Prog.lift (.enqueueDma (s := Sh2 256 C)
            (Memref.squeeze (s := Sh3 1 256 C) (m3.slice (Rect.unit off3 ![1, 256, C] inb3) h3) (Sh2 256 C) hsq)
            (.here (m2.slice (Rect.unit off2 ![256, C] inb2) h2)) (.dma sm) hsrc hdst hsem)) Q) := by
  unfold rest
  rw [band_cut (show 256 * T + 256 ≤ A by omega), show 256 * (T + 1) = 256 * T + 256 by omega]
  iintro ⟨Hs, Hv, ⟨%g, Hr⟩⟩ HQ
  ihave Hr' := (own_union band_disj) $$ Hr
  icases Hr' with ⟨Hw, Hr⟩
  iapply (tile_out 𝒱 c bd EC ι T s hs ho2 ho3 hpos) $$ [Hs Hw Hv]
  · isplitl [Hs]; · iexact Hs
    isplitl [Hw]; · iexact Hw
    iexact Hv
  iintro HF
  iapply HQ $$ HF [Hr]
  iexists g
  iexact Hr

/-- A sent tile has arrived. -/
theorem out_wait {A C p : ℕ} {m2 : Memref sig c.2.kind sp (Sh2 A C) e} {m3 : Memref sig c.2.kind sp' (Sh3 2 256 C) e}
    {sp₁ sp₂ : Space} {s₁ s₂ : Shape} {e₁ e₂ : EltTy} {κ' : Kind} {sem : DmaSem sig}
    {srcw : Memref sig c.2.kind sp₁ s₁ e₁} {dstw : Memref sig κ' sp₂ s₂ e₂} {hsrc : srcw.view.WordExact} {hdst : dstw.view.WordExact}
    {Q : PUnit → sProp 𝕄} {H : ℕ → ℕ → Val e} (ι : Ix) (T : ℕ) (x : DmaSem sig) (hs : sem = x) (hN : dstw.view.dmaCredit = credit m2 (Sh2 256 C)) :
    iprop(flOut c EC ι m2 m3 x H T p ∗ own c fullShare m2 (band 0 (256 * T)) (n2 H) ∗ OW c)
      ⊢ iprop((own c fullShare m2 (band 0 (256 * (T + 1))) (n2 H) -∗ own c fullShare m3 (slot p) (n3 (tile H T)) -∗ semVal (c, .dma x) 0 -∗ OW c -∗ Q ⟨⟩)
          -∗ wp frame (wpE defs 𝒱 c bd) Set.univ (Prog.lift (.waitDma2 sem srcw dstw hsrc hdst)) Q) := by
  unfold flOut OW
  rw [show 256 * (T + 1) = 256 * T + 256 by omega, band_add (a := 256 * T)]
  iintro ⟨HF, Hd, HO⟩ HQ
  iapply (wt_at 𝒱 c bd EC ι x hs hN) $$ [HF HO]
  · isplitl [HF] <;> iassumption
  iintro ⟨Hw, Hs⟩ Hv HO
  iapply HQ $$ [Hd Hw] Hs Hv HO
  iapply (own_join band_disj')
  isplitl [Hd] <;> iassumption

/-- A tile is called, off the rows `S`. -/
theorem in_send {A C p : ℕ} {m2 : Memref sig c.2.kind sp (Sh2 A C) e} {m3 : Memref sig c.2.kind sp' (Sh3 2 256 C) e}
    {off2 : Fin 2 → ℕ} {inb2 : ∀ x, off2 x + (![256, C] : Fin 2 → ℕ) x ≤ (Sh2 A C).size x} {h2 : ∀ x, (Rect.unit (s := Sh2 A C) off2 ![256, C] inb2).stride x = 1}
    {off3 : Fin 3 → ℕ} {inb3 : ∀ x, off3 x + (![1, 256, C] : Fin 3 → ℕ) x ≤ (Sh3 2 256 C).size x} {h3 : ∀ x, (Rect.unit (s := Sh3 2 256 C) off3 ![1, 256, C] inb3).stride x = 1}
    {hsq : (Sh3 1 256 C).Squeezes (Sh2 256 C)} {sm : DmaSem sig} {hsrc hdst hsem} {Q : PUnit → sProp 𝕄} {H : ℕ → ℕ → Val e} {g : (Sh3 2 256 C).Idx → Val e}
    {S : Finset (Sh2 A C).Idx} (ι : Ix) (T : ℕ) (s : DmaSem sig) (hs : sm = s) (ho2 : off2 = ![256 * T, 0]) (ho3 : off3 = ![p, 0, 0]) (hpos : 0 < (Sh2 256 C).numel)
    (hS : sub2 (256 * T) 0 256 C ⊆ S) :
    iprop(own c fullShare m3 (slot p) g ∗ semVal (c, .dma s) 0 ∗ own c fullShare m2 S (n2 H))
      ⊢ iprop((flIn c EC ι m2 m3 s H T p -∗ own c fullShare m2 (S \ sub2 (256 * T) 0 256 C) (n2 H) -∗ Q ⟨⟩)
          -∗ wp frame (wpE defs 𝒱 c bd) Set.univ (Prog.lift (.enqueueDma (s := Sh2 256 C) (m2.slice (Rect.unit off2 ![256, C] inb2) h2)
            (.here (Memref.squeeze (s := Sh3 1 256 C) (m3.slice (Rect.unit off3 ![1, 256, C] inb3) h3) (Sh2 256 C) hsq)) (.dma sm) hsrc hdst hsem)) Q) := by
  iintro ⟨Hs, Hv, Hr⟩ HQ
  ihave Hr' := (own_split hS) $$ Hr
  icases Hr' with ⟨Hw, Hr⟩
  iapply (tile_in 𝒱 c bd EC ι T s hs ho2 ho3 hpos) $$ [Hs Hw Hv]
  · isplitl [Hw]; · iexact Hw
    isplitl [Hs]; · iexact Hs
    iexact Hv
  iintro HF
  iapply HQ $$ HF Hr

/-- A called tile is here. -/
theorem in_wait {A C p : ℕ} {m2 : Memref sig c.2.kind sp (Sh2 A C) e} {m3 : Memref sig c.2.kind sp' (Sh3 2 256 C) e}
    {sp₁ sp₂ : Space} {s₁ s₂ : Shape} {e₁ e₂ : EltTy} {κ' : Kind} {sem : DmaSem sig}
    {srcw : Memref sig c.2.kind sp₁ s₁ e₁} {dstw : Memref sig κ' sp₂ s₂ e₂} {hsrc : srcw.view.WordExact} {hdst : dstw.view.WordExact}
    {Q : PUnit → sProp 𝕄} {H : ℕ → ℕ → Val e} {S S' : Finset (Sh2 A C).Idx} (ι : Ix) (T : ℕ) (x : DmaSem sig) (hs : sem = x) (hN : dstw.view.dmaCredit = credit m3 (Sh2 256 C))
    (hS : sub2 (256 * T) 0 256 C ⊆ S) (hS' : S' = S \ sub2 (256 * T) 0 256 C) :
    iprop(flIn c EC ι m2 m3 x H T p ∗ own c fullShare m2 S' (n2 H) ∗ OW c)
      ⊢ iprop((own c fullShare m2 S (n2 H) -∗ own c fullShare m3 (slot p) (n3 (tile H T)) -∗ semVal (c, .dma x) 0 -∗ OW c -∗ Q ⟨⟩)
          -∗ wp frame (wpE defs 𝒱 c bd) Set.univ (Prog.lift (.waitDma2 sem srcw dstw hsrc hdst)) Q) := by
  subst hS'
  unfold flIn OW
  iintro ⟨HF, Hd, HO⟩ HQ
  iapply (wt_at 𝒱 c bd EC ι x hs hN) $$ [HF HO]
  · isplitl [HF] <;> iassumption
  iintro ⟨Hs, Hw⟩ Hv HO
  iapply HQ $$ [Hd Hw] Hs Hv HO
  iapply (own_unsplit hS)
  isplitl [Hw] <;> iassumption

/-- A whole array copied into another. -/
theorem all_in {s : Shape} {src : Memref sig c.2.kind sp s e} {dst : Memref sig c.2.kind sp' s e} {sm : DmaSem sig}
    {hsrc hdst hsem} {Q : PUnit → sProp 𝕄} {g gd : s.Idx → Val e} (ι : Ix) (hpos : 0 < s.numel) :
    iprop(own c fullShare src Finset.univ g ∗ own c fullShare dst Finset.univ gd ∗ semVal (c, .dma sm) 0)
      ⊢ iprop((Flight EC c (.dma sm) ι dst.view.dmaCredit iprop(own c fullShare dst Finset.univ g ∗ own c fullShare src Finset.univ g) -∗ Q ⟨⟩)
          -∗ wp frame (wpE defs 𝒱 c bd) Set.univ (Prog.lift (.enqueueDma src (.here dst) (.dma sm) hsrc hdst hsem)) Q) :=
  dma 𝒱 c bd EC ι dst.view.dmaCredit rfl (sig.dmaCredit_pos _ _ _ _ _ hpos)

/-- A chunk of columns, on its way into slot `p`. -/
def flChunk (ι : Ix) {A B C : ℕ} (m2 : Memref sig c.2.kind sp (Sh2 A B) e) (m3 : Memref sig c.2.kind sp' (Sh3 2 A C) e) (s : DmaSem sig) (H : ℕ → ℕ → Val e) (n p : ℕ) : sProp 𝕄 :=
  Flight EC c (.dma s) ι (credit m3 (Sh2 A C)) iprop(own c fullShare m3 (slot p) (n3 fun r k => H r (C * n + k)) ∗ own c fullShare m2 (sub2 0 (C * n) A C) (n2 H))

/-- A chunk of columns is called, off the set `S`. -/
theorem chunk_send (ι : Ix) {A B C p : ℕ} {m2 : Memref sig c.2.kind sp (Sh2 A B) e} {m3 : Memref sig c.2.kind sp' (Sh3 2 A C) e}
    {off2 : Fin 2 → ℕ} {inb2 : ∀ x, off2 x + (![A, C] : Fin 2 → ℕ) x ≤ (Sh2 A B).size x} {h2 : ∀ x, (Rect.unit (s := Sh2 A B) off2 ![A, C] inb2).stride x = 1}
    {off3 : Fin 3 → ℕ} {inb3 : ∀ x, off3 x + (![1, A, C] : Fin 3 → ℕ) x ≤ (Sh3 2 A C).size x} {h3 : ∀ x, (Rect.unit (s := Sh3 2 A C) off3 ![1, A, C] inb3).stride x = 1}
    {hsq : (Sh3 1 A C).Squeezes (Sh2 A C)} {sm : DmaSem sig} {hsrc hdst hsem} {Q : PUnit → sProp 𝕄} {H : ℕ → ℕ → Val e} {g : (Sh3 2 A C).Idx → Val e}
    {S : Finset (Sh2 A B).Idx} (n : ℕ) (s : DmaSem sig) (hs : sm = s) (ho2 : off2 = ![0, C * n]) (ho3 : off3 = ![p, 0, 0]) (hpos : 0 < (Sh2 A C).numel)
    (hS : sub2 0 (C * n) A C ⊆ S) :
    iprop(own c fullShare m3 (slot p) g ∗ semVal (c, .dma s) 0 ∗ own c fullShare m2 S (n2 H))
      ⊢ iprop((flChunk c EC ι m2 m3 s H n p -∗ own c fullShare m2 (S \ sub2 0 (C * n) A C) (n2 H) -∗ Q ⟨⟩)
          -∗ wp frame (wpE defs 𝒱 c bd) Set.univ (Prog.lift (.enqueueDma (s := Sh2 A C) (m2.slice (Rect.unit off2 ![A, C] inb2) h2)
            (.here (Memref.squeeze (s := Sh3 1 A C) (m3.slice (Rect.unit off3 ![1, A, C] inb3) h3) (Sh2 A C) hsq)) (.dma sm) hsrc hdst hsem)) Q) := by
  unfold flChunk
  iintro ⟨Hs, Hv, Hr⟩ HQ
  ihave Hr' := (own_split hS) $$ Hr
  icases Hr' with ⟨Hw, Hr⟩
  iapply (enq_in 𝒱 c bd EC (q := fullShare) ι s hs ho2 ho3 hpos) $$ [Hs Hw Hv]
  · isplitl [Hw]; · iexact Hw
    isplitl [Hs]; · iexact Hs
    iexact Hv
  simp only [Nat.zero_add]
  iintro HF
  iapply HQ $$ HF Hr

/-- A called chunk is here. -/
theorem chunk_wait (ι : Ix) {A B C p : ℕ} {m2 : Memref sig c.2.kind sp (Sh2 A B) e} {m3 : Memref sig c.2.kind sp' (Sh3 2 A C) e}
    {sp₁ sp₂ : Space} {s₁ s₂ : Shape} {e₁ e₂ : EltTy} {κ' : Kind} {sem : DmaSem sig}
    {srcw : Memref sig c.2.kind sp₁ s₁ e₁} {dstw : Memref sig κ' sp₂ s₂ e₂} {hsrc : srcw.view.WordExact} {hdst : dstw.view.WordExact}
    {Q : PUnit → sProp 𝕄} {H : ℕ → ℕ → Val e} {S S' : Finset (Sh2 A B).Idx} (n : ℕ) (x : DmaSem sig) (hs : sem = x) (hN : dstw.view.dmaCredit = credit m3 (Sh2 A C))
    (hS : sub2 0 (C * n) A C ⊆ S) (hS' : S' = S \ sub2 0 (C * n) A C) :
    iprop(flChunk c EC ι m2 m3 x H n p ∗ own c fullShare m2 S' (n2 H) ∗ OW c)
      ⊢ iprop((own c fullShare m2 S (n2 H) -∗ own c fullShare m3 (slot p) (n3 fun r k => H r (C * n + k)) -∗ semVal (c, .dma x) 0 -∗ OW c -∗ Q ⟨⟩)
          -∗ wp frame (wpE defs 𝒱 c bd) Set.univ (Prog.lift (.waitDma2 sem srcw dstw hsrc hdst)) Q) := by
  subst hS'
  unfold flChunk OW
  iintro ⟨HF, Hd, HO⟩ HQ
  iapply (wt_at 𝒱 c bd EC ι x hs hN) $$ [HF HO]
  · isplitl [HF] <;> iassumption
  iintro ⟨Hs, Hw⟩ Hv HO
  iapply HQ $$ [Hd Hw] Hs Hv HO
  iapply (own_unsplit hS)
  isplitl [Hw] <;> iassumption

end Rules

end Cert.Proof.Steps

end
-- ==== Proof.KernelBlocks.lean ====
/-
  The loads and stores of the computation over `Steps.own` and `part`: a block of 32 rows of a tile loaded, its codes,
  its values and its scales stored, a chunk of 512 columns of the product stored. Each rule says what is loaded or
  stored as a function of the kernel's inputs (`KernelSpec`).
-/
module

public import proofs.«01_k».proof.Proof.KernelDecode
public import proofs.«01_k».proof.Proof.Bands

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

/-! ### What a tile holds -/

/-- The rows below `n` and the columns below `n` of a slot; the scales of the tiles below `n`. -/
def rows {R C : ℕ} (n : ℕ) (i : (Sh3 2 R C).Idx) : Prop := (i (1 : Fin 3)).val < n
def cols {R C : ℕ} (n : ℕ) (i : (Sh3 2 R C).Idx) : Prop := (i (2 : Fin 3)).val < n
def doneS (n : ℕ) (i : S8x1x1536.Idx) : Prop := 1536 * (i (0 : Fin 3)).val + (i (2 : Fin 3)).val < 256 * n

/-- The scales by the index of the array. -/
def sclA (X : ℕ → ℕ → Elt F .bf16) (i : S8x1x1536.Idx) : Elt F .f32 := sclN X (1536 * (i (0 : Fin 3)).val + (i (2 : Fin 3)).val)

theorem sclA_emb {a b : ℕ} (X : ℕ → ℕ → Elt F .bf16) {off size : Fin 3 → ℕ} (ho : off = ![a, 0, b]) (inb : ∀ x, off x + size x ≤ S8x1x1536.size x)
    (j : (Rect.unit (s := S8x1x1536) off size inb).shape.Idx) :
    sclA X ((Rect.unit (s := S8x1x1536) off size inb).emb j) = sclN X (1536 * (a + (j (0 : Fin 3)).val) + (b + (j (2 : Fin 3)).val)) := by
  subst ho
  show sclN X (1536 * (a + 1 * (j (0 : Fin 3)).val) + (b + 1 * (j (2 : Fin 3)).val)) = _
  rw [one_mul, one_mul]

/-- A tile and a chunk of the weights, as loaded. -/
def xwT (xw : ℕ → ℕ → Elt F .bf16) (T : ℕ) : Vec F S1x256x4096 .bf16 := fun j => xw (256 * T + (j (1 : Fin 3)).val) (j (2 : Fin 3)).val
def wT (w : ℕ → ℕ → Elt F .bf16) (n : ℕ) : Vec F S4096x512 .bf16 := fun j => w (j (0 : Fin 2)).val (512 * n + (j (1 : Fin 2)).val)

theorem ofNat_add {n : ℕ} [NeZero n] (m : ℕ) (a : Fin n) : Fin.ofNat n (n * m + a.val) = a :=
  Fin.ext (by show (n * m + a.val) % n = a.val; rw [Nat.mul_add_mod, Nat.mod_eq_of_lt a.isLt])

theorem codeN_at (X : ℕ → ℕ → Elt F .bf16) (b : ℕ) (j : S1x32x4096.Idx) :
    qCode (blk X b) j = codeN X (32 * b + (j (1 : Fin 3)).val) (j (2 : Fin 3)).val := by
  obtain ⟨z, r, k, rfl⟩ : ∃ (z : Fin 1) (r : Fin 32) (k : Fin 4096), j = ix3 z r k := ⟨_, _, _, eq_ix3 j⟩
  have hz : z = 0 := Subsingleton.elim _ _
  have hr := r.isLt
  have e1 : (32 * b + r.val) / 32 = b := by omega
  have e2 : Fin.ofNat 32 (32 * b + r.val) = r := ofNat_add b r
  have e3 : Fin.ofNat 4096 k.val = k := Fin.ext (Nat.mod_eq_of_lt k.isLt)
  show _ = codeN X (32 * b + r.val) k.val
  unfold codeN bix
  rw [e1, e2, e3, hz]

theorem xwN_at (X : ℕ → ℕ → Elt F .bf16) (b : ℕ) (j : S1x32x4096.Idx) :
    qXw (blk X b) j = xwN X (32 * b + (j (1 : Fin 3)).val) (j (2 : Fin 3)).val := by
  obtain ⟨z, r, k, rfl⟩ : ∃ (z : Fin 1) (r : Fin 32) (k : Fin 4096), j = ix3 z r k := ⟨_, _, _, eq_ix3 j⟩
  have hz : z = 0 := Subsingleton.elim _ _
  have hr := r.isLt
  have e1 : (32 * b + r.val) / 32 = b := by omega
  have e2 : Fin.ofNat 32 (32 * b + r.val) = r := ofNat_add b r
  have e3 : Fin.ofNat 4096 k.val = k := Fin.ext (Nat.mod_eq_of_lt k.isLt)
  show _ = xwN X (32 * b + r.val) k.val
  unfold xwN bix
  rw [e1, e2, e3, hz]

theorem sclN_at (X : ℕ → ℕ → Elt F .bf16) (T : ℕ) (j : S1x1x256.Idx) : tileScl X T j = sclN X (256 * T + (j (2 : Fin 3)).val) := by
  obtain ⟨z, z', k, rfl⟩ : ∃ (z : Fin 1) (z' : Fin 1) (k : Fin 256), j = ix3 z z' k := ⟨_, _, _, eq_ix3 j⟩
  have hz : z = 0 := Subsingleton.elim _ _
  have hz' : z' = 0 := Subsingleton.elim _ _
  have hk := k.isLt
  have e1 : (256 * T + k.val) / 256 = T := by omega
  have e2 : Fin.ofNat 256 (256 * T + k.val) = k := ofNat_add T k
  show _ = sclN X (256 * T + k.val)
  unfold sclN
  rw [e1, e2, hz, hz']

theorem yN_at (xw w : ℕ → ℕ → Elt F .bf16) (T n : ℕ) (j : S1x256x512.Idx) :
    prod (xwT xw T) (wT w n) j = yN xw w (256 * T + (j (1 : Fin 3)).val) (512 * n + (j (2 : Fin 3)).val) := by
  obtain ⟨z, r, k, rfl⟩ : ∃ (z : Fin 1) (r : Fin 256) (k : Fin 512), j = ix3 z r k := ⟨_, _, _, eq_ix3 j⟩
  have hz : z = 0 := Subsingleton.elim _ _
  have hr := r.isLt
  have hk := k.isLt
  have e1 : (256 * T + r.val) / 256 = T := by omega
  have e2 : Fin.ofNat 256 (256 * T + r.val) = r := ofNat_add T r
  have e3 : (512 * n + k.val) / 512 = n := by omega
  have e4 : Fin.ofNat 512 (512 * n + k.val) = k := ofNat_add n k
  show _ = yN xw w (256 * T + r.val) (512 * n + k.val)
  unfold yN
  rw [e1, e2, e3, e4, hz]
  rfl

/-! ### Loads -/

section Rules

variable {c : Thread nD τ} {q : PosShare TreeShare} {p : ℕ} {X : ℕ → ℕ → Elt F .bf16}

/-- Block `i` of the tile in slot `p`. -/
theorem ld_blk (T i : ℕ) {cs : CoreSpace} {m : Memref sig c.2.kind cs S2x256x4096 .bf16} {off : Fin 3 → ℕ} {inb : ∀ a, off a + S1x32x4096.size a ≤ S2x256x4096.size a}
    {hl : m.view.LoadsAt (Rect.unit (s := S2x256x4096) off S1x32x4096.size inb).toLoadRect} {Q : Vec F S1x32x4096 .bf16 → sProp 𝕄} (ho : off = ![p, 32 * i, 0]) :
    (own c q m (slot p) (n3 (tile X T)) : sProp 𝕄) ⊢ iprop((own c q m (slot p) (n3 (tile X T)) -∗ Q (blk X (8 * T + i)))
      -∗ wp frame (wpE (defs₀ (F := F)) Variants.none c none) Set.univ (Prog.lift (.load m (Rect.unit (s := S2x256x4096) off S1x32x4096.size inb).toLoadRect hl)) Q) := by
  iintro H HQ
  iapply (ld Variants.none _ none (sub_slot ho rfl inb)) $$ H
  iintro %v %hv H
  obtain rfl : v = blk X (8 * T + i) := by
    rw [hv]; funext j; rw [n3_idx _ ho]; unfold tile blk
    rw [Nat.zero_add, ← Nat.add_assoc, show 256 * T + 32 * i = 32 * (8 * T + i) by omega]
  iapply HQ $$ H

/-- The whole tile in slot `p`. -/
theorem ld_tile (T : ℕ) {xw : ℕ → ℕ → Elt F .bf16} {cs : CoreSpace} {m : Memref sig c.2.kind cs S2x256x4096 .bf16} {off : Fin 3 → ℕ} {inb : ∀ a, off a + S1x256x4096.size a ≤ S2x256x4096.size a}
    {hl : m.view.LoadsAt (Rect.unit (s := S2x256x4096) off S1x256x4096.size inb).toLoadRect} {Q : Vec F S1x256x4096 .bf16 → sProp 𝕄} (ho : off = ![p, 0, 0]) :
    (own c q m (slot p) (n3 (tile xw T)) : sProp 𝕄) ⊢ iprop((own c q m (slot p) (n3 (tile xw T)) -∗ Q (xwT xw T))
      -∗ wp frame (wpE (defs₀ (F := F)) Variants.none c none) Set.univ (Prog.lift (.load m (Rect.unit (s := S2x256x4096) off S1x256x4096.size inb).toLoadRect hl)) Q) := by
  iintro H HQ
  iapply (ld Variants.none _ none (sub_slot ho rfl inb)) $$ H
  iintro %v %hv H
  obtain rfl : v = xwT xw T := by
    rw [hv]; funext j; rw [n3_idx _ ho]; unfold tile xwT
    rw [Nat.zero_add, Nat.zero_add]
  iapply HQ $$ H

/-- Chunk `n` of the weights. -/
theorem ld_w (n : ℕ) {w : ℕ → ℕ → Elt F .bf16} {cs : CoreSpace} {m : Memref sig c.2.kind cs S4096x5632 .bf16} {off : Fin 2 → ℕ} {inb : ∀ a, off a + S4096x512.size a ≤ S4096x5632.size a}
    {hl : m.view.LoadsAt (Rect.unit (s := S4096x5632) off S4096x512.size inb).toLoadRect} {Q : Vec F S4096x512 .bf16 → sProp 𝕄} (ho : off = ![0, 512 * n]) :
    (own c q m Finset.univ (n2 w) : sProp 𝕄) ⊢ iprop((own c q m Finset.univ (n2 w) -∗ Q (wT w n))
      -∗ wp frame (wpE (defs₀ (F := F)) Variants.none c none) Set.univ (Prog.lift (.load m (Rect.unit (s := S4096x5632) off S4096x512.size inb).toLoadRect hl)) Q) := by
  iintro H HQ
  iapply (ld Variants.none _ none (Finset.subset_univ _)) $$ H
  iintro %v %hv H
  obtain rfl : v = wT w n := by
    rw [hv]; funext j; rw [n2_idx _ ho]; unfold wT
    rw [Nat.zero_add]
  iapply HQ $$ H

/-- A load of a slot being filled. -/
theorem ld_any {R C : ℕ} {e : EltTy} {P : (Sh3 2 R C).Idx → Prop} {G : (Sh3 2 R C).Idx → Elt F e} {cs : CoreSpace} {m : Memref sig c.2.kind cs (Sh3 2 R C) e} {off : Fin 3 → ℕ} {sz : Fin 3 → ℕ}
    {inb : ∀ a, off a + sz a ≤ (Sh3 2 R C).size a} {hl : m.view.LoadsAt (Rect.unit (s := Sh3 2 R C) off sz inb).toLoadRect}
    {Q : _ → sProp 𝕄} {a b : ℕ} (ho : off = ![p, a, b]) {R' C' : ℕ} (hs : sz = ![1, R', C']) :
    (part c m (slot p) P G : sProp 𝕄) ⊢ iprop((∀ v, part c m (slot p) P G -∗ Q v)
      -∗ wp frame (wpE (defs₀ (F := F)) Variants.none c none) Set.univ (Prog.lift (.load m (Rect.unit (s := Sh3 2 R C) off sz inb).toLoadRect hl)) Q) :=
  part_ld Variants.none none (sub_slot ho hs inb)

/-! ### Stores -/

/-- The next 32 rows stored. -/
theorem st_rows {e : EltTy} {H : ℕ → ℕ → Elt F e} (T i : ℕ) {cs : CoreSpace} {m : Memref sig c.2.kind cs S2x256x4096 e} {off : Fin 3 → ℕ} {inb : ∀ a, off a + S1x32x4096.size a ≤ S2x256x4096.size a}
    {w : Vec F S1x32x4096 e} {hx : (m.access (Rect.unit (s := S2x256x4096) off S1x32x4096.size inb)).Stores Finset.univ}
    {hm : Finset.univ = Finset.univ ∨ ∀ a, (Rect.unit (s := S2x256x4096) off S1x32x4096.size inb).stride a = 1} {Q : PUnit → sProp 𝕄}
    (ho : off = ![p, 32 * i, 0]) (hw : ∀ j : S1x32x4096.Idx, w j = H (32 * (8 * T + i) + (j (1 : Fin 3)).val) (j (2 : Fin 3)).val) :
    (part c m (slot p) (rows (32 * i)) (n3 (tile H T)) : sProp 𝕄) ⊢ iprop((part c m (slot p) (rows (32 * (i + 1))) (n3 (tile H T)) -∗ Q ⟨⟩)
      -∗ wp frame (wpE (defs₀ (F := F)) Variants.none c none) Set.univ (Prog.lift (.store m (Rect.unit (s := S2x256x4096) off S1x32x4096.size inb) w Finset.univ hx hm)) Q) := by
  refine part_st Variants.none none _ (sub_slot ho rfl inb) ?_ ?_
  · intro j hs hj hr
    by_contra hc
    refine hr ?_
    rw [mem_set3 ho rfl]
    rw [mem_slot] at hs
    unfold rows at hj hc
    have hb : (j (2 : Fin 3)).val < 4096 := (j (2 : Fin 3)).isLt
    omega
  · intro j
    rw [n3_emb _ ho, hw]; unfold tile
    rw [Nat.zero_add, ← Nat.add_assoc, show 256 * T + 32 * i = 32 * (8 * T + i) by omega]

/-- The next 512 columns of the product stored. -/
theorem st_cols {xw wt : ℕ → ℕ → Elt F .bf16} (T n : ℕ) {cs : CoreSpace} {m : Memref sig c.2.kind cs S2x256x5632 .bf16} {off : Fin 3 → ℕ} {inb : ∀ a, off a + S1x256x512.size a ≤ S2x256x5632.size a}
    {w : Vec F S1x256x512 .bf16} {hx : (m.access (Rect.unit (s := S2x256x5632) off S1x256x512.size inb)).Stores Finset.univ}
    {hm : Finset.univ = Finset.univ ∨ ∀ a, (Rect.unit (s := S2x256x5632) off S1x256x512.size inb).stride a = 1} {Q : PUnit → sProp 𝕄}
    (ho : off = ![p, 0, 512 * n]) (hw : w = prod (xwT xw T) (wT wt n)) :
    (part c m (slot p) (cols (512 * n)) (n3 (tile (yN xw wt) T)) : sProp 𝕄) ⊢ iprop((part c m (slot p) (cols (512 * (n + 1))) (n3 (tile (yN xw wt) T)) -∗ Q ⟨⟩)
      -∗ wp frame (wpE (defs₀ (F := F)) Variants.none c none) Set.univ (Prog.lift (.store m (Rect.unit (s := S2x256x5632) off S1x256x512.size inb) w Finset.univ hx hm)) Q) := by
  refine part_st Variants.none none _ (sub_slot ho rfl inb) ?_ ?_
  · intro j hs hj hr
    by_contra hc
    refine hr ?_
    rw [mem_set3 ho rfl]
    rw [mem_slot] at hs
    unfold cols at hj hc
    have hb : (j (1 : Fin 3)).val < 256 := (j (1 : Fin 3)).isLt
    omega
  · intro j
    rw [n3_emb _ ho, hw, yN_at]; unfold tile
    rw [Nat.zero_add]

/-- The scales of tile `T` stored. -/
theorem st_scl (T n n' : ℕ) {cs : CoreSpace} {m : Memref sig c.2.kind cs S8x1x1536 .f32} {off : Fin 3 → ℕ} {inb : ∀ a, off a + S1x1x256.size a ≤ S8x1x1536.size a}
    {w : Vec F S1x1x256 .f32} {hx : (m.access (Rect.unit (s := S8x1x1536) off S1x1x256.size inb)).Stores Finset.univ}
    {hm : Finset.univ = Finset.univ ∨ ∀ a, (Rect.unit (s := S8x1x1536) off S1x1x256.size inb).stride a = 1} {Q : PUnit → sProp 𝕄}
    (ho : off = ![T / 6, 0, 256 * (T % 6)]) (hn : n' ≤ n ∨ n' = n + 1 ∧ n = T) (hw : w = tileScl X T) :
    (part c m Finset.univ (doneS n) (sclA X) : sProp 𝕄) ⊢ iprop((part c m Finset.univ (doneS n') (sclA X) -∗ Q ⟨⟩)
      -∗ wp frame (wpE (defs₀ (F := F)) Variants.none c none) Set.univ (Prog.lift (.store m (Rect.unit (s := S8x1x1536) off S1x1x256.size inb) w Finset.univ hx hm)) Q) := by
  refine part_st Variants.none none _ (Finset.subset_univ _) ?_ ?_
  · intro j _ hj hr
    by_contra hc
    refine hr ?_
    rw [mem_set3 ho rfl]
    unfold doneS at hj hc
    have h0 : (j (0 : Fin 3)).val < 8 := (j (0 : Fin 3)).isLt
    have h1 : (j (1 : Fin 3)).val < 1 := (j (1 : Fin 3)).isLt
    have h2 : (j (2 : Fin 3)).val < 1536 := (j (2 : Fin 3)).isLt
    omega
  · intro j
    rw [hw, sclN_at, sclA_emb _ ho]
    have h0 : (j (0 : Fin 3)).val < 1 := (j (0 : Fin 3)).isLt
    congr 1; omega

end Rules

end Cert.Proof.Kernel

end
-- ==== Proof.KernelTile.lean ====
/-
  One trip of the main loop after its transfers: the next tile is quantised block by block into the other slots, its
  scales are stored, and this tile is multiplied by the weights chunk by chunk.
-/
module

public import proofs.«01_k».proof.Proof.KernelBlocks

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

/-- A trip after its transfers; the words are the loop's index arithmetic. -/
def compute (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (k0_t12 : Fin k0_t12_loop.trips) (v1389 v1390 v1391 : BitVec 32) (v1416 : BitVec 1) (v1417 : BitVec 32) :
    Prog (TpuEff nD τ sig (Elt F) Λ₀ .tc) Unit := do
    let ⟨v1419, v1422, v1423, v1474⟩ : Σ' (v1419 : BitVec 32) (v1422 : FVec F S32x4096 .bf16) (v1423 : FVec F S32x4096 .bf16), FVec F S32x128 .bf16 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1389 v1391 v1416 v1417
    let ⟨v1518, v1520⟩ : Σ' (v1518 : FVec F S32x1 .f32), IVec S32x1 32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1423 v1474
    let ⟨v1547, v1550, v1551, v1568⟩ : Σ' (v1547 : FVec F S32x128 .f32) (v1550 : FVec F S32x4096 .bf16) (v1551 : FVec F S32x4096 .bf16), FVec F S32x128 .bf16 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1422 v1518 v1520
    let v1625 : IVec S32x256 1 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1551 v1568
    let ⟨v1646, v1662, v1665⟩ : Σ' (v1646 : FVec F S32x1 .f32) (v1662 : FVec F S32x4096 .fp8e4m3), FVec F S32x4096 .bf16 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1550 v1625
    let ⟨v1675, v1678, v1679, v1722⟩ : Σ' (v1675 : FVec F S32x128 .f32) (v1678 : FVec F S32x4096 .bf16) (v1679 : FVec F S32x4096 .bf16), FVec F S32x128 .bf16 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1646 v1662 v1665
    let ⟨v1769, v1770⟩ : Σ' (v1769 : IVec S32x1 32), IVec S32x1 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1679 v1722
    let ⟨v1803, v1806, v1807, v1816⟩ : Σ' (v1803 : FVec F S32x128 .f32) (v1806 : FVec F S32x4096 .bf16) (v1807 : FVec F S32x4096 .bf16), FVec F S32x128 .bf16 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1678 v1769 v1770
    let ⟨v1873, v1874⟩ : Σ' (v1873 : FVec F S32x1 .f32), FVec F S32x1 .f32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1807 v1816
    let ⟨v1902, v1911, v1918⟩ : Σ' (v1902 : FVec F S32x1 .f32) (v1911 : FVec F S32x1 .bf16), FVec F S32x4096 .fp8e4m3 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1806 v1873 v1874
    let ⟨v1931, v1934, v1935, v1970⟩ : Σ' (v1931 : FVec F S32x128 .f32) (v1934 : FVec F S32x4096 .bf16) (v1935 : FVec F S32x4096 .bf16), FVec F S32x128 .bf16 ← k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1902 v1911 v1918
    let ⟨v2016, v2018, v2020, c255_i32_664⟩ : Σ' (v2016 : IVec S32x1 32) (v2018 : IVec S32x1 32) (v2020 : IVec S32x1 1), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1935 v1970
    let ⟨v2059, v2062, v2063, v2064⟩ : Σ' (v2059 : FVec F S32x128 .f32) (v2062 : FVec F S32x4096 .bf16) (v2063 : FVec F S32x4096 .bf16), FVec F S32x128 .bf16 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1934 v2016 v2018 v2020 c255_i32_664
    let v2124 : FVec F S32x128 .bf16 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v2063 v2064
    let ⟨v2158, v2167, v2168⟩ : Σ' (v2158 : FVec F S32x1 .f32) (v2167 : FVec F S32x1 .bf16), FVec F S32x4096 .bf16 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v2063 v2124
    let ⟨v2187, v2190, v2191, v2218⟩ : Σ' (v2187 : FVec F S32x128 .f32) (v2190 : FVec F S32x4096 .bf16) (v2191 : FVec F S32x4096 .bf16), FVec F S32x128 .bf16 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v2062 v2158 v2167 v2168
    let ⟨v2270, v2271⟩ : Σ' (v2270 : IVec S32x1 32), IVec S32x1 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v2191 v2218
    let v2314 : FVec F S32x1 .f32 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v2190 v2270 v2271
    let ⟨v2315, v2318, v2319, v2372⟩ : Σ' (v2315 : FVec F S32x128 .f32) (v2318 : FVec F S32x4096 .bf16) (v2319 : FVec F S32x4096 .bf16), FVec F S32x128 .bf16 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v2314
    let ⟨v2414, v2416, v2417⟩ : Σ' (v2414 : FVec F S32x1 .f32) (v2416 : IVec S32x1 32), IVec S32x1 32 ← k0_part32 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v2319 v2372
    let v2459 : FVec F S256x4096 .bf16 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1390 v1391 v1419 v1547 v1675 v1803 v1931 v2059 v2187 v2315 v2318 v2414 v2416 v2417
    let v2492 : FVec F S256x512 .bf16 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1390 v2459
    k0_part35 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1390 v2492
    let v2559 : FVec F S256x4096 .bf16 ← k0_part36 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1390
    let v2560 : Vec F S4096x512 .bf16 ← Prog.lift (.load arg6 (Rect.unit (s := S4096x5632) ![0, 5120] S4096x512.size inb_S4096x5632_S4096x512_0_5120).toLoadRect (View.loadsAt_vmem h_S4096x512))
    let v2564 : Vec F S1x256x512 .bf16 ← Prog.lift (.load arg10 (Rect.unit (s := S2x256x5632) (k0_off95 k0_t12) S1x256x512.size (k0_off95_inb k0_t12)).toLoadRect (View.loadsAt_vmem h_S1x256x512))
    Prog.lift (.store arg10 (Rect.unit (s := S2x256x5632) (k0_off95 k0_t12) S1x256x512.size (k0_off95_inb k0_t12)) (k0_pay265 v2559 v2560) Finset.univ (View.stores_vmem h_S1x256x512 (harg10.storeExact_slice rfl _ (k0_off95_packedbf16 k0_t12)) (fun _ => rfl)) (.inl rfl))
    pure ⟨⟩

theorem t12_body_eq (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (v480 : FVec F S32x128 .f32) (v605 : FVec F S32x128 .f32) (v730 : FVec F S32x128 .f32) (v855 : FVec F S32x128 .f32) (v980 : FVec F S32x128 .f32) (v1105 : FVec F S32x128 .f32) (v1230 : FVec F S32x128 .f32) (v1328 : FVec F S32x1 .f32) (v1347 : FVec F S32x4096 .bf16) (v1351 : Vec F S1x32x4096 .bf16) (k : Fin k0_t12_loop.trips) :
    k0_t12_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351 k ()
      = (k0_part12 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 0#32 1#32 k >>= fun x => compute arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k x.1 x.2.1 x.2.2.1 x.2.2.2.1 x.2.2.2.2) := rfl

/-- The tile quantised at trip `k`: the next, or once more the one before at the last trip. -/
def nxt (k : ℕ) : ℕ := if k + 1 < 48 then k + 1 else 46

theorem off83_eq : ∀ k : Fin k0_t12_loop.trips, k0_off83 k = ![nxt k.val / 6, 0, 256 * (nxt k.val % 6)] := by decide +kernel

set_option maxRecDepth 65536 in
theorem compute_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (k : Fin k0_t12_loop.trips) (v1389 v1390 v1391 : BitVec 32) (v1416 : BitVec 1) (v1417 : BitVec 32)
    (X : ℕ → ℕ → Elt F .bf16) (w : ℕ → ℕ → Elt F .bf16) (Q : Unit → sProp 𝕄) :
    iprop(own (c : Thread nD τ) fullShare arg7 (slot (1 - k.val % 2)) (n3 (tile X (nxt k.val)))
      ∗ part (c : Thread nD τ) arg8 (slot (1 - k.val % 2)) (rows (32 * 0)) (n3 (tile (codeN X) (nxt k.val)))
      ∗ part (c : Thread nD τ) arg9 (slot (1 - k.val % 2)) (rows (32 * 0)) (n3 (tile (xwN X) (nxt k.val)))
      ∗ own (c : Thread nD τ) fullShare arg9 (slot (k.val % 2)) (n3 (tile (xwN X) k.val))
      ∗ own (c : Thread nD τ) fullShare arg6 Finset.univ (n2 w)
      ∗ part (c : Thread nD τ) arg10 (slot (k.val % 2)) (cols (512 * 0)) (n3 (tile (yN (xwN X) w) k.val))
      ∗ part (c : Thread nD τ) arg5 Finset.univ (doneS (min (k.val + 1) 48)) (sclA X))
    ⊢ iprop(((own (c : Thread nD τ) fullShare arg7 (slot (1 - k.val % 2)) (n3 (tile X (nxt k.val)))
      ∗ own (c : Thread nD τ) fullShare arg8 (slot (1 - k.val % 2)) (n3 (tile (codeN X) (nxt k.val)))
      ∗ own (c : Thread nD τ) fullShare arg9 (slot (1 - k.val % 2)) (n3 (tile (xwN X) (nxt k.val)))
      ∗ own (c : Thread nD τ) fullShare arg9 (slot (k.val % 2)) (n3 (tile (xwN X) k.val))
      ∗ own (c : Thread nD τ) fullShare arg6 Finset.univ (n2 w)
      ∗ own (c : Thread nD τ) fullShare arg10 (slot (k.val % 2)) (n3 (tile (yN (xwN X) w) k.val))
      ∗ part (c : Thread nD τ) arg5 Finset.univ (doneS (min (k.val + 2) 48)) (sclA X)) -∗ Q ())
      -∗ wp frame (wpE (defs₀ (F := F)) Variants.none (c : Thread nD τ) none) Set.univ
          (compute arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k v1389 v1390 v1391 v1416 v1417) Q) := by
  have hk : k.val < 48 := lt_of_lt_of_eq k.isLt (by decide)
  iintro ⟨H7, H8, H9, H9', H6, H10, H5⟩ HQ
  unfold compute
  simp only [wp_bind, wp_pure]
  rw [k0_part13_eq_skeleton]; unfold k0_part13_skel; simp only [wp_bind, wp_pure]
  iapply (ld_blk (nxt k.val) 0 (k0_off75_eq k)) $$ H7
  iintro H7
  imodintro
  rw [k0_part14_eq_skeleton]; unfold k0_part14_skel; simp only [wp_bind, wp_pure]
  imodintro
  rw [k0_part15_eq_skeleton]; unfold k0_part15_skel; simp only [wp_bind, wp_pure]
  iapply (ld_any (k0_off75_eq k) rfl) $$ H8
  iintro %_ H8
  iapply (st_rows (nxt k.val) 0 (k0_off75_eq k) (codeN_at X (8 * nxt k.val + 0))) $$ H8
  iintro H8
  iapply (ld_any (k0_off75_eq k) rfl) $$ H9
  iintro %_ H9
  iapply (st_rows (nxt k.val) 0 (k0_off75_eq k) (xwN_at X (8 * nxt k.val + 0))) $$ H9
  iintro H9
  iapply (ld_blk (nxt k.val) 1 (k0_off76_eq k)) $$ H7
  iintro H7
  imodintro
  rw [k0_part16_eq_skeleton]; unfold k0_part16_skel; simp only [wp_bind, wp_pure]
  imodintro
  rw [k0_part17_eq_skeleton]; unfold k0_part17_skel; simp only [wp_bind, wp_pure]
  iapply (ld_any (k0_off76_eq k) rfl) $$ H8
  iintro %_ H8
  imodintro
  rw [k0_part18_eq_skeleton]; unfold k0_part18_skel; simp only [wp_bind, wp_pure]
  iapply (st_rows (nxt k.val) 1 (k0_off76_eq k) (codeN_at X (8 * nxt k.val + 1))) $$ H8
  iintro H8
  iapply (ld_any (k0_off76_eq k) rfl) $$ H9
  iintro %_ H9
  iapply (st_rows (nxt k.val) 1 (k0_off76_eq k) (xwN_at X (8 * nxt k.val + 1))) $$ H9
  iintro H9
  iapply (ld_blk (nxt k.val) 2 (k0_off77_eq k)) $$ H7
  iintro H7
  imodintro
  rw [k0_part19_eq_skeleton]; unfold k0_part19_skel; simp only [wp_bind, wp_pure]
  imodintro
  rw [k0_part20_eq_skeleton]; unfold k0_part20_skel; simp only [wp_bind, wp_pure]
  iapply (ld_any (k0_off77_eq k) rfl) $$ H8
  iintro %_ H8
  iapply (st_rows (nxt k.val) 2 (k0_off77_eq k) (codeN_at X (8 * nxt k.val + 2))) $$ H8
  iintro H8
  iapply (ld_any (k0_off77_eq k) rfl) $$ H9
  iintro %_ H9
  iapply (st_rows (nxt k.val) 2 (k0_off77_eq k) (xwN_at X (8 * nxt k.val + 2))) $$ H9
  iintro H9
  iapply (ld_blk (nxt k.val) 3 (k0_off78_eq k)) $$ H7
  iintro H7
  imodintro
  rw [k0_part21_eq_skeleton]; unfold k0_part21_skel; simp only [wp_bind, wp_pure]
  imodintro
  rw [k0_part22_eq_skeleton]; unfold k0_part22_skel; simp only [wp_bind, wp_pure]
  imodintro
  rw [k0_part23_eq_skeleton]; unfold k0_part23_skel; simp only [wp_bind, wp_pure]
  iapply (ld_any (k0_off78_eq k) rfl) $$ H8
  iintro %_ H8
  iapply (st_rows (nxt k.val) 3 (k0_off78_eq k) (codeN_at X (8 * nxt k.val + 3))) $$ H8
  iintro H8
  iapply (ld_any (k0_off78_eq k) rfl) $$ H9
  iintro %_ H9
  iapply (st_rows (nxt k.val) 3 (k0_off78_eq k) (xwN_at X (8 * nxt k.val + 3))) $$ H9
  iintro H9
  iapply (ld_blk (nxt k.val) 4 (k0_off79_eq k)) $$ H7
  iintro H7
  imodintro
  rw [k0_part24_eq_skeleton]; unfold k0_part24_skel; simp only [wp_bind, wp_pure]
  imodintro
  rw [k0_part25_eq_skeleton]; unfold k0_part25_skel; simp only [wp_bind, wp_pure]
  iapply (ld_any (k0_off79_eq k) rfl) $$ H8
  iintro %_ H8
  iapply (st_rows (nxt k.val) 4 (k0_off79_eq k) (codeN_at X (8 * nxt k.val + 4))) $$ H8
  iintro H8
  iapply (ld_any (k0_off79_eq k) rfl) $$ H9
  iintro %_ H9
  iapply (st_rows (nxt k.val) 4 (k0_off79_eq k) (xwN_at X (8 * nxt k.val + 4))) $$ H9
  iintro H9
  iapply (ld_blk (nxt k.val) 5 (k0_off80_eq k)) $$ H7
  iintro H7
  imodintro
  rw [k0_part26_eq_skeleton]; unfold k0_part26_skel; simp only [wp_bind, wp_pure]
  imodintro
  rw [k0_part27_eq_skeleton]; unfold k0_part27_skel; simp only [wp_bind, wp_pure]
  imodintro
  rw [k0_part28_eq_skeleton]; unfold k0_part28_skel; simp only [wp_bind, wp_pure]
  iapply (ld_any (k0_off80_eq k) rfl) $$ H8
  iintro %_ H8
  iapply (st_rows (nxt k.val) 5 (k0_off80_eq k) (codeN_at X (8 * nxt k.val + 5))) $$ H8
  iintro H8
  iapply (ld_any (k0_off80_eq k) rfl) $$ H9
  iintro %_ H9
  iapply (st_rows (nxt k.val) 5 (k0_off80_eq k) (xwN_at X (8 * nxt k.val + 5))) $$ H9
  iintro H9
  iapply (ld_blk (nxt k.val) 6 (k0_off81_eq k)) $$ H7
  iintro H7
  imodintro
  rw [k0_part29_eq_skeleton]; unfold k0_part29_skel; simp only [wp_bind, wp_pure]
  imodintro
  rw [k0_part30_eq_skeleton]; unfold k0_part30_skel; simp only [wp_bind, wp_pure]
  iapply (ld_any (k0_off81_eq k) rfl) $$ H8
  iintro %_ H8
  iapply (st_rows (nxt k.val) 6 (k0_off81_eq k) (codeN_at X (8 * nxt k.val + 6))) $$ H8
  iintro H8
  iapply (ld_any (k0_off81_eq k) rfl) $$ H9
  iintro %_ H9
  iapply (st_rows (nxt k.val) 6 (k0_off81_eq k) (xwN_at X (8 * nxt k.val + 6))) $$ H9
  iintro H9
  imodintro
  rw [k0_part31_eq_skeleton]; unfold k0_part31_skel; simp only [wp_bind, wp_pure]
  iapply (ld_blk (nxt k.val) 7 (k0_off82_eq k)) $$ H7
  iintro H7
  imodintro
  rw [k0_part32_eq_skeleton]; unfold k0_part32_skel; simp only [wp_bind, wp_pure]
  imodintro
  rw [k0_part33_eq_skeleton]; unfold k0_part33_skel; simp only [wp_bind, wp_pure]
  iapply (ld_any (k0_off82_eq k) rfl) $$ H8
  iintro %_ H8
  iapply (st_rows (nxt k.val) 7 (k0_off82_eq k) (codeN_at X (8 * nxt k.val + 7))) $$ H8
  iintro H8
  iapply (ld_any (k0_off82_eq k) rfl) $$ H9
  iintro %_ H9
  iapply (st_rows (nxt k.val) 7 (k0_off82_eq k) (xwN_at X (8 * nxt k.val + 7))) $$ H9
  iintro H9
  iapply (part_ld Variants.none none (Finset.subset_univ _)) $$ H5
  iintro %_ H5
  iapply (st_scl (nxt k.val) (min (k.val + 1) 48) (min (k.val + 2) 48) (off83_eq k) (by unfold nxt; split <;> omega) rfl) $$ H5
  iintro H5
  iapply (ld_tile k.val (k0_off84_eq k)) $$ H9'
  iintro H9'
  imodintro
  rw [k0_part34_eq_skeleton]; unfold k0_part34_skel; simp only [wp_bind, wp_pure]
  iapply (ld_w 0 rfl) $$ H6
  iintro H6
  iapply (ld_any (k0_off85_eq k) rfl) $$ H10
  iintro %_ H10
  iapply (st_cols k.val 0 (k0_off85_eq k) rfl) $$ H10
  iintro H10
  iapply (ld_tile k.val (k0_off84_eq k)) $$ H9'
  iintro H9'
  iapply (ld_w 1 rfl) $$ H6
  iintro H6
  iapply (ld_any (k0_off86_eq k) rfl) $$ H10
  iintro %_ H10
  iapply (st_cols k.val 1 (k0_off86_eq k) rfl) $$ H10
  iintro H10
  iapply (ld_tile k.val (k0_off84_eq k)) $$ H9'
  iintro H9'
  iapply (ld_w 2 rfl) $$ H6
  iintro H6
  iapply (ld_any (k0_off87_eq k) rfl) $$ H10
  iintro %_ H10
  iapply (st_cols k.val 2 (k0_off87_eq k) rfl) $$ H10
  iintro H10
  iapply (ld_tile k.val (k0_off84_eq k)) $$ H9'
  iintro H9'
  iapply (ld_w 3 rfl) $$ H6
  iintro H6
  imodintro
  rw [k0_part35_eq_skeleton]; unfold k0_part35_skel; simp only [wp_bind, wp_pure]
  iapply (ld_any (k0_off88_eq k) rfl) $$ H10
  iintro %_ H10
  iapply (st_cols k.val 3 (k0_off88_eq k) rfl) $$ H10
  iintro H10
  iapply (ld_tile k.val (k0_off84_eq k)) $$ H9'
  iintro H9'
  iapply (ld_w 4 rfl) $$ H6
  iintro H6
  iapply (ld_any (k0_off89_eq k) rfl) $$ H10
  iintro %_ H10
  iapply (st_cols k.val 4 (k0_off89_eq k) rfl) $$ H10
  iintro H10
  iapply (ld_tile k.val (k0_off84_eq k)) $$ H9'
  iintro H9'
  iapply (ld_w 5 rfl) $$ H6
  iintro H6
  iapply (ld_any (k0_off90_eq k) rfl) $$ H10
  iintro %_ H10
  iapply (st_cols k.val 5 (k0_off90_eq k) rfl) $$ H10
  iintro H10
  iapply (ld_tile k.val (k0_off84_eq k)) $$ H9'
  iintro H9'
  iapply (ld_w 6 rfl) $$ H6
  iintro H6
  iapply (ld_any (k0_off91_eq k) rfl) $$ H10
  iintro %_ H10
  iapply (st_cols k.val 6 (k0_off91_eq k) rfl) $$ H10
  iintro H10
  imodintro
  rw [k0_part36_eq_skeleton]; unfold k0_part36_skel; simp only [wp_bind, wp_pure]
  iapply (ld_tile k.val (k0_off84_eq k)) $$ H9'
  iintro H9'
  iapply (ld_w 7 rfl) $$ H6
  iintro H6
  iapply (ld_any (k0_off92_eq k) rfl) $$ H10
  iintro %_ H10
  iapply (st_cols k.val 7 (k0_off92_eq k) rfl) $$ H10
  iintro H10
  iapply (ld_tile k.val (k0_off84_eq k)) $$ H9'
  iintro H9'
  iapply (ld_w 8 rfl) $$ H6
  iintro H6
  iapply (ld_any (k0_off93_eq k) rfl) $$ H10
  iintro %_ H10
  iapply (st_cols k.val 8 (k0_off93_eq k) rfl) $$ H10
  iintro H10
  iapply (ld_tile k.val (k0_off84_eq k)) $$ H9'
  iintro H9'
  iapply (ld_w 9 rfl) $$ H6
  iintro H6
  iapply (ld_any (k0_off94_eq k) rfl) $$ H10
  iintro %_ H10
  iapply (st_cols k.val 9 (k0_off94_eq k) rfl) $$ H10
  iintro H10
  iapply (ld_tile k.val (k0_off84_eq k)) $$ H9'
  iintro H9'
  imodintro
  iapply (ld_w 10 rfl) $$ H6
  iintro H6
  iapply (ld_any (k0_off95_eq k) rfl) $$ H10
  iintro %_ H10
  iapply (st_cols k.val 10 (k0_off95_eq k) rfl) $$ H10
  iintro H10
  imodintro
  iapply HQ
  isplitl [H7]; · iexact H7
  isplitl [H8]
  · iapply (part_all fun i _ => show (i (1 : Fin 3)).val < 256 from (i (1 : Fin 3)).isLt) $$ H8
  isplitl [H9]
  · iapply (part_all fun i _ => show (i (1 : Fin 3)).val < 256 from (i (1 : Fin 3)).isLt) $$ H9
  isplitl [H9']; · iexact H9'
  isplitl [H6]; · iexact H6
  isplitl [H10]
  · iapply (part_all fun i _ => show (i (2 : Fin 3)).val < 5632 from (i (2 : Fin 3)).isLt) $$ H10
  iexact H5

end Cert.Proof.Kernel

end
-- ==== Proof.KernelMoves.lean ====
/-
  The transfers of a trip of the main loop. Before trip `k` the product of tile `k - 2` is on its way out of slot
  `k mod 2`, the product of tile `k - 1` stands finished in the other slot, the codes of tile `k - 1` are on their way
  out, those of tile `k` stand in slot `k mod 2`, and tile `k + 1` of the rows is on its way in. A trip sends tile
  `k - 1` of the product and tile `k` of the codes, awaits what occupied the slots it will fill, and calls tile `k + 2`.
-/
module

public import proofs.«01_k».proof.Proof.KernelBlocks

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

/-- The tile that stands in slot `k mod 2` before trip `k`. -/
def cur (k : ℕ) : ℕ := if k < 48 then k else 46

/-- The library's counters within the algebra. -/
abbrev EC : UEmb Counters 𝕄 := countersEmb

section States

variable (c : Dev nD)

/-- What an output ring and its matrix hold while tile `T - 1` leaves slot `p`, if there is one. -/
def leaving {A C : ℕ} {e : EltTy} (m2 : Memref sig .tc .hbm (Sh2 A C) e) (m3 : Memref sig .tc .vmem (Sh3 2 256 C) e) (s : DmaSem sig) (H : ℕ → ℕ → Elt F e) (b : Prop) [Decidable b] (T p : ℕ) : sProp 𝕄 :=
  if b then flOut (c : Thread nD τ) EC () m2 m3 s H T p else idle (c : Thread nD τ) m3 s p

/-- The product's ring before trip `k`, -/
def Y0 (m2 : Memref sig .tc .hbm S12288x5632 .bf16) (m3 : Memref sig .tc .vmem S2x256x5632 .bf16) (sm : DmaSems sig S2) (H : ℕ → ℕ → Elt F .bf16) (k : ℕ) : sProp 𝕄 :=
  iprop(own (c : Thread nD τ) fullShare m2 (band 0 (256 * (k - 2))) (n2 H) ∗ rest (c : Thread nD τ) m2 (256 * (k - 1))
    ∗ leaving c m2 m3 (cellAt sm (k % 2)) H (2 ≤ k) (k - 2) (k % 2)
    ∗ (∃ g, ⌜1 ≤ k → g = n3 (tile H (k - 1))⌝ ∗ own (c : Thread nD τ) fullShare m3 (slot (1 - k % 2)) g) ∗ semVal ((c : Thread nD τ), .dma (cellAt sm (1 - k % 2))) 0)
/-- after tile `k - 1` is sent, -/
def Y1 (m2 : Memref sig .tc .hbm S12288x5632 .bf16) (m3 : Memref sig .tc .vmem S2x256x5632 .bf16) (sm : DmaSems sig S2) (H : ℕ → ℕ → Elt F .bf16) (k : ℕ) : sProp 𝕄 :=
  iprop(own (c : Thread nD τ) fullShare m2 (band 0 (256 * (k - 2))) (n2 H) ∗ rest (c : Thread nD τ) m2 (256 * k)
    ∗ leaving c m2 m3 (cellAt sm (k % 2)) H (2 ≤ k) (k - 2) (k % 2)
    ∗ leaving c m2 m3 (cellAt sm (1 - k % 2)) H (1 ≤ k) (k - 1) (1 - k % 2))
/-- and once the slot that trip `k` fills is free. -/
def Y2 (m2 : Memref sig .tc .hbm S12288x5632 .bf16) (m3 : Memref sig .tc .vmem S2x256x5632 .bf16) (sm : DmaSems sig S2) (H : ℕ → ℕ → Elt F .bf16) (k : ℕ) : sProp 𝕄 :=
  iprop(own (c : Thread nD τ) fullShare m2 (band 0 (256 * (k - 1))) (n2 H) ∗ rest (c : Thread nD τ) m2 (256 * k)
    ∗ idle (c : Thread nD τ) m3 (cellAt sm (k % 2)) (k % 2)
    ∗ leaving c m2 m3 (cellAt sm (1 - k % 2)) H (1 ≤ k) (k - 1) (1 - k % 2))

/-- The codes' ring before trip `k`, -/
def C0 (m2 : Memref sig .tc .hbm S12288x4096 .fp8e4m3) (m3 : Memref sig .tc .vmem S2x256x4096 .fp8e4m3) (sm : DmaSems sig S2) (H : ℕ → ℕ → Elt F .fp8e4m3) (k : ℕ) : sProp 𝕄 :=
  iprop(own (c : Thread nD τ) fullShare m2 (band 0 (256 * (k - 1))) (n2 H) ∗ rest (c : Thread nD τ) m2 (256 * k)
    ∗ leaving c m2 m3 (cellAt sm (1 - k % 2)) H (1 ≤ k) (k - 1) (1 - k % 2)
    ∗ own (c : Thread nD τ) fullShare m3 (slot (k % 2)) (n3 (tile H (cur k))) ∗ semVal ((c : Thread nD τ), .dma (cellAt sm (k % 2))) 0)
/-- once tile `k - 1` is out, -/
def C1 (m2 : Memref sig .tc .hbm S12288x4096 .fp8e4m3) (m3 : Memref sig .tc .vmem S2x256x4096 .fp8e4m3) (sm : DmaSems sig S2) (H : ℕ → ℕ → Elt F .fp8e4m3) (k : ℕ) : sProp 𝕄 :=
  iprop(own (c : Thread nD τ) fullShare m2 (band 0 (256 * k)) (n2 H) ∗ rest (c : Thread nD τ) m2 (256 * k)
    ∗ idle (c : Thread nD τ) m3 (cellAt sm (1 - k % 2)) (1 - k % 2)
    ∗ own (c : Thread nD τ) fullShare m3 (slot (k % 2)) (n3 (tile H (cur k))) ∗ semVal ((c : Thread nD τ), .dma (cellAt sm (k % 2))) 0)
/-- and after tile `k` is sent. -/
def C2 (m2 : Memref sig .tc .hbm S12288x4096 .fp8e4m3) (m3 : Memref sig .tc .vmem S2x256x4096 .fp8e4m3) (sm : DmaSems sig S2) (H : ℕ → ℕ → Elt F .fp8e4m3) (k : ℕ) : sProp 𝕄 :=
  iprop(own (c : Thread nD τ) fullShare m2 (band 0 (256 * k)) (n2 H) ∗ rest (c : Thread nD τ) m2 (256 * (k + 1))
    ∗ flOut (c : Thread nD τ) EC () m2 m3 (cellAt sm (k % 2)) H k (k % 2)
    ∗ idle (c : Thread nD τ) m3 (cellAt sm (1 - k % 2)) (1 - k % 2))

/-- The rows of tile `T`. -/
abbrev win (T : ℕ) : Finset S12288x4096.Idx := sub2 (256 * T) 0 256 4096

/-- Slot `p` receiving tile `T`, or already holding tile `T'`. -/
def coming (m2 : Memref sig .tc .hbm S12288x4096 .bf16) (m3 : Memref sig .tc .vmem S2x256x4096 .bf16) (s : DmaSem sig) (H : ℕ → ℕ → Elt F .bf16) (b : Prop) [Decidable b] (T T' p : ℕ) : sProp 𝕄 :=
  if b then flIn (c : Thread nD τ) EC () m2 m3 s H T p
  else iprop(own (c : Thread nD τ) fullShare m3 (slot p) (n3 (tile H T')) ∗ semVal ((c : Thread nD τ), .dma s) 0)

/-- The rows' ring before trip `k`, -/
def X0 (m2 : Memref sig .tc .hbm S12288x4096 .bf16) (m3 : Memref sig .tc .vmem S2x256x4096 .bf16) (sm : DmaSems sig S2) (H : ℕ → ℕ → Elt F .bf16) (k : ℕ) : sProp 𝕄 :=
  iprop(own (c : Thread nD τ) fullShare m2 (Finset.univ \ (if k + 1 < 48 then win (k + 1) else ∅)) (n2 H)
    ∗ coming c m2 m3 (cellAt sm (1 - k % 2)) H (k + 1 < 48) (k + 1) (k - 1) (1 - k % 2)
    ∗ own (c : Thread nD τ) fullShare m3 (slot (k % 2)) (n3 (tile H (cur k))) ∗ semVal ((c : Thread nD τ), .dma (cellAt sm (k % 2))) 0)
/-- after tile `k + 2` is called. -/
def X1 (m2 : Memref sig .tc .hbm S12288x4096 .bf16) (m3 : Memref sig .tc .vmem S2x256x4096 .bf16) (sm : DmaSems sig S2) (H : ℕ → ℕ → Elt F .bf16) (k : ℕ) : sProp 𝕄 :=
  iprop(own (c : Thread nD τ) fullShare m2 ((Finset.univ \ (if k + 1 < 48 then win (k + 1) else ∅)) \ (if k + 2 < 48 then win (k + 2) else ∅)) (n2 H)
    ∗ coming c m2 m3 (cellAt sm (1 - k % 2)) H (k + 1 < 48) (k + 1) (k - 1) (1 - k % 2)
    ∗ coming c m2 m3 (cellAt sm (k % 2)) H (k + 2 < 48) (k + 2) (cur k) (k % 2))
/-- and once the tile that trip `k` quantises is here. -/
def X2 (m2 : Memref sig .tc .hbm S12288x4096 .bf16) (m3 : Memref sig .tc .vmem S2x256x4096 .bf16) (sm : DmaSems sig S2) (H : ℕ → ℕ → Elt F .bf16) (k : ℕ) : sProp 𝕄 :=
  iprop(own (c : Thread nD τ) fullShare m2 (Finset.univ \ (if k + 2 < 48 then win (k + 2) else ∅)) (n2 H)
    ∗ (own (c : Thread nD τ) fullShare m3 (slot (1 - k % 2)) (n3 (tile H (cur (k + 1)))) ∗ semVal ((c : Thread nD τ), .dma (cellAt sm (1 - k % 2))) 0)
    ∗ coming c m2 m3 (cellAt sm (k % 2)) H (k + 2 < 48) (k + 2) (cur k) (k % 2))

end States

theorem cond1_iff : ∀ k : Fin k0_t12_loop.trips, k0_cond1 k = 1#1 ↔ 1 ≤ k.val := by decide +kernel
theorem cond2_iff : ∀ k : Fin k0_t12_loop.trips, k0_cond2 k = 1#1 ↔ 2 ≤ k.val := by decide +kernel
theorem cond3_iff : ∀ k : Fin k0_t12_loop.trips, k0_cond3 k = 1#1 ↔ 1 ≤ k.val := by decide +kernel
theorem cond4_iff : ∀ k : Fin k0_t12_loop.trips, k0_cond4 k = 1#1 ↔ k.val + 2 < 48 := by decide +kernel
theorem cond5_iff : ∀ k : Fin k0_t12_loop.trips, k0_cond5 k = 1#1 ↔ k.val + 1 < 48 := by decide +kernel
theorem off58_eq : ∀ k : Fin k0_t12_loop.trips, k0_cond1 k = 1#1 → k0_off58 k = ![256 * (k.val - 1), 0] := by decide +kernel
theorem off71_eq (k : Fin k0_t12_loop.trips) : k0_off71 k = ![256 * (k.val + 2), 0] := by rw [k0_off71_eq, Nat.mul_add]

theorem pos5632 : 0 < (Sh2 256 5632).numel := by decide
theorem pos4096 : 0 < (Sh2 256 4096).numel := by decide

theorem win_sub (k : ℕ) : win (k + 1) ⊆ Finset.univ \ (if k + 2 < 48 then win (k + 2) else ∅) := fun i hi => by
  rw [Finset.mem_sdiff]
  refine ⟨Finset.mem_univ _, ?_⟩
  split
  · rw [mem_sub2]; rw [mem_sub2] at hi; omega
  · exact Finset.notMem_empty _

theorem win_sub' (k : ℕ) : win (k + 2) ⊆ Finset.univ \ win (k + 1) := sub2_disj (by omega)

theorem trip_lt {k : ℕ} (hk : k < 48) : 256 * (k + 1) ≤ 12288 := by omega

theorem C1_open (c : Dev nD) (m2 : Memref sig .tc .hbm S12288x4096 .fp8e4m3) (m3 : Memref sig .tc .vmem S2x256x4096 .fp8e4m3) (sm : DmaSems sig S2) (H : ℕ → ℕ → Elt F .fp8e4m3) (k : ℕ) (hk : k < 48) :
    (C1 c m2 m3 sm H k : sProp 𝕄) ⊢ iprop(own (c : Thread nD τ) fullShare m2 (band 0 (256 * k)) (n2 H) ∗ idle (c : Thread nD τ) m3 (cellAt sm (1 - k % 2)) (1 - k % 2)
      ∗ (own (c : Thread nD τ) fullShare m3 (slot (k % 2)) (n3 (tile H k)) ∗ semVal ((c : Thread nD τ), .dma (cellAt sm (k % 2))) 0 ∗ rest (c : Thread nD τ) m2 (256 * k))) := by
  unfold C1
  rw [show cur k = k from if_pos hk]
  iintro ⟨Hd, Hr, Hi, Hs, Hv⟩
  isplitl [Hd]; · iexact Hd
  isplitl [Hi]; · iexact Hi
  isplitl [Hs]; · iexact Hs
  isplitl [Hv]; · iexact Hv
  iexact Hr

theorem sep_mk {P Q : sProp 𝕄} : P ⊢ iprop(Q -∗ (P ∗ Q)) := by
  iintro HP HQ
  isplitl [HP] <;> iassumption

set_option maxRecDepth 65536 in
/-- The transfers of a trip. -/
theorem part12_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (k : Fin k0_t12_loop.trips) (w1 w2 : BitVec 32)
    (X HY : ℕ → ℕ → Elt F .bf16) (HC : ℕ → ℕ → Elt F .fp8e4m3) (Q : _ → sProp 𝕄) :
    iprop(Y0 c arg3 arg10 arg16 HY k.val ∗ C0 c arg4 arg8 arg15 HC k.val ∗ X0 c arg0 arg7 arg14 X k.val ∗ OW (c : Thread nD τ))
    ⊢ iprop((∀ v, Y2 c arg3 arg10 arg16 HY k.val -∗ C2 c arg4 arg8 arg15 HC k.val -∗ X2 c arg0 arg7 arg14 X k.val -∗ OW (c : Thread nD τ) -∗ Q v)
      -∗ wp frame (wpE (defs₀ (F := F)) Variants.none (c : Thread nD τ) none) Set.univ
          (k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 w1 w2 k) Q) := by
  have hk : k.val < 48 := lt_of_lt_of_eq k.isLt (by decide)
  iintro ⟨HY, HC, HX, HO⟩ HQ
  rw [k0_part12_eq_skeleton]
  unfold k0_part12_skel
  simp only [wp_bind, wp_pure]
  iapply (wp_when Variants.none _ none (P := Y0 c arg3 arg10 arg16 HY k.val) (R := Y1 c arg3 arg10 arg16 HY k.val) ?_ ?_) $$ HY
  · intro h K
    have hc := (cond1_iff k).mp h
    have e : k.val - 1 + 1 = k.val := by omega
    have hl : leaving c arg3 arg10 (cellAt arg16 (1 - k.val % 2)) HY (1 ≤ k.val) (k.val - 1) (1 - k.val % 2) = _ := if_pos hc
    unfold Y0 Y1
    rw [hl]
    iintro ⟨Hd, Hr, Hl, ⟨%gs, %hgs, Hs⟩, Hv⟩ HR
    obtain rfl := hgs hc
    iapply (out_send Variants.none _ none EC () (k.val - 1) (cellAt arg16 (1 - k.val % 2)) (cellAt_eq (k0_off57_eq k) _ _) (off58_eq k h) (k0_off59_eq k) pos5632 (by omega)) $$ [Hs Hv Hr]
    · isplitl [Hs]; · iexact Hs
      isplitl [Hv]; · iexact Hv
      iexact Hr
    rw [e]
    iintro HF Hr
    iapply HR
    isplitl [Hd]; · iexact Hd
    isplitl [Hr]; · iexact Hr
    isplitl [Hl]; · iexact Hl
    iexact HF
  · intro h
    have hc : ¬ 1 ≤ k.val := fun hh => h ((cond1_iff k).mpr hh)
    have e : k.val - 1 = k.val := by omega
    have hl : leaving c arg3 arg10 (cellAt arg16 (1 - k.val % 2)) HY (1 ≤ k.val) (k.val - 1) (1 - k.val % 2) = _ := if_neg hc
    unfold Y0 Y1
    rw [hl, e]
    iintro ⟨Hd, Hr, Hl, ⟨%gs, %hgs, Hs⟩, Hv⟩
    isplitl [Hd]; · iexact Hd
    isplitl [Hr]; · iexact Hr
    isplitl [Hl]; · iexact Hl
    unfold idle
    isplitl [Hs]
    · iexists gs; iexact Hs
    · iexact Hv
  iintro HY
  ihave HYO := (sep_mk (P := Y1 c arg3 arg10 arg16 HY k.val) (Q := OW (c : Thread nD τ))) $$ HY HO
  iapply (wp_when Variants.none _ none (P := iprop(Y1 c arg3 arg10 arg16 HY k.val ∗ OW (c : Thread nD τ))) (R := iprop(Y2 c arg3 arg10 arg16 HY k.val ∗ OW (c : Thread nD τ))) ?_ ?_) $$ HYO
  · intro h K
    have hc := (cond2_iff k).mp h
    have e : k.val - 2 + 1 = k.val - 1 := by omega
    have hl : leaving c arg3 arg10 (cellAt arg16 (k.val % 2)) HY (2 ≤ k.val) (k.val - 2) (k.val % 2) = _ := if_pos hc
    unfold Y1 Y2
    rw [hl]
    iintro ⟨⟨Hd, Hr, Hl, Hs⟩, HO⟩ HR
    iapply (out_wait Variants.none _ none EC () (k.val - 2) (cellAt arg16 (k.val % 2)) (cellAt_eq (k0_off60_eq k) _ _) credit_sub) $$ [Hl Hd HO]
    · isplitl [Hl]; · iexact Hl
      isplitl [Hd]; · iexact Hd
      iexact HO
    rw [e]
    iintro Hd Hs' Hv HO
    iapply HR
    isplitr [HO]
    · isplitl [Hd]; · iexact Hd
      isplitl [Hr]; · iexact Hr
      isplitl [Hs' Hv]
      · unfold idle
        isplitl [Hs']
        · iexists _; iexact Hs'
        · iexact Hv
      iexact Hs
    · iexact HO
  · intro h
    have hc : ¬ 2 ≤ k.val := fun hh => h ((cond2_iff k).mpr hh)
    have e : k.val - 1 = k.val - 2 := by omega
    have hl : leaving c arg3 arg10 (cellAt arg16 (k.val % 2)) HY (2 ≤ k.val) (k.val - 2) (k.val % 2) = _ := if_neg hc
    unfold Y1 Y2
    rw [hl, ← e]
  iintro ⟨HY, HO⟩
  ihave HCO := (sep_mk (P := C0 c arg4 arg8 arg15 HC k.val) (Q := OW (c : Thread nD τ))) $$ HC HO
  iapply (wp_when Variants.none _ none (P := iprop(C0 c arg4 arg8 arg15 HC k.val ∗ OW (c : Thread nD τ))) (R := iprop(C1 c arg4 arg8 arg15 HC k.val ∗ OW (c : Thread nD τ))) ?_ ?_) $$ HCO
  · intro h K
    have hc := (cond3_iff k).mp h
    have e : k.val - 1 + 1 = k.val := by omega
    have hl : leaving c arg4 arg8 (cellAt arg15 (1 - k.val % 2)) HC (1 ≤ k.val) (k.val - 1) (1 - k.val % 2) = _ := if_pos hc
    unfold C0 C1
    rw [hl]
    iintro ⟨⟨Hd, Hr, Hl, Hs⟩, HO⟩ HR
    iapply (out_wait Variants.none _ none EC () (k.val - 1) (cellAt arg15 (1 - k.val % 2)) (cellAt_eq (k0_off63_eq k) _ _) credit_sub) $$ [Hl Hd HO]
    · isplitl [Hl]; · iexact Hl
      isplitl [Hd]; · iexact Hd
      iexact HO
    rw [e]
    iintro Hd Hs' Hv HO
    iapply HR
    isplitr [HO]
    · isplitl [Hd]; · iexact Hd
      isplitl [Hr]; · iexact Hr
      isplitl [Hs' Hv]
      · unfold idle
        isplitl [Hs']
        · iexists _; iexact Hs'
        · iexact Hv
      iexact Hs
    · iexact HO
  · intro h
    have hc : ¬ 1 ≤ k.val := fun hh => h ((cond3_iff k).mpr hh)
    have e : k.val - 1 = k.val := by omega
    have hl : leaving c arg4 arg8 (cellAt arg15 (1 - k.val % 2)) HC (1 ≤ k.val) (k.val - 1) (1 - k.val % 2) = _ := if_neg hc
    unfold C0 C1
    rw [hl, e]
  iintro ⟨HC, HO⟩
  rw [wp_bind]
  ihave HC' := (C1_open c arg4 arg8 arg15 HC k.val hk) $$ HC
  icases HC' with ⟨Hd, Hi, HS⟩
  iapply (out_send Variants.none _ none EC () k.val (cellAt arg15 (k.val % 2)) (cellAt_eq (k0_off66_eq k) _ _) (k0_off67_eq k) (k0_off68_eq k) pos4096 (trip_lt hk)) $$ HS
  iintro HF Hr
  iapply (wp_when Variants.none _ none (P := X0 c arg0 arg7 arg14 X k.val) (R := X1 c arg0 arg7 arg14 X k.val) ?_ ?_) $$ HX
  · intro h K
    have hc := (cond4_iff k).mp h
    have hl : coming c arg0 arg7 (cellAt arg14 (k.val % 2)) X (k.val + 2 < 48) (k.val + 2) (cur k.val) (k.val % 2) = _ := if_pos hc
    unfold X0 X1
    rw [hl, if_pos hc, if_pos (show k.val + 1 < 48 by omega)]
    iintro ⟨Hx, Hc, Hs, Hv⟩ HR
    iapply (in_send Variants.none _ none EC () (S := Finset.univ \ win (k.val + 1)) (k.val + 2) (cellAt arg14 (k.val % 2)) (cellAt_eq (k0_off69_eq k) _ _) (off71_eq k) (k0_off70_eq k) pos4096 (win_sub' k.val)) $$ [Hs Hv Hx]
    · isplitl [Hs]; · iexact Hs
      isplitl [Hv]; · iexact Hv
      iexact Hx
    iintro HF Hx
    iapply HR
    isplitl [Hx]; · iexact Hx
    isplitl [Hc]; · iexact Hc
    iexact HF
  · intro h
    have hc : ¬ k.val + 2 < 48 := fun hh => h ((cond4_iff k).mpr hh)
    have hl : coming c arg0 arg7 (cellAt arg14 (k.val % 2)) X (k.val + 2 < 48) (k.val + 2) (cur k.val) (k.val % 2) = _ := if_neg hc
    unfold X0 X1
    rw [hl, if_neg hc, Finset.sdiff_empty]
  iintro HX
  ihave HXO := (sep_mk (P := X1 c arg0 arg7 arg14 X k.val) (Q := OW (c : Thread nD τ))) $$ HX HO
  iapply (wp_when Variants.none _ none (P := iprop(X1 c arg0 arg7 arg14 X k.val ∗ OW (c : Thread nD τ))) (R := iprop(X2 c arg0 arg7 arg14 X k.val ∗ OW (c : Thread nD τ))) ?_ ?_) $$ HXO
  · intro h K
    have hc := (cond5_iff k).mp h
    have hl : coming c arg0 arg7 (cellAt arg14 (1 - k.val % 2)) X (k.val + 1 < 48) (k.val + 1) (k.val - 1) (1 - k.val % 2) = _ := if_pos hc
    have e : cur (k.val + 1) = k.val + 1 := if_pos hc
    unfold X1 X2
    rw [hl, e, if_pos hc]
    iintro ⟨⟨Hx, Hc, Hs⟩, HO⟩ HR
    iapply (in_wait Variants.none _ none EC () (S := Finset.univ \ (if k.val + 2 < 48 then win (k.val + 2) else ∅)) (k.val + 1) (cellAt arg14 (1 - k.val % 2)) (cellAt_eq (k0_off72_eq k) _ _) credit_slot (win_sub k.val) (sdiff_right_comm _ _ _)) $$ [Hc Hx HO]
    · isplitl [Hc]; · iexact Hc
      isplitl [Hx]; · iexact Hx
      iexact HO
    iintro Hx Hs' Hv HO
    iapply HR
    isplitr [HO]
    · isplitl [Hx]; · iexact Hx
      isplitl [Hs' Hv]
      · isplitl [Hs']; · iexact Hs'
        iexact Hv
      iexact Hs
    · iexact HO
  · intro h
    have hc : ¬ k.val + 1 < 48 := fun hh => h ((cond5_iff k).mpr hh)
    have hl : coming c arg0 arg7 (cellAt arg14 (1 - k.val % 2)) X (k.val + 1 < 48) (k.val + 1) (k.val - 1) (1 - k.val % 2) = _ := if_neg hc
    have e : cur (k.val + 1) = k.val - 1 := (if_neg hc).trans (by omega)
    unfold X1 X2
    rw [hl, e, if_neg hc, Finset.sdiff_empty]
  iintro ⟨HX, HO⟩
  rw [wp_pure]
  imodintro
  iapply HQ $$ %_ HY [Hd Hr HF Hi] HX HO
  unfold C2
  isplitl [Hd]; · iexact Hd
  isplitl [Hr]; · iexact Hr
  isplitl [HF]; · iexact HF
  iexact Hi

end Cert.Proof.Kernel

end
-- ==== Proof.KernelLoop.lean ====
/-
  The main loop by an invariant: before trip `k` the transfers stand as `KernelMoves` says, tile `k` stands
  quantised, and the scales of the tiles up to `k` are stored.
-/
module

public import proofs.«01_k».proof.Proof.KernelTile
public import proofs.«01_k».proof.Proof.KernelMoves

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

section

variable (c : Dev nD)

theorem Y_next (m2 : Memref sig .tc .hbm S12288x5632 .bf16) (m3 : Memref sig .tc .vmem S2x256x5632 .bf16) (sm : DmaSems sig S2) (H : ℕ → ℕ → Elt F .bf16) (k : ℕ) :
    (iprop((own (c : Thread nD τ) fullShare m2 (band 0 (256 * (k - 1))) (n2 H) ∗ rest (c : Thread nD τ) m2 (256 * k)
      ∗ leaving c m2 m3 (cellAt sm (1 - k % 2)) H (1 ≤ k) (k - 1) (1 - k % 2)) ∗ semVal ((c : Thread nD τ), .dma (cellAt sm (k % 2))) 0 ∗ own (c : Thread nD τ) fullShare m3 (slot (k % 2)) (n3 (tile H k))) : sProp 𝕄)
      ⊢ Y0 c m2 m3 sm H (k + 1) := by
  have e1 : (k + 1) % 2 = 1 - k % 2 := by omega
  have e2 : 1 - (1 - k % 2) = k % 2 := by omega
  have e3 : k + 1 - 2 = k - 1 := by omega
  have e4 : k + 1 - 1 = k := by omega
  have e5 : leaving c m2 m3 (cellAt sm (1 - k % 2)) H (2 ≤ k + 1) (k - 1) (1 - k % 2) = leaving c m2 m3 (cellAt sm (1 - k % 2)) H (1 ≤ k) (k - 1) (1 - k % 2) := by
    unfold leaving
    by_cases h : 1 ≤ k
    · rw [if_pos h, if_pos (by omega)]
    · rw [if_neg h, if_neg (by omega)]
  unfold Y0
  rw [e1, e2, e3, e4, e5]
  iintro ⟨⟨Hd, Hr, Hl⟩, Hv, Hs⟩
  isplitl [Hd]; · iexact Hd
  isplitl [Hr]; · iexact Hr
  isplitl [Hl]; · iexact Hl
  isplitl [Hs]
  · iexists _
    isplitr [Hs]
    · ipureintro; exact fun _ => rfl
    · iexact Hs
  · iexact Hv

theorem C_next (m2 : Memref sig .tc .hbm S12288x4096 .fp8e4m3) (m3 : Memref sig .tc .vmem S2x256x4096 .fp8e4m3) (sm : DmaSems sig S2) (H : ℕ → ℕ → Elt F .fp8e4m3) (k : ℕ) :
    (iprop((own (c : Thread nD τ) fullShare m2 (band 0 (256 * k)) (n2 H) ∗ rest (c : Thread nD τ) m2 (256 * (k + 1))
      ∗ flOut (c : Thread nD τ) EC () m2 m3 (cellAt sm (k % 2)) H k (k % 2)) ∗ semVal ((c : Thread nD τ), .dma (cellAt sm (1 - k % 2))) 0
      ∗ own (c : Thread nD τ) fullShare m3 (slot (1 - k % 2)) (n3 (tile H (nxt k)))) : sProp 𝕄) ⊢ C0 c m2 m3 sm H (k + 1) := by
  have e1 : (k + 1) % 2 = 1 - k % 2 := by omega
  have e2 : 1 - (1 - k % 2) = k % 2 := by omega
  have e4 : k + 1 - 1 = k := by omega
  have e5 : leaving c m2 m3 (cellAt sm (k % 2)) H (1 ≤ k + 1) k (k % 2) = _ := if_pos (by omega)
  unfold C0
  rw [e1, e2, e4, e5, show cur (k + 1) = nxt k from rfl]
  iintro ⟨⟨Hd, Hr, Hl⟩, Hv, Hs⟩
  isplitl [Hd]; · iexact Hd
  isplitl [Hr]; · iexact Hr
  isplitl [Hl]; · iexact Hl
  isplitl [Hs] <;> iassumption

theorem X_next (m2 : Memref sig .tc .hbm S12288x4096 .bf16) (m3 : Memref sig .tc .vmem S2x256x4096 .bf16) (sm : DmaSems sig S2) (H : ℕ → ℕ → Elt F .bf16) (k : ℕ) (hk : k < 48) :
    (iprop((own (c : Thread nD τ) fullShare m2 (Finset.univ \ (if k + 2 < 48 then win (k + 2) else ∅)) (n2 H)
      ∗ coming c m2 m3 (cellAt sm (k % 2)) H (k + 2 < 48) (k + 2) (cur k) (k % 2)) ∗ semVal ((c : Thread nD τ), .dma (cellAt sm (1 - k % 2))) 0
      ∗ own (c : Thread nD τ) fullShare m3 (slot (1 - k % 2)) (n3 (tile H (nxt k)))) : sProp 𝕄) ⊢ X0 c m2 m3 sm H (k + 1) := by
  have e1 : (k + 1) % 2 = 1 - k % 2 := by omega
  have e2 : 1 - (1 - k % 2) = k % 2 := by omega
  have e4 : k + 1 - 1 = k := by omega
  unfold X0
  rw [e1, e2, e4, show cur (k + 1) = nxt k from rfl, show cur k = k from if_pos hk]
  iintro ⟨⟨Hx, Hc⟩, Hv, Hs⟩
  isplitl [Hx]; · iexact Hx
  isplitl [Hc]; · iexact Hc
  isplitl [Hs] <;> iassumption

theorem Y2_open (m2 : Memref sig .tc .hbm S12288x5632 .bf16) (m3 : Memref sig .tc .vmem S2x256x5632 .bf16) (sm : DmaSems sig S2) (H : ℕ → ℕ → Elt F .bf16) (k : ℕ) :
    (Y2 c m2 m3 sm H k : sProp 𝕄) ⊢ iprop((own (c : Thread nD τ) fullShare m2 (band 0 (256 * (k - 1))) (n2 H) ∗ rest (c : Thread nD τ) m2 (256 * k)
      ∗ leaving c m2 m3 (cellAt sm (1 - k % 2)) H (1 ≤ k) (k - 1) (1 - k % 2))
      ∗ (part (c : Thread nD τ) m3 (slot (k % 2)) (cols (512 * 0)) (n3 (tile H k)) ∗ semVal ((c : Thread nD τ), .dma (cellAt sm (k % 2))) 0)) := by
  unfold Y2 idle
  iintro ⟨Hd, Hr, ⟨⟨%g, Hs⟩, Hv⟩, Hl⟩
  isplitl [Hd Hr Hl]
  · isplitl [Hd]; · iexact Hd
    isplitl [Hr] <;> iassumption
  isplitl [Hs]
  · iapply (part_start fun i _ hi => absurd hi (Nat.not_lt_zero _)) $$ Hs
  · iexact Hv

theorem C2_open (m2 : Memref sig .tc .hbm S12288x4096 .fp8e4m3) (m3 : Memref sig .tc .vmem S2x256x4096 .fp8e4m3) (sm : DmaSems sig S2) (H : ℕ → ℕ → Elt F .fp8e4m3) (k : ℕ) :
    (C2 c m2 m3 sm H k : sProp 𝕄) ⊢ iprop((own (c : Thread nD τ) fullShare m2 (band 0 (256 * k)) (n2 H) ∗ rest (c : Thread nD τ) m2 (256 * (k + 1))
      ∗ flOut (c : Thread nD τ) EC () m2 m3 (cellAt sm (k % 2)) H k (k % 2))
      ∗ (part (c : Thread nD τ) m3 (slot (1 - k % 2)) (rows (32 * 0)) (n3 (tile H (nxt k))) ∗ semVal ((c : Thread nD τ), .dma (cellAt sm (1 - k % 2))) 0)) := by
  unfold C2 idle
  iintro ⟨Hd, Hr, Hl, ⟨⟨%g, Hs⟩, Hv⟩⟩
  isplitl [Hd Hr Hl]
  · isplitl [Hd]; · iexact Hd
    isplitl [Hr] <;> iassumption
  isplitl [Hs]
  · iapply (part_start fun i _ hi => absurd hi (Nat.not_lt_zero _)) $$ Hs
  · iexact Hv

theorem X2_open (m2 : Memref sig .tc .hbm S12288x4096 .bf16) (m3 : Memref sig .tc .vmem S2x256x4096 .bf16) (sm : DmaSems sig S2) (H : ℕ → ℕ → Elt F .bf16) (k : ℕ) :
    (X2 c m2 m3 sm H k : sProp 𝕄) ⊢ iprop((own (c : Thread nD τ) fullShare m2 (Finset.univ \ (if k + 2 < 48 then win (k + 2) else ∅)) (n2 H)
      ∗ coming c m2 m3 (cellAt sm (k % 2)) H (k + 2 < 48) (k + 2) (cur k) (k % 2))
      ∗ (own (c : Thread nD τ) fullShare m3 (slot (1 - k % 2)) (n3 (tile H (nxt k))) ∗ semVal ((c : Thread nD τ), .dma (cellAt sm (1 - k % 2))) 0)) := by
  unfold X2
  iintro ⟨Hx, Hs, Hc⟩
  isplitl [Hx Hc]
  · isplitl [Hx] <;> iassumption
  iexact Hs

end

/-- What the main loop holds before trip `k`. -/
def mainInv (c : Dev nD) (arg0 : Memref sig .tc .hbm S12288x4096 .bf16) (arg3 : Memref sig .tc .hbm S12288x5632 .bf16) (arg4 : Memref sig .tc .hbm S12288x4096 .fp8e4m3)
    (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3)
    (arg9 : Memref sig .tc .vmem S2x256x4096 .bf16) (arg10 : Memref sig .tc .vmem S2x256x5632 .bf16) (arg14 arg15 arg16 : DmaSems sig S2) (X w : ℕ → ℕ → Elt F .bf16) (k : ℕ) : sProp 𝕄 :=
  iprop(Y0 c arg3 arg10 arg16 (yN (xwN X) w) k ∗ C0 c arg4 arg8 arg15 (codeN X) k ∗ X0 c arg0 arg7 arg14 X k ∗ OW (c : Thread nD τ)
    ∗ own (c : Thread nD τ) fullShare arg9 (slot (k % 2)) (n3 (tile (xwN X) (cur k))) ∗ (∃ g, own (c : Thread nD τ) fullShare arg9 (slot (1 - k % 2)) g)
    ∗ own (c : Thread nD τ) fullShare arg6 Finset.univ (n2 w) ∗ part (c : Thread nD τ) arg5 Finset.univ (doneS (min (k + 1) 48)) (sclA X))

theorem mainTrip (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (v480 : FVec F S32x128 .f32) (v605 : FVec F S32x128 .f32) (v730 : FVec F S32x128 .f32) (v855 : FVec F S32x128 .f32) (v980 : FVec F S32x128 .f32) (v1105 : FVec F S32x128 .f32) (v1230 : FVec F S32x128 .f32) (v1328 : FVec F S32x1 .f32) (v1347 : FVec F S32x4096 .bf16) (v1351 : Vec F S1x32x4096 .bf16) (k : Fin k0_t12_loop.trips) (X w : ℕ → ℕ → Elt F .bf16) :
    (mainInv c arg0 arg3 arg4 arg5 arg6 arg7 arg8 arg9 arg10 arg14 arg15 arg16 X w k.val : sProp 𝕄)
      ⊢ wp frame (wpE (defs₀ (F := F)) Variants.none (c : Thread nD τ) none) Set.univ (k0_t12_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351 k ())
          fun _ => mainInv c arg0 arg3 arg4 arg5 arg6 arg7 arg8 arg9 arg10 arg14 arg15 arg16 X w (k.val + 1) := by
  have hk : k.val < 48 := lt_of_lt_of_eq k.isLt (by decide)
  have e1 : (k.val + 1) % 2 = 1 - k.val % 2 := by omega
  have e2 : 1 - (1 - k.val % 2) = k.val % 2 := by omega
  rw [t12_body_eq, wp_bind]
  unfold mainInv
  rw [show cur k.val = k.val from if_pos hk, e1, e2, show cur (k.val + 1) = nxt k.val from rfl]
  iintro ⟨HY, HC, HX, HO, H9, ⟨%g9, H9'⟩, H6, H5⟩
  iapply (part12_wp c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k _ _ X (yN (xwN X) w) (codeN X)) $$ [HY HC HX HO]
  · isplitl [HY]; · iexact HY
    isplitl [HC]; · iexact HC
    isplitl [HX]; · iexact HX
    iexact HO
  iintro %v HY HC HX HO
  ihave HY' := (Y2_open c arg3 arg10 arg16 (yN (xwN X) w) k.val) $$ HY
  icases HY' with ⟨HYa, ⟨HYs, HYv⟩⟩
  ihave HC' := (C2_open c arg4 arg8 arg15 (codeN X) k.val) $$ HC
  icases HC' with ⟨HCa, ⟨HCs, HCv⟩⟩
  ihave HX' := (X2_open c arg0 arg7 arg14 X k.val) $$ HX
  icases HX' with ⟨HXa, ⟨HXs, HXv⟩⟩
  iapply (compute_wp c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k v.1 v.2.1 v.2.2.1 v.2.2.2.1 v.2.2.2.2 X w) $$ [HXs HCs H9' H9 H6 HYs H5]
  · isplitl [HXs]; · iexact HXs
    isplitl [HCs]; · iexact HCs
    isplitl [H9']
    · iapply (part_start fun i _ hi => absurd hi (Nat.not_lt_zero _)) $$ H9'
    isplitl [H9]; · iexact H9
    isplitl [H6]; · iexact H6
    isplitl [HYs]; · iexact HYs
    iexact H5
  iintro ⟨H7, H8, H9', H9, H6, H10, H5⟩
  isplitl [HYa HYv H10]
  · iapply (Y_next c arg3 arg10 arg16 (yN (xwN X) w) k.val)
    isplitl [HYa]; · iexact HYa
    isplitl [HYv] <;> iassumption
  isplitl [HCa HCv H8]
  · iapply (C_next c arg4 arg8 arg15 (codeN X) k.val)
    isplitl [HCa]; · iexact HCa
    isplitl [HCv] <;> iassumption
  isplitl [HXa HXv H7]
  · iapply (X_next c arg0 arg7 arg14 X k.val hk)
    isplitl [HXa]; · iexact HXa
    isplitl [HXv] <;> iassumption
  isplitl [HO]; · iexact HO
  isplitl [H9']; · iexact H9'
  isplitl [H9]
  · iexists _; iexact H9
  isplitl [H6]; · iexact H6
  iexact H5

theorem t12_trips : k0_t12_loop.trips = 48 := by decide

/-- The main loop. -/
theorem mainLoop (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (v480 : FVec F S32x128 .f32) (v605 : FVec F S32x128 .f32) (v730 : FVec F S32x128 .f32) (v855 : FVec F S32x128 .f32) (v980 : FVec F S32x128 .f32) (v1105 : FVec F S32x128 .f32) (v1230 : FVec F S32x128 .f32) (v1328 : FVec F S32x1 .f32) (v1347 : FVec F S32x4096 .bf16) (v1351 : Vec F S1x32x4096 .bf16) (X w : ℕ → ℕ → Elt F .bf16) {Q : Unit → sProp 𝕄} :
    (mainInv c arg0 arg3 arg4 arg5 arg6 arg7 arg8 arg9 arg10 arg14 arg15 arg16 X w 0 : sProp 𝕄)
      ⊢ iprop((mainInv c arg0 arg3 arg4 arg5 arg6 arg7 arg8 arg9 arg10 arg14 arg15 arg16 X w 48 -∗ Q ())
        -∗ wp frame (wpE (defs₀ (F := F)) Variants.none (c : Thread nD τ) none) Set.univ (Scf.Loop.for k0_t12_loop k0_t12_ok () (k0_t12_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351)) Q) := by
  iintro HI HQ
  iapply (Scf.wp_for frame _ Set.univ _ _ _ k0_t12_ok () _ (fun k _ => mainInv c arg0 arg3 arg4 arg5 arg6 arg7 arg8 arg9 arg10 arg14 arg15 arg16 X w k)
    (fun k _ => mainTrip c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351 k X w))
  isplitl [HI]; · iexact HI
  iintro %_ HI
  iapply HQ
  rw [show Scf.trips k0_t12_loop.lb k0_t12_loop.ub k0_t12_loop.st = 48 from t12_trips]
  iexact HI

end Cert.Proof.Kernel

end
-- ==== Proof.KernelChunks.lean ====
/-
  Rules for decoding the weights chunk by chunk: the loads of the scale bytes, the stores of the placed exponents, and a
  decode loop reading its chunk out of a slot.
-/
module

public import proofs.«01_k».proof.Proof.KernelTrips
public import proofs.«01_k».proof.Proof.KernelLoop

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

/-- Columns `256 n` on, for 256 columns. -/
def cw (n : ℕ) : Finset S4096x2816.Idx := sub2 (A := 4096) (B := 2816) 0 (256 * n) 4096 256

theorem cw_sub (n : ℕ) : cw (n + 1) ⊆ Finset.univ \ cw n := by
  intro i hi
  unfold cw at hi ⊢
  rw [Finset.mem_sdiff]
  refine ⟨Finset.mem_univ _, fun h => ?_⟩
  rw [mem_sub2] at hi h
  omega

theorem cw_sub' (n : ℕ) : cw n ⊆ Finset.univ \ cw (n + 1) := by
  intro i hi
  unfold cw at hi ⊢
  rw [Finset.mem_sdiff]
  refine ⟨Finset.mem_univ _, fun h => ?_⟩
  rw [mem_sub2] at hi h
  omega

theorem posChunk : 0 < (Sh2 4096 256).numel := by decide
theorem posScale : 0 < (S128x5632).numel := by decide

/-- Chunk `n` of the scale bytes. -/
def wsT (WS : ℕ → ℕ → Elt F .i8) (n : ℕ) : Vec F S128x256 .i8 := fun j => WS (j (0 : Fin 2)).val (256 * n + (j (1 : Fin 2)).val)

theorem expN_at (WS : ℕ → ℕ → Elt F .i8) (n : ℕ) (j : S128x256.Idx) : expN WS (j (0 : Fin 2)).val (256 * n + (j (1 : Fin 2)).val) = k0_pay137 (F := F) (wsT WS n) j := by
  obtain ⟨g, k, rfl⟩ : ∃ (g : Fin 128) (k : Fin 256), j = ix2 g k := ⟨_, _, eq_ix2 j⟩
  have hk := k.isLt
  have e1 : (256 * n + k.val) / 256 = n := by omega
  have e2 : Fin.ofNat 256 (256 * n + k.val) = k := ofNat_add n k
  have e3 : Fin.ofNat 128 g.val = g := Fin.ext (Nat.mod_eq_of_lt g.isLt)
  show expN WS g.val (256 * n + k.val) = _
  unfold expN wsT
  rw [e1, e2, e3]

section Rules

variable (c : Dev nD) {WS WP : ℕ → ℕ → Elt F .i8}

theorem ld_ws (n : ℕ) {cs : CoreSpace} {m : Memref sig .tc cs S128x5632 .i8} {off : Fin 2 → ℕ} {inb : ∀ a, off a + S128x256.size a ≤ S128x5632.size a}
    {hl : m.view.LoadsAt (Rect.unit (s := S128x5632) off S128x256.size inb).toLoadRect} {Q : Vec F S128x256 .i8 → sProp 𝕄} (ho : off = ![0, 256 * n]) :
    (own (c : Thread nD τ) fullShare m Finset.univ (n2 WS) : sProp 𝕄) ⊢ iprop((own (c : Thread nD τ) fullShare m Finset.univ (n2 WS) -∗ Q (wsT WS n))
      -∗ wp frame (wpE (defs₀ (F := F)) Variants.none (c : Thread nD τ) none) Set.univ (Prog.lift (.load m (Rect.unit (s := S128x5632) off S128x256.size inb).toLoadRect hl)) Q) := by
  iintro H HQ
  iapply (ld Variants.none _ none (Finset.subset_univ _)) $$ H
  iintro %v %hv H
  obtain rfl : v = wsT WS n := by
    rw [hv]; funext j; rw [n2_idx _ ho]; unfold wsT
    rw [Nat.zero_add]
  iapply HQ $$ H

/-- Nothing placed yet, and the low columns placed. -/
def ex0 (_ : S128x512.Idx) : Prop := False
def ex1 (i : S128x512.Idx) : Prop := (i (1 : Fin 2)).val < 256

/-- What the exponent buffer holds while chunk `n` is set up. -/
abbrev exA (m : Memref sig .tc .vmem S128x512 .i32) (P : S128x512.Idx → Prop) (WS : ℕ → ℕ → Elt F .i8) (n : ℕ) : sProp 𝕄 :=
  part (c : Thread nD τ) m Finset.univ P (n2 (expPair WS n))

theorem ld_ex {P : S128x512.Idx → Prop} {n : ℕ} {m : Memref sig .tc .vmem S128x512 .i32} {off : Fin 2 → ℕ} {inb : ∀ a, off a + S128x256.size a ≤ S128x512.size a}
    {hl : m.view.LoadsAt (Rect.unit (s := S128x512) off S128x256.size inb).toLoadRect} {Q : _ → sProp 𝕄} :
    (exA c m P WS n : sProp 𝕄) ⊢ iprop((∀ v, exA c m P WS n -∗ Q v)
      -∗ wp frame (wpE (defs₀ (F := F)) Variants.none (c : Thread nD τ) none) Set.univ (Prog.lift (.load m (Rect.unit (s := S128x512) off S128x256.size inb).toLoadRect hl)) Q) :=
  part_ld Variants.none none (Finset.subset_univ _)

theorem st_lo (n : ℕ) {m : Memref sig .tc .vmem S128x512 .i32} {off : Fin 2 → ℕ} {inb : ∀ a, off a + S128x256.size a ≤ S128x512.size a}
    {w : Vec F S128x256 .i32} {hx : (m.access (Rect.unit (s := S128x512) off S128x256.size inb)).Stores Finset.univ}
    {hm : Finset.univ = Finset.univ ∨ ∀ a, (Rect.unit (s := S128x512) off S128x256.size inb).stride a = 1} {Q : PUnit → sProp 𝕄}
    (ho : off = ![0, 0]) (hw : w = k0_pay137 (F := F) (wsT WS n)) :
    (exA c m ex0 WS n : sProp 𝕄) ⊢ iprop((exA c m ex1 WS n -∗ Q ⟨⟩)
      -∗ wp frame (wpE (defs₀ (F := F)) Variants.none (c : Thread nD τ) none) Set.univ (Prog.lift (.store m (Rect.unit (s := S128x512) off S128x256.size inb) w Finset.univ hx hm)) Q) := by
  refine part_st Variants.none none _ (Finset.subset_univ _) ?_ ?_
  · intro j _ hj hr
    refine absurd ?_ hr
    rw [mem_set2 ho rfl]
    unfold ex1 at hj
    have hb : (j (0 : Fin 2)).val < 128 := (j (0 : Fin 2)).isLt
    omega
  · intro j
    have hb : (j (1 : Fin 2)).val < 256 := (j (1 : Fin 2)).isLt
    rw [n2_emb _ ho, hw, Nat.zero_add, Nat.zero_add]; unfold expPair
    rw [if_pos hb, expN_at]

theorem st_hi (n : ℕ) {m : Memref sig .tc .vmem S128x512 .i32} {off : Fin 2 → ℕ} {inb : ∀ a, off a + S128x256.size a ≤ S128x512.size a}
    {w : Vec F S128x256 .i32} {hx : (m.access (Rect.unit (s := S128x512) off S128x256.size inb)).Stores Finset.univ}
    {hm : Finset.univ = Finset.univ ∨ ∀ a, (Rect.unit (s := S128x512) off S128x256.size inb).stride a = 1} {Q : PUnit → sProp 𝕄}
    (ho : off = ![0, 256]) (hw : w = k0_pay137 (F := F) (wsT WS (n + 11))) :
    (exA c m ex1 WS n : sProp 𝕄) ⊢ iprop((own (c : Thread nD τ) fullShare m Finset.univ (n2 (expPair WS n)) -∗ Q ⟨⟩)
      -∗ wp frame (wpE (defs₀ (F := F)) Variants.none (c : Thread nD τ) none) Set.univ (Prog.lift (.store m (Rect.unit (s := S128x512) off S128x256.size inb) w Finset.univ hx hm)) Q) := by
  iintro H HQ
  iapply (part_st Variants.none none (fun _ => True) (Finset.subset_univ _) ?_ ?_) $$ H
  · intro j _ _ hr
    by_contra hc
    refine hr ?_
    rw [mem_set2 ho rfl]
    unfold ex1 at hc
    have hb : (j (0 : Fin 2)).val < 128 := (j (0 : Fin 2)).isLt
    have hb' : (j (1 : Fin 2)).val < 512 := (j (1 : Fin 2)).isLt
    omega
  · intro j
    rw [n2_emb _ ho, hw, Nat.zero_add]; unfold expPair
    rw [if_neg (by omega), Nat.add_sub_cancel_left, expN_at]
  iintro H
  iapply HQ
  iapply (part_all fun _ _ => trivial) $$ H

/-- The loop that decodes chunk `n` out of slot `p`; afterwards the exponent buffer is free for the next chunk. -/
theorem chunkLoop {a6 : Memref sig .tc .vmem S4096x5632 .bf16} {a13 : Memref sig .tc .vmem S128x512 .i32} {m3 : Memref sig .tc .vmem S2x4096x256 .i8} {p : ℕ}
    {off3 : Fin 3 → ℕ} {inb3 : ∀ x, off3 x + (![1, 4096, 256] : Fin 3 → ℕ) x ≤ (Sh3 2 4096 256).size x} {h3 : ∀ x, (Rect.unit (s := Sh3 2 4096 256) off3 ![1, 4096, 256] inb3).stride x = 1}
    {hsq : (Sh3 1 4096 256).Squeezes (Sh2 4096 256)} (n : ℕ) (ho3 : off3 = ![p, 0, 0]) (hn : n < 11) (l : Scf.Loop 32) {hok : l.OK} (hl : l.trips = 128)
    {body : Fin l.trips → Unit → Prog (TpuEff nD τ sig (Elt F) Λ₀ .tc) Unit}
    (hb : ∀ k, IsTrip a6 a13 (Memref.squeeze (s := Sh3 1 4096 256) (m3.slice (Rect.unit off3 ![1, 4096, 256] inb3) h3) (Sh2 4096 256) hsq) n k.val (body k ()))
    {Q : Unit → sProp 𝕄} :
    (iprop(own (c : Thread nD τ) fullShare m3 (slot p) (n3 fun r k => WP r (256 * n + k)) ∗ own (c : Thread nD τ) fullShare a13 Finset.univ (n2 (expPair WS n))
      ∗ part (c : Thread nD τ) a6 Finset.univ (decoded n 0) (n2 (wN WP WS))) : sProp 𝕄)
    ⊢ iprop((own (c : Thread nD τ) fullShare m3 (slot p) (n3 fun r k => WP r (256 * n + k)) -∗ exA c a13 ex0 WS (n + 1)
        -∗ part (c : Thread nD τ) a6 Finset.univ (decoded (n + 1) 0) (n2 (wN WP WS)) -∗ Q ())
      -∗ wp frame (wpE (defs₀ (F := F)) Variants.none (c : Thread nD τ) none) Set.univ (Scf.Loop.for l hok () body) Q) := by
  iintro ⟨H3, HE, H6⟩ HQ
  ihave H3' := (slot_in ho3 inb3 h3 hsq (fun r k => WP r (256 * n + k))) $$ H3
  iapply (decLoop c n hn l hl hb) $$ [H3' HE H6]
  · unfold decInv
    isplitl [H3']; · iexact H3'
    isplitl [HE] <;> iassumption
  unfold decInv
  iintro ⟨H3, HE, H6⟩
  iapply HQ $$ [H3] [HE] [H6]
  · iapply (slot_out ho3 inb3 h3 hsq _) $$ H3
  · iapply (part_start fun _ _ h => h.elim) $$ HE
  · iapply (part_mono fun i _ h => ?_) $$ H6
    unfold decoded at h ⊢
    have hb : (i (0 : Fin 2)).val < 4096 := (i (0 : Fin 2)).isLt
    omega

end Rules

end Cert.Proof.Kernel

end
-- ==== Proof.KernelDecoding.lean ====
/-
  The kernel before its first tile: the scale bytes are copied, the packed weights are called chunk by chunk and decoded.
-/
module

public import proofs.«01_k».proof.Proof.KernelChunks

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

theorem OW_open (c : Dev nD) : (OW (c : Thread nD τ) : sProp 𝕄) ⊢ iprop(∃ W, owes (c : Thread nD τ) 0 W) := .rfl
theorem OW_close (c : Dev nD) : (iprop(∃ W, owes (c : Thread nD τ) 0 W) : sProp 𝕄) ⊢ OW (c : Thread nD τ) := .rfl
theorem win_sub1 : win 1 ⊆ Finset.univ \ win 0 := sub2_disj (show 256 * 0 + 256 ≤ 256 * 1 by omega)

/-- The kernel up to the last chunk's exponents, and the rest of it. -/
def decodeP (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)
    (K : Vec F S128x256 .i8 → Prog (TpuEff nD τ sig (Elt F) Λ₀ .tc) PUnit) : Prog (TpuEff nD τ sig (Elt F) Λ₀ .tc) PUnit := do
  k0_part37 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  k0_part38 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  k0_part39 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  k0_part40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  k0_part41 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let c0_i32_139 : BitVec 32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let v199 : IVec S128x256 32 ← k0_part43 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 c0_i32_139
  let v227 : IVec S128x256 32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v199
  let ⟨v253, v254⟩ : Σ' (v253 : IVec S128x256 32), IVec S128x256 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v227
  k0_part46 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v253 v254
  let v310 : IVec S128x256 32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let v340 : Vec F S128x256 .i8 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v310
  K v340

def tailP (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)
    (v340 : Vec F S128x256 .i8) : Prog (TpuEff nD τ sig (Elt F) Λ₀ .tc) PUnit := do
  let ⟨v357, v358, v379⟩ : Σ' (v357 : FVec F S32x4096 .bf16) (v358 : FVec F S32x4096 .bf16), FVec F S32x128 .bf16 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v340
  let ⟨v432, v433, v434⟩ : Σ' (v432 : IVec S32x256 1) (v433 : IVec S32x256 32), IVec S32x256 32 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v358 v379
  let ⟨v453, v472⟩ : Σ' (v453 : FVec F S32x1 .f32), FVec F S32x4096 .bf16 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v357 v432 v433 v434
  let ⟨v480, v482, v483, v530⟩ : Σ' (v480 : FVec F S32x128 .f32) (v482 : FVec F S32x4096 .bf16) (v483 : FVec F S32x4096 .bf16), FVec F S32x128 .bf16 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v453 v472
  let ⟨v573, v577⟩ : Σ' (v573 : IVec S32x1 32), IVec S32x1 32 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v483 v530
  let ⟨v605, v607, v608, v621⟩ : Σ' (v605 : FVec F S32x128 .f32) (v607 : FVec F S32x4096 .bf16) (v608 : FVec F S32x4096 .bf16), FVec F S32x128 .bf16 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v482 v573 v577
  let ⟨v676, v677, v678⟩ : Σ' (v676 : FVec F S32x1 .f32) (v677 : IVec S32x256 32), IVec S32x256 32 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v608 v621
  let ⟨v703, v719, v722⟩ : Σ' (v703 : FVec F S32x1 .f32) (v719 : FVec F S32x4096 .fp8e4m3), FVec F S32x4096 .bf16 ← k0_part56 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v607 v676 v677 v678
  let ⟨v730, v732, v733, v772⟩ : Σ' (v730 : FVec F S32x128 .f32) (v732 : FVec F S32x4096 .bf16) (v733 : FVec F S32x4096 .bf16), FVec F S32x128 .bf16 ← k0_part57 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v703 v719 v722
  let ⟨v816, v821, c0_i32_386⟩ : Σ' (v816 : IVec S32x1 32) (v821 : IVec S32x1 1), BitVec 32 ← k0_part58 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v733 v772
  let ⟨v855, v857, v858, v863⟩ : Σ' (v855 : FVec F S32x128 .f32) (v857 : FVec F S32x4096 .bf16) (v858 : FVec F S32x4096 .bf16), FVec F S32x128 .bf16 ← k0_part59 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v732 v816 v821 c0_i32_386
  let v922 : FVec F S32x128 .f32 ← k0_part60 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v858 v863
  let ⟨v953, v962, v966⟩ : Σ' (v953 : FVec F S32x1 .f32) (v962 : FVec F S32x1 .bf16), FVec F S32x4096 .bf16 ← k0_part61 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v857 v922
  let ⟨v980, v982, v983, v1014⟩ : Σ' (v980 : FVec F S32x128 .f32) (v982 : FVec F S32x4096 .bf16) (v983 : FVec F S32x4096 .bf16), FVec F S32x128 .bf16 ← k0_part62 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v953 v962 v966
  let ⟨v1064, v1066⟩ : Σ' (v1064 : IVec S32x1 32), IVec S32x1 32 ← k0_part63 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v983 v1014
  let v1105 : FVec F S32x128 .f32 ← k0_part64 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v982 v1064 v1066
  let ⟨v1107, v1108, v1165⟩ : Σ' (v1107 : FVec F S32x4096 .bf16) (v1108 : FVec F S32x4096 .bf16), FVec F S32x128 .bf16 ← k0_part65 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let ⟨v1203, v1209⟩ : Σ' (v1203 : FVec F S32x1 .f32), IVec S32x1 32 ← k0_part66 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1108 v1165
  let ⟨v1230, v1232, v1233, v1256⟩ : Σ' (v1230 : FVec F S32x128 .f32) (v1232 : FVec F S32x4096 .bf16) (v1233 : FVec F S32x4096 .bf16), FVec F S32x128 .bf16 ← k0_part67 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1107 v1203 v1209
  let v1310 : IVec S32x256 32 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1233 v1256
  let ⟨v1328, v1347, v1351⟩ : Σ' (v1328 : FVec F S32x1 .f32) (v1347 : FVec F S32x4096 .bf16), Vec F S1x32x4096 .bf16 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1232 v1310
  k0_part70 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351
  let v1381 : Memref sig .tc .vmem S1x256x5632 .bf16 := arg10.slice (Rect.unit (s := S2x256x5632) ![1, 0, 0] S1x256x5632.size inb_S2x256x5632_S1x256x5632_1_0_0) (fun _ => rfl)
  let v1382 : Memref sig .tc .vmem S256x5632 .bf16 := v1381.squeeze S256x5632 squeezes_S1x256x5632_S256x5632
  let v1378 : DmaSems sig S1 := arg16.slice (Rect.unit (s := S2) ![1] S1.size inb_S2_S1_1)
  let v1379 : DmaSems sig S_ := v1378.squeeze S_ squeezes_S1_S_
  let v1380 : Memref sig .tc .hbm S256x5632 .bf16 := arg3.slice (Rect.unit (s := S12288x5632) ![12032, 0] S256x5632.size inb_S12288x5632_S256x5632_12032_0) (fun _ => rfl)
  Prog.lift (.waitDma2 v1379.sem v1382 v1380 ((harg10.wordExact_slice rfl _ wordsbf16_S2x256x5632_S1x256x5632_1_0_0).reshape _ _) (harg3.wordExact_slice rfl _ wordsbf16_S12288x5632_S256x5632_12032_0))
  let v1383 : DmaSems sig S1 := arg15.slice (Rect.unit (s := S2) ![1] S1.size inb_S2_S1_1)
  let v1384 : DmaSems sig S_ := v1383.squeeze S_ squeezes_S1_S_
  let v1385 : Memref sig .tc .hbm S256x4096 .fp8e4m3 := arg4.slice (Rect.unit (s := S12288x4096) ![12032, 0] S256x4096.size inb_S12288x4096_S256x4096_12032_0) (fun _ => rfl)
  let v1386 : Memref sig .tc .vmem S1x256x4096 .fp8e4m3 := arg8.slice (Rect.unit (s := S2x256x4096) ![1, 0, 0] S1x256x4096.size inb_S2x256x4096_S1x256x4096_1_0_0) (fun _ => rfl)
  let v1387 : Memref sig .tc .vmem S256x4096 .fp8e4m3 := v1386.squeeze S256x4096 squeezes_S1x256x4096_S256x4096
  Prog.lift (.waitDma2 v1384.sem v1387 v1385 ((harg8.wordExact_slice rfl _ wordsfp8e4m3_S2x256x4096_S1x256x4096_1_0_0).reshape _ _) (harg4.wordExact_slice rfl _ wordsfp8e4m3_S12288x4096_S256x4096_12032_0))
  pure ⟨⟩

set_option maxRecDepth 65536 in
theorem body_eq (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) :
    cc0_mxfp4_matmul_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 = decodeP arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 (tailP arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18) := rfl

set_option maxRecDepth 65536 in
/-- Ten chunks decoded and the eleventh begun, two tiles of rows called. -/
theorem decode_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8)
    (K : Vec F S128x256 .i8 → Prog (TpuEff nD τ sig (Elt F) Λ₀ .tc) PUnit) (Q : PUnit → sProp 𝕄)
    (g6 : S4096x5632.Idx → Elt F .bf16) (g7 g7' : S2x256x4096.Idx → Elt F .bf16) (g11 g11' : S2x4096x256.Idx → Elt F .i8) (g12 : S128x5632.Idx → Elt F .i8) (g13 : S128x512.Idx → Elt F .i32) :
    iprop(own (c : Thread nD τ) fullShare arg0 Finset.univ (n2 X) ∗ own (c : Thread nD τ) fullShare arg1 Finset.univ (n2 WP) ∗ own (c : Thread nD τ) fullShare arg2 Finset.univ (n2 WS)
      ∗ own (c : Thread nD τ) fullShare arg6 Finset.univ g6 ∗ own (c : Thread nD τ) fullShare arg7 (slot 0) g7 ∗ own (c : Thread nD τ) fullShare arg7 (slot 1) g7'
      ∗ own (c : Thread nD τ) fullShare arg11 (slot 0) g11 ∗ own (c : Thread nD τ) fullShare arg11 (slot 1) g11'
      ∗ own (c : Thread nD τ) fullShare arg12 Finset.univ g12 ∗ own (c : Thread nD τ) fullShare arg13 Finset.univ g13
      ∗ semVal ((c : Thread nD τ), .dma (cellAt arg14 0)) 0 ∗ semVal ((c : Thread nD τ), .dma (cellAt arg14 1)) 0
      ∗ semVal ((c : Thread nD τ), .dma (cellAt arg17 0)) 0 ∗ semVal ((c : Thread nD τ), .dma (cellAt arg17 1)) 0
      ∗ semVal ((c : Thread nD τ), .dma arg18.sem) 0 ∗ OW (c : Thread nD τ))
    ⊢ iprop((own (c : Thread nD τ) fullShare arg0 ((Finset.univ \ win 0) \ win 1) (n2 X) -∗ own (c : Thread nD τ) fullShare arg1 Finset.univ (n2 WP) -∗ own (c : Thread nD τ) fullShare arg2 Finset.univ (n2 WS)
        -∗ part (c : Thread nD τ) arg6 Finset.univ (decoded 10 0) (n2 (wN WP WS))
        -∗ flIn (c : Thread nD τ) EC () arg0 arg7 (cellAt arg14 0) X 0 0 -∗ flIn (c : Thread nD τ) EC () arg0 arg7 (cellAt arg14 1) X 1 1
        -∗ own (c : Thread nD τ) fullShare arg11 (slot 0) (n3 fun r k => WP r (256 * 10 + k)) -∗ own (c : Thread nD τ) fullShare arg11 (slot 1) (n3 fun r k => WP r (256 * 9 + k))
        -∗ own (c : Thread nD τ) fullShare arg12 Finset.univ (n2 WS) -∗ exA c arg13 ex1 WS 10
        -∗ semVal ((c : Thread nD τ), .dma (cellAt arg17 0)) 0 -∗ semVal ((c : Thread nD τ), .dma (cellAt arg17 1)) 0
        -∗ semVal ((c : Thread nD τ), .dma arg18.sem) 0 -∗ OW (c : Thread nD τ)
        -∗ wp frame (wpE (defs₀ (F := F)) Variants.none (c : Thread nD τ) none) Set.univ (K (wsT WS 21)) Q)
      -∗ wp frame (wpE (defs₀ (F := F)) Variants.none (c : Thread nD τ) none) Set.univ (decodeP arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 K) Q) := by
  iintro ⟨HX, HA, HB, H6, H70, H71, S0, S1, HS, HE, X0, X1, V0, V1, VS, HO⟩ HQ
  ihave H6 := (part_start (P := decoded 0 0) (C := n2 (wN WP WS)) fun i _ h => h.elim (fun h => absurd h (Nat.not_lt_zero _)) fun h => absurd h.2 (Nat.not_lt_zero _)) $$ H6
  ihave HE := (part_start (P := ex0) (C := n2 (expPair WS 0)) fun i _ h => h.elim) $$ HE
  unfold decodeP
  simp only [wp_bind, wp_pure]
  rw [k0_part37_eq_skeleton]; unfold k0_part37_skel; simp only [wp_bind, wp_pure]
  iapply (all_in Variants.none _ none EC () posScale) $$ [HB HS VS]
  · isplitl [HB]; · iexact HB
    isplitl [HS]; · iexact HS
    iexact VS
  iintro FS
  iapply (chunk_send Variants.none _ none EC () (S := Finset.univ) 0 (cellAt arg17 0) (cellAt_eq rfl _ _) rfl rfl posChunk (Finset.subset_univ _)) $$ [S0 V0 HA]
  · isplitl [S0]; · iexact S0
    isplitl [V0]; · iexact V0
    iexact HA
  iintro F0 HA
  iapply (in_send Variants.none _ none EC () (S := Finset.univ) 0 (cellAt arg14 0) (cellAt_eq rfl _ _) rfl rfl pos4096 (Finset.subset_univ _)) $$ [H70 X0 HX]
  · isplitl [H70]; · iexact H70
    isplitl [X0]; · iexact X0
    iexact HX
  iintro G0 HX
  iapply (in_send Variants.none _ none EC () (S := Finset.univ \ win 0) 1 (cellAt arg14 1) (cellAt_eq rfl _ _) rfl rfl pos4096 win_sub1) $$ [H71 X1 HX]
  · isplitl [H71]; · iexact H71
    isplitl [X1]; · iexact X1
    iexact HX
  iintro G1 HX
  ihave HO := (OW_open c) $$ HO
  iapply (wt_at Variants.none _ none EC () arg18.sem rfl rfl) $$ [FS HO]
  · isplitl [FS] <;> iassumption
  iintro ⟨HS, HB⟩ VS HO
  ihave HO := (OW_close c) $$ HO
  iapply (chunk_send Variants.none _ none EC () (S := Finset.univ \ cw 0) 1 (cellAt arg17 1) (cellAt_eq rfl _ _) rfl rfl posChunk (cw_sub 0)) $$ [S1 V1 HA]
  · isplitl [S1]; · iexact S1
    isplitl [V1]; · iexact V1
    iexact HA
  iintro F1 HA
  imodintro
  rw [k0_part38_eq_skeleton]; unfold k0_part38_skel; simp only [wp_bind, wp_pure]
  iapply (chunk_wait Variants.none _ none EC () (S := Finset.univ \ cw 1) 0 (cellAt arg17 0) (cellAt_eq rfl _ _) credit_slot (cw_sub' 0) (sdiff_right_comm _ _ _)) $$ [F0 HA HO]
  · isplitl [F0]; · iexact F0
    isplitl [HA]; · iexact HA
    iexact HO
  iintro HA S0 V0 HO
  iapply (ld_ws c 0 rfl) $$ HS
  iintro HS
  iapply (ld_ex c) $$ HE
  iintro %_ HE
  iapply (st_lo c 0 rfl rfl) $$ HE
  iintro HE
  iapply (ld_ws c 11 rfl) $$ HS
  iintro HS
  iapply (ld_ex c) $$ HE
  iintro %_ HE
  iapply (st_hi c 0 rfl rfl) $$ HE
  iintro HE
  iapply (chunkLoop c 0 rfl (by decide) k0_t1_loop (by decide) (fun k => trip1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S0 HE H6]
  · isplitl [S0]; · iexact S0
    isplitl [HE] <;> iassumption
  iintro S0 HE H6
  iapply (chunk_send Variants.none _ none EC () (S := Finset.univ \ cw 1) 2 (cellAt arg17 0) (cellAt_eq rfl _ _) rfl rfl posChunk (cw_sub 1)) $$ [S0 V0 HA]
  · isplitl [S0]; · iexact S0
    isplitl [V0]; · iexact V0
    iexact HA
  iintro F0 HA
  imodintro
  rw [k0_part39_eq_skeleton]; unfold k0_part39_skel; simp only [wp_bind, wp_pure]
  iapply (chunk_wait Variants.none _ none EC () (S := Finset.univ \ cw 2) 1 (cellAt arg17 1) (cellAt_eq rfl _ _) credit_slot (cw_sub' 1) (sdiff_right_comm _ _ _)) $$ [F1 HA HO]
  · isplitl [F1]; · iexact F1
    isplitl [HA]; · iexact HA
    iexact HO
  iintro HA S1 V1 HO
  iapply (ld_ws c 1 rfl) $$ HS
  iintro HS
  iapply (ld_ex c) $$ HE
  iintro %_ HE
  iapply (st_lo c 1 rfl rfl) $$ HE
  iintro HE
  iapply (ld_ws c 12 rfl) $$ HS
  iintro HS
  iapply (ld_ex c) $$ HE
  iintro %_ HE
  iapply (st_hi c 1 rfl rfl) $$ HE
  iintro HE
  iapply (chunkLoop c 1 rfl (by decide) k0_t2_loop (by decide) (fun k => trip2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S1 HE H6]
  · isplitl [S1]; · iexact S1
    isplitl [HE] <;> iassumption
  iintro S1 HE H6
  iapply (chunk_send Variants.none _ none EC () (S := Finset.univ \ cw 2) 3 (cellAt arg17 1) (cellAt_eq rfl _ _) rfl rfl posChunk (cw_sub 2)) $$ [S1 V1 HA]
  · isplitl [S1]; · iexact S1
    isplitl [V1]; · iexact V1
    iexact HA
  iintro F1 HA
  imodintro
  rw [k0_part40_eq_skeleton]; unfold k0_part40_skel; simp only [wp_bind, wp_pure]
  iapply (chunk_wait Variants.none _ none EC () (S := Finset.univ \ cw 3) 2 (cellAt arg17 0) (cellAt_eq rfl _ _) credit_slot (cw_sub' 2) (sdiff_right_comm _ _ _)) $$ [F0 HA HO]
  · isplitl [F0]; · iexact F0
    isplitl [HA]; · iexact HA
    iexact HO
  iintro HA S0 V0 HO
  iapply (ld_ws c 2 rfl) $$ HS
  iintro HS
  iapply (ld_ex c) $$ HE
  iintro %_ HE
  iapply (st_lo c 2 rfl rfl) $$ HE
  iintro HE
  iapply (ld_ws c 13 rfl) $$ HS
  iintro HS
  iapply (ld_ex c) $$ HE
  iintro %_ HE
  iapply (st_hi c 2 rfl rfl) $$ HE
  iintro HE
  iapply (chunkLoop c 2 rfl (by decide) k0_t3_loop (by decide) (fun k => trip3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S0 HE H6]
  · isplitl [S0]; · iexact S0
    isplitl [HE] <;> iassumption
  iintro S0 HE H6
  imodintro
  rw [k0_part41_eq_skeleton]; unfold k0_part41_skel; simp only [wp_bind, wp_pure]
  iapply (chunk_send Variants.none _ none EC () (S := Finset.univ \ cw 3) 4 (cellAt arg17 0) (cellAt_eq rfl _ _) rfl rfl posChunk (cw_sub 3)) $$ [S0 V0 HA]
  · isplitl [S0]; · iexact S0
    isplitl [V0]; · iexact V0
    iexact HA
  iintro F0 HA
  iapply (chunk_wait Variants.none _ none EC () (S := Finset.univ \ cw 4) 3 (cellAt arg17 1) (cellAt_eq rfl _ _) credit_slot (cw_sub' 3) (sdiff_right_comm _ _ _)) $$ [F1 HA HO]
  · isplitl [F1]; · iexact F1
    isplitl [HA]; · iexact HA
    iexact HO
  iintro HA S1 V1 HO
  iapply (ld_ws c 3 rfl) $$ HS
  iintro HS
  iapply (ld_ex c) $$ HE
  iintro %_ HE
  iapply (st_lo c 3 rfl rfl) $$ HE
  iintro HE
  iapply (ld_ws c 14 rfl) $$ HS
  iintro HS
  iapply (ld_ex c) $$ HE
  iintro %_ HE
  iapply (st_hi c 3 rfl rfl) $$ HE
  iintro HE
  iapply (chunkLoop c 3 rfl (by decide) k0_t4_loop (by decide) (fun k => trip4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S1 HE H6]
  · isplitl [S1]; · iexact S1
    isplitl [HE] <;> iassumption
  iintro S1 HE H6
  imodintro
  rw [k0_part42_eq_skeleton]; unfold k0_part42_skel; simp only [wp_bind, wp_pure]
  iapply (chunk_send Variants.none _ none EC () (S := Finset.univ \ cw 4) 5 (cellAt arg17 1) (cellAt_eq rfl _ _) rfl rfl posChunk (cw_sub 4)) $$ [S1 V1 HA]
  · isplitl [S1]; · iexact S1
    isplitl [V1]; · iexact V1
    iexact HA
  iintro F1 HA
  iapply (chunk_wait Variants.none _ none EC () (S := Finset.univ \ cw 5) 4 (cellAt arg17 0) (cellAt_eq rfl _ _) credit_slot (cw_sub' 4) (sdiff_right_comm _ _ _)) $$ [F0 HA HO]
  · isplitl [F0]; · iexact F0
    isplitl [HA]; · iexact HA
    iexact HO
  iintro HA S0 V0 HO
  iapply (ld_ws c 4 rfl) $$ HS
  iintro HS
  iapply (ld_ex c) $$ HE
  iintro %_ HE
  iapply (st_lo c 4 rfl rfl) $$ HE
  iintro HE
  iapply (ld_ws c 15 rfl) $$ HS
  iintro HS
  iapply (ld_ex c) $$ HE
  iintro %_ HE
  iapply (st_hi c 4 rfl rfl) $$ HE
  iintro HE
  imodintro
  rw [k0_part43_eq_skeleton]; unfold k0_part43_skel; simp only [wp_bind, wp_pure]
  iapply (chunkLoop c 4 rfl (by decide) k0_t5_loop (by decide) (fun k => trip5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S0 HE H6]
  · isplitl [S0]; · iexact S0
    isplitl [HE] <;> iassumption
  iintro S0 HE H6
  iapply (chunk_send Variants.none _ none EC () (S := Finset.univ \ cw 5) 6 (cellAt arg17 0) (cellAt_eq rfl _ _) rfl rfl posChunk (cw_sub 5)) $$ [S0 V0 HA]
  · isplitl [S0]; · iexact S0
    isplitl [V0]; · iexact V0
    iexact HA
  iintro F0 HA
  iapply (chunk_wait Variants.none _ none EC () (S := Finset.univ \ cw 6) 5 (cellAt arg17 1) (cellAt_eq rfl _ _) credit_slot (cw_sub' 5) (sdiff_right_comm _ _ _)) $$ [F1 HA HO]
  · isplitl [F1]; · iexact F1
    isplitl [HA]; · iexact HA
    iexact HO
  iintro HA S1 V1 HO
  iapply (ld_ws c 5 rfl) $$ HS
  iintro HS
  iapply (ld_ex c) $$ HE
  iintro %_ HE
  iapply (st_lo c 5 rfl rfl) $$ HE
  iintro HE
  iapply (ld_ws c 16 rfl) $$ HS
  iintro HS
  iapply (ld_ex c) $$ HE
  iintro %_ HE
  imodintro
  rw [k0_part44_eq_skeleton]; unfold k0_part44_skel; simp only [wp_bind, wp_pure]
  iapply (st_hi c 5 rfl rfl) $$ HE
  iintro HE
  iapply (chunkLoop c 5 rfl (by decide) k0_t6_loop (by decide) (fun k => trip6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S1 HE H6]
  · isplitl [S1]; · iexact S1
    isplitl [HE] <;> iassumption
  iintro S1 HE H6
  iapply (chunk_send Variants.none _ none EC () (S := Finset.univ \ cw 6) 7 (cellAt arg17 1) (cellAt_eq rfl _ _) rfl rfl posChunk (cw_sub 6)) $$ [S1 V1 HA]
  · isplitl [S1]; · iexact S1
    isplitl [V1]; · iexact V1
    iexact HA
  iintro F1 HA
  iapply (chunk_wait Variants.none _ none EC () (S := Finset.univ \ cw 7) 6 (cellAt arg17 0) (cellAt_eq rfl _ _) credit_slot (cw_sub' 6) (sdiff_right_comm _ _ _)) $$ [F0 HA HO]
  · isplitl [F0]; · iexact F0
    isplitl [HA]; · iexact HA
    iexact HO
  iintro HA S0 V0 HO
  iapply (ld_ws c 6 rfl) $$ HS
  iintro HS
  iapply (ld_ex c) $$ HE
  iintro %_ HE
  iapply (st_lo c 6 rfl rfl) $$ HE
  iintro HE
  iapply (ld_ws c 17 rfl) $$ HS
  iintro HS
  imodintro
  rw [k0_part45_eq_skeleton]; unfold k0_part45_skel; simp only [wp_bind, wp_pure]
  iapply (ld_ex c) $$ HE
  iintro %_ HE
  iapply (st_hi c 6 rfl rfl) $$ HE
  iintro HE
  iapply (chunkLoop c 6 rfl (by decide) k0_t7_loop (by decide) (fun k => trip7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S0 HE H6]
  · isplitl [S0]; · iexact S0
    isplitl [HE] <;> iassumption
  iintro S0 HE H6
  iapply (chunk_send Variants.none _ none EC () (S := Finset.univ \ cw 7) 8 (cellAt arg17 0) (cellAt_eq rfl _ _) rfl rfl posChunk (cw_sub 7)) $$ [S0 V0 HA]
  · isplitl [S0]; · iexact S0
    isplitl [V0]; · iexact V0
    iexact HA
  iintro F0 HA
  iapply (chunk_wait Variants.none _ none EC () (S := Finset.univ \ cw 8) 7 (cellAt arg17 1) (cellAt_eq rfl _ _) credit_slot (cw_sub' 7) (sdiff_right_comm _ _ _)) $$ [F1 HA HO]
  · isplitl [F1]; · iexact F1
    isplitl [HA]; · iexact HA
    iexact HO
  iintro HA S1 V1 HO
  iapply (ld_ws c 7 rfl) $$ HS
  iintro HS
  iapply (ld_ex c) $$ HE
  iintro %_ HE
  iapply (st_lo c 7 rfl rfl) $$ HE
  iintro HE
  iapply (ld_ws c 18 rfl) $$ HS
  iintro HS
  imodintro
  rw [k0_part46_eq_skeleton]; unfold k0_part46_skel; simp only [wp_bind, wp_pure]
  iapply (ld_ex c) $$ HE
  iintro %_ HE
  iapply (st_hi c 7 rfl rfl) $$ HE
  iintro HE
  iapply (chunkLoop c 7 rfl (by decide) k0_t8_loop (by decide) (fun k => trip8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ _ k)) $$ [S1 HE H6]
  · isplitl [S1]; · iexact S1
    isplitl [HE] <;> iassumption
  iintro S1 HE H6
  iapply (chunk_send Variants.none _ none EC () (S := Finset.univ \ cw 8) 9 (cellAt arg17 1) (cellAt_eq rfl _ _) rfl rfl posChunk (cw_sub 8)) $$ [S1 V1 HA]
  · isplitl [S1]; · iexact S1
    isplitl [V1]; · iexact V1
    iexact HA
  iintro F1 HA
  iapply (chunk_wait Variants.none _ none EC () (S := Finset.univ \ cw 9) 8 (cellAt arg17 0) (cellAt_eq rfl _ _) credit_slot (cw_sub' 8) (sdiff_right_comm _ _ _)) $$ [F0 HA HO]
  · isplitl [F0]; · iexact F0
    isplitl [HA]; · iexact HA
    iexact HO
  iintro HA S0 V0 HO
  iapply (ld_ws c 8 rfl) $$ HS
  iintro HS
  iapply (ld_ex c) $$ HE
  iintro %_ HE
  iapply (st_lo c 8 rfl rfl) $$ HE
  iintro HE
  imodintro
  rw [k0_part47_eq_skeleton]; unfold k0_part47_skel; simp only [wp_bind, wp_pure]
  iapply (ld_ws c 19 rfl) $$ HS
  iintro HS
  iapply (ld_ex c) $$ HE
  iintro %_ HE
  iapply (st_hi c 8 rfl rfl) $$ HE
  iintro HE
  iapply (chunkLoop c 8 rfl (by decide) k0_t9_loop (by decide) (fun k => trip9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S0 HE H6]
  · isplitl [S0]; · iexact S0
    isplitl [HE] <;> iassumption
  iintro S0 HE H6
  iapply (chunk_send Variants.none _ none EC () (S := Finset.univ \ cw 9) 10 (cellAt arg17 0) (cellAt_eq rfl _ _) rfl rfl posChunk (cw_sub 9)) $$ [S0 V0 HA]
  · isplitl [S0]; · iexact S0
    isplitl [V0]; · iexact V0
    iexact HA
  iintro F0 HA
  iapply (chunk_wait Variants.none _ none EC () (S := Finset.univ \ cw 10) 9 (cellAt arg17 1) (cellAt_eq rfl _ _) credit_slot (cw_sub' 9) (sdiff_right_comm _ _ _)) $$ [F1 HA HO]
  · isplitl [F1]; · iexact F1
    isplitl [HA]; · iexact HA
    iexact HO
  iintro HA S1 V1 HO
  iapply (ld_ws c 9 rfl) $$ HS
  iintro HS
  imodintro
  rw [k0_part48_eq_skeleton]; unfold k0_part48_skel; simp only [wp_bind, wp_pure]
  iapply (ld_ex c) $$ HE
  iintro %_ HE
  iapply (st_lo c 9 rfl rfl) $$ HE
  iintro HE
  iapply (ld_ws c 20 rfl) $$ HS
  iintro HS
  iapply (ld_ex c) $$ HE
  iintro %_ HE
  iapply (st_hi c 9 rfl rfl) $$ HE
  iintro HE
  iapply (chunkLoop c 9 rfl (by decide) k0_t10_loop (by decide) (fun k => trip10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S1 HE H6]
  · isplitl [S1]; · iexact S1
    isplitl [HE] <;> iassumption
  iintro S1 HE H6
  iapply (chunk_wait Variants.none _ none EC () (S := Finset.univ) 10 (cellAt arg17 0) (cellAt_eq rfl _ _) credit_slot (Finset.subset_univ _) rfl) $$ [F0 HA HO]
  · isplitl [F0]; · iexact F0
    isplitl [HA]; · iexact HA
    iexact HO
  iintro HA S0 V0 HO
  iapply (ld_ws c 10 rfl) $$ HS
  iintro HS
  iapply (ld_ex c) $$ HE
  iintro %_ HE
  iapply (st_lo c 10 rfl rfl) $$ HE
  iintro HE
  iapply (ld_ws c 21 rfl) $$ HS
  iintro HS
  iapply HQ $$ HX HA HB H6 G0 G1 S0 S1 HS HE V0 V1 VS HO

end Cert.Proof.Kernel

end
-- ==== Proof.KernelEnds.lean ====
/-
  The kernel from its last chunk on: the first tile is quantised, the main loop runs, the last tiles are sent.
-/
module

public import proofs.«01_k».proof.Proof.KernelDecoding

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

theorem off56_eq : k0_off56 = ![0 / 6, 0, 256 * (0 % 6)] := by decide

theorem win_sub2 : win 0 ⊆ Finset.univ \ win 1 := fun i hi => by
  rw [Finset.mem_sdiff]
  refine ⟨Finset.mem_univ _, fun h => ?_⟩
  rw [mem_sub2] at hi h
  omega

section Ends

variable (c : Dev nD)

/-- An array not yet written: no rows done. -/
theorem no_rows {A B : ℕ} {e : EltTy} {m : Memref sig .tc .hbm (Sh2 A B) e} {g : (Sh2 A B).Idx → Elt F e} (H : ℕ → ℕ → Elt F e) :
    (own (c : Thread nD τ) fullShare m Finset.univ g : sProp 𝕄) ⊢ iprop(own (c : Thread nD τ) fullShare m (band 0 0) (n2 H) ∗ rest (c : Thread nD τ) m 0) := by
  unfold rest
  rw [band_all]
  iintro H
  ihave H' := (own_split (Finset.empty_subset Finset.univ)) $$ H
  icases H' with ⟨He, Hr⟩
  isplitl [He]
  · rw [band_nil le_rfl]
    iapply (own_congr fun i hi => absurd hi (Finset.notMem_empty i)) $$ He
  · rw [Finset.sdiff_empty]
    iexists g; iexact Hr

theorem all_rows {B : ℕ} {e : EltTy} {m : Memref sig .tc .hbm (Sh2 12288 B) e} {H : ℕ → ℕ → Elt F e} :
    (own (c : Thread nD τ) fullShare m (band 0 (256 * (47 + 1))) (n2 H) : sProp 𝕄) ⊢ own (c : Thread nD τ) fullShare m Finset.univ (n2 H) := by
  rw [show 256 * (47 + 1) = 12288 from rfl, band_all]

theorem all_scl {X : ℕ → ℕ → Elt F .bf16} {m : Memref sig .tc .vmem S8x1x1536 .f32} :
    (part (c : Thread nD τ) m Finset.univ (doneS 48) (sclA X) : sProp 𝕄) ⊢ own (c : Thread nD τ) fullShare m Finset.univ (sclA X) := by
  refine part_all fun i _ => ?_
  have h0 : (i (0 : Fin 3)).val < 8 := (i (0 : Fin 3)).isLt
  have h2 : (i (2 : Fin 3)).val < 1536 := (i (2 : Fin 3)).isLt
  unfold doneS
  omega

theorem part_any {s : Shape} {e : EltTy} {sp : Space} {m : Memref sig .tc sp s e} {P : s.Idx → Prop} {G : s.Idx → Elt F e} :
    (part (c : Thread nD τ) m Finset.univ P G : sProp 𝕄) ⊢ iprop(∃ g, own (c : Thread nD τ) fullShare m Finset.univ g) := by
  unfold part
  iintro ⟨%g, %_, H⟩
  iexists g; iexact H

theorem weights_all {m : Memref sig .tc .vmem S4096x5632 .bf16} {w : ℕ → ℕ → Elt F .bf16} :
    (part (c : Thread nD τ) m Finset.univ (decoded (10 + 1) 0) (n2 w) : sProp 𝕄) ⊢ own (c : Thread nD τ) fullShare m Finset.univ (n2 w) := by
  refine part_all fun i _ => ?_
  unfold decoded
  omega

/-- The main loop may start. -/
theorem main_start (arg0 : Memref sig .tc .hbm S12288x4096 .bf16) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg14 : DmaSems sig S2) (arg15 : DmaSems sig S2) (arg16 : DmaSems sig S2) (X w : ℕ → ℕ → Elt F .bf16)
    (g3 : S12288x5632.Idx → Elt F .bf16) (g4 : S12288x4096.Idx → Elt F .fp8e4m3) (g8' : S2x256x4096.Idx → Elt F .fp8e4m3)
    (g9' : S2x256x4096.Idx → Elt F .bf16) (g10 g10' : S2x256x5632.Idx → Elt F .bf16) :
    (iprop(own (c : Thread nD τ) fullShare arg0 (Finset.univ \ win 1) (n2 X) ∗ flIn (c : Thread nD τ) EC () arg0 arg7 (cellAt arg14 1) X 1 1 ∗ own (c : Thread nD τ) fullShare arg7 (slot 0) (n3 (tile X 0)) ∗ semVal ((c : Thread nD τ), .dma (cellAt arg14 0)) 0 ∗ own (c : Thread nD τ) fullShare arg3 Finset.univ g3 ∗ own (c : Thread nD τ) fullShare arg10 (slot 0) g10 ∗ own (c : Thread nD τ) fullShare arg10 (slot 1) g10' ∗ semVal ((c : Thread nD τ), .dma (cellAt arg16 0)) 0 ∗ semVal ((c : Thread nD τ), .dma (cellAt arg16 1)) 0 ∗ own (c : Thread nD τ) fullShare arg4 Finset.univ g4 ∗ part (c : Thread nD τ) arg8 (slot 0) (rows (32 * 8)) (n3 (tile (codeN X) 0)) ∗ own (c : Thread nD τ) fullShare arg8 (slot 1) g8' ∗ semVal ((c : Thread nD τ), .dma (cellAt arg15 0)) 0 ∗ semVal ((c : Thread nD τ), .dma (cellAt arg15 1)) 0 ∗ part (c : Thread nD τ) arg9 (slot 0) (rows (32 * 8)) (n3 (tile (xwN X) 0)) ∗ own (c : Thread nD τ) fullShare arg9 (slot 1) g9' ∗ own (c : Thread nD τ) fullShare arg6 Finset.univ (n2 w) ∗ part (c : Thread nD τ) arg5 Finset.univ (doneS 1) (sclA X) ∗ OW (c : Thread nD τ)) : sProp 𝕄) ⊢ mainInv c arg0 arg3 arg4 arg5 arg6 arg7 arg8 arg9 arg10 arg14 arg15 arg16 X w 0 := by
  have e1 : leaving c arg3 arg10 (cellAt arg16 0) (yN (xwN X) w) (2 ≤ 0) (0 - 2) 0 = _ := if_neg (by decide)
  have e2 : leaving c arg4 arg8 (cellAt arg15 1) (codeN X) (1 ≤ 0) (0 - 1) 1 = _ := if_neg (by decide)
  have e3 : coming c arg0 arg7 (cellAt arg14 1) X (0 + 1 < 48) (0 + 1) (0 - 1) 1 = _ := if_pos (by decide)
  unfold mainInv Y0 C0 X0
  rw [show 0 % 2 = 0 from rfl, show 1 - 0 = 1 from rfl, show cur 0 = 0 from rfl, e1, e2, e3, if_pos (show 0 + 1 < 48 by decide), show min (0 + 1) 48 = 1 from rfl]
  unfold idle
  iintro ⟨HX, G1, H7, X0, H3, H10, H101, Y0, Y1, H4, H8, H81, C0, C1, H9, H91, H6, H5, HO⟩
  ihave H3' := (no_rows c (yN (xwN X) w)) $$ H3
  icases H3' with ⟨H3, H3r⟩
  ihave H4' := (no_rows c (codeN X)) $$ H4
  icases H4' with ⟨H4, H4r⟩
  isplitl [H3 H3r H10 H101 Y0 Y1]
  · isplitl [H3]; · iexact H3
    isplitl [H3r]; · iexact H3r
    isplitl [H10 Y0]
    · isplitl [H10]
      · iexists _; iexact H10
      · iexact Y0
    isplitl [H101]
    · iexists g10'
      isplitr [H101]
      · ipureintro; exact fun h => absurd h (by decide)
      · iexact H101
    · iexact Y1
  isplitl [H4 H4r H8 H81 C0 C1]
  · isplitl [H4]; · iexact H4
    isplitl [H4r]; · iexact H4r
    isplitl [H81 C1]
    · isplitl [H81]
      · iexists _; iexact H81
      · iexact C1
    isplitl [H8]
    · iapply (part_all fun i _ => show (i (1 : Fin 3)).val < 256 from (i (1 : Fin 3)).isLt) $$ H8
    · iexact C0
  isplitl [HX G1 H7 X0]
  · isplitl [HX]; · iexact HX
    isplitl [G1]; · iexact G1
    isplitl [H7] <;> iassumption
  isplitl [HO]; · iexact HO
  isplitl [H9]
  · iapply (part_all fun i _ => show (i (1 : Fin 3)).val < 256 from (i (1 : Fin 3)).isLt) $$ H9
  isplitl [H91]
  · iexists _; iexact H91
  isplitl [H6] <;> iassumption

/-- What the main loop leaves. -/
theorem main_end (arg0 : Memref sig .tc .hbm S12288x4096 .bf16) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg14 : DmaSems sig S2) (arg15 : DmaSems sig S2) (arg16 : DmaSems sig S2) (X w : ℕ → ℕ → Elt F .bf16) :
    (mainInv c arg0 arg3 arg4 arg5 arg6 arg7 arg8 arg9 arg10 arg14 arg15 arg16 X w 48 : sProp 𝕄) ⊢ iprop(own (c : Thread nD τ) fullShare arg0 Finset.univ (n2 X) ∗ (∃ g, own (c : Thread nD τ) fullShare arg7 (slot 0) g) ∗ semVal ((c : Thread nD τ), .dma (cellAt arg14 0)) 0 ∗ (∃ g, own (c : Thread nD τ) fullShare arg7 (slot 1) g) ∗ semVal ((c : Thread nD τ), .dma (cellAt arg14 1)) 0 ∗ own (c : Thread nD τ) fullShare arg3 (band 0 (256 * 46)) (n2 (yN (xwN X) w)) ∗ rest (c : Thread nD τ) arg3 (256 * 47) ∗ flOut (c : Thread nD τ) EC () arg3 arg10 (cellAt arg16 0) (yN (xwN X) w) 46 0 ∗ own (c : Thread nD τ) fullShare arg10 (slot 1) (n3 (tile (yN (xwN X) w) 47)) ∗ semVal ((c : Thread nD τ), .dma (cellAt arg16 1)) 0 ∗ own (c : Thread nD τ) fullShare arg4 (band 0 (256 * 47)) (n2 (codeN X)) ∗ flOut (c : Thread nD τ) EC () arg4 arg8 (cellAt arg15 1) (codeN X) 47 1 ∗ own (c : Thread nD τ) fullShare arg8 (slot 0) (n3 (tile (codeN X) 46)) ∗ semVal ((c : Thread nD τ), .dma (cellAt arg15 0)) 0 ∗ own (c : Thread nD τ) fullShare arg9 (slot 0) (n3 (tile (xwN X) 46)) ∗ (∃ g, own (c : Thread nD τ) fullShare arg9 (slot 1) g) ∗ own (c : Thread nD τ) fullShare arg6 Finset.univ (n2 w) ∗ part (c : Thread nD τ) arg5 Finset.univ (doneS 48) (sclA X) ∗ OW (c : Thread nD τ)) := by
  have e1 : leaving c arg3 arg10 (cellAt arg16 0) (yN (xwN X) w) (2 ≤ 48) (48 - 2) 0 = _ := if_pos (by decide)
  have e2 : leaving c arg4 arg8 (cellAt arg15 1) (codeN X) (1 ≤ 48) (48 - 1) 1 = _ := if_pos (by decide)
  have e3 : coming c arg0 arg7 (cellAt arg14 1) X (48 + 1 < 48) (48 + 1) (48 - 1) 1 = _ := if_neg (by decide)
  unfold mainInv Y0 C0 X0
  rw [show 48 % 2 = 0 from rfl, show 1 - 0 = 1 from rfl, show cur 48 = 46 from rfl, e1, e2, e3, if_neg (show ¬ 48 + 1 < 48 by decide), Finset.sdiff_empty, show min (48 + 1) 48 = 48 from rfl]
  iintro ⟨⟨H3, HR, HF, ⟨%g, %hg, HT⟩, Y1⟩, ⟨H4, _, HG, H80, C0⟩, ⟨HX, ⟨H71, X1⟩, H70, X0⟩, HO, H90, H91, H6, H5⟩
  obtain rfl := hg (by decide)
  isplitl [HX]; · iexact HX
  isplitl [H70]
  · iexists _; iexact H70
  isplitl [X0]; · iexact X0
  isplitl [H71]
  · iexists _; iexact H71
  isplitl [X1]; · iexact X1
  isplitl [H3]; · iexact H3
  isplitl [HR]; · iexact HR
  isplitl [HF]; · iexact HF
  isplitl [HT]; · iexact HT
  isplitl [Y1]; · iexact Y1
  isplitl [H4]; · iexact H4
  isplitl [HG]; · iexact HG
  isplitl [H80]; · iexact H80
  isplitl [C0]; · iexact C0
  isplitl [H90]; · iexact H90
  isplitl [H91]; · iexact H91
  isplitl [H6]; · iexact H6
  isplitl [H5] <;> iassumption

end Ends

/-- What is held when the kernel returns: the results written, the inputs as they were, everything else in any state. -/
def bodyPost (c : Dev nD) (arg0 : Memref sig .tc .hbm S12288x4096 .bf16) (arg1 : Memref sig .tc .hbm S4096x2816 .i8) (arg2 : Memref sig .tc .hbm S128x5632 .i8) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg11 : Memref sig .tc .vmem S2x4096x256 .i8) (arg12 : Memref sig .tc .vmem S128x5632 .i8) (arg13 : Memref sig .tc .vmem S128x512 .i32) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) : sProp 𝕄 :=
  iprop(own (c : Thread nD τ) fullShare arg0 Finset.univ (n2 X) ∗ own (c : Thread nD τ) fullShare arg1 Finset.univ (n2 WP) ∗ own (c : Thread nD τ) fullShare arg2 Finset.univ (n2 WS) ∗ own (c : Thread nD τ) fullShare arg3 Finset.univ (n2 (yN (xwN X) (wN WP WS))) ∗ own (c : Thread nD τ) fullShare arg4 Finset.univ (n2 (codeN X)) ∗ own (c : Thread nD τ) fullShare arg5 Finset.univ (sclA X) ∗ (∃ g, own (c : Thread nD τ) fullShare arg6 Finset.univ g) ∗ (∃ g, own (c : Thread nD τ) fullShare arg7 (slot 0) g) ∗ (∃ g, own (c : Thread nD τ) fullShare arg7 (slot 1) g) ∗ (∃ g, own (c : Thread nD τ) fullShare arg8 (slot 0) g) ∗ (∃ g, own (c : Thread nD τ) fullShare arg8 (slot 1) g) ∗ (∃ g, own (c : Thread nD τ) fullShare arg9 (slot 0) g) ∗ (∃ g, own (c : Thread nD τ) fullShare arg9 (slot 1) g) ∗ (∃ g, own (c : Thread nD τ) fullShare arg10 (slot 0) g) ∗ (∃ g, own (c : Thread nD τ) fullShare arg10 (slot 1) g) ∗ (∃ g, own (c : Thread nD τ) fullShare arg11 (slot 0) g) ∗ (∃ g, own (c : Thread nD τ) fullShare arg11 (slot 1) g) ∗ (∃ g, own (c : Thread nD τ) fullShare arg12 Finset.univ g) ∗ (∃ g, own (c : Thread nD τ) fullShare arg13 Finset.univ g) ∗ semVal ((c : Thread nD τ), .dma (cellAt arg14 0)) 0 ∗ semVal ((c : Thread nD τ), .dma (cellAt arg14 1)) 0 ∗ semVal ((c : Thread nD τ), .dma (cellAt arg15 0)) 0 ∗ semVal ((c : Thread nD τ), .dma (cellAt arg15 1)) 0 ∗ semVal ((c : Thread nD τ), .dma (cellAt arg16 0)) 0 ∗ semVal ((c : Thread nD τ), .dma (cellAt arg16 1)) 0 ∗ semVal ((c : Thread nD τ), .dma (cellAt arg17 0)) 0 ∗ semVal ((c : Thread nD τ), .dma (cellAt arg17 1)) 0 ∗ semVal ((c : Thread nD τ), .dma arg18.sem) 0 ∗ OW (c : Thread nD τ))

set_option maxRecDepth 65536 in
/-- From the last chunk's exponents on. -/
theorem tail_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) (Q : PUnit → sProp 𝕄)
    (g3 : S12288x5632.Idx → Elt F .bf16) (g4 : S12288x4096.Idx → Elt F .fp8e4m3) (g5 : S8x1x1536.Idx → Elt F .f32) (g8 g8' : S2x256x4096.Idx → Elt F .fp8e4m3)
    (g9 g9' : S2x256x4096.Idx → Elt F .bf16) (g10 g10' : S2x256x5632.Idx → Elt F .bf16) :
    iprop(own (c : Thread nD τ) fullShare arg0 ((Finset.univ \ win 0) \ win 1) (n2 X) ∗ own (c : Thread nD τ) fullShare arg1 Finset.univ (n2 WP) ∗ own (c : Thread nD τ) fullShare arg2 Finset.univ (n2 WS) ∗ part (c : Thread nD τ) arg6 Finset.univ (decoded 10 0) (n2 (wN WP WS)) ∗ flIn (c : Thread nD τ) EC () arg0 arg7 (cellAt arg14 0) X 0 0 ∗ flIn (c : Thread nD τ) EC () arg0 arg7 (cellAt arg14 1) X 1 1 ∗ own (c : Thread nD τ) fullShare arg11 (slot 0) (n3 fun r k => WP r (256 * 10 + k)) ∗ own (c : Thread nD τ) fullShare arg11 (slot 1) (n3 fun r k => WP r (256 * 9 + k)) ∗ own (c : Thread nD τ) fullShare arg12 Finset.univ (n2 WS) ∗ exA c arg13 ex1 WS 10 ∗ semVal ((c : Thread nD τ), .dma (cellAt arg17 0)) 0 ∗ semVal ((c : Thread nD τ), .dma (cellAt arg17 1)) 0 ∗ semVal ((c : Thread nD τ), .dma arg18.sem) 0 ∗ OW (c : Thread nD τ) ∗ own (c : Thread nD τ) fullShare arg3 Finset.univ g3 ∗ own (c : Thread nD τ) fullShare arg4 Finset.univ g4 ∗ own (c : Thread nD τ) fullShare arg5 Finset.univ g5 ∗ own (c : Thread nD τ) fullShare arg8 (slot 0) g8 ∗ own (c : Thread nD τ) fullShare arg8 (slot 1) g8' ∗ own (c : Thread nD τ) fullShare arg9 (slot 0) g9 ∗ own (c : Thread nD τ) fullShare arg9 (slot 1) g9' ∗ own (c : Thread nD τ) fullShare arg10 (slot 0) g10 ∗ own (c : Thread nD τ) fullShare arg10 (slot 1) g10' ∗ semVal ((c : Thread nD τ), .dma (cellAt arg15 0)) 0 ∗ semVal ((c : Thread nD τ), .dma (cellAt arg15 1)) 0 ∗ semVal ((c : Thread nD τ), .dma (cellAt arg16 0)) 0 ∗ semVal ((c : Thread nD τ), .dma (cellAt arg16 1)) 0)
    ⊢ iprop((bodyPost c arg0 arg1 arg2 arg3 arg4 arg5 arg6 arg7 arg8 arg9 arg10 arg11 arg12 arg13 arg14 arg15 arg16 arg17 arg18 X WP WS -∗ Q ⟨⟩)
      -∗ wp frame (wpE (defs₀ (F := F)) Variants.none (c : Thread nD τ) none) Set.univ (tailP arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 (wsT WS 21)) Q) := by
  iintro ⟨HX, HA, HB, H6, G0, G1, S0, S1, HS, HE, V0, V1, VS, HO, H3, H4, H5, H8, H81, H9, H91, H10, H101, C0, C1, Y0, Y1⟩ HQ
  ihave H5 := (part_start (P := doneS 0) (C := sclA X) fun i _ h => absurd h (Nat.not_lt_zero _)) $$ H5
  ihave H8 := (part_start (P := rows (32 * 0)) (C := n3 (tile (codeN X) 0)) fun i _ h => absurd h (Nat.not_lt_zero _)) $$ H8
  ihave H9 := (part_start (P := rows (32 * 0)) (C := n3 (tile (xwN X) 0)) fun i _ h => absurd h (Nat.not_lt_zero _)) $$ H9
  unfold tailP
  simp only [wp_bind, wp_pure]
  rw [k0_part49_eq_skeleton]; unfold k0_part49_skel; simp only [wp_bind, wp_pure]
  iapply (ld_ex c) $$ HE
  iintro %_ HE
  iapply (st_hi c 10 rfl rfl) $$ HE
  iintro HE
  iapply (chunkLoop c 10 rfl (by decide) k0_t11_loop (by decide) (fun k => trip11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S0 HE H6]
  · isplitl [S0]; · iexact S0
    isplitl [HE] <;> iassumption
  iintro S0 HE H6
  ihave H6 := (weights_all c) $$ H6
  iapply (in_wait Variants.none _ none EC () (S := Finset.univ \ win 1) 0 (cellAt arg14 0) (cellAt_eq rfl _ _) credit_slot win_sub2 (sdiff_right_comm _ _ _)) $$ [G0 HX HO]
  · isplitl [G0]; · iexact G0
    isplitl [HX]; · iexact HX
    iexact HO
  iintro HX H7 X0 HO
  iapply (ld_blk 0 0 rfl) $$ H7
  iintro H7
  imodintro
  rw [k0_part50_eq_skeleton]; unfold k0_part50_skel; simp only [wp_bind, wp_pure]
  imodintro
  rw [k0_part51_eq_skeleton]; unfold k0_part51_skel; simp only [wp_bind, wp_pure]
  iapply (ld_any (p := 0) (a := 0) (b := 0) rfl rfl) $$ H8
  iintro %_ H8
  iapply (st_rows 0 0 rfl (codeN_at X (8 * 0 + 0))) $$ H8
  iintro H8
  imodintro
  rw [k0_part52_eq_skeleton]; unfold k0_part52_skel; simp only [wp_bind, wp_pure]
  iapply (ld_any (p := 0) (a := 0) (b := 0) rfl rfl) $$ H9
  iintro %_ H9
  iapply (st_rows 0 0 rfl (xwN_at X (8 * 0 + 0))) $$ H9
  iintro H9
  iapply (ld_blk 0 1 rfl) $$ H7
  iintro H7
  imodintro
  rw [k0_part53_eq_skeleton]; unfold k0_part53_skel; simp only [wp_bind, wp_pure]
  imodintro
  rw [k0_part54_eq_skeleton]; unfold k0_part54_skel; simp only [wp_bind, wp_pure]
  iapply (ld_any (p := 0) (a := 32) (b := 0) rfl rfl) $$ H8
  iintro %_ H8
  iapply (st_rows 0 1 rfl (codeN_at X (8 * 0 + 1))) $$ H8
  iintro H8
  iapply (ld_any (p := 0) (a := 32) (b := 0) rfl rfl) $$ H9
  iintro %_ H9
  iapply (st_rows 0 1 rfl (xwN_at X (8 * 0 + 1))) $$ H9
  iintro H9
  iapply (ld_blk 0 2 rfl) $$ H7
  iintro H7
  imodintro
  rw [k0_part55_eq_skeleton]; unfold k0_part55_skel; simp only [wp_bind, wp_pure]
  imodintro
  rw [k0_part56_eq_skeleton]; unfold k0_part56_skel; simp only [wp_bind, wp_pure]
  imodintro
  rw [k0_part57_eq_skeleton]; unfold k0_part57_skel; simp only [wp_bind, wp_pure]
  iapply (ld_any (p := 0) (a := 64) (b := 0) rfl rfl) $$ H8
  iintro %_ H8
  iapply (st_rows 0 2 rfl (codeN_at X (8 * 0 + 2))) $$ H8
  iintro H8
  iapply (ld_any (p := 0) (a := 64) (b := 0) rfl rfl) $$ H9
  iintro %_ H9
  iapply (st_rows 0 2 rfl (xwN_at X (8 * 0 + 2))) $$ H9
  iintro H9
  iapply (ld_blk 0 3 rfl) $$ H7
  iintro H7
  imodintro
  rw [k0_part58_eq_skeleton]; unfold k0_part58_skel; simp only [wp_bind, wp_pure]
  imodintro
  rw [k0_part59_eq_skeleton]; unfold k0_part59_skel; simp only [wp_bind, wp_pure]
  iapply (ld_any (p := 0) (a := 96) (b := 0) rfl rfl) $$ H8
  iintro %_ H8
  iapply (st_rows 0 3 rfl (codeN_at X (8 * 0 + 3))) $$ H8
  iintro H8
  iapply (ld_any (p := 0) (a := 96) (b := 0) rfl rfl) $$ H9
  iintro %_ H9
  iapply (st_rows 0 3 rfl (xwN_at X (8 * 0 + 3))) $$ H9
  iintro H9
  iapply (ld_blk 0 4 rfl) $$ H7
  iintro H7
  imodintro
  rw [k0_part60_eq_skeleton]; unfold k0_part60_skel; simp only [wp_bind, wp_pure]
  imodintro
  rw [k0_part61_eq_skeleton]; unfold k0_part61_skel; simp only [wp_bind, wp_pure]
  imodintro
  rw [k0_part62_eq_skeleton]; unfold k0_part62_skel; simp only [wp_bind, wp_pure]
  iapply (ld_any (p := 0) (a := 128) (b := 0) rfl rfl) $$ H8
  iintro %_ H8
  iapply (st_rows 0 4 rfl (codeN_at X (8 * 0 + 4))) $$ H8
  iintro H8
  iapply (ld_any (p := 0) (a := 128) (b := 0) rfl rfl) $$ H9
  iintro %_ H9
  iapply (st_rows 0 4 rfl (xwN_at X (8 * 0 + 4))) $$ H9
  iintro H9
  iapply (ld_blk 0 5 rfl) $$ H7
  iintro H7
  imodintro
  rw [k0_part63_eq_skeleton]; unfold k0_part63_skel; simp only [wp_bind, wp_pure]
  imodintro
  rw [k0_part64_eq_skeleton]; unfold k0_part64_skel; simp only [wp_bind, wp_pure]
  iapply (ld_any (p := 0) (a := 160) (b := 0) rfl rfl) $$ H8
  iintro %_ H8
  iapply (st_rows 0 5 rfl (codeN_at X (8 * 0 + 5))) $$ H8
  iintro H8
  iapply (ld_any (p := 0) (a := 160) (b := 0) rfl rfl) $$ H9
  iintro %_ H9
  iapply (st_rows 0 5 rfl (xwN_at X (8 * 0 + 5))) $$ H9
  iintro H9
  imodintro
  rw [k0_part65_eq_skeleton]; unfold k0_part65_skel; simp only [wp_bind, wp_pure]
  iapply (ld_blk 0 6 rfl) $$ H7
  iintro H7
  imodintro
  rw [k0_part66_eq_skeleton]; unfold k0_part66_skel; simp only [wp_bind, wp_pure]
  imodintro
  rw [k0_part67_eq_skeleton]; unfold k0_part67_skel; simp only [wp_bind, wp_pure]
  iapply (ld_any (p := 0) (a := 192) (b := 0) rfl rfl) $$ H8
  iintro %_ H8
  iapply (st_rows 0 6 rfl (codeN_at X (8 * 0 + 6))) $$ H8
  iintro H8
  iapply (ld_any (p := 0) (a := 192) (b := 0) rfl rfl) $$ H9
  iintro %_ H9
  iapply (st_rows 0 6 rfl (xwN_at X (8 * 0 + 6))) $$ H9
  iintro H9
  iapply (ld_blk 0 7 rfl) $$ H7
  iintro H7
  imodintro
  rw [k0_part68_eq_skeleton]; unfold k0_part68_skel; simp only [wp_bind, wp_pure]
  imodintro
  rw [k0_part69_eq_skeleton]; unfold k0_part69_skel; simp only [wp_bind, wp_pure]
  iapply (ld_any (p := 0) (a := 224) (b := 0) rfl rfl) $$ H8
  iintro %_ H8
  iapply (st_rows 0 7 rfl (codeN_at X (8 * 0 + 7))) $$ H8
  iintro H8
  iapply (ld_any (p := 0) (a := 224) (b := 0) rfl rfl) $$ H9
  iintro %_ H9
  imodintro
  rw [k0_part70_eq_skeleton]; unfold k0_part70_skel; simp only [wp_bind, wp_pure]
  iapply (st_rows 0 7 rfl (xwN_at X (8 * 0 + 7))) $$ H9
  iintro H9
  iapply (part_ld Variants.none none (Finset.subset_univ _)) $$ H5
  iintro %_ H5
  iapply (st_scl 0 0 1 off56_eq (Or.inr ⟨rfl, rfl⟩) rfl) $$ H5
  iintro H5
  ihave HM := (main_start c arg0 arg3 arg4 arg5 arg6 arg7 arg8 arg9 arg10 arg14 arg15 arg16 X (wN WP WS) g3 g4 g8' g9' g10 g10') $$ [HX G1 H7 X0 H3 H10 H101 Y0 Y1 H4 H8 H81 C0 C1 H9 H91 H6 H5 HO]
  · isplitl [HX]; · iexact HX
    isplitl [G1]; · iexact G1
    isplitl [H7]; · iexact H7
    isplitl [X0]; · iexact X0
    isplitl [H3]; · iexact H3
    isplitl [H10]; · iexact H10
    isplitl [H101]; · iexact H101
    isplitl [Y0]; · iexact Y0
    isplitl [Y1]; · iexact Y1
    isplitl [H4]; · iexact H4
    isplitl [H8]; · iexact H8
    isplitl [H81]; · iexact H81
    isplitl [C0]; · iexact C0
    isplitl [C1]; · iexact C1
    isplitl [H9]; · iexact H9
    isplitl [H91]; · iexact H91
    isplitl [H6]; · iexact H6
    isplitl [H5]; · iexact H5
    iexact HO
  iapply (mainLoop c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ _ _ _ _ _ _ _ _ _ X (wN WP WS)) $$ HM
  iintro HM
  ihave HM := (main_end c arg0 arg3 arg4 arg5 arg6 arg7 arg8 arg9 arg10 arg14 arg15 arg16 X (wN WP WS)) $$ HM
  icases HM with ⟨HX, ⟨%g70, H70⟩, X0, ⟨%g71, H71⟩, X1, H3, HR, HF, HT, Y1, H4, HG, H80, C0, H90, H91, H6, H5, HO⟩
  iapply (out_send Variants.none _ none EC () 47 (cellAt arg16 1) (cellAt_eq rfl _ _) rfl rfl pos5632 (trip_lt (by decide))) $$ [HT Y1 HR]
  · isplitl [HT]; · iexact HT
    isplitl [Y1]; · iexact Y1
    iexact HR
  iintro HT HR
  iapply (out_wait Variants.none _ none EC () 46 (cellAt arg16 0) (cellAt_eq rfl _ _) credit_sub) $$ [HF H3 HO]
  · isplitl [HF]; · iexact HF
    isplitl [H3]; · iexact H3
    iexact HO
  iintro H3 H100 Y0 HO
  imodintro
  iapply (out_wait Variants.none _ none EC () 47 (cellAt arg16 1) (cellAt_eq rfl _ _) credit_sub) $$ [HT H3 HO]
  · isplitl [HT]; · iexact HT
    isplitl [H3]; · iexact H3
    iexact HO
  iintro H3 H101 Y1 HO
  iapply (out_wait Variants.none _ none EC () 47 (cellAt arg15 1) (cellAt_eq rfl _ _) credit_sub) $$ [HG H4 HO]
  · isplitl [HG]; · iexact HG
    isplitl [H4]; · iexact H4
    iexact HO
  iintro H4 H81 C1 HO
  imodintro
  iapply HQ
  unfold bodyPost
  isplitl [HX]; · iexact HX
  isplitl [HA]; · iexact HA
  isplitl [HB]; · iexact HB
  isplitl [H3]; · iapply (all_rows c) $$ H3
  isplitl [H4]; · iapply (all_rows c) $$ H4
  isplitl [H5]; · iapply (all_scl c) $$ H5
  isplitl [H6]
  · iexists _; iexact H6
  isplitl [H70]
  · iexists _; iexact H70
  isplitl [H71]
  · iexists _; iexact H71
  isplitl [H80]
  · iexists _; iexact H80
  isplitl [H81]
  · iexists _; iexact H81
  isplitl [H90]
  · iexists _; iexact H90
  isplitl [H91]
  · iexact H91
  isplitl [H100]
  · iexists _; iexact H100
  isplitl [H101]
  · iexists _; iexact H101
  isplitl [S0]
  · iexists _; iexact S0
  isplitl [S1]
  · iexists _; iexact S1
  isplitl [HS]
  · iexists _; iexact HS
  isplitl [HE]
  · iapply (part_any c) $$ HE
  isplitl [X0]; · iexact X0
  isplitl [X1]; · iexact X1
  isplitl [C0]; · iexact C0
  isplitl [C1]; · iexact C1
  isplitl [Y0]; · iexact Y0
  isplitl [Y1]; · iexact Y1
  isplitl [V0]; · iexact V0
  isplitl [V1]; · iexact V1
  isplitl [VS]; · iexact VS
  iexact HO

end Cert.Proof.Kernel

end
-- ==== Proof.KernelBody.lean ====
/-
  The triple of the kernel's body: entered with its operands whole and its counters at zero, it leaves the inputs as they
  were, the results as `KernelSpec` names them, and its counters at zero.
-/
module

public import proofs.«01_k».proof.Proof.KernelEnds

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

section Slots

variable (c : Dev nD) {R C : ℕ} {e : EltTy} {sp : Space} {m : Memref sig .tc sp (Sh3 2 R C) e}

theorem slots_all : (Finset.univ : Finset (Sh3 2 R C).Idx) = slot 0 ∪ slot 1 := by
  ext i
  rw [Finset.mem_union, mem_slot, mem_slot]
  have h : (i (0 : Fin 3)).val < 2 := (i (0 : Fin 3)).isLt
  constructor
  · intro _; omega
  · intro _; exact Finset.mem_univ _

theorem slots_disj : Disjoint (slot 0 : Finset (Sh3 2 R C).Idx) (slot 1) := by
  rw [Finset.disjoint_left]
  intro i h h'
  rw [mem_slot] at h h'
  omega

/-- A ring of two slots, apart and together. -/
theorem slots_split {g : (Sh3 2 R C).Idx → Elt F e} :
    (own (c : Thread nD τ) fullShare m Finset.univ g : sProp 𝕄) ⊢ iprop(own (c : Thread nD τ) fullShare m (slot 0) g ∗ own (c : Thread nD τ) fullShare m (slot 1) g) := by
  rw [slots_all]
  exact own_union slots_disj

theorem slots_join :
    (iprop((∃ g, own (c : Thread nD τ) fullShare m (slot 0) g) ∗ (∃ g, own (c : Thread nD τ) fullShare m (slot 1) g)) : sProp 𝕄) ⊢ iprop(∃ g, own (c : Thread nD τ) fullShare m Finset.univ g) := by
  rw [slots_all]
  iintro ⟨⟨%g, H⟩, ⟨%g', H'⟩⟩
  iexists (fun i => if (i (0 : Fin 3)).val = 0 then g i else g' i)
  iapply (own_join slots_disj)
  isplitl [H]
  · iapply (own_congr fun i hi => (if_pos (mem_slot.mp hi)).symm) $$ H
  · iapply (own_congr fun i hi => (if_neg (by rw [mem_slot.mp hi]; exact Nat.one_ne_zero)).symm) $$ H'

end Slots

/-- What the body is entered with, -/
def bodyIn (c : Dev nD) (arg0 : Memref sig .tc .hbm S12288x4096 .bf16) (arg1 : Memref sig .tc .hbm S4096x2816 .i8) (arg2 : Memref sig .tc .hbm S128x5632 .i8) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg11 : Memref sig .tc .vmem S2x4096x256 .i8) (arg12 : Memref sig .tc .vmem S128x5632 .i8) (arg13 : Memref sig .tc .vmem S128x512 .i32) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8)
    (g3 : S12288x5632.Idx → Elt F .bf16) (g4 : S12288x4096.Idx → Elt F .fp8e4m3) (g5 : S8x1x1536.Idx → Elt F .f32) (g6 : S4096x5632.Idx → Elt F .bf16) (g7 : S2x256x4096.Idx → Elt F .bf16)
    (g8 : S2x256x4096.Idx → Elt F .fp8e4m3) (g9 : S2x256x4096.Idx → Elt F .bf16) (g10 : S2x256x5632.Idx → Elt F .bf16) (g11 : S2x4096x256.Idx → Elt F .i8) (g12 : S128x5632.Idx → Elt F .i8) (g13 : S128x512.Idx → Elt F .i32) : sProp 𝕄 :=
  iprop(own (c : Thread nD τ) fullShare arg0 Finset.univ (n2 X) ∗ own (c : Thread nD τ) fullShare arg1 Finset.univ (n2 WP) ∗ own (c : Thread nD τ) fullShare arg2 Finset.univ (n2 WS) ∗ own (c : Thread nD τ) fullShare arg3 Finset.univ g3 ∗ own (c : Thread nD τ) fullShare arg4 Finset.univ g4 ∗ own (c : Thread nD τ) fullShare arg5 Finset.univ g5 ∗ own (c : Thread nD τ) fullShare arg6 Finset.univ g6 ∗ own (c : Thread nD τ) fullShare arg7 Finset.univ g7 ∗ own (c : Thread nD τ) fullShare arg8 Finset.univ g8 ∗ own (c : Thread nD τ) fullShare arg9 Finset.univ g9 ∗ own (c : Thread nD τ) fullShare arg10 Finset.univ g10 ∗ own (c : Thread nD τ) fullShare arg11 Finset.univ g11 ∗ own (c : Thread nD τ) fullShare arg12 Finset.univ g12 ∗ own (c : Thread nD τ) fullShare arg13 Finset.univ g13 ∗ semVal ((c : Thread nD τ), .dma (cellAt arg14 0)) 0 ∗ semVal ((c : Thread nD τ), .dma (cellAt arg14 1)) 0 ∗ semVal ((c : Thread nD τ), .dma (cellAt arg15 0)) 0 ∗ semVal ((c : Thread nD τ), .dma (cellAt arg15 1)) 0 ∗ semVal ((c : Thread nD τ), .dma (cellAt arg16 0)) 0 ∗ semVal ((c : Thread nD τ), .dma (cellAt arg16 1)) 0 ∗ semVal ((c : Thread nD τ), .dma (cellAt arg17 0)) 0 ∗ semVal ((c : Thread nD τ), .dma (cellAt arg17 1)) 0 ∗ semVal ((c : Thread nD τ), .dma arg18.sem) 0 ∗ OW (c : Thread nD τ))

/-- and what it leaves. -/
def bodyOut (c : Dev nD) (arg0 : Memref sig .tc .hbm S12288x4096 .bf16) (arg1 : Memref sig .tc .hbm S4096x2816 .i8) (arg2 : Memref sig .tc .hbm S128x5632 .i8) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg11 : Memref sig .tc .vmem S2x4096x256 .i8) (arg12 : Memref sig .tc .vmem S128x5632 .i8) (arg13 : Memref sig .tc .vmem S128x512 .i32) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) : sProp 𝕄 :=
  iprop(own (c : Thread nD τ) fullShare arg0 Finset.univ (n2 X) ∗ own (c : Thread nD τ) fullShare arg1 Finset.univ (n2 WP) ∗ own (c : Thread nD τ) fullShare arg2 Finset.univ (n2 WS) ∗ own (c : Thread nD τ) fullShare arg3 Finset.univ (n2 (yN (xwN X) (wN WP WS))) ∗ own (c : Thread nD τ) fullShare arg4 Finset.univ (n2 (codeN X)) ∗ own (c : Thread nD τ) fullShare arg5 Finset.univ (sclA X) ∗ (∃ g, own (c : Thread nD τ) fullShare arg6 Finset.univ g) ∗ (∃ g, own (c : Thread nD τ) fullShare arg7 Finset.univ g) ∗ (∃ g, own (c : Thread nD τ) fullShare arg8 Finset.univ g) ∗ (∃ g, own (c : Thread nD τ) fullShare arg9 Finset.univ g) ∗ (∃ g, own (c : Thread nD τ) fullShare arg10 Finset.univ g) ∗ (∃ g, own (c : Thread nD τ) fullShare arg11 Finset.univ g) ∗ (∃ g, own (c : Thread nD τ) fullShare arg12 Finset.univ g) ∗ (∃ g, own (c : Thread nD τ) fullShare arg13 Finset.univ g) ∗ semVal ((c : Thread nD τ), .dma (cellAt arg14 0)) 0 ∗ semVal ((c : Thread nD τ), .dma (cellAt arg14 1)) 0 ∗ semVal ((c : Thread nD τ), .dma (cellAt arg15 0)) 0 ∗ semVal ((c : Thread nD τ), .dma (cellAt arg15 1)) 0 ∗ semVal ((c : Thread nD τ), .dma (cellAt arg16 0)) 0 ∗ semVal ((c : Thread nD τ), .dma (cellAt arg16 1)) 0 ∗ semVal ((c : Thread nD τ), .dma (cellAt arg17 0)) 0 ∗ semVal ((c : Thread nD τ), .dma (cellAt arg17 1)) 0 ∗ semVal ((c : Thread nD τ), .dma arg18.sem) 0 ∗ OW (c : Thread nD τ))

theorem bodyOut_of (c : Dev nD) (arg0 : Memref sig .tc .hbm S12288x4096 .bf16) (arg1 : Memref sig .tc .hbm S4096x2816 .i8) (arg2 : Memref sig .tc .hbm S128x5632 .i8) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg11 : Memref sig .tc .vmem S2x4096x256 .i8) (arg12 : Memref sig .tc .vmem S128x5632 .i8) (arg13 : Memref sig .tc .vmem S128x512 .i32) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) :
    (bodyPost c arg0 arg1 arg2 arg3 arg4 arg5 arg6 arg7 arg8 arg9 arg10 arg11 arg12 arg13 arg14 arg15 arg16 arg17 arg18 X WP WS : sProp 𝕄) ⊢ bodyOut c arg0 arg1 arg2 arg3 arg4 arg5 arg6 arg7 arg8 arg9 arg10 arg11 arg12 arg13 arg14 arg15 arg16 arg17 arg18 X WP WS := by
  unfold bodyPost bodyOut
  iintro ⟨HX, HA, HB, H3, H4, H5, H6, H70, H71, H80, H81, H90, H91, H100, H101, S0, S1, HS, HE, X0, X1, C0, C1, Y0, Y1, V0, V1, VS, HO⟩
  isplitl [HX]; · iexact HX
  isplitl [HA]; · iexact HA
  isplitl [HB]; · iexact HB
  isplitl [H3]; · iexact H3
  isplitl [H4]; · iexact H4
  isplitl [H5]; · iexact H5
  isplitl [H6]; · iexact H6
  isplitl [H70 H71]
  · iapply (slots_join c)
    isplitl [H70] <;> iassumption
  isplitl [H80 H81]
  · iapply (slots_join c)
    isplitl [H80] <;> iassumption
  isplitl [H90 H91]
  · iapply (slots_join c)
    isplitl [H90] <;> iassumption
  isplitl [H100 H101]
  · iapply (slots_join c)
    isplitl [H100] <;> iassumption
  isplitl [S0 S1]
  · iapply (slots_join c)
    isplitl [S0] <;> iassumption
  isplitl [HS]; · iexact HS
  isplitl [HE]; · iexact HE
  isplitl [X0]; · iexact X0
  isplitl [X1]; · iexact X1
  isplitl [C0]; · iexact C0
  isplitl [C1]; · iexact C1
  isplitl [Y0]; · iexact Y0
  isplitl [Y1]; · iexact Y1
  isplitl [V0]; · iexact V0
  isplitl [V1]; · iexact V1
  isplitl [VS]; · iexact VS
  iexact HO

/-- The body's triple. -/
theorem body_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) (Q : PUnit → sProp 𝕄)
    (g3 : S12288x5632.Idx → Elt F .bf16) (g4 : S12288x4096.Idx → Elt F .fp8e4m3) (g5 : S8x1x1536.Idx → Elt F .f32) (g6 : S4096x5632.Idx → Elt F .bf16) (g7 : S2x256x4096.Idx → Elt F .bf16)
    (g8 : S2x256x4096.Idx → Elt F .fp8e4m3) (g9 : S2x256x4096.Idx → Elt F .bf16) (g10 : S2x256x5632.Idx → Elt F .bf16) (g11 : S2x4096x256.Idx → Elt F .i8) (g12 : S128x5632.Idx → Elt F .i8) (g13 : S128x512.Idx → Elt F .i32) :
    (bodyIn c arg0 arg1 arg2 arg3 arg4 arg5 arg6 arg7 arg8 arg9 arg10 arg11 arg12 arg13 arg14 arg15 arg16 arg17 arg18 X WP WS g3 g4 g5 g6 g7 g8 g9 g10 g11 g12 g13 : sProp 𝕄)
      ⊢ iprop((bodyOut c arg0 arg1 arg2 arg3 arg4 arg5 arg6 arg7 arg8 arg9 arg10 arg11 arg12 arg13 arg14 arg15 arg16 arg17 arg18 X WP WS -∗ Q ⟨⟩)
        -∗ wp frame (wpE (defs₀ (F := F)) Variants.none (c : Thread nD τ) none) Set.univ (cc0_mxfp4_matmul arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18) Q) := by
  rw [cc0_mxfp4_matmul_eq_skeleton, body_eq]
  unfold bodyIn
  iintro ⟨HX, HA, HB, H3, H4, H5, H6, H7, H8, H9, H10, H11, H12, H13, X0, X1, C0, C1, Y0, Y1, V0, V1, VS, HO⟩ HQ
  ihave H7 := (slots_split c) $$ H7
  icases H7 with ⟨H7, H7'⟩
  ihave H8 := (slots_split c) $$ H8
  icases H8 with ⟨H8, H8'⟩
  ihave H9 := (slots_split c) $$ H9
  icases H9 with ⟨H9, H9'⟩
  ihave H10 := (slots_split c) $$ H10
  icases H10 with ⟨H10, H10'⟩
  ihave H11 := (slots_split c) $$ H11
  icases H11 with ⟨H11, H11'⟩
  iapply (decode_wp c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 X WP WS) $$ [HX HA HB H6 H7 H7' H11 H11' H12 H13 X0 X1 V0 V1 VS HO]
  · isplitl [HX]; · iexact HX
    isplitl [HA]; · iexact HA
    isplitl [HB]; · iexact HB
    isplitl [H6]; · iexact H6
    isplitl [H7]; · iexact H7
    isplitl [H7']; · iexact H7'
    isplitl [H11]; · iexact H11
    isplitl [H11']; · iexact H11'
    isplitl [H12]; · iexact H12
    isplitl [H13]; · iexact H13
    isplitl [X0]; · iexact X0
    isplitl [X1]; · iexact X1
    isplitl [V0]; · iexact V0
    isplitl [V1]; · iexact V1
    isplitl [VS]; · iexact VS
    iexact HO
  iintro HX HA HB H6 G0 G1 S0 S1 HS HE V0 V1 VS HO
  iapply (tail_wp c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 X WP WS Q) $$ [HX HA HB H6 G0 G1 S0 S1 HS HE V0 V1 VS HO H3 H4 H5 H8 H8' H9 H9' H10 H10' C0 C1 Y0 Y1]
  · isplitl [HX]; · iexact HX
    isplitl [HA]; · iexact HA
    isplitl [HB]; · iexact HB
    isplitl [H6]; · iexact H6
    isplitl [G0]; · iexact G0
    isplitl [G1]; · iexact G1
    isplitl [S0]; · iexact S0
    isplitl [S1]; · iexact S1
    isplitl [HS]; · iexact HS
    isplitl [HE]; · iexact HE
    isplitl [V0]; · iexact V0
    isplitl [V1]; · iexact V1
    isplitl [VS]; · iexact VS
    isplitl [HO]; · iexact HO
    isplitl [H3]; · iexact H3
    isplitl [H4]; · iexact H4
    isplitl [H5]; · iexact H5
    isplitl [H8]; · iexact H8
    isplitl [H8']; · iexact H8'
    isplitl [H9]; · iexact H9
    isplitl [H9']; · iexact H9'
    isplitl [H10]; · iexact H10
    isplitl [H10']; · iexact H10'
    isplitl [C0]; · iexact C0
    isplitl [C1]; · iexact C1
    isplitl [Y0]; · iexact Y0
    iexact Y1
  iintro HP
  iapply HQ
  iapply (bodyOut_of c arg0 arg1 arg2 arg3 arg4 arg5 arg6 arg7 arg8 arg9 arg10 arg11 arg12 arg13 arg14 arg15 arg16 arg17 arg18 X WP WS) $$ HP

end Cert.Proof.Kernel

end
-- ==== Proof.KernelEntry.lean ====
/-
  The body obligation of the launch: the kernel's operands out of the buffers the pipeline hands it, and back.
-/
module

public import proofs.«01_k».proof.Proof.KernelBody
public import proofs.«01_k».proof.Proof.Gen.Kernel.Launch
public import proofs.«01_k».proof.Proof.Gen.Kernel.Points
public import proofs.«01_k».proof.Proof.Gen.Kernel.Frame
public import Idealize.ShloMosaic.Lib.Pipeline.Regions

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

open Idealize.ShloMosaic.Pipeline (Dat Cfg Window BodyObligation cellOf)

variable {F : FTy → Type} [FloatOps F]

local notation "𝕄" => MT nD τ sig Unit (Elt F) ℕ (UU nD τ) ℕ

/-! ### Whole buffers -/

section Whole

variable (c : Dev nD)

theorem own_univ {sp : Space} {s : Shape} {e : EltTy} (m : Memref sig .tc sp s e) (g : s.Idx → Elt F e) :
    (Steps.own (c : Thread nD τ) fullShare m Finset.univ g : sProp 𝕄) = owns (c : Thread nD τ) m fullShare g := by
  unfold Steps.own owns
  rw [View.setOn_univ]

theorem own_of_pt (b : Ref sig .tc) (g : Buf (Elt F) ((c : Thread nD τ).loc b)) :
    (((c : Thread nD τ).loc b) ↦{fullShare} g : sProp 𝕄) ⊢ own (c : Thread nD τ) fullShare (Memref.whole b) Finset.univ g := by
  rw [own_univ, owns_whole_eq]
  iintro H
  iexists g
  isplitr; · ipureintro; rfl
  iexact H

theorem pt_of_own (b : Ref sig .tc) (g : Buf (Elt F) ((c : Thread nD τ).loc b)) :
    (own (c : Thread nD τ) fullShare (Memref.whole b) Finset.univ g : sProp 𝕄) ⊢ (((c : Thread nD τ).loc b) ↦{fullShare} g) := by
  rw [own_univ, owns_whole_eq]
  iintro ⟨%f, %hf, H⟩
  subst hf
  iexact H

theorem pt_of_any (b : Ref sig .tc) :
    (iprop(∃ g, own (c : Thread nD τ) fullShare (Memref.whole b) Finset.univ g) : sProp 𝕄) ⊢ iprop(∃ g : Buf (Elt F) ((c : Thread nD τ).loc b), ((c : Thread nD τ).loc b) ↦{fullShare} g) := by
  iintro ⟨%g, H⟩
  iexists g
  iapply (pt_of_own c b g) $$ H

end Whole

/-! ### The kernel's own counters -/

/-- The kernel's semaphores: two for each of four rings and one for the scale bytes. -/
abbrev osem : Fin 9 → SemLoc sig := fun i => .dma ⟨1 + i.val, by have h := i.isLt; show 1 + i.val < 10; omega⟩

abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0)

theorem ownSemFacts : Pipeline.OwnSemFacts spec0 osem := by decide

theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8] (by decide) (by decide)

theorem cells_eq : cellAt cc0_scratch8 0 = 1 ∧ cellAt cc0_scratch8 1 = 2 ∧ cellAt cc0_scratch9 0 = 3 ∧ cellAt cc0_scratch9 1 = 4
    ∧ cellAt cc0_scratch10 0 = 5 ∧ cellAt cc0_scratch10 1 = 6 ∧ cellAt cc0_scratch11 0 = 7 ∧ cellAt cc0_scratch11 1 = 8 ∧ (cc0_scratch12).sem = 9 := by decide

/-! ### The launch memory, and what the kernel makes of it -/

variable (m : (ℓ : Loc nD τ sig) → Buf (Elt F) ℓ) (ρ : Dev nD → PrngReg)

/-- The three inputs by row and column. -/
def inX (c : Dev nD) : ℕ → ℕ → Elt F .bf16 := at2 (A := 12288) (B := 4096) (V m c main_v0)
def inWP (c : Dev nD) : ℕ → ℕ → Elt F .i8 := at2 (A := 4096) (B := 2816) (V m c main_arg1)
def inWS (c : Dev nD) : ℕ → ℕ → Elt F .i8 := at2 (A := 128) (B := 5632) (V m c main_arg2)

/-- The three results. -/
def outY (c : Dev nD) : S12288x5632.Idx → Elt F .bf16 := n2 (yN (xwN (inX m c)) (wN (inWP m c) (inWS m c)))
def outC (c : Dev nD) : S12288x4096.Idx → Elt F .fp8e4m3 := n2 (codeN (inX m c))
def outS (c : Dev nD) : S8x1x1536.Idx → Elt F .f32 := sclA (inX m c)

/-- The arrays the pipeline does not stage, as launched, -/
def Φ₀ (c : Dev nD) : sProp 𝕄 :=
  iprop(((c : Thread nD τ).loc main_v0 ↦{fullShare} V m c main_v0) ∗ ((c : Thread nD τ).loc main_arg1 ↦{fullShare} V m c main_arg1) ∗ ((c : Thread nD τ).loc main_arg2 ↦{fullShare} V m c main_arg2)
    ∗ ((c : Thread nD τ).loc main_v1_0 ↦{fullShare} V m c main_v1_0) ∗ ((c : Thread nD τ).loc main_v1_1 ↦{fullShare} V m c main_v1_1) ∗ sems0 c
    ∗ Pipeline.scopedRest (Ix := Unit) (Name := ℕ) (U := UU nD τ) (Lvl := ℕ) (Val := Elt F) spec0 c)

/-- and with the results written. -/
def Φ₁ (c : Dev nD) : sProp 𝕄 :=
  iprop(((c : Thread nD τ).loc main_v0 ↦{fullShare} V m c main_v0) ∗ ((c : Thread nD τ).loc main_arg1 ↦{fullShare} V m c main_arg1) ∗ ((c : Thread nD τ).loc main_arg2 ↦{fullShare} V m c main_arg2)
    ∗ ((c : Thread nD τ).loc main_v1_0 ↦{fullShare} outY m c) ∗ ((c : Thread nD τ).loc main_v1_1 ↦{fullShare} outC m c) ∗ sems0 c
    ∗ Pipeline.scopedRest (Ix := Unit) (Name := ℕ) (U := UU nD τ) (Lvl := ℕ) (Val := Elt F) spec0 c)

/-- The proof data on core `c`. -/
def dats (_ : Fin 1) (c : Dev nD) : Dat τ (Elt F) Unit ℕ (UU nD τ) ℕ cfg0 c where
  A w := V m c (Pipeline.arrRef spec0 w)
  after w _ := match w with | ⟨0, _⟩ => outS m c
  Φ k := if k.val = 0 then Φ₀ m c else Φ₁ m c
  q _ := fullShare
  owed _ := 0

theorem A_eq (c : Dev nD) (w : Fin cfg0.W) : (dats m 0 c).A w = V m c (Pipeline.arrRef spec0 w) := by
  dsimp only [dats]

theorem Φ_zero (c : Dev nD) : (dats m 0 c).Φ 0 = Φ₀ m c := by dsimp only [dats]; exact if_pos rfl
theorem Φ_last (c : Dev nD) : (dats m 0 c).Φ (Fin.last cfg0.N) = Φ₁ m c := by
  dsimp only [dats]
  refine if_neg ?_
  rw [Fin.val_last, show cfg0.N = 1 from N_0]
  exact Nat.one_ne_zero

theorem Φ_succ (c : Dev nD) : (dats m 0 c).Φ t0_0.succ = Φ₁ m c := by dsimp only [dats]; exact if_neg (Nat.succ_ne_zero _)

abbrev 𝒱₀ : Variants := Variants.none

theorem inX_n2 (c : Dev nD) : n2 (inX m c) = V m c main_v0 := n2_at2 _
theorem inWP_n2 (c : Dev nD) : n2 (inWP m c) = V m c main_arg1 := n2_at2 _
theorem inWS_n2 (c : Dev nD) : n2 (inWS m c) = V m c main_arg2 := n2_at2 _

set_option maxRecDepth 65536 in
theorem body_in (c : Dev nD) (g5 : S8x1x1536.Idx → Elt F .f32) :
    (iprop(Φ₀ m c ∗ own (c : Thread nD τ) fullShare (win0_0.stage (cfg0.slots t0_0 0)) Finset.univ g5 ∗ OW (c : Thread nD τ)) : sProp 𝕄)
      ⊢ iprop(∃ g6 g7 g8 g9 g10 g11 g12 g13, bodyIn c (Memref.whole main_v0) (Memref.whole main_arg1) (Memref.whole main_arg2) (Memref.whole main_v1_0) (Memref.whole main_v1_1) (win0_0.stage (cfg0.slots t0_0 0)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) cc0_scratch8 cc0_scratch9 cc0_scratch10 cc0_scratch11 cc0_scratch12 (inX m c) (inWP m c) (inWS m c) (V m c main_v1_0) (V m c main_v1_1) g5 g6 g7 g8 g9 g10 g11 g12 g13) := by
  obtain ⟨e0, e1, e2, e3, e4, e5, e6, e7, e8⟩ := cells_eq
  unfold Φ₀ bodyIn
  rw [scopedRest0_eq, e0, e1, e2, e3, e4, e5, e6, e7, e8, inX_n2, inWP_n2, inWS_n2]
  iintro ⟨⟨HX, HA, HB, H3, H4, ⟨X0, X1, C0, C1, Y0, Y1, V0, V1, VS⟩, ⟨%f0, R0⟩, ⟨%f1, R1⟩, ⟨%f2, R2⟩, ⟨%f3, R3⟩, ⟨%f4, R4⟩, ⟨%f5, R5⟩, ⟨%f6, R6⟩, ⟨%f7, R7⟩⟩, H5, HO⟩
  iexists f0, f1, f2, f3, f4, f5, f6, f7
  isplitl [HX]; · iapply (own_of_pt c) $$ HX
  isplitl [HA]; · iapply (own_of_pt c) $$ HA
  isplitl [HB]; · iapply (own_of_pt c) $$ HB
  isplitl [H3]; · iapply (own_of_pt c) $$ H3
  isplitl [H4]; · iapply (own_of_pt c) $$ H4
  isplitl [H5]; · iexact H5
  isplitl [R0]; · iapply (own_of_pt c) $$ R0
  isplitl [R1]; · iapply (own_of_pt c) $$ R1
  isplitl [R2]; · iapply (own_of_pt c) $$ R2
  isplitl [R3]; · iapply (own_of_pt c) $$ R3
  isplitl [R4]; · iapply (own_of_pt c) $$ R4
  isplitl [R5]; · iapply (own_of_pt c) $$ R5
  isplitl [R6]; · iapply (own_of_pt c) $$ R6
  isplitl [R7]; · iapply (own_of_pt c) $$ R7
  isplitl [X0]; · iexact X0
  isplitl [X1]; · iexact X1
  isplitl [C0]; · iexact C0
  isplitl [C1]; · iexact C1
  isplitl [Y0]; · iexact Y0
  isplitl [Y1]; · iexact Y1
  isplitl [V0]; · iexact V0
  isplitl [V1]; · iexact V1
  isplitl [VS]; · iexact VS
  iexact HO

set_option maxRecDepth 65536 in
theorem body_out (c : Dev nD) :
    (bodyOut c (Memref.whole main_v0) (Memref.whole main_arg1) (Memref.whole main_arg2) (Memref.whole main_v1_0) (Memref.whole main_v1_1) (win0_0.stage (cfg0.slots t0_0 0)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) cc0_scratch8 cc0_scratch9 cc0_scratch10 cc0_scratch11 cc0_scratch12 (inX m c) (inWP m c) (inWS m c) : sProp 𝕄)
      ⊢ iprop(Φ₁ m c ∗ own (c : Thread nD τ) fullShare (win0_0.stage (cfg0.slots t0_0 0)) Finset.univ (outS m c) ∗ OW (c : Thread nD τ)) := by
  obtain ⟨e0, e1, e2, e3, e4, e5, e6, e7, e8⟩ := cells_eq
  unfold Φ₁ bodyOut outY outC outS
  rw [scopedRest0_eq, e0, e1, e2, e3, e4, e5, e6, e7, e8, inX_n2, inWP_n2, inWS_n2]
  iintro ⟨HX, HA, HB, H3, H4, H5, R0, R1, R2, R3, R4, R5, R6, R7, X0, X1, C0, C1, Y0, Y1, V0, V1, VS, HO⟩
  isplitr [H5 HO]
  · isplitl [HX]; · iapply (pt_of_own c) $$ HX
    isplitl [HA]; · iapply (pt_of_own c) $$ HA
    isplitl [HB]; · iapply (pt_of_own c) $$ HB
    isplitl [H3]; · iapply (pt_of_own c) $$ H3
    isplitl [H4]; · iapply (pt_of_own c) $$ H4
    isplitl [X0 X1 C0 C1 Y0 Y1 V0 V1 VS]
    · isplitl [X0]; · iexact X0
      isplitl [X1]; · iexact X1
      isplitl [C0]; · iexact C0
      isplitl [C1]; · iexact C1
      isplitl [Y0]; · iexact Y0
      isplitl [Y1]; · iexact Y1
      isplitl [V0]; · iexact V0
      isplitl [V1]; · iexact V1
      iexact VS
    isplitl [R0]; · iapply (pt_of_any c cc0_scratch0) $$ R0
    isplitl [R1]; · iapply (pt_of_any c cc0_scratch1) $$ R1
    isplitl [R2]; · iapply (pt_of_any c cc0_scratch2) $$ R2
    isplitl [R3]; · iapply (pt_of_any c cc0_scratch3) $$ R3
    isplitl [R4]; · iapply (pt_of_any c cc0_scratch4) $$ R4
    isplitl [R5]; · iapply (pt_of_any c cc0_scratch5) $$ R5
    isplitl [R6]; · iapply (pt_of_any c cc0_scratch6) $$ R6
    iapply (pt_of_any c cc0_scratch7) $$ R7
  · isplitl [H5] <;> iassumption

/-- The body obligation. -/
theorem body_obligation (c : Dev nD) : BodyObligation (dats m 0 c) (defs₀ (F := F)) 𝒱₀ () Set.univ := fun t => by
  obtain rfl := fin_N0 t
  rw [bigSep_W0, bigSep_W0]
  rw [show (dats m 0 c).Φ t0_0.castSucc = Φ₀ m c from Φ_zero m c, show (dats m 0 c).Φ t0_0.succ = Φ₁ m c from Φ_succ m c]
  unfold Dat.owesAt Pipeline.owesWithin
  rw [show (dats m 0 c).owed t0_0.castSucc = 0 from rfl, show (dats m 0 c).owed t0_0.succ = 0 from rfl]
  have ha : (dats m 0 c).after 0 t0_0 = outS m c := by dsimp only [dats]
  have hend : (Steps.own (c : Thread nD τ) fullShare (win0_0.stage (cfg0.slots t0_0 0)) Finset.univ (outS m c) : sProp 𝕄)
      ⊢ owns (c : Thread nD τ) ((cfg0.win 0).stage (cfg0.slots t0_0 0)) fullShare ((dats m 0 c).after 0 t0_0) := by
    rw [own_univ, ha]
  rw [show cfg0.idle 0 (cfg0.grid.coords t0_0) = false from rfl]
  dsimp only
  iintro ⟨HP, ⟨%W, %hW, HO⟩, ⟨%d0, H0⟩⟩
  ihave HI := (body_in m c _) $$ [HP HO H0]
  · isplitl [HP]; · iexact HP
    isplitl [H0]
    · rw [own_univ]; iexact H0
    · unfold OW
      iexists W; iexact HO
  icases HI with ⟨%g6, %g7, %g8, %g9, %g10, %g11, %g12, %g13, HI⟩
  iapply (body_wp c (Memref.whole main_v0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (win0_0.stage (cfg0.slots t0_0 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (inX m c) (inWP m c) (inWS m c) _ _ _ _ g6 g7 g8 g9 g10 g11 g12 g13) $$ HI
  iintro HE
  ihave HE := (body_out m c) $$ HE
  icases HE with ⟨HP, H0, HO⟩
  unfold OW
  icases HO with ⟨%W', HO⟩
  isplitl [HP]; · iexact HP
  isplitl [HO]
  · iexists W'; isplitr; · ipureintro; exact fun _ _ => Or.inl trivial
    iexact HO
  iapply hend $$ H0

end Cert.Proof.Kernel

end
-- ==== Proof.KernelRun.lean ====
/-
  The launch: one host reshape, then the kernel's region; every fair run ends with the arguments unchanged, the results
  written and every counter at zero.
-/
module

public import proofs.«01_k».proof.Proof.KernelEntry
public import proofs.«01_k».proof.Proof.Gen.Kernel.Launch
public import proofs.«01_k».proof.Proof.Gen.Kernel.Points
public import proofs.«01_k».proof.Proof.Gen.Kernel.Frame
public import Idealize.ShloMosaic.Lib.Pipeline.Regions

@[expose] public section

noncomputable section

namespace Cert.Proof.Kernel

open Cert.Kernel Cert.Kernel.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

open Idealize.ShloMosaic.Pipeline (Dat Cfg Window BodyObligation cellOf)

variable {F : FTy → Type} [FloatOps F]

local notation "𝕄" => MT nD τ sig Unit (Elt F) ℕ (UU nD τ) ℕ

/-- The pipeline's algebra within the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- Core `c`'s buffers at launch. -/
abbrev V₀ (c : Dev nD) : Valuation τ sig (Elt F) := fun b => m (c, b)

/-- The unscoped buffers: the set the host operation runs within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The launch element: the pipeline's staging cell and transfers; no counter yet. -/
def u₀ : UU nD τ := (initOf (Pipeline.cells cfgs cellOf_inj) (Pipeline.launchToks cfgs cellOf_inj), 1)

/-- An array's contents after the run. -/
def finalA (c : Dev nD) (w : Fin cfg0.W) : Buf (Elt F) ((cfg0.win w).arr.view.loc (c : Thread nD τ)) := (dats m 0 c).arrAt w cfg0.N

/-- What the run leaves on core `c`: the scale's array as the pipeline computes it, the arguments as launched, the two
    other results. -/
def QC (c : Dev nD) (s : MemSt nD τ sig (Elt F)) : Prop :=
  (∀ w : Fin cfg0.W, s.mem ((cfg0.win w).arr.view.loc (c : Thread nD τ)) = finalA m c w)
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1_0) = outY m c ∧ s.mem ((c : Thread nD τ).loc main_v1_1) = outC m c

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operation. -/
abbrev R (c : Dev nD) : sProp 𝕄 := iprop(∃ W, owes (c : Thread nD τ) (0 : CellTallies nD τ sig Unit) W)

/-- The host segment. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the region leaves for the end. -/
abbrev Tₙ (c : Dev nD) : sProp 𝕄 :=
  iprop((dats m 0 c).arrays ((dats m 0 c).arrAt · cfg0.N) ∗ ((c : Thread nD τ).loc main_arg0 ↦{fullShare} V m c main_arg0) ∗ ((c : Thread nD τ).loc main_arg1 ↦{fullShare} V m c main_arg1)
    ∗ ((c : Thread nD τ).loc main_arg2 ↦{fullShare} V m c main_arg2) ∗ ((c : Thread nD τ).loc main_v1_0 ↦{fullShare} outY m c) ∗ ((c : Thread nD τ).loc main_v1_1 ↦{fullShare} outC m c))

set_option backward.isDefEq.respectTransparency.types false in
/-- The region. -/
def reg0 : Pipeline.RegionSeg (pcfgs (F := F)) adm (dats m) () defs₀ 𝒱₀ L lv 0 where
  win := launch0.win.to₀
  block_pos := launch0.block_pos
  stage_whole := launch0.stage_whole
  K := Fin 9
  osem := osem
  ho := ownSemFacts
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(((c : Thread nD τ).loc main_v0 ↦{fullShare} V m c main_v0) ∗ ((c : Thread nD τ).loc main_arg1 ↦{fullShare} V m c main_arg1) ∗ ((c : Thread nD τ).loc main_arg2 ↦{fullShare} V m c main_arg2)
    ∗ ((c : Thread nD τ).loc main_v1_0 ↦{fullShare} V m c main_v1_0) ∗ ((c : Thread nD τ).loc main_v1_1 ↦{fullShare} V m c main_v1_1) ∗ sems0 c)
  Y c := iprop(((c : Thread nD τ).loc main_arg1 ↦{fullShare} V m c main_arg1) ∗ ((c : Thread nD τ).loc main_arg2 ↦{fullShare} V m c main_arg2)
    ∗ ((c : Thread nD τ).loc main_v1_0 ↦{fullShare} outY m c) ∗ ((c : Thread nD τ).loc main_v1_1 ↦{fullShare} outC m c))
  Z c := (c : Thread nD τ).loc main_arg0 ↦{fullShare} V m c main_arg0
  hentry c := by
    rw [show StableHlo.held (c : Thread nD τ) ucRefs (StableHlo.after hostOps0 (V₀ m c)) = unscopedBufs c (V m c) from (unscopedBufs_held c _).symm,
      ownSems0_eq]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    iintro ⟨⟨Hub, HO⟩, Hos, -⟩
    ihave H := hsplit $$ Hub
    icases H with ⟨Ha, H0, H1, H2, HX, H3, H4⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [H0]
    · isplitl [HX]; · iexact HX
      isplitl [H1]; · iexact H1
      isplitl [H2]; · iexact H2
      isplitl [H3]; · iexact H3
      isplitl [H4]; · iexact H4
      iexact Hos
    iexact H0
  hin c := by
    rw [Φ_zero]; unfold Φ₀
    iintro ⟨⟨HX, H1, H2, H3, H4, Hos⟩, -, Hr⟩
    isplitl [HX]; · iexact HX
    isplitl [H1]; · iexact H1
    isplitl [H2]; · iexact H2
    isplitl [H3]; · iexact H3
    isplitl [H4]; · iexact H4
    isplitl [Hos] <;> iassumption
  hout c := by
    rw [ownSems0_eq, Φ_last]; unfold Φ₁
    iintro ⟨-, H1, H2, H3, H4, Hos, Hr⟩
    isplitl [H1 H2 H3 H4]
    · isplitl [H1]; · iexact H1
      isplitl [H2]; · iexact H2
      isplitl [H3] <;> iassumption
    isplitl [Hos] <;> iassumption
  hexit c := by
    iintro ⟨Ha, HO, ⟨H1, H2, H3, H4⟩, HZ⟩
    imodintro
    isplitr [HO]
    · isplitl [Ha]; · iexact Ha
      isplitl [HZ]; · iexact HZ
      isplitl [H1]; · iexact H1
      isplitl [H2]; · iexact H2
      isplitl [H3] <;> iassumption
    · unfold Pipeline.Dat.owesAt Pipeline.owesWithin
      icases HO with ⟨%W, -, HO⟩; iexists W; iexact HO

/-- The program as the list of the two. -/
abbrev segs : List (Pipeline.Seg (pcfgs (F := F)) adm (dats m) () defs₀ 𝒱₀ L lv) := [.host (seg0 m), .region (reg0 m)]

set_option backward.isDefEq.respectTransparency.types false in
/-- Every fair execution ends, faults nowhere, and leaves what `QC` says and every counter at zero. -/
theorem run_main : θ_run defs (onTc (τ := τ) (main (F := F))) (s₀ m ρ) (fun r => (∀ c, QC m c r.2) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => QC m c s)
    (hfin := fun c s' => by
      dsimp only [Tₙ]; rw [V_main_arg0, V_main_arg1, V_main_arg2]
      iintro ⟨⟨Ha, H0, H1, H2, H3, H4⟩, HSI⟩
      icombine HSI H0 gives %h0
      icombine HSI H1 gives %h1
      icombine HSI H2 gives %h2
      icombine HSI H3 gives %h3
      icombine HSI H4 gives %h4
      ihave Hr := (Pipeline.arrays_read (pcfgs (F := F)) adm (dats m) launch0.arr_whole c ((dats m 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h2, Buf.eq_of_forall_mem_univ h3, Buf.eq_of_forall_mem_univ h4⟩
      iexact HSI)
    (hQ := fun _ h hz => ⟨h, funext fun g => hz g (.inr (by revert g; decide))⟩)

/-- The frame: the arguments unchanged, every counter at zero. -/
theorem frame : θ_run defs (onTc (τ := τ) (main (F := F))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c).2.1, (h.1 c).2.2.1, (h.1 c).2.2.2.1⟩, h.2⟩) (run_main m ρ)

end Cert.Proof.Kernel

end
-- ==== Proof.KernelIdealSpec.lean ====
/-
  What the kernel leaves in its buffers, as functions of its three inputs by row and column: the quantised codes, their
  dequantised values, the scales, the decoded weights and the product, each spelled with the payloads of the printed
  kernel at a tile of the inputs. Nothing is said here of what the payloads compute.
-/
module

public import proofs.«01_k».proof.Proof.Gen.KernelIdeal
public import proofs.«01_k».proof.Proof.Gen.KernelIdeal.Skeleton
public import proofs.«01_k».proof.Proof.Tiles

@[expose] public section

noncomputable section

namespace Cert.Proof.KernelIdeal

open Cert.KernelIdeal Cert.KernelIdeal.Gen Cert.Proof.Steps
open Idealize.ShloMosaic Idealize.ShloMosaic.ValueIdx Idealize.SL.Sem

variable {F : FTy → Type} [FloatOps F]

/-! ### One block of 32 rows quantised -/

/-- The scale of each row of a block, its codes, and the values they stand for. -/
def qScl (v : Vec F S1x32x4096 .bf16) : FVec F S32x1 .f32 := k0_pay38 (k0_pay35 v) (k0_pay36 v)
def qCode (v : Vec F S1x32x4096 .bf16) : FVec F S1x32x4096 .fp8e4m3 := k0_pay41 (k0_pay34 v) (k0_pay39 (k0_pay35 v) (k0_pay36 v))
def qXw (v : Vec F S1x32x4096 .bf16) : FVec F S1x32x4096 .bf16 :=
  k0_pay42 (k0_pay34 v) (k0_pay38 (k0_pay35 v) (k0_pay36 v)) (k0_pay39 (k0_pay35 v) (k0_pay36 v))

/-- Block `b` of the rows. -/
def blk (X : ℕ → ℕ → Elt F .bf16) (b : ℕ) : Vec F S1x32x4096 .bf16 := fun j => X (32 * b + (j (1 : Fin 3)).val) (j (2 : Fin 3)).val

/-- The index `(0, r mod 32, k)` of a block. -/
def bix (r k : ℕ) : S1x32x4096.Idx := ix3 (0 : Fin 1) (Fin.ofNat 32 r) (Fin.ofNat 4096 k)

def codeN (X : ℕ → ℕ → Elt F .bf16) (r k : ℕ) : Elt F .fp8e4m3 := qCode (blk X (r / 32)) (bix r k)
def xwN (X : ℕ → ℕ → Elt F .bf16) (r k : ℕ) : Elt F .bf16 := qXw (blk X (r / 32)) (bix r k)

/-- The scales of a tile of 256 rows, as the row vector stored. -/
def tileScl (X : ℕ → ℕ → Elt F .bf16) (T : ℕ) : FVec F S1x1x256 .f32 :=
  k0_pay123 (k0_pay43 (qScl (blk X (8 * T)))) (k0_pay43 (qScl (blk X (8 * T + 1)))) (k0_pay43 (qScl (blk X (8 * T + 2))))
    (k0_pay43 (qScl (blk X (8 * T + 3)))) (k0_pay43 (qScl (blk X (8 * T + 4)))) (k0_pay43 (qScl (blk X (8 * T + 5))))
    (k0_pay43 (qScl (blk X (8 * T + 6)))) (qScl (blk X (8 * T + 7)))

/-- The scale of row `r`. -/
def sclN (X : ℕ → ℕ → Elt F .bf16) (r : ℕ) : Elt F .f32 := tileScl X (r / 256) (ix3 (0 : Fin 1) (0 : Fin 1) (Fin.ofNat 256 r))

/-! ### The weights decoded -/

/-- The shared exponent of group `g` and column `k`, placed. -/
def expN (WS : ℕ → ℕ → Elt F .i8) (g k : ℕ) : Elt F .i32 :=
  k0_pay137 (F := F) (fun j => WS (j (0 : Fin 2)).val (256 * (k / 256) + (j (1 : Fin 2)).val)) (ix2 (Fin.ofNat 128 g) (Fin.ofNat 256 k))

/-- One decoded group of 32 rows and 256 columns: low nibbles, high nibbles. -/
def loBlk (WP : ℕ → ℕ → Elt F .i8) (E : ℕ → Elt F .i32) (g n : ℕ) : FVec F S32x256 .bf16 :=
  k0_pay2 (fun j => WP (32 * g + (j (0 : Fin 2)).val) (256 * n + (j (1 : Fin 2)).val)) (fun j => E (j (1 : Fin 2)).val)
def hiBlk (WP : ℕ → ℕ → Elt F .i8) (E : ℕ → Elt F .i32) (g n : ℕ) : FVec F S32x256 .bf16 :=
  k0_pay139 (k0_pay3 (fun j => WP (32 * g + (j (0 : Fin 2)).val) (256 * n + (j (1 : Fin 2)).val))) (fun j => E (j (1 : Fin 2)).val)

/-- The weight at row `r` and column `k`: the low nibbles are the first 2816 columns. -/
def wN (WP WS : ℕ → ℕ → Elt F .i8) (r k : ℕ) : Elt F .bf16 :=
  if k / 256 < 11 then loBlk WP (fun j => expN WS (r / 32) (256 * (k / 256) + j)) (r / 32) (k / 256) (ix2 (Fin.ofNat 32 r) (Fin.ofNat 256 k))
  else hiBlk WP (fun j => expN WS (r / 32) (256 * (k / 256) + j)) (r / 32) (k / 256 - 11) (ix2 (Fin.ofNat 32 r) (Fin.ofNat 256 k))

/-! ### The product -/

def prod (a : Vec F S1x256x4096 .bf16) (b : Vec F S4096x512 .bf16) : FVec F S1x256x512 .bf16 := k0_pay126 a b

/-- The product at row `r` and column `k`, from the quantised rows `xw` and the weights `w`. -/
def yN (xw w : ℕ → ℕ → Elt F .bf16) (r k : ℕ) : Elt F .bf16 :=
  prod (fun j => xw (256 * (r / 256) + (j (1 : Fin 3)).val) (j (2 : Fin 3)).val)
    (fun j => w (j (0 : Fin 2)).val (512 * (k / 512) + (j (1 : Fin 2)).val))
    (ix3 (0 : Fin 1) (Fin.ofNat 256 r) (Fin.ofNat 512 k))

end Cert.Proof.KernelIdeal

end
-- ==== Proof.KernelIdealDecode.lean ====
/-
  The decode loops: eleven loops of 128 trips, each decoding one chunk of 256 columns of packed weights into the low
  and the high half of the weights. The eleven loop bodies are ONE program at different offsets (`decTrip`), so one
  lemma per trip and one per loop serve all.
-/
module

public import proofs.«01_k».proof.Proof.KernelIdealSpec
public import Idealize.ShloMosaic.Lib.Pipeline.Kit

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

/-- The algebra: the pipeline library's beside the transfers' counters. -/
abbrev UU (nD : Nat) (τ : Topo) : Type := UR sig nD τ × Counters

local notation "𝕄" => MT nD τ sig Unit (Elt F) ℕ (UU nD τ) ℕ

/-- The chunks below `n` decoded, and the rows below `32 k` of chunk `n`. -/
def decoded (n k : ℕ) (i : (Sh2 4096 5632).Idx) : Prop :=
  (i (1 : Fin 2)).val % 2816 / 256 < n ∨ (i (1 : Fin 2)).val % 2816 / 256 = n ∧ (i (0 : Fin 2)).val < 32 * k

/-- The exponents of chunk `n` placed side by side: low columns, high columns. -/
def expPair (WS : ℕ → ℕ → Elt F .i8) (n : ℕ) (g k : ℕ) : Elt F .i32 := if k < 256 then expN WS g (256 * n + k) else expN WS g (256 * (n + 11) + (k - 256))

/-- One trip of a decode loop. -/
def decTrip (a6 : Memref sig .tc .vmem S4096x5632 .bf16) (h6 : a6.IsWhole) (a13 : Memref sig .tc .vmem S128x512 .i32) (v : Memref sig .tc .vmem S4096x256 .i8)
    (o1 o2 o3 o4 o5 : Fin 2 → ℕ) (i1 : ∀ a, o1 a + S32x256.size a ≤ S4096x256.size a) (i2 : ∀ a, o2 a + S1x256.size a ≤ S128x512.size a)
    (i3 : ∀ a, o3 a + S32x256.size a ≤ S4096x5632.size a) (i4 : ∀ a, o4 a + S1x256.size a ≤ S128x512.size a) (i5 : ∀ a, o5 a + S32x256.size a ≤ S4096x5632.size a)
    (p3 : (a6.access (Rect.unit (s := S4096x5632) o3 S32x256.size i3)).Stores Finset.univ) (p5 : (a6.access (Rect.unit (s := S4096x5632) o5 S32x256.size i5)).Stores Finset.univ) :
    Prog (TpuEff nD τ sig (Elt F) Λ₀ .tc) Unit := do
  let x : Vec F S32x256 .i8 ← Prog.lift (.load v (Rect.unit (s := S4096x256) o1 S32x256.size i1).toLoadRect (View.loadsAt_vmem h_S32x256))
  let e : Vec F S1x256 .i32 ← Prog.lift (.load a13 (Rect.unit (s := S128x512) o2 S1x256.size i2).toLoadRect (View.loadsAt_vmem h_S1x256))
  let _ : Vec F S32x256 .bf16 ← Prog.lift (.load a6 (Rect.unit (s := S4096x5632) o3 S32x256.size i3).toLoadRect (View.loadsAt_vmem h_S32x256))
  Prog.lift (.store a6 (Rect.unit (s := S4096x5632) o3 S32x256.size i3) (k0_pay2 x e) Finset.univ p3 (.inl rfl))
  let e' : Vec F S1x256 .i32 ← Prog.lift (.load a13 (Rect.unit (s := S128x512) o4 S1x256.size i4).toLoadRect (View.loadsAt_vmem h_S1x256))
  let _ : Vec F S32x256 .bf16 ← Prog.lift (.load a6 (Rect.unit (s := S4096x5632) o5 S32x256.size i5).toLoadRect (View.loadsAt_vmem h_S32x256))
  Prog.lift (.store a6 (Rect.unit (s := S4096x5632) o5 S32x256.size i5) (k0_pay139 (k0_pay3 x) e') Finset.univ p5 (.inl rfl))
  pure ()

variable (c : Dev nD)

/-- What a decode loop holds before trip `k`. -/
def decInv (a6 : Memref sig .tc .vmem S4096x5632 .bf16) (a13 : Memref sig .tc .vmem S128x512 .i32) (v : Memref sig .tc .vmem S4096x256 .i8)
    (WP WS : ℕ → ℕ → Elt F .i8) (n k : ℕ) : sProp 𝕄 :=
  iprop(own (c : Thread nD τ) fullShare v Finset.univ (n2 fun r k => WP r (256 * n + k))
    ∗ own (c : Thread nD τ) fullShare a13 Finset.univ (n2 (expPair WS n))
    ∗ part (c : Thread nD τ) a6 Finset.univ (decoded n k) (n2 (wN WP WS)))

/-- The low half of a trip stores the weights of its rows, -/
theorem lo_at (WP WS : ℕ → ℕ → Elt F .i8) (n k : ℕ) (hn : n < 11) (x : Vec F S32x256 .i8) (e : Vec F S1x256 .i32)
    (hx : x = fun j => WP (32 * k + (j (0 : Fin 2)).val) (256 * n + (j (1 : Fin 2)).val)) (he : e = fun j => expPair WS n (k + (j (0 : Fin 2)).val) (j (1 : Fin 2)).val)
    (a : Fin 32) (b : Fin 256) : k0_pay2 x e (ix2 a b) = wN WP WS (32 * k + a.val) (256 * n + b.val) := by
  have ha := a.isLt
  have hb := b.isLt
  have e1 : (32 * k + a.val) / 32 = k := by omega
  have e2 : (256 * n + b.val) / 256 = n := by omega
  have e3 : Fin.ofNat 32 (32 * k + a.val) = a := Fin.ext (by show (32 * k + a.val) % 32 = a.val; omega)
  have e4 : Fin.ofNat 256 (256 * n + b.val) = b := Fin.ext (by show (256 * n + b.val) % 256 = b.val; omega)
  have he' : e = fun j => expN WS k (256 * n + (j (1 : Fin 2)).val) := by
    rw [he]; funext j
    have h0 : (j (0 : Fin 2)).val < 1 := (j (0 : Fin 2)).isLt
    have h1 : (j (1 : Fin 2)).val < 256 := (j (1 : Fin 2)).isLt
    unfold expPair
    rw [if_pos h1, show k + (j (0 : Fin 2)).val = k by omega]
  unfold wN loBlk
  rw [e1, e2, e3, e4, if_pos hn, hx, he']

/-- and so does the high half. -/
theorem hi_at (WP WS : ℕ → ℕ → Elt F .i8) (n k : ℕ) (x : Vec F S32x256 .i8) (e : Vec F S1x256 .i32)
    (hx : x = fun j => WP (32 * k + (j (0 : Fin 2)).val) (256 * n + (j (1 : Fin 2)).val)) (he : e = fun j => expPair WS n (k + (j (0 : Fin 2)).val) (256 + (j (1 : Fin 2)).val))
    (a : Fin 32) (b : Fin 256) (r : ℕ) (hr : r = 2816 + 256 * n + b.val) : k0_pay139 (k0_pay3 x) e (ix2 a b) = wN WP WS (32 * k + a.val) r := by
  have ha := a.isLt
  have hb := b.isLt
  have e1 : (32 * k + a.val) / 32 = k := by omega
  have e2 : r / 256 = n + 11 := by omega
  have e3 : Fin.ofNat 32 (32 * k + a.val) = a := Fin.ext (by show (32 * k + a.val) % 32 = a.val; omega)
  have e4 : Fin.ofNat 256 r = b := Fin.ext (by show r % 256 = b.val; omega)
  have he' : e = fun j => expN WS k (256 * (n + 11) + (j (1 : Fin 2)).val) := by
    rw [he]; funext j
    have h0 : (j (0 : Fin 2)).val < 1 := (j (0 : Fin 2)).isLt
    unfold expPair
    rw [if_neg (by omega), show k + (j (0 : Fin 2)).val = k by omega, show 256 + (j (1 : Fin 2)).val - 256 = (j (1 : Fin 2)).val by omega]
  unfold wN hiBlk
  rw [e1, e2, e3, e4, if_neg (by omega), show n + 11 - 11 = n by omega, hx, he']

theorem decTrip_wp (a6 : Memref sig .tc .vmem S4096x5632 .bf16) (h6 : a6.IsWhole) (a13 : Memref sig .tc .vmem S128x512 .i32) (v : Memref sig .tc .vmem S4096x256 .i8)
    (o1 o2 o3 o4 o5 : Fin 2 → ℕ) (i1 i2 i3 i4 i5 p3 p5) (WP WS : ℕ → ℕ → Elt F .i8) (n k : ℕ) (hn : n < 11) (hk : k < 128)
    (ho1 : o1 = ![32 * k, 0]) (ho2 : o2 = ![k, 0]) (ho3 : o3 = ![32 * k, 256 * n]) (ho4 : o4 = ![k, 256]) (ho5 : o5 = ![32 * k, 2816 + 256 * n]) :
    (decInv c a6 a13 v WP WS n k : sProp 𝕄)
      ⊢ wp frame (wpE (defs₀ (F := F)) Variants.none (c : Thread nD τ) none) Set.univ (decTrip (F := F) a6 h6 a13 v o1 o2 o3 o4 o5 i1 i2 i3 i4 i5 p3 p5)
          fun _ => decInv c a6 a13 v WP WS n (k + 1) := by
  unfold decInv decTrip
  simp only [wp_bind, wp_pure]
  iintro ⟨Hv, H13, H6⟩
  iapply (ld Variants.none _ none (Finset.subset_univ _)) $$ Hv
  iintro %x %hx Hv
  iapply (ld Variants.none _ none (Finset.subset_univ _)) $$ H13
  iintro %e %he H13
  iapply (part_ld Variants.none none (Finset.subset_univ _)) $$ H6
  iintro %_ H6
  iapply (part_st Variants.none none (fun i => decoded n k i ∨ ((i (1 : Fin 2)).val / 256 = n ∧ (i (0 : Fin 2)).val / 32 = k)) (Finset.subset_univ _) ?_ ?_) $$ H6
  · intro i _ hi hr
    rcases hi with hi | ⟨h1, h0⟩
    · exact hi
    · refine absurd ?_ hr
      rw [mem_set2 ho3 rfl]
      omega
  · intro j
    rw [n2_emb _ ho3]
    obtain ⟨a, b, rfl⟩ : ∃ (a : Fin 32) (b : Fin 256), j = ix2 a b := ⟨_, _, eq_ix2 j⟩
    refine lo_at WP WS n k hn x e ?_ ?_ a b
    · rw [hx]; funext j'; rw [n2_idx _ ho1, Nat.zero_add]
    · rw [he]; funext j'; rw [n2_idx _ ho2, Nat.zero_add]
  iintro H6
  iapply (ld Variants.none _ none (Finset.subset_univ _)) $$ H13
  iintro %e' %he' H13
  iapply (part_ld Variants.none none (Finset.subset_univ _)) $$ H6
  iintro %_ H6
  iapply (part_st Variants.none none (decoded n (k + 1)) (Finset.subset_univ _) ?_ ?_) $$ H6
  · intro i _ hi hr
    unfold decoded at *
    by_contra hc
    refine hr ?_
    rw [mem_set2 ho5 rfl]
    have hb : (i (1 : Fin 2)).val < 5632 := (i (1 : Fin 2)).isLt
    omega
  · intro j
    rw [n2_emb _ ho5]
    obtain ⟨a, b, rfl⟩ : ∃ (a : Fin 32) (b : Fin 256), j = ix2 a b := ⟨_, _, eq_ix2 j⟩
    refine hi_at WP WS n k x e' ?_ ?_ a b _ rfl
    · rw [hx]; funext j'; rw [n2_idx _ ho1, Nat.zero_add]
    · rw [he']; funext j'; rw [n2_idx _ ho4]
  iintro H6
  imodintro
  isplitl [Hv]; · iexact Hv
  isplitl [H13]; · iexact H13
  iexact H6

/-- A decode trip of chunk `n` at its offsets. -/
def IsTrip (a6 : Memref sig .tc .vmem S4096x5632 .bf16) (a13 : Memref sig .tc .vmem S128x512 .i32) (v : Memref sig .tc .vmem S4096x256 .i8)
    (n k : ℕ) (p : Prog (TpuEff nD τ sig (Elt F) Λ₀ .tc) Unit) : Prop :=
  ∃ (h6 : a6.IsWhole) (o1 o2 o3 o4 o5 : Fin 2 → ℕ) (i1 : _) (i2 : _) (i3 : _) (i4 : _) (i5 : _) (p3 : _) (p5 : _),
    p = decTrip (F := F) a6 h6 a13 v o1 o2 o3 o4 o5 i1 i2 i3 i4 i5 p3 p5
      ∧ o1 = ![32 * k, 0] ∧ o2 = ![k, 0] ∧ o3 = ![32 * k, 256 * n] ∧ o4 = ![k, 256] ∧ o5 = ![32 * k, 2816 + 256 * n]

/-- A decode loop of 128 trips decodes chunk `n`. -/
theorem decLoop {a6 : Memref sig .tc .vmem S4096x5632 .bf16} {a13 : Memref sig .tc .vmem S128x512 .i32} {v : Memref sig .tc .vmem S4096x256 .i8}
    {WP WS : ℕ → ℕ → Elt F .i8} (n : ℕ) (hn : n < 11) (l : Scf.Loop 32) {hok : l.OK} (hl : l.trips = 128)
    {body : Fin l.trips → Unit → Prog (TpuEff nD τ sig (Elt F) Λ₀ .tc) Unit} (hb : ∀ k, IsTrip a6 a13 v n k.val (body k ()))
    {Q : Unit → sProp 𝕄} :
    (decInv c a6 a13 v WP WS n 0 : sProp 𝕄) ⊢ iprop((decInv c a6 a13 v WP WS n 128 -∗ Q ())
      -∗ wp frame (wpE (defs₀ (F := F)) Variants.none (c : Thread nD τ) none) Set.univ (Scf.Loop.for l hok () body) Q) := by
  iintro H HQ
  iapply (Scf.wp_for (M := 𝕄) frame (wpE (defs₀ (F := F)) Variants.none (c : Thread nD τ) none) Set.univ l.lb l.ub l.st hok () body
    (fun k _ => decInv c a6 a13 v WP WS n k) ?_)
  · intro k acc
    obtain ⟨h6, o1, o2, o3, o4, o5, i1, i2, i3, i4, i5, p3, p5, e, ho1, ho2, ho3, ho4, ho5⟩ := hb k
    cases acc
    rw [e]
    exact decTrip_wp c a6 h6 a13 v o1 o2 o3 o4 o5 i1 i2 i3 i4 i5 p3 p5 WP WS n k.val hn (lt_of_lt_of_eq k.isLt hl) ho1 ho2 ho3 ho4 ho5
  · isplitl [H]; · iexact H
    iintro %acc H
    iapply HQ
    rw [show Scf.trips l.lb l.ub l.st = 128 from hl]
    iexact H

end Cert.Proof.KernelIdeal

end
-- ==== Proof.KernelIdealTrips.lean ====
/-
  The eleven decode loops' bodies are decode trips: chunk `n`'s loop reads slot `n mod 2` of the ring of packed weights.
-/
module

public import proofs.«01_k».proof.Proof.KernelIdealDecode

@[expose] public section

noncomputable section
namespace Cert.Proof.KernelIdeal
open Cert.KernelIdeal Cert.KernelIdeal.Gen Cert.Proof.Steps
open Idealize.ShloMosaic Idealize.ShloMosaic.TcCoe Idealize.SL.Sem
variable {F : FTy → Type} [FloatOps F]

theorem trip1 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t1_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      0 k.val (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off1_eq k, k0_off2_eq k, k0_off3_eq k, k0_off4_eq k, k0_off5_eq k⟩

theorem trip2 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t2_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      1 k.val (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off6_eq k, k0_off7_eq k, k0_off8_eq k, k0_off9_eq k, k0_off10_eq k⟩

theorem trip3 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t3_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      2 k.val (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off11_eq k, k0_off12_eq k, k0_off13_eq k, k0_off14_eq k, k0_off15_eq k⟩

theorem trip4 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t4_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      3 k.val (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off16_eq k, k0_off17_eq k, k0_off18_eq k, k0_off19_eq k, k0_off20_eq k⟩

theorem trip5 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (c0_i32_139 : BitVec 32) (k : Fin k0_t5_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      4 k.val (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 c0_i32_139 k ()) :=
  ⟨harg6, _, _, _, _, _, _, _, _, _, _, _, _, rfl, k0_off21_eq k, k0_off22_eq k, k0_off23_eq k, k0_off24_eq k, k0_off25_eq k⟩

theorem trip6 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v199 : IVec S128x256 32) (k : Fin k0_t6_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      5 k.val (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v199 k ()) :=
  ⟨harg6, _, _, _, _, _, _, _, _, _, _, _, _, rfl, k0_off26_eq k, k0_off27_eq k, k0_off28_eq k, k0_off29_eq k, k0_off30_eq k⟩

theorem trip7 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v227 : IVec S128x256 32) (k : Fin k0_t7_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      6 k.val (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v227 k ()) :=
  ⟨harg6, _, _, _, _, _, _, _, _, _, _, _, _, rfl, k0_off31_eq k, k0_off32_eq k, k0_off33_eq k, k0_off34_eq k, k0_off35_eq k⟩

theorem trip8 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v253 : IVec S128x256 32) (v254 : IVec S128x256 32) (k : Fin k0_t8_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      7 k.val (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v253 v254 k ()) :=
  ⟨harg6, _, _, _, _, _, _, _, _, _, _, _, _, rfl, k0_off36_eq k, k0_off37_eq k, k0_off38_eq k, k0_off39_eq k, k0_off40_eq k⟩

theorem trip9 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (k : Fin k0_t9_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      8 k.val (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18  k ()) :=
  ⟨harg6, _, _, _, _, _, _, _, _, _, _, _, _, rfl, k0_off41_eq k, k0_off42_eq k, k0_off43_eq k, k0_off44_eq k, k0_off45_eq k⟩

theorem trip10 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v310 : IVec S128x256 32) (k : Fin k0_t10_loop.trips) :
    IsTrip arg6 arg13 ((arg11.slice (Rect.unit (s := S2x4096x256) ![1, 0, 0] S1x4096x256.size inb_S2x4096x256_S1x4096x256_1_0_0) (fun _ => rfl)).squeeze S4096x256 squeezes_S1x4096x256_S4096x256)
      9 k.val (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v310 k ()) :=
  ⟨harg6, _, _, _, _, _, _, _, _, _, _, _, _, rfl, k0_off46_eq k, k0_off47_eq k, k0_off48_eq k, k0_off49_eq k, k0_off50_eq k⟩

theorem trip11 (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)  (v340 : Vec F S128x256 .i8) (k : Fin k0_t11_loop.trips) :
    IsTrip arg6 arg13 ((arg11.slice (Rect.unit (s := S2x4096x256) ![0, 0, 0] S1x4096x256.size inb_S2x4096x256_S1x4096x256_0_0_0) (fun _ => rfl)).squeeze S4096x256 squeezes_S1x4096x256_S4096x256)
      10 k.val (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v340 k ()) :=
  ⟨harg6, _, _, _, _, _, _, _, _, _, _, _, _, rfl, k0_off51_eq k, k0_off52_eq k, k0_off53_eq k, k0_off54_eq k, k0_off55_eq k⟩

end Cert.Proof.KernelIdeal
-- ==== Proof.KernelIdealBlocks.lean ====
/-
  The loads and stores of the computation over `Steps.own` and `part`: a block of 32 rows of a tile loaded, its codes,
  its values and its scales stored, a chunk of 512 columns of the product stored. Each rule says what is loaded or
  stored as a function of the kernel's inputs (`KernelIdealSpec`).
-/
module

public import proofs.«01_k».proof.Proof.KernelIdealDecode
public import proofs.«01_k».proof.Proof.Bands

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

/-! ### What a tile holds -/

/-- The rows below `n` and the columns below `n` of a slot; the scales of the tiles below `n`. -/
def rows {R C : ℕ} (n : ℕ) (i : (Sh3 2 R C).Idx) : Prop := (i (1 : Fin 3)).val < n
def cols {R C : ℕ} (n : ℕ) (i : (Sh3 2 R C).Idx) : Prop := (i (2 : Fin 3)).val < n
def doneS (n : ℕ) (i : S8x1x1536.Idx) : Prop := 1536 * (i (0 : Fin 3)).val + (i (2 : Fin 3)).val < 256 * n

/-- The scales by the index of the array. -/
def sclA (X : ℕ → ℕ → Elt F .bf16) (i : S8x1x1536.Idx) : Elt F .f32 := sclN X (1536 * (i (0 : Fin 3)).val + (i (2 : Fin 3)).val)

theorem sclA_emb {a b : ℕ} (X : ℕ → ℕ → Elt F .bf16) {off size : Fin 3 → ℕ} (ho : off = ![a, 0, b]) (inb : ∀ x, off x + size x ≤ S8x1x1536.size x)
    (j : (Rect.unit (s := S8x1x1536) off size inb).shape.Idx) :
    sclA X ((Rect.unit (s := S8x1x1536) off size inb).emb j) = sclN X (1536 * (a + (j (0 : Fin 3)).val) + (b + (j (2 : Fin 3)).val)) := by
  subst ho
  show sclN X (1536 * (a + 1 * (j (0 : Fin 3)).val) + (b + 1 * (j (2 : Fin 3)).val)) = _
  rw [one_mul, one_mul]

/-- A tile and a chunk of the weights, as loaded. -/
def xwT (xw : ℕ → ℕ → Elt F .bf16) (T : ℕ) : Vec F S1x256x4096 .bf16 := fun j => xw (256 * T + (j (1 : Fin 3)).val) (j (2 : Fin 3)).val
def wT (w : ℕ → ℕ → Elt F .bf16) (n : ℕ) : Vec F S4096x512 .bf16 := fun j => w (j (0 : Fin 2)).val (512 * n + (j (1 : Fin 2)).val)

theorem ofNat_add {n : ℕ} [NeZero n] (m : ℕ) (a : Fin n) : Fin.ofNat n (n * m + a.val) = a :=
  Fin.ext (by show (n * m + a.val) % n = a.val; rw [Nat.mul_add_mod, Nat.mod_eq_of_lt a.isLt])

theorem codeN_at (X : ℕ → ℕ → Elt F .bf16) (b : ℕ) (j : S1x32x4096.Idx) :
    qCode (blk X b) j = codeN X (32 * b + (j (1 : Fin 3)).val) (j (2 : Fin 3)).val := by
  obtain ⟨z, r, k, rfl⟩ : ∃ (z : Fin 1) (r : Fin 32) (k : Fin 4096), j = ix3 z r k := ⟨_, _, _, eq_ix3 j⟩
  have hz : z = 0 := Subsingleton.elim _ _
  have hr := r.isLt
  have e1 : (32 * b + r.val) / 32 = b := by omega
  have e2 : Fin.ofNat 32 (32 * b + r.val) = r := ofNat_add b r
  have e3 : Fin.ofNat 4096 k.val = k := Fin.ext (Nat.mod_eq_of_lt k.isLt)
  show _ = codeN X (32 * b + r.val) k.val
  unfold codeN bix
  rw [e1, e2, e3, hz]

theorem xwN_at (X : ℕ → ℕ → Elt F .bf16) (b : ℕ) (j : S1x32x4096.Idx) :
    qXw (blk X b) j = xwN X (32 * b + (j (1 : Fin 3)).val) (j (2 : Fin 3)).val := by
  obtain ⟨z, r, k, rfl⟩ : ∃ (z : Fin 1) (r : Fin 32) (k : Fin 4096), j = ix3 z r k := ⟨_, _, _, eq_ix3 j⟩
  have hz : z = 0 := Subsingleton.elim _ _
  have hr := r.isLt
  have e1 : (32 * b + r.val) / 32 = b := by omega
  have e2 : Fin.ofNat 32 (32 * b + r.val) = r := ofNat_add b r
  have e3 : Fin.ofNat 4096 k.val = k := Fin.ext (Nat.mod_eq_of_lt k.isLt)
  show _ = xwN X (32 * b + r.val) k.val
  unfold xwN bix
  rw [e1, e2, e3, hz]

theorem sclN_at (X : ℕ → ℕ → Elt F .bf16) (T : ℕ) (j : S1x1x256.Idx) : tileScl X T j = sclN X (256 * T + (j (2 : Fin 3)).val) := by
  obtain ⟨z, z', k, rfl⟩ : ∃ (z : Fin 1) (z' : Fin 1) (k : Fin 256), j = ix3 z z' k := ⟨_, _, _, eq_ix3 j⟩
  have hz : z = 0 := Subsingleton.elim _ _
  have hz' : z' = 0 := Subsingleton.elim _ _
  have hk := k.isLt
  have e1 : (256 * T + k.val) / 256 = T := by omega
  have e2 : Fin.ofNat 256 (256 * T + k.val) = k := ofNat_add T k
  show _ = sclN X (256 * T + k.val)
  unfold sclN
  rw [e1, e2, hz, hz']

theorem yN_at (xw w : ℕ → ℕ → Elt F .bf16) (T n : ℕ) (j : S1x256x512.Idx) :
    prod (xwT xw T) (wT w n) j = yN xw w (256 * T + (j (1 : Fin 3)).val) (512 * n + (j (2 : Fin 3)).val) := by
  obtain ⟨z, r, k, rfl⟩ : ∃ (z : Fin 1) (r : Fin 256) (k : Fin 512), j = ix3 z r k := ⟨_, _, _, eq_ix3 j⟩
  have hz : z = 0 := Subsingleton.elim _ _
  have hr := r.isLt
  have hk := k.isLt
  have e1 : (256 * T + r.val) / 256 = T := by omega
  have e2 : Fin.ofNat 256 (256 * T + r.val) = r := ofNat_add T r
  have e3 : (512 * n + k.val) / 512 = n := by omega
  have e4 : Fin.ofNat 512 (512 * n + k.val) = k := ofNat_add n k
  show _ = yN xw w (256 * T + r.val) (512 * n + k.val)
  unfold yN
  rw [e1, e2, e3, e4, hz]
  rfl

/-! ### Loads -/

section Rules

variable {c : Thread nD τ} {q : PosShare TreeShare} {p : ℕ} {X : ℕ → ℕ → Elt F .bf16}

/-- Block `i` of the tile in slot `p`. -/
theorem ld_blk (T i : ℕ) {cs : CoreSpace} {m : Memref sig c.2.kind cs S2x256x4096 .bf16} {off : Fin 3 → ℕ} {inb : ∀ a, off a + S1x32x4096.size a ≤ S2x256x4096.size a}
    {hl : m.view.LoadsAt (Rect.unit (s := S2x256x4096) off S1x32x4096.size inb).toLoadRect} {Q : Vec F S1x32x4096 .bf16 → sProp 𝕄} (ho : off = ![p, 32 * i, 0]) :
    (own c q m (slot p) (n3 (tile X T)) : sProp 𝕄) ⊢ iprop((own c q m (slot p) (n3 (tile X T)) -∗ Q (blk X (8 * T + i)))
      -∗ wp frame (wpE (defs₀ (F := F)) Variants.none c none) Set.univ (Prog.lift (.load m (Rect.unit (s := S2x256x4096) off S1x32x4096.size inb).toLoadRect hl)) Q) := by
  iintro H HQ
  iapply (ld Variants.none _ none (sub_slot ho rfl inb)) $$ H
  iintro %v %hv H
  obtain rfl : v = blk X (8 * T + i) := by
    rw [hv]; funext j; rw [n3_idx _ ho]; unfold tile blk
    rw [Nat.zero_add, ← Nat.add_assoc, show 256 * T + 32 * i = 32 * (8 * T + i) by omega]
  iapply HQ $$ H

/-- The whole tile in slot `p`. -/
theorem ld_tile (T : ℕ) {xw : ℕ → ℕ → Elt F .bf16} {cs : CoreSpace} {m : Memref sig c.2.kind cs S2x256x4096 .bf16} {off : Fin 3 → ℕ} {inb : ∀ a, off a + S1x256x4096.size a ≤ S2x256x4096.size a}
    {hl : m.view.LoadsAt (Rect.unit (s := S2x256x4096) off S1x256x4096.size inb).toLoadRect} {Q : Vec F S1x256x4096 .bf16 → sProp 𝕄} (ho : off = ![p, 0, 0]) :
    (own c q m (slot p) (n3 (tile xw T)) : sProp 𝕄) ⊢ iprop((own c q m (slot p) (n3 (tile xw T)) -∗ Q (xwT xw T))
      -∗ wp frame (wpE (defs₀ (F := F)) Variants.none c none) Set.univ (Prog.lift (.load m (Rect.unit (s := S2x256x4096) off S1x256x4096.size inb).toLoadRect hl)) Q) := by
  iintro H HQ
  iapply (ld Variants.none _ none (sub_slot ho rfl inb)) $$ H
  iintro %v %hv H
  obtain rfl : v = xwT xw T := by
    rw [hv]; funext j; rw [n3_idx _ ho]; unfold tile xwT
    rw [Nat.zero_add, Nat.zero_add]
  iapply HQ $$ H

/-- Chunk `n` of the weights. -/
theorem ld_w (n : ℕ) {w : ℕ → ℕ → Elt F .bf16} {cs : CoreSpace} {m : Memref sig c.2.kind cs S4096x5632 .bf16} {off : Fin 2 → ℕ} {inb : ∀ a, off a + S4096x512.size a ≤ S4096x5632.size a}
    {hl : m.view.LoadsAt (Rect.unit (s := S4096x5632) off S4096x512.size inb).toLoadRect} {Q : Vec F S4096x512 .bf16 → sProp 𝕄} (ho : off = ![0, 512 * n]) :
    (own c q m Finset.univ (n2 w) : sProp 𝕄) ⊢ iprop((own c q m Finset.univ (n2 w) -∗ Q (wT w n))
      -∗ wp frame (wpE (defs₀ (F := F)) Variants.none c none) Set.univ (Prog.lift (.load m (Rect.unit (s := S4096x5632) off S4096x512.size inb).toLoadRect hl)) Q) := by
  iintro H HQ
  iapply (ld Variants.none _ none (Finset.subset_univ _)) $$ H
  iintro %v %hv H
  obtain rfl : v = wT w n := by
    rw [hv]; funext j; rw [n2_idx _ ho]; unfold wT
    rw [Nat.zero_add]
  iapply HQ $$ H

/-- A load of a slot being filled. -/
theorem ld_any {R C : ℕ} {e : EltTy} {P : (Sh3 2 R C).Idx → Prop} {G : (Sh3 2 R C).Idx → Elt F e} {cs : CoreSpace} {m : Memref sig c.2.kind cs (Sh3 2 R C) e} {off : Fin 3 → ℕ} {sz : Fin 3 → ℕ}
    {inb : ∀ a, off a + sz a ≤ (Sh3 2 R C).size a} {hl : m.view.LoadsAt (Rect.unit (s := Sh3 2 R C) off sz inb).toLoadRect}
    {Q : _ → sProp 𝕄} {a b : ℕ} (ho : off = ![p, a, b]) {R' C' : ℕ} (hs : sz = ![1, R', C']) :
    (part c m (slot p) P G : sProp 𝕄) ⊢ iprop((∀ v, part c m (slot p) P G -∗ Q v)
      -∗ wp frame (wpE (defs₀ (F := F)) Variants.none c none) Set.univ (Prog.lift (.load m (Rect.unit (s := Sh3 2 R C) off sz inb).toLoadRect hl)) Q) :=
  part_ld Variants.none none (sub_slot ho hs inb)

/-! ### Stores -/

/-- The next 32 rows stored. -/
theorem st_rows {e : EltTy} {H : ℕ → ℕ → Elt F e} (T i : ℕ) {cs : CoreSpace} {m : Memref sig c.2.kind cs S2x256x4096 e} {off : Fin 3 → ℕ} {inb : ∀ a, off a + S1x32x4096.size a ≤ S2x256x4096.size a}
    {w : Vec F S1x32x4096 e} {hx : (m.access (Rect.unit (s := S2x256x4096) off S1x32x4096.size inb)).Stores Finset.univ}
    {hm : Finset.univ = Finset.univ ∨ ∀ a, (Rect.unit (s := S2x256x4096) off S1x32x4096.size inb).stride a = 1} {Q : PUnit → sProp 𝕄}
    (ho : off = ![p, 32 * i, 0]) (hw : ∀ j : S1x32x4096.Idx, w j = H (32 * (8 * T + i) + (j (1 : Fin 3)).val) (j (2 : Fin 3)).val) :
    (part c m (slot p) (rows (32 * i)) (n3 (tile H T)) : sProp 𝕄) ⊢ iprop((part c m (slot p) (rows (32 * (i + 1))) (n3 (tile H T)) -∗ Q ⟨⟩)
      -∗ wp frame (wpE (defs₀ (F := F)) Variants.none c none) Set.univ (Prog.lift (.store m (Rect.unit (s := S2x256x4096) off S1x32x4096.size inb) w Finset.univ hx hm)) Q) := by
  refine part_st Variants.none none _ (sub_slot ho rfl inb) ?_ ?_
  · intro j hs hj hr
    by_contra hc
    refine hr ?_
    rw [mem_set3 ho rfl]
    rw [mem_slot] at hs
    unfold rows at hj hc
    have hb : (j (2 : Fin 3)).val < 4096 := (j (2 : Fin 3)).isLt
    omega
  · intro j
    rw [n3_emb _ ho, hw]; unfold tile
    rw [Nat.zero_add, ← Nat.add_assoc, show 256 * T + 32 * i = 32 * (8 * T + i) by omega]

/-- The next 512 columns of the product stored. -/
theorem st_cols {xw wt : ℕ → ℕ → Elt F .bf16} (T n : ℕ) {cs : CoreSpace} {m : Memref sig c.2.kind cs S2x256x5632 .bf16} {off : Fin 3 → ℕ} {inb : ∀ a, off a + S1x256x512.size a ≤ S2x256x5632.size a}
    {w : Vec F S1x256x512 .bf16} {hx : (m.access (Rect.unit (s := S2x256x5632) off S1x256x512.size inb)).Stores Finset.univ}
    {hm : Finset.univ = Finset.univ ∨ ∀ a, (Rect.unit (s := S2x256x5632) off S1x256x512.size inb).stride a = 1} {Q : PUnit → sProp 𝕄}
    (ho : off = ![p, 0, 512 * n]) (hw : w = prod (xwT xw T) (wT wt n)) :
    (part c m (slot p) (cols (512 * n)) (n3 (tile (yN xw wt) T)) : sProp 𝕄) ⊢ iprop((part c m (slot p) (cols (512 * (n + 1))) (n3 (tile (yN xw wt) T)) -∗ Q ⟨⟩)
      -∗ wp frame (wpE (defs₀ (F := F)) Variants.none c none) Set.univ (Prog.lift (.store m (Rect.unit (s := S2x256x5632) off S1x256x512.size inb) w Finset.univ hx hm)) Q) := by
  refine part_st Variants.none none _ (sub_slot ho rfl inb) ?_ ?_
  · intro j hs hj hr
    by_contra hc
    refine hr ?_
    rw [mem_set3 ho rfl]
    rw [mem_slot] at hs
    unfold cols at hj hc
    have hb : (j (1 : Fin 3)).val < 256 := (j (1 : Fin 3)).isLt
    omega
  · intro j
    rw [n3_emb _ ho, hw, yN_at]; unfold tile
    rw [Nat.zero_add]

/-- The scales of tile `T` stored. -/
theorem st_scl (T n n' : ℕ) {cs : CoreSpace} {m : Memref sig c.2.kind cs S8x1x1536 .f32} {off : Fin 3 → ℕ} {inb : ∀ a, off a + S1x1x256.size a ≤ S8x1x1536.size a}
    {w : Vec F S1x1x256 .f32} {hx : (m.access (Rect.unit (s := S8x1x1536) off S1x1x256.size inb)).Stores Finset.univ}
    {hm : Finset.univ = Finset.univ ∨ ∀ a, (Rect.unit (s := S8x1x1536) off S1x1x256.size inb).stride a = 1} {Q : PUnit → sProp 𝕄}
    (ho : off = ![T / 6, 0, 256 * (T % 6)]) (hn : n' ≤ n ∨ n' = n + 1 ∧ n = T) (hw : w = tileScl X T) :
    (part c m Finset.univ (doneS n) (sclA X) : sProp 𝕄) ⊢ iprop((part c m Finset.univ (doneS n') (sclA X) -∗ Q ⟨⟩)
      -∗ wp frame (wpE (defs₀ (F := F)) Variants.none c none) Set.univ (Prog.lift (.store m (Rect.unit (s := S8x1x1536) off S1x1x256.size inb) w Finset.univ hx hm)) Q) := by
  refine part_st Variants.none none _ (Finset.subset_univ _) ?_ ?_
  · intro j _ hj hr
    by_contra hc
    refine hr ?_
    rw [mem_set3 ho rfl]
    unfold doneS at hj hc
    have h0 : (j (0 : Fin 3)).val < 8 := (j (0 : Fin 3)).isLt
    have h1 : (j (1 : Fin 3)).val < 1 := (j (1 : Fin 3)).isLt
    have h2 : (j (2 : Fin 3)).val < 1536 := (j (2 : Fin 3)).isLt
    omega
  · intro j
    rw [hw, sclN_at, sclA_emb _ ho]
    have h0 : (j (0 : Fin 3)).val < 1 := (j (0 : Fin 3)).isLt
    congr 1; omega

end Rules

end Cert.Proof.KernelIdeal

end
-- ==== Proof.KernelIdealTile.lean ====
/-
  One trip of the main loop after its transfers: the next tile is quantised block by block into the other slots, its
  scales are stored, and this tile is multiplied by the weights chunk by chunk.
-/
module

public import proofs.«01_k».proof.Proof.KernelIdealBlocks

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

/-- A trip after its transfers; the words are the loop's index arithmetic. -/
def compute (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (k0_t12 : Fin k0_t12_loop.trips) (v1389 v1390 v1391 : BitVec 32) (v1416 : BitVec 1) (v1417 : BitVec 32) :
    Prog (TpuEff nD τ sig (Elt F) Λ₀ .tc) Unit := do
    let ⟨v1419, v1422, v1423, v1474⟩ : Σ' (v1419 : BitVec 32) (v1422 : FVec F S32x4096 .bf16) (v1423 : FVec F S32x4096 .bf16), FVec F S32x128 .bf16 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1389 v1391 v1416 v1417
    let ⟨v1518, v1520⟩ : Σ' (v1518 : FVec F S32x1 .f32), IVec S32x1 32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1423 v1474
    let ⟨v1547, v1550, v1551, v1568⟩ : Σ' (v1547 : FVec F S32x128 .f32) (v1550 : FVec F S32x4096 .bf16) (v1551 : FVec F S32x4096 .bf16), FVec F S32x128 .bf16 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1422 v1518 v1520
    let v1625 : IVec S32x256 1 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1551 v1568
    let ⟨v1646, v1662, v1665⟩ : Σ' (v1646 : FVec F S32x1 .f32) (v1662 : FVec F S32x4096 .fp8e4m3), FVec F S32x4096 .bf16 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1550 v1625
    let ⟨v1675, v1678, v1679, v1722⟩ : Σ' (v1675 : FVec F S32x128 .f32) (v1678 : FVec F S32x4096 .bf16) (v1679 : FVec F S32x4096 .bf16), FVec F S32x128 .bf16 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1646 v1662 v1665
    let ⟨v1769, v1770⟩ : Σ' (v1769 : IVec S32x1 32), IVec S32x1 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1679 v1722
    let ⟨v1803, v1806, v1807, v1816⟩ : Σ' (v1803 : FVec F S32x128 .f32) (v1806 : FVec F S32x4096 .bf16) (v1807 : FVec F S32x4096 .bf16), FVec F S32x128 .bf16 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1678 v1769 v1770
    let ⟨v1873, v1874⟩ : Σ' (v1873 : FVec F S32x1 .f32), FVec F S32x1 .f32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1807 v1816
    let ⟨v1902, v1911, v1918⟩ : Σ' (v1902 : FVec F S32x1 .f32) (v1911 : FVec F S32x1 .bf16), FVec F S32x4096 .fp8e4m3 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1806 v1873 v1874
    let ⟨v1931, v1934, v1935, v1970⟩ : Σ' (v1931 : FVec F S32x128 .f32) (v1934 : FVec F S32x4096 .bf16) (v1935 : FVec F S32x4096 .bf16), FVec F S32x128 .bf16 ← k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1902 v1911 v1918
    let ⟨v2016, v2018, v2020, c255_i32_664⟩ : Σ' (v2016 : IVec S32x1 32) (v2018 : IVec S32x1 32) (v2020 : IVec S32x1 1), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1935 v1970
    let ⟨v2059, v2062, v2063, v2064⟩ : Σ' (v2059 : FVec F S32x128 .f32) (v2062 : FVec F S32x4096 .bf16) (v2063 : FVec F S32x4096 .bf16), FVec F S32x128 .bf16 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v1934 v2016 v2018 v2020 c255_i32_664
    let v2124 : FVec F S32x128 .bf16 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v2063 v2064
    let ⟨v2158, v2167, v2168⟩ : Σ' (v2158 : FVec F S32x1 .f32) (v2167 : FVec F S32x1 .bf16), FVec F S32x4096 .bf16 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v2063 v2124
    let ⟨v2187, v2190, v2191, v2218⟩ : Σ' (v2187 : FVec F S32x128 .f32) (v2190 : FVec F S32x4096 .bf16) (v2191 : FVec F S32x4096 .bf16), FVec F S32x128 .bf16 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v2062 v2158 v2167 v2168
    let ⟨v2270, v2271⟩ : Σ' (v2270 : IVec S32x1 32), IVec S32x1 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v2191 v2218
    let v2314 : FVec F S32x1 .f32 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v2190 v2270 v2271
    let ⟨v2315, v2318, v2319, v2372⟩ : Σ' (v2315 : FVec F S32x128 .f32) (v2318 : FVec F S32x4096 .bf16) (v2319 : FVec F S32x4096 .bf16), FVec F S32x128 .bf16 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1391 v2314
    let ⟨v2414, v2416, v2417⟩ : Σ' (v2414 : FVec F S32x1 .f32) (v2416 : IVec S32x1 32), IVec S32x1 32 ← k0_part32 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v2319 v2372
    let v2459 : FVec F S256x4096 .bf16 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1390 v1391 v1419 v1547 v1675 v1803 v1931 v2059 v2187 v2315 v2318 v2414 v2416 v2417
    let v2492 : FVec F S256x512 .bf16 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1390 v2459
    k0_part35 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1390 v2492
    let v2559 : FVec F S256x4096 .bf16 ← k0_part36 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k0_t12 v1390
    let v2560 : Vec F S4096x512 .bf16 ← Prog.lift (.load arg6 (Rect.unit (s := S4096x5632) ![0, 5120] S4096x512.size inb_S4096x5632_S4096x512_0_5120).toLoadRect (View.loadsAt_vmem h_S4096x512))
    let v2564 : Vec F S1x256x512 .bf16 ← Prog.lift (.load arg10 (Rect.unit (s := S2x256x5632) (k0_off95 k0_t12) S1x256x512.size (k0_off95_inb k0_t12)).toLoadRect (View.loadsAt_vmem h_S1x256x512))
    Prog.lift (.store arg10 (Rect.unit (s := S2x256x5632) (k0_off95 k0_t12) S1x256x512.size (k0_off95_inb k0_t12)) (k0_pay265 v2559 v2560) Finset.univ (View.stores_vmem h_S1x256x512 (harg10.storeExact_slice rfl _ (k0_off95_packedbf16 k0_t12)) (fun _ => rfl)) (.inl rfl))
    pure ⟨⟩

theorem t12_body_eq (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (v480 : FVec F S32x128 .f32) (v605 : FVec F S32x128 .f32) (v730 : FVec F S32x128 .f32) (v855 : FVec F S32x128 .f32) (v980 : FVec F S32x128 .f32) (v1105 : FVec F S32x128 .f32) (v1230 : FVec F S32x128 .f32) (v1328 : FVec F S32x1 .f32) (v1347 : FVec F S32x4096 .bf16) (v1351 : Vec F S1x32x4096 .bf16) (k : Fin k0_t12_loop.trips) :
    k0_t12_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351 k ()
      = (k0_part12 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 0#32 1#32 k >>= fun x => compute arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k x.1 x.2.1 x.2.2.1 x.2.2.2.1 x.2.2.2.2) := rfl

/-- The tile quantised at trip `k`: the next, or once more the one before at the last trip. -/
def nxt (k : ℕ) : ℕ := if k + 1 < 48 then k + 1 else 46

theorem off83_eq : ∀ k : Fin k0_t12_loop.trips, k0_off83 k = ![nxt k.val / 6, 0, 256 * (nxt k.val % 6)] := by decide +kernel

set_option maxRecDepth 65536 in
theorem compute_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (k : Fin k0_t12_loop.trips) (v1389 v1390 v1391 : BitVec 32) (v1416 : BitVec 1) (v1417 : BitVec 32)
    (X : ℕ → ℕ → Elt F .bf16) (w : ℕ → ℕ → Elt F .bf16) (Q : Unit → sProp 𝕄) :
    iprop(own (c : Thread nD τ) fullShare arg7 (slot (1 - k.val % 2)) (n3 (tile X (nxt k.val)))
      ∗ part (c : Thread nD τ) arg8 (slot (1 - k.val % 2)) (rows (32 * 0)) (n3 (tile (codeN X) (nxt k.val)))
      ∗ part (c : Thread nD τ) arg9 (slot (1 - k.val % 2)) (rows (32 * 0)) (n3 (tile (xwN X) (nxt k.val)))
      ∗ own (c : Thread nD τ) fullShare arg9 (slot (k.val % 2)) (n3 (tile (xwN X) k.val))
      ∗ own (c : Thread nD τ) fullShare arg6 Finset.univ (n2 w)
      ∗ part (c : Thread nD τ) arg10 (slot (k.val % 2)) (cols (512 * 0)) (n3 (tile (yN (xwN X) w) k.val))
      ∗ part (c : Thread nD τ) arg5 Finset.univ (doneS (min (k.val + 1) 48)) (sclA X))
    ⊢ iprop(((own (c : Thread nD τ) fullShare arg7 (slot (1 - k.val % 2)) (n3 (tile X (nxt k.val)))
      ∗ own (c : Thread nD τ) fullShare arg8 (slot (1 - k.val % 2)) (n3 (tile (codeN X) (nxt k.val)))
      ∗ own (c : Thread nD τ) fullShare arg9 (slot (1 - k.val % 2)) (n3 (tile (xwN X) (nxt k.val)))
      ∗ own (c : Thread nD τ) fullShare arg9 (slot (k.val % 2)) (n3 (tile (xwN X) k.val))
      ∗ own (c : Thread nD τ) fullShare arg6 Finset.univ (n2 w)
      ∗ own (c : Thread nD τ) fullShare arg10 (slot (k.val % 2)) (n3 (tile (yN (xwN X) w) k.val))
      ∗ part (c : Thread nD τ) arg5 Finset.univ (doneS (min (k.val + 2) 48)) (sclA X)) -∗ Q ())
      -∗ wp frame (wpE (defs₀ (F := F)) Variants.none (c : Thread nD τ) none) Set.univ
          (compute arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k v1389 v1390 v1391 v1416 v1417) Q) := by
  have hk : k.val < 48 := lt_of_lt_of_eq k.isLt (by decide)
  iintro ⟨H7, H8, H9, H9', H6, H10, H5⟩ HQ
  unfold compute
  simp only [wp_bind, wp_pure]
  rw [k0_part13_eq_skeleton]; unfold k0_part13_skel; simp only [wp_bind, wp_pure]
  iapply (ld_blk (nxt k.val) 0 (k0_off75_eq k)) $$ H7
  iintro H7
  imodintro
  rw [k0_part14_eq_skeleton]; unfold k0_part14_skel; simp only [wp_bind, wp_pure]
  imodintro
  rw [k0_part15_eq_skeleton]; unfold k0_part15_skel; simp only [wp_bind, wp_pure]
  iapply (ld_any (k0_off75_eq k) rfl) $$ H8
  iintro %_ H8
  iapply (st_rows (nxt k.val) 0 (k0_off75_eq k) (codeN_at X (8 * nxt k.val + 0))) $$ H8
  iintro H8
  iapply (ld_any (k0_off75_eq k) rfl) $$ H9
  iintro %_ H9
  iapply (st_rows (nxt k.val) 0 (k0_off75_eq k) (xwN_at X (8 * nxt k.val + 0))) $$ H9
  iintro H9
  iapply (ld_blk (nxt k.val) 1 (k0_off76_eq k)) $$ H7
  iintro H7
  imodintro
  rw [k0_part16_eq_skeleton]; unfold k0_part16_skel; simp only [wp_bind, wp_pure]
  imodintro
  rw [k0_part17_eq_skeleton]; unfold k0_part17_skel; simp only [wp_bind, wp_pure]
  iapply (ld_any (k0_off76_eq k) rfl) $$ H8
  iintro %_ H8
  imodintro
  rw [k0_part18_eq_skeleton]; unfold k0_part18_skel; simp only [wp_bind, wp_pure]
  iapply (st_rows (nxt k.val) 1 (k0_off76_eq k) (codeN_at X (8 * nxt k.val + 1))) $$ H8
  iintro H8
  iapply (ld_any (k0_off76_eq k) rfl) $$ H9
  iintro %_ H9
  iapply (st_rows (nxt k.val) 1 (k0_off76_eq k) (xwN_at X (8 * nxt k.val + 1))) $$ H9
  iintro H9
  iapply (ld_blk (nxt k.val) 2 (k0_off77_eq k)) $$ H7
  iintro H7
  imodintro
  rw [k0_part19_eq_skeleton]; unfold k0_part19_skel; simp only [wp_bind, wp_pure]
  imodintro
  rw [k0_part20_eq_skeleton]; unfold k0_part20_skel; simp only [wp_bind, wp_pure]
  iapply (ld_any (k0_off77_eq k) rfl) $$ H8
  iintro %_ H8
  iapply (st_rows (nxt k.val) 2 (k0_off77_eq k) (codeN_at X (8 * nxt k.val + 2))) $$ H8
  iintro H8
  iapply (ld_any (k0_off77_eq k) rfl) $$ H9
  iintro %_ H9
  iapply (st_rows (nxt k.val) 2 (k0_off77_eq k) (xwN_at X (8 * nxt k.val + 2))) $$ H9
  iintro H9
  iapply (ld_blk (nxt k.val) 3 (k0_off78_eq k)) $$ H7
  iintro H7
  imodintro
  rw [k0_part21_eq_skeleton]; unfold k0_part21_skel; simp only [wp_bind, wp_pure]
  imodintro
  rw [k0_part22_eq_skeleton]; unfold k0_part22_skel; simp only [wp_bind, wp_pure]
  imodintro
  rw [k0_part23_eq_skeleton]; unfold k0_part23_skel; simp only [wp_bind, wp_pure]
  iapply (ld_any (k0_off78_eq k) rfl) $$ H8
  iintro %_ H8
  iapply (st_rows (nxt k.val) 3 (k0_off78_eq k) (codeN_at X (8 * nxt k.val + 3))) $$ H8
  iintro H8
  iapply (ld_any (k0_off78_eq k) rfl) $$ H9
  iintro %_ H9
  iapply (st_rows (nxt k.val) 3 (k0_off78_eq k) (xwN_at X (8 * nxt k.val + 3))) $$ H9
  iintro H9
  iapply (ld_blk (nxt k.val) 4 (k0_off79_eq k)) $$ H7
  iintro H7
  imodintro
  rw [k0_part24_eq_skeleton]; unfold k0_part24_skel; simp only [wp_bind, wp_pure]
  imodintro
  rw [k0_part25_eq_skeleton]; unfold k0_part25_skel; simp only [wp_bind, wp_pure]
  iapply (ld_any (k0_off79_eq k) rfl) $$ H8
  iintro %_ H8
  iapply (st_rows (nxt k.val) 4 (k0_off79_eq k) (codeN_at X (8 * nxt k.val + 4))) $$ H8
  iintro H8
  iapply (ld_any (k0_off79_eq k) rfl) $$ H9
  iintro %_ H9
  iapply (st_rows (nxt k.val) 4 (k0_off79_eq k) (xwN_at X (8 * nxt k.val + 4))) $$ H9
  iintro H9
  iapply (ld_blk (nxt k.val) 5 (k0_off80_eq k)) $$ H7
  iintro H7
  imodintro
  rw [k0_part26_eq_skeleton]; unfold k0_part26_skel; simp only [wp_bind, wp_pure]
  imodintro
  rw [k0_part27_eq_skeleton]; unfold k0_part27_skel; simp only [wp_bind, wp_pure]
  imodintro
  rw [k0_part28_eq_skeleton]; unfold k0_part28_skel; simp only [wp_bind, wp_pure]
  iapply (ld_any (k0_off80_eq k) rfl) $$ H8
  iintro %_ H8
  iapply (st_rows (nxt k.val) 5 (k0_off80_eq k) (codeN_at X (8 * nxt k.val + 5))) $$ H8
  iintro H8
  iapply (ld_any (k0_off80_eq k) rfl) $$ H9
  iintro %_ H9
  iapply (st_rows (nxt k.val) 5 (k0_off80_eq k) (xwN_at X (8 * nxt k.val + 5))) $$ H9
  iintro H9
  iapply (ld_blk (nxt k.val) 6 (k0_off81_eq k)) $$ H7
  iintro H7
  imodintro
  rw [k0_part29_eq_skeleton]; unfold k0_part29_skel; simp only [wp_bind, wp_pure]
  imodintro
  rw [k0_part30_eq_skeleton]; unfold k0_part30_skel; simp only [wp_bind, wp_pure]
  iapply (ld_any (k0_off81_eq k) rfl) $$ H8
  iintro %_ H8
  iapply (st_rows (nxt k.val) 6 (k0_off81_eq k) (codeN_at X (8 * nxt k.val + 6))) $$ H8
  iintro H8
  iapply (ld_any (k0_off81_eq k) rfl) $$ H9
  iintro %_ H9
  iapply (st_rows (nxt k.val) 6 (k0_off81_eq k) (xwN_at X (8 * nxt k.val + 6))) $$ H9
  iintro H9
  imodintro
  rw [k0_part31_eq_skeleton]; unfold k0_part31_skel; simp only [wp_bind, wp_pure]
  iapply (ld_blk (nxt k.val) 7 (k0_off82_eq k)) $$ H7
  iintro H7
  imodintro
  rw [k0_part32_eq_skeleton]; unfold k0_part32_skel; simp only [wp_bind, wp_pure]
  imodintro
  rw [k0_part33_eq_skeleton]; unfold k0_part33_skel; simp only [wp_bind, wp_pure]
  iapply (ld_any (k0_off82_eq k) rfl) $$ H8
  iintro %_ H8
  iapply (st_rows (nxt k.val) 7 (k0_off82_eq k) (codeN_at X (8 * nxt k.val + 7))) $$ H8
  iintro H8
  iapply (ld_any (k0_off82_eq k) rfl) $$ H9
  iintro %_ H9
  iapply (st_rows (nxt k.val) 7 (k0_off82_eq k) (xwN_at X (8 * nxt k.val + 7))) $$ H9
  iintro H9
  iapply (part_ld Variants.none none (Finset.subset_univ _)) $$ H5
  iintro %_ H5
  iapply (st_scl (nxt k.val) (min (k.val + 1) 48) (min (k.val + 2) 48) (off83_eq k) (by unfold nxt; split <;> omega) rfl) $$ H5
  iintro H5
  iapply (ld_tile k.val (k0_off84_eq k)) $$ H9'
  iintro H9'
  imodintro
  rw [k0_part34_eq_skeleton]; unfold k0_part34_skel; simp only [wp_bind, wp_pure]
  iapply (ld_w 0 rfl) $$ H6
  iintro H6
  iapply (ld_any (k0_off85_eq k) rfl) $$ H10
  iintro %_ H10
  iapply (st_cols k.val 0 (k0_off85_eq k) rfl) $$ H10
  iintro H10
  iapply (ld_tile k.val (k0_off84_eq k)) $$ H9'
  iintro H9'
  iapply (ld_w 1 rfl) $$ H6
  iintro H6
  iapply (ld_any (k0_off86_eq k) rfl) $$ H10
  iintro %_ H10
  iapply (st_cols k.val 1 (k0_off86_eq k) rfl) $$ H10
  iintro H10
  iapply (ld_tile k.val (k0_off84_eq k)) $$ H9'
  iintro H9'
  iapply (ld_w 2 rfl) $$ H6
  iintro H6
  iapply (ld_any (k0_off87_eq k) rfl) $$ H10
  iintro %_ H10
  iapply (st_cols k.val 2 (k0_off87_eq k) rfl) $$ H10
  iintro H10
  iapply (ld_tile k.val (k0_off84_eq k)) $$ H9'
  iintro H9'
  iapply (ld_w 3 rfl) $$ H6
  iintro H6
  imodintro
  rw [k0_part35_eq_skeleton]; unfold k0_part35_skel; simp only [wp_bind, wp_pure]
  iapply (ld_any (k0_off88_eq k) rfl) $$ H10
  iintro %_ H10
  iapply (st_cols k.val 3 (k0_off88_eq k) rfl) $$ H10
  iintro H10
  iapply (ld_tile k.val (k0_off84_eq k)) $$ H9'
  iintro H9'
  iapply (ld_w 4 rfl) $$ H6
  iintro H6
  iapply (ld_any (k0_off89_eq k) rfl) $$ H10
  iintro %_ H10
  iapply (st_cols k.val 4 (k0_off89_eq k) rfl) $$ H10
  iintro H10
  iapply (ld_tile k.val (k0_off84_eq k)) $$ H9'
  iintro H9'
  iapply (ld_w 5 rfl) $$ H6
  iintro H6
  iapply (ld_any (k0_off90_eq k) rfl) $$ H10
  iintro %_ H10
  iapply (st_cols k.val 5 (k0_off90_eq k) rfl) $$ H10
  iintro H10
  iapply (ld_tile k.val (k0_off84_eq k)) $$ H9'
  iintro H9'
  iapply (ld_w 6 rfl) $$ H6
  iintro H6
  iapply (ld_any (k0_off91_eq k) rfl) $$ H10
  iintro %_ H10
  iapply (st_cols k.val 6 (k0_off91_eq k) rfl) $$ H10
  iintro H10
  imodintro
  rw [k0_part36_eq_skeleton]; unfold k0_part36_skel; simp only [wp_bind, wp_pure]
  iapply (ld_tile k.val (k0_off84_eq k)) $$ H9'
  iintro H9'
  iapply (ld_w 7 rfl) $$ H6
  iintro H6
  iapply (ld_any (k0_off92_eq k) rfl) $$ H10
  iintro %_ H10
  iapply (st_cols k.val 7 (k0_off92_eq k) rfl) $$ H10
  iintro H10
  iapply (ld_tile k.val (k0_off84_eq k)) $$ H9'
  iintro H9'
  iapply (ld_w 8 rfl) $$ H6
  iintro H6
  iapply (ld_any (k0_off93_eq k) rfl) $$ H10
  iintro %_ H10
  iapply (st_cols k.val 8 (k0_off93_eq k) rfl) $$ H10
  iintro H10
  iapply (ld_tile k.val (k0_off84_eq k)) $$ H9'
  iintro H9'
  iapply (ld_w 9 rfl) $$ H6
  iintro H6
  iapply (ld_any (k0_off94_eq k) rfl) $$ H10
  iintro %_ H10
  iapply (st_cols k.val 9 (k0_off94_eq k) rfl) $$ H10
  iintro H10
  iapply (ld_tile k.val (k0_off84_eq k)) $$ H9'
  iintro H9'
  imodintro
  iapply (ld_w 10 rfl) $$ H6
  iintro H6
  iapply (ld_any (k0_off95_eq k) rfl) $$ H10
  iintro %_ H10
  iapply (st_cols k.val 10 (k0_off95_eq k) rfl) $$ H10
  iintro H10
  imodintro
  iapply HQ
  isplitl [H7]; · iexact H7
  isplitl [H8]
  · iapply (part_all fun i _ => show (i (1 : Fin 3)).val < 256 from (i (1 : Fin 3)).isLt) $$ H8
  isplitl [H9]
  · iapply (part_all fun i _ => show (i (1 : Fin 3)).val < 256 from (i (1 : Fin 3)).isLt) $$ H9
  isplitl [H9']; · iexact H9'
  isplitl [H6]; · iexact H6
  isplitl [H10]
  · iapply (part_all fun i _ => show (i (2 : Fin 3)).val < 5632 from (i (2 : Fin 3)).isLt) $$ H10
  iexact H5

end Cert.Proof.KernelIdeal

end
-- ==== Proof.KernelIdealMoves.lean ====
/-
  The transfers of a trip of the main loop. Before trip `k` the product of tile `k - 2` is on its way out of slot
  `k mod 2`, the product of tile `k - 1` stands finished in the other slot, the codes of tile `k - 1` are on their way
  out, those of tile `k` stand in slot `k mod 2`, and tile `k + 1` of the rows is on its way in. A trip sends tile
  `k - 1` of the product and tile `k` of the codes, awaits what occupied the slots it will fill, and calls tile `k + 2`.
-/
module

public import proofs.«01_k».proof.Proof.KernelIdealBlocks

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

/-- The tile that stands in slot `k mod 2` before trip `k`. -/
def cur (k : ℕ) : ℕ := if k < 48 then k else 46

/-- The library's counters within the algebra. -/
abbrev EC : UEmb Counters 𝕄 := countersEmb

section States

variable (c : Dev nD)

/-- What an output ring and its matrix hold while tile `T - 1` leaves slot `p`, if there is one. -/
def leaving {A C : ℕ} {e : EltTy} (m2 : Memref sig .tc .hbm (Sh2 A C) e) (m3 : Memref sig .tc .vmem (Sh3 2 256 C) e) (s : DmaSem sig) (H : ℕ → ℕ → Elt F e) (b : Prop) [Decidable b] (T p : ℕ) : sProp 𝕄 :=
  if b then flOut (c : Thread nD τ) EC () m2 m3 s H T p else idle (c : Thread nD τ) m3 s p

/-- The product's ring before trip `k`, -/
def Y0 (m2 : Memref sig .tc .hbm S12288x5632 .bf16) (m3 : Memref sig .tc .vmem S2x256x5632 .bf16) (sm : DmaSems sig S2) (H : ℕ → ℕ → Elt F .bf16) (k : ℕ) : sProp 𝕄 :=
  iprop(own (c : Thread nD τ) fullShare m2 (band 0 (256 * (k - 2))) (n2 H) ∗ rest (c : Thread nD τ) m2 (256 * (k - 1))
    ∗ leaving c m2 m3 (cellAt sm (k % 2)) H (2 ≤ k) (k - 2) (k % 2)
    ∗ (∃ g, ⌜1 ≤ k → g = n3 (tile H (k - 1))⌝ ∗ own (c : Thread nD τ) fullShare m3 (slot (1 - k % 2)) g) ∗ semVal ((c : Thread nD τ), .dma (cellAt sm (1 - k % 2))) 0)
/-- after tile `k - 1` is sent, -/
def Y1 (m2 : Memref sig .tc .hbm S12288x5632 .bf16) (m3 : Memref sig .tc .vmem S2x256x5632 .bf16) (sm : DmaSems sig S2) (H : ℕ → ℕ → Elt F .bf16) (k : ℕ) : sProp 𝕄 :=
  iprop(own (c : Thread nD τ) fullShare m2 (band 0 (256 * (k - 2))) (n2 H) ∗ rest (c : Thread nD τ) m2 (256 * k)
    ∗ leaving c m2 m3 (cellAt sm (k % 2)) H (2 ≤ k) (k - 2) (k % 2)
    ∗ leaving c m2 m3 (cellAt sm (1 - k % 2)) H (1 ≤ k) (k - 1) (1 - k % 2))
/-- and once the slot that trip `k` fills is free. -/
def Y2 (m2 : Memref sig .tc .hbm S12288x5632 .bf16) (m3 : Memref sig .tc .vmem S2x256x5632 .bf16) (sm : DmaSems sig S2) (H : ℕ → ℕ → Elt F .bf16) (k : ℕ) : sProp 𝕄 :=
  iprop(own (c : Thread nD τ) fullShare m2 (band 0 (256 * (k - 1))) (n2 H) ∗ rest (c : Thread nD τ) m2 (256 * k)
    ∗ idle (c : Thread nD τ) m3 (cellAt sm (k % 2)) (k % 2)
    ∗ leaving c m2 m3 (cellAt sm (1 - k % 2)) H (1 ≤ k) (k - 1) (1 - k % 2))

/-- The codes' ring before trip `k`, -/
def C0 (m2 : Memref sig .tc .hbm S12288x4096 .fp8e4m3) (m3 : Memref sig .tc .vmem S2x256x4096 .fp8e4m3) (sm : DmaSems sig S2) (H : ℕ → ℕ → Elt F .fp8e4m3) (k : ℕ) : sProp 𝕄 :=
  iprop(own (c : Thread nD τ) fullShare m2 (band 0 (256 * (k - 1))) (n2 H) ∗ rest (c : Thread nD τ) m2 (256 * k)
    ∗ leaving c m2 m3 (cellAt sm (1 - k % 2)) H (1 ≤ k) (k - 1) (1 - k % 2)
    ∗ own (c : Thread nD τ) fullShare m3 (slot (k % 2)) (n3 (tile H (cur k))) ∗ semVal ((c : Thread nD τ), .dma (cellAt sm (k % 2))) 0)
/-- once tile `k - 1` is out, -/
def C1 (m2 : Memref sig .tc .hbm S12288x4096 .fp8e4m3) (m3 : Memref sig .tc .vmem S2x256x4096 .fp8e4m3) (sm : DmaSems sig S2) (H : ℕ → ℕ → Elt F .fp8e4m3) (k : ℕ) : sProp 𝕄 :=
  iprop(own (c : Thread nD τ) fullShare m2 (band 0 (256 * k)) (n2 H) ∗ rest (c : Thread nD τ) m2 (256 * k)
    ∗ idle (c : Thread nD τ) m3 (cellAt sm (1 - k % 2)) (1 - k % 2)
    ∗ own (c : Thread nD τ) fullShare m3 (slot (k % 2)) (n3 (tile H (cur k))) ∗ semVal ((c : Thread nD τ), .dma (cellAt sm (k % 2))) 0)
/-- and after tile `k` is sent. -/
def C2 (m2 : Memref sig .tc .hbm S12288x4096 .fp8e4m3) (m3 : Memref sig .tc .vmem S2x256x4096 .fp8e4m3) (sm : DmaSems sig S2) (H : ℕ → ℕ → Elt F .fp8e4m3) (k : ℕ) : sProp 𝕄 :=
  iprop(own (c : Thread nD τ) fullShare m2 (band 0 (256 * k)) (n2 H) ∗ rest (c : Thread nD τ) m2 (256 * (k + 1))
    ∗ flOut (c : Thread nD τ) EC () m2 m3 (cellAt sm (k % 2)) H k (k % 2)
    ∗ idle (c : Thread nD τ) m3 (cellAt sm (1 - k % 2)) (1 - k % 2))

/-- The rows of tile `T`. -/
abbrev win (T : ℕ) : Finset S12288x4096.Idx := sub2 (256 * T) 0 256 4096

/-- Slot `p` receiving tile `T`, or already holding tile `T'`. -/
def coming (m2 : Memref sig .tc .hbm S12288x4096 .bf16) (m3 : Memref sig .tc .vmem S2x256x4096 .bf16) (s : DmaSem sig) (H : ℕ → ℕ → Elt F .bf16) (b : Prop) [Decidable b] (T T' p : ℕ) : sProp 𝕄 :=
  if b then flIn (c : Thread nD τ) EC () m2 m3 s H T p
  else iprop(own (c : Thread nD τ) fullShare m3 (slot p) (n3 (tile H T')) ∗ semVal ((c : Thread nD τ), .dma s) 0)

/-- The rows' ring before trip `k`, -/
def X0 (m2 : Memref sig .tc .hbm S12288x4096 .bf16) (m3 : Memref sig .tc .vmem S2x256x4096 .bf16) (sm : DmaSems sig S2) (H : ℕ → ℕ → Elt F .bf16) (k : ℕ) : sProp 𝕄 :=
  iprop(own (c : Thread nD τ) fullShare m2 (Finset.univ \ (if k + 1 < 48 then win (k + 1) else ∅)) (n2 H)
    ∗ coming c m2 m3 (cellAt sm (1 - k % 2)) H (k + 1 < 48) (k + 1) (k - 1) (1 - k % 2)
    ∗ own (c : Thread nD τ) fullShare m3 (slot (k % 2)) (n3 (tile H (cur k))) ∗ semVal ((c : Thread nD τ), .dma (cellAt sm (k % 2))) 0)
/-- after tile `k + 2` is called. -/
def X1 (m2 : Memref sig .tc .hbm S12288x4096 .bf16) (m3 : Memref sig .tc .vmem S2x256x4096 .bf16) (sm : DmaSems sig S2) (H : ℕ → ℕ → Elt F .bf16) (k : ℕ) : sProp 𝕄 :=
  iprop(own (c : Thread nD τ) fullShare m2 ((Finset.univ \ (if k + 1 < 48 then win (k + 1) else ∅)) \ (if k + 2 < 48 then win (k + 2) else ∅)) (n2 H)
    ∗ coming c m2 m3 (cellAt sm (1 - k % 2)) H (k + 1 < 48) (k + 1) (k - 1) (1 - k % 2)
    ∗ coming c m2 m3 (cellAt sm (k % 2)) H (k + 2 < 48) (k + 2) (cur k) (k % 2))
/-- and once the tile that trip `k` quantises is here. -/
def X2 (m2 : Memref sig .tc .hbm S12288x4096 .bf16) (m3 : Memref sig .tc .vmem S2x256x4096 .bf16) (sm : DmaSems sig S2) (H : ℕ → ℕ → Elt F .bf16) (k : ℕ) : sProp 𝕄 :=
  iprop(own (c : Thread nD τ) fullShare m2 (Finset.univ \ (if k + 2 < 48 then win (k + 2) else ∅)) (n2 H)
    ∗ (own (c : Thread nD τ) fullShare m3 (slot (1 - k % 2)) (n3 (tile H (cur (k + 1)))) ∗ semVal ((c : Thread nD τ), .dma (cellAt sm (1 - k % 2))) 0)
    ∗ coming c m2 m3 (cellAt sm (k % 2)) H (k + 2 < 48) (k + 2) (cur k) (k % 2))

end States

theorem cond1_iff : ∀ k : Fin k0_t12_loop.trips, k0_cond1 k = 1#1 ↔ 1 ≤ k.val := by decide +kernel
theorem cond2_iff : ∀ k : Fin k0_t12_loop.trips, k0_cond2 k = 1#1 ↔ 2 ≤ k.val := by decide +kernel
theorem cond3_iff : ∀ k : Fin k0_t12_loop.trips, k0_cond3 k = 1#1 ↔ 1 ≤ k.val := by decide +kernel
theorem cond4_iff : ∀ k : Fin k0_t12_loop.trips, k0_cond4 k = 1#1 ↔ k.val + 2 < 48 := by decide +kernel
theorem cond5_iff : ∀ k : Fin k0_t12_loop.trips, k0_cond5 k = 1#1 ↔ k.val + 1 < 48 := by decide +kernel
theorem off58_eq : ∀ k : Fin k0_t12_loop.trips, k0_cond1 k = 1#1 → k0_off58 k = ![256 * (k.val - 1), 0] := by decide +kernel
theorem off71_eq (k : Fin k0_t12_loop.trips) : k0_off71 k = ![256 * (k.val + 2), 0] := by rw [k0_off71_eq, Nat.mul_add]

theorem pos5632 : 0 < (Sh2 256 5632).numel := by decide
theorem pos4096 : 0 < (Sh2 256 4096).numel := by decide

theorem win_sub (k : ℕ) : win (k + 1) ⊆ Finset.univ \ (if k + 2 < 48 then win (k + 2) else ∅) := fun i hi => by
  rw [Finset.mem_sdiff]
  refine ⟨Finset.mem_univ _, ?_⟩
  split
  · rw [mem_sub2]; rw [mem_sub2] at hi; omega
  · exact Finset.notMem_empty _

theorem win_sub' (k : ℕ) : win (k + 2) ⊆ Finset.univ \ win (k + 1) := sub2_disj (by omega)

theorem trip_lt {k : ℕ} (hk : k < 48) : 256 * (k + 1) ≤ 12288 := by omega

theorem C1_open (c : Dev nD) (m2 : Memref sig .tc .hbm S12288x4096 .fp8e4m3) (m3 : Memref sig .tc .vmem S2x256x4096 .fp8e4m3) (sm : DmaSems sig S2) (H : ℕ → ℕ → Elt F .fp8e4m3) (k : ℕ) (hk : k < 48) :
    (C1 c m2 m3 sm H k : sProp 𝕄) ⊢ iprop(own (c : Thread nD τ) fullShare m2 (band 0 (256 * k)) (n2 H) ∗ idle (c : Thread nD τ) m3 (cellAt sm (1 - k % 2)) (1 - k % 2)
      ∗ (own (c : Thread nD τ) fullShare m3 (slot (k % 2)) (n3 (tile H k)) ∗ semVal ((c : Thread nD τ), .dma (cellAt sm (k % 2))) 0 ∗ rest (c : Thread nD τ) m2 (256 * k))) := by
  unfold C1
  rw [show cur k = k from if_pos hk]
  iintro ⟨Hd, Hr, Hi, Hs, Hv⟩
  isplitl [Hd]; · iexact Hd
  isplitl [Hi]; · iexact Hi
  isplitl [Hs]; · iexact Hs
  isplitl [Hv]; · iexact Hv
  iexact Hr

theorem sep_mk {P Q : sProp 𝕄} : P ⊢ iprop(Q -∗ (P ∗ Q)) := by
  iintro HP HQ
  isplitl [HP] <;> iassumption

set_option maxRecDepth 65536 in
/-- The transfers of a trip. -/
theorem part12_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (k : Fin k0_t12_loop.trips) (w1 w2 : BitVec 32)
    (X HY : ℕ → ℕ → Elt F .bf16) (HC : ℕ → ℕ → Elt F .fp8e4m3) (Q : _ → sProp 𝕄) :
    iprop(Y0 c arg3 arg10 arg16 HY k.val ∗ C0 c arg4 arg8 arg15 HC k.val ∗ X0 c arg0 arg7 arg14 X k.val ∗ OW (c : Thread nD τ))
    ⊢ iprop((∀ v, Y2 c arg3 arg10 arg16 HY k.val -∗ C2 c arg4 arg8 arg15 HC k.val -∗ X2 c arg0 arg7 arg14 X k.val -∗ OW (c : Thread nD τ) -∗ Q v)
      -∗ wp frame (wpE (defs₀ (F := F)) Variants.none (c : Thread nD τ) none) Set.univ
          (k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 w1 w2 k) Q) := by
  have hk : k.val < 48 := lt_of_lt_of_eq k.isLt (by decide)
  iintro ⟨HY, HC, HX, HO⟩ HQ
  rw [k0_part12_eq_skeleton]
  unfold k0_part12_skel
  simp only [wp_bind, wp_pure]
  iapply (wp_when Variants.none _ none (P := Y0 c arg3 arg10 arg16 HY k.val) (R := Y1 c arg3 arg10 arg16 HY k.val) ?_ ?_) $$ HY
  · intro h K
    have hc := (cond1_iff k).mp h
    have e : k.val - 1 + 1 = k.val := by omega
    have hl : leaving c arg3 arg10 (cellAt arg16 (1 - k.val % 2)) HY (1 ≤ k.val) (k.val - 1) (1 - k.val % 2) = _ := if_pos hc
    unfold Y0 Y1
    rw [hl]
    iintro ⟨Hd, Hr, Hl, ⟨%gs, %hgs, Hs⟩, Hv⟩ HR
    obtain rfl := hgs hc
    iapply (out_send Variants.none _ none EC () (k.val - 1) (cellAt arg16 (1 - k.val % 2)) (cellAt_eq (k0_off57_eq k) _ _) (off58_eq k h) (k0_off59_eq k) pos5632 (by omega)) $$ [Hs Hv Hr]
    · isplitl [Hs]; · iexact Hs
      isplitl [Hv]; · iexact Hv
      iexact Hr
    rw [e]
    iintro HF Hr
    iapply HR
    isplitl [Hd]; · iexact Hd
    isplitl [Hr]; · iexact Hr
    isplitl [Hl]; · iexact Hl
    iexact HF
  · intro h
    have hc : ¬ 1 ≤ k.val := fun hh => h ((cond1_iff k).mpr hh)
    have e : k.val - 1 = k.val := by omega
    have hl : leaving c arg3 arg10 (cellAt arg16 (1 - k.val % 2)) HY (1 ≤ k.val) (k.val - 1) (1 - k.val % 2) = _ := if_neg hc
    unfold Y0 Y1
    rw [hl, e]
    iintro ⟨Hd, Hr, Hl, ⟨%gs, %hgs, Hs⟩, Hv⟩
    isplitl [Hd]; · iexact Hd
    isplitl [Hr]; · iexact Hr
    isplitl [Hl]; · iexact Hl
    unfold idle
    isplitl [Hs]
    · iexists gs; iexact Hs
    · iexact Hv
  iintro HY
  ihave HYO := (sep_mk (P := Y1 c arg3 arg10 arg16 HY k.val) (Q := OW (c : Thread nD τ))) $$ HY HO
  iapply (wp_when Variants.none _ none (P := iprop(Y1 c arg3 arg10 arg16 HY k.val ∗ OW (c : Thread nD τ))) (R := iprop(Y2 c arg3 arg10 arg16 HY k.val ∗ OW (c : Thread nD τ))) ?_ ?_) $$ HYO
  · intro h K
    have hc := (cond2_iff k).mp h
    have e : k.val - 2 + 1 = k.val - 1 := by omega
    have hl : leaving c arg3 arg10 (cellAt arg16 (k.val % 2)) HY (2 ≤ k.val) (k.val - 2) (k.val % 2) = _ := if_pos hc
    unfold Y1 Y2
    rw [hl]
    iintro ⟨⟨Hd, Hr, Hl, Hs⟩, HO⟩ HR
    iapply (out_wait Variants.none _ none EC () (k.val - 2) (cellAt arg16 (k.val % 2)) (cellAt_eq (k0_off60_eq k) _ _) credit_sub) $$ [Hl Hd HO]
    · isplitl [Hl]; · iexact Hl
      isplitl [Hd]; · iexact Hd
      iexact HO
    rw [e]
    iintro Hd Hs' Hv HO
    iapply HR
    isplitr [HO]
    · isplitl [Hd]; · iexact Hd
      isplitl [Hr]; · iexact Hr
      isplitl [Hs' Hv]
      · unfold idle
        isplitl [Hs']
        · iexists _; iexact Hs'
        · iexact Hv
      iexact Hs
    · iexact HO
  · intro h
    have hc : ¬ 2 ≤ k.val := fun hh => h ((cond2_iff k).mpr hh)
    have e : k.val - 1 = k.val - 2 := by omega
    have hl : leaving c arg3 arg10 (cellAt arg16 (k.val % 2)) HY (2 ≤ k.val) (k.val - 2) (k.val % 2) = _ := if_neg hc
    unfold Y1 Y2
    rw [hl, ← e]
  iintro ⟨HY, HO⟩
  ihave HCO := (sep_mk (P := C0 c arg4 arg8 arg15 HC k.val) (Q := OW (c : Thread nD τ))) $$ HC HO
  iapply (wp_when Variants.none _ none (P := iprop(C0 c arg4 arg8 arg15 HC k.val ∗ OW (c : Thread nD τ))) (R := iprop(C1 c arg4 arg8 arg15 HC k.val ∗ OW (c : Thread nD τ))) ?_ ?_) $$ HCO
  · intro h K
    have hc := (cond3_iff k).mp h
    have e : k.val - 1 + 1 = k.val := by omega
    have hl : leaving c arg4 arg8 (cellAt arg15 (1 - k.val % 2)) HC (1 ≤ k.val) (k.val - 1) (1 - k.val % 2) = _ := if_pos hc
    unfold C0 C1
    rw [hl]
    iintro ⟨⟨Hd, Hr, Hl, Hs⟩, HO⟩ HR
    iapply (out_wait Variants.none _ none EC () (k.val - 1) (cellAt arg15 (1 - k.val % 2)) (cellAt_eq (k0_off63_eq k) _ _) credit_sub) $$ [Hl Hd HO]
    · isplitl [Hl]; · iexact Hl
      isplitl [Hd]; · iexact Hd
      iexact HO
    rw [e]
    iintro Hd Hs' Hv HO
    iapply HR
    isplitr [HO]
    · isplitl [Hd]; · iexact Hd
      isplitl [Hr]; · iexact Hr
      isplitl [Hs' Hv]
      · unfold idle
        isplitl [Hs']
        · iexists _; iexact Hs'
        · iexact Hv
      iexact Hs
    · iexact HO
  · intro h
    have hc : ¬ 1 ≤ k.val := fun hh => h ((cond3_iff k).mpr hh)
    have e : k.val - 1 = k.val := by omega
    have hl : leaving c arg4 arg8 (cellAt arg15 (1 - k.val % 2)) HC (1 ≤ k.val) (k.val - 1) (1 - k.val % 2) = _ := if_neg hc
    unfold C0 C1
    rw [hl, e]
  iintro ⟨HC, HO⟩
  rw [wp_bind]
  ihave HC' := (C1_open c arg4 arg8 arg15 HC k.val hk) $$ HC
  icases HC' with ⟨Hd, Hi, HS⟩
  iapply (out_send Variants.none _ none EC () k.val (cellAt arg15 (k.val % 2)) (cellAt_eq (k0_off66_eq k) _ _) (k0_off67_eq k) (k0_off68_eq k) pos4096 (trip_lt hk)) $$ HS
  iintro HF Hr
  iapply (wp_when Variants.none _ none (P := X0 c arg0 arg7 arg14 X k.val) (R := X1 c arg0 arg7 arg14 X k.val) ?_ ?_) $$ HX
  · intro h K
    have hc := (cond4_iff k).mp h
    have hl : coming c arg0 arg7 (cellAt arg14 (k.val % 2)) X (k.val + 2 < 48) (k.val + 2) (cur k.val) (k.val % 2) = _ := if_pos hc
    unfold X0 X1
    rw [hl, if_pos hc, if_pos (show k.val + 1 < 48 by omega)]
    iintro ⟨Hx, Hc, Hs, Hv⟩ HR
    iapply (in_send Variants.none _ none EC () (S := Finset.univ \ win (k.val + 1)) (k.val + 2) (cellAt arg14 (k.val % 2)) (cellAt_eq (k0_off69_eq k) _ _) (off71_eq k) (k0_off70_eq k) pos4096 (win_sub' k.val)) $$ [Hs Hv Hx]
    · isplitl [Hs]; · iexact Hs
      isplitl [Hv]; · iexact Hv
      iexact Hx
    iintro HF Hx
    iapply HR
    isplitl [Hx]; · iexact Hx
    isplitl [Hc]; · iexact Hc
    iexact HF
  · intro h
    have hc : ¬ k.val + 2 < 48 := fun hh => h ((cond4_iff k).mpr hh)
    have hl : coming c arg0 arg7 (cellAt arg14 (k.val % 2)) X (k.val + 2 < 48) (k.val + 2) (cur k.val) (k.val % 2) = _ := if_neg hc
    unfold X0 X1
    rw [hl, if_neg hc, Finset.sdiff_empty]
  iintro HX
  ihave HXO := (sep_mk (P := X1 c arg0 arg7 arg14 X k.val) (Q := OW (c : Thread nD τ))) $$ HX HO
  iapply (wp_when Variants.none _ none (P := iprop(X1 c arg0 arg7 arg14 X k.val ∗ OW (c : Thread nD τ))) (R := iprop(X2 c arg0 arg7 arg14 X k.val ∗ OW (c : Thread nD τ))) ?_ ?_) $$ HXO
  · intro h K
    have hc := (cond5_iff k).mp h
    have hl : coming c arg0 arg7 (cellAt arg14 (1 - k.val % 2)) X (k.val + 1 < 48) (k.val + 1) (k.val - 1) (1 - k.val % 2) = _ := if_pos hc
    have e : cur (k.val + 1) = k.val + 1 := if_pos hc
    unfold X1 X2
    rw [hl, e, if_pos hc]
    iintro ⟨⟨Hx, Hc, Hs⟩, HO⟩ HR
    iapply (in_wait Variants.none _ none EC () (S := Finset.univ \ (if k.val + 2 < 48 then win (k.val + 2) else ∅)) (k.val + 1) (cellAt arg14 (1 - k.val % 2)) (cellAt_eq (k0_off72_eq k) _ _) credit_slot (win_sub k.val) (sdiff_right_comm _ _ _)) $$ [Hc Hx HO]
    · isplitl [Hc]; · iexact Hc
      isplitl [Hx]; · iexact Hx
      iexact HO
    iintro Hx Hs' Hv HO
    iapply HR
    isplitr [HO]
    · isplitl [Hx]; · iexact Hx
      isplitl [Hs' Hv]
      · isplitl [Hs']; · iexact Hs'
        iexact Hv
      iexact Hs
    · iexact HO
  · intro h
    have hc : ¬ k.val + 1 < 48 := fun hh => h ((cond5_iff k).mpr hh)
    have hl : coming c arg0 arg7 (cellAt arg14 (1 - k.val % 2)) X (k.val + 1 < 48) (k.val + 1) (k.val - 1) (1 - k.val % 2) = _ := if_neg hc
    have e : cur (k.val + 1) = k.val - 1 := (if_neg hc).trans (by omega)
    unfold X1 X2
    rw [hl, e, if_neg hc, Finset.sdiff_empty]
  iintro ⟨HX, HO⟩
  rw [wp_pure]
  imodintro
  iapply HQ $$ %_ HY [Hd Hr HF Hi] HX HO
  unfold C2
  isplitl [Hd]; · iexact Hd
  isplitl [Hr]; · iexact Hr
  isplitl [HF]; · iexact HF
  iexact Hi

end Cert.Proof.KernelIdeal

end
-- ==== Proof.KernelIdealLoop.lean ====
/-
  The main loop by an invariant: before trip `k` the transfers stand as `KernelIdealMoves` says, tile `k` stands
  quantised, and the scales of the tiles up to `k` are stored.
-/
module

public import proofs.«01_k».proof.Proof.KernelIdealTile
public import proofs.«01_k».proof.Proof.KernelIdealMoves

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

section

variable (c : Dev nD)

theorem Y_next (m2 : Memref sig .tc .hbm S12288x5632 .bf16) (m3 : Memref sig .tc .vmem S2x256x5632 .bf16) (sm : DmaSems sig S2) (H : ℕ → ℕ → Elt F .bf16) (k : ℕ) :
    (iprop((own (c : Thread nD τ) fullShare m2 (band 0 (256 * (k - 1))) (n2 H) ∗ rest (c : Thread nD τ) m2 (256 * k)
      ∗ leaving c m2 m3 (cellAt sm (1 - k % 2)) H (1 ≤ k) (k - 1) (1 - k % 2)) ∗ semVal ((c : Thread nD τ), .dma (cellAt sm (k % 2))) 0 ∗ own (c : Thread nD τ) fullShare m3 (slot (k % 2)) (n3 (tile H k))) : sProp 𝕄)
      ⊢ Y0 c m2 m3 sm H (k + 1) := by
  have e1 : (k + 1) % 2 = 1 - k % 2 := by omega
  have e2 : 1 - (1 - k % 2) = k % 2 := by omega
  have e3 : k + 1 - 2 = k - 1 := by omega
  have e4 : k + 1 - 1 = k := by omega
  have e5 : leaving c m2 m3 (cellAt sm (1 - k % 2)) H (2 ≤ k + 1) (k - 1) (1 - k % 2) = leaving c m2 m3 (cellAt sm (1 - k % 2)) H (1 ≤ k) (k - 1) (1 - k % 2) := by
    unfold leaving
    by_cases h : 1 ≤ k
    · rw [if_pos h, if_pos (by omega)]
    · rw [if_neg h, if_neg (by omega)]
  unfold Y0
  rw [e1, e2, e3, e4, e5]
  iintro ⟨⟨Hd, Hr, Hl⟩, Hv, Hs⟩
  isplitl [Hd]; · iexact Hd
  isplitl [Hr]; · iexact Hr
  isplitl [Hl]; · iexact Hl
  isplitl [Hs]
  · iexists _
    isplitr [Hs]
    · ipureintro; exact fun _ => rfl
    · iexact Hs
  · iexact Hv

theorem C_next (m2 : Memref sig .tc .hbm S12288x4096 .fp8e4m3) (m3 : Memref sig .tc .vmem S2x256x4096 .fp8e4m3) (sm : DmaSems sig S2) (H : ℕ → ℕ → Elt F .fp8e4m3) (k : ℕ) :
    (iprop((own (c : Thread nD τ) fullShare m2 (band 0 (256 * k)) (n2 H) ∗ rest (c : Thread nD τ) m2 (256 * (k + 1))
      ∗ flOut (c : Thread nD τ) EC () m2 m3 (cellAt sm (k % 2)) H k (k % 2)) ∗ semVal ((c : Thread nD τ), .dma (cellAt sm (1 - k % 2))) 0
      ∗ own (c : Thread nD τ) fullShare m3 (slot (1 - k % 2)) (n3 (tile H (nxt k)))) : sProp 𝕄) ⊢ C0 c m2 m3 sm H (k + 1) := by
  have e1 : (k + 1) % 2 = 1 - k % 2 := by omega
  have e2 : 1 - (1 - k % 2) = k % 2 := by omega
  have e4 : k + 1 - 1 = k := by omega
  have e5 : leaving c m2 m3 (cellAt sm (k % 2)) H (1 ≤ k + 1) k (k % 2) = _ := if_pos (by omega)
  unfold C0
  rw [e1, e2, e4, e5, show cur (k + 1) = nxt k from rfl]
  iintro ⟨⟨Hd, Hr, Hl⟩, Hv, Hs⟩
  isplitl [Hd]; · iexact Hd
  isplitl [Hr]; · iexact Hr
  isplitl [Hl]; · iexact Hl
  isplitl [Hs] <;> iassumption

theorem X_next (m2 : Memref sig .tc .hbm S12288x4096 .bf16) (m3 : Memref sig .tc .vmem S2x256x4096 .bf16) (sm : DmaSems sig S2) (H : ℕ → ℕ → Elt F .bf16) (k : ℕ) (hk : k < 48) :
    (iprop((own (c : Thread nD τ) fullShare m2 (Finset.univ \ (if k + 2 < 48 then win (k + 2) else ∅)) (n2 H)
      ∗ coming c m2 m3 (cellAt sm (k % 2)) H (k + 2 < 48) (k + 2) (cur k) (k % 2)) ∗ semVal ((c : Thread nD τ), .dma (cellAt sm (1 - k % 2))) 0
      ∗ own (c : Thread nD τ) fullShare m3 (slot (1 - k % 2)) (n3 (tile H (nxt k)))) : sProp 𝕄) ⊢ X0 c m2 m3 sm H (k + 1) := by
  have e1 : (k + 1) % 2 = 1 - k % 2 := by omega
  have e2 : 1 - (1 - k % 2) = k % 2 := by omega
  have e4 : k + 1 - 1 = k := by omega
  unfold X0
  rw [e1, e2, e4, show cur (k + 1) = nxt k from rfl, show cur k = k from if_pos hk]
  iintro ⟨⟨Hx, Hc⟩, Hv, Hs⟩
  isplitl [Hx]; · iexact Hx
  isplitl [Hc]; · iexact Hc
  isplitl [Hs] <;> iassumption

theorem Y2_open (m2 : Memref sig .tc .hbm S12288x5632 .bf16) (m3 : Memref sig .tc .vmem S2x256x5632 .bf16) (sm : DmaSems sig S2) (H : ℕ → ℕ → Elt F .bf16) (k : ℕ) :
    (Y2 c m2 m3 sm H k : sProp 𝕄) ⊢ iprop((own (c : Thread nD τ) fullShare m2 (band 0 (256 * (k - 1))) (n2 H) ∗ rest (c : Thread nD τ) m2 (256 * k)
      ∗ leaving c m2 m3 (cellAt sm (1 - k % 2)) H (1 ≤ k) (k - 1) (1 - k % 2))
      ∗ (part (c : Thread nD τ) m3 (slot (k % 2)) (cols (512 * 0)) (n3 (tile H k)) ∗ semVal ((c : Thread nD τ), .dma (cellAt sm (k % 2))) 0)) := by
  unfold Y2 idle
  iintro ⟨Hd, Hr, ⟨⟨%g, Hs⟩, Hv⟩, Hl⟩
  isplitl [Hd Hr Hl]
  · isplitl [Hd]; · iexact Hd
    isplitl [Hr] <;> iassumption
  isplitl [Hs]
  · iapply (part_start fun i _ hi => absurd hi (Nat.not_lt_zero _)) $$ Hs
  · iexact Hv

theorem C2_open (m2 : Memref sig .tc .hbm S12288x4096 .fp8e4m3) (m3 : Memref sig .tc .vmem S2x256x4096 .fp8e4m3) (sm : DmaSems sig S2) (H : ℕ → ℕ → Elt F .fp8e4m3) (k : ℕ) :
    (C2 c m2 m3 sm H k : sProp 𝕄) ⊢ iprop((own (c : Thread nD τ) fullShare m2 (band 0 (256 * k)) (n2 H) ∗ rest (c : Thread nD τ) m2 (256 * (k + 1))
      ∗ flOut (c : Thread nD τ) EC () m2 m3 (cellAt sm (k % 2)) H k (k % 2))
      ∗ (part (c : Thread nD τ) m3 (slot (1 - k % 2)) (rows (32 * 0)) (n3 (tile H (nxt k))) ∗ semVal ((c : Thread nD τ), .dma (cellAt sm (1 - k % 2))) 0)) := by
  unfold C2 idle
  iintro ⟨Hd, Hr, Hl, ⟨⟨%g, Hs⟩, Hv⟩⟩
  isplitl [Hd Hr Hl]
  · isplitl [Hd]; · iexact Hd
    isplitl [Hr] <;> iassumption
  isplitl [Hs]
  · iapply (part_start fun i _ hi => absurd hi (Nat.not_lt_zero _)) $$ Hs
  · iexact Hv

theorem X2_open (m2 : Memref sig .tc .hbm S12288x4096 .bf16) (m3 : Memref sig .tc .vmem S2x256x4096 .bf16) (sm : DmaSems sig S2) (H : ℕ → ℕ → Elt F .bf16) (k : ℕ) :
    (X2 c m2 m3 sm H k : sProp 𝕄) ⊢ iprop((own (c : Thread nD τ) fullShare m2 (Finset.univ \ (if k + 2 < 48 then win (k + 2) else ∅)) (n2 H)
      ∗ coming c m2 m3 (cellAt sm (k % 2)) H (k + 2 < 48) (k + 2) (cur k) (k % 2))
      ∗ (own (c : Thread nD τ) fullShare m3 (slot (1 - k % 2)) (n3 (tile H (nxt k))) ∗ semVal ((c : Thread nD τ), .dma (cellAt sm (1 - k % 2))) 0)) := by
  unfold X2
  iintro ⟨Hx, Hs, Hc⟩
  isplitl [Hx Hc]
  · isplitl [Hx] <;> iassumption
  iexact Hs

end

/-- What the main loop holds before trip `k`. -/
def mainInv (c : Dev nD) (arg0 : Memref sig .tc .hbm S12288x4096 .bf16) (arg3 : Memref sig .tc .hbm S12288x5632 .bf16) (arg4 : Memref sig .tc .hbm S12288x4096 .fp8e4m3)
    (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3)
    (arg9 : Memref sig .tc .vmem S2x256x4096 .bf16) (arg10 : Memref sig .tc .vmem S2x256x5632 .bf16) (arg14 arg15 arg16 : DmaSems sig S2) (X w : ℕ → ℕ → Elt F .bf16) (k : ℕ) : sProp 𝕄 :=
  iprop(Y0 c arg3 arg10 arg16 (yN (xwN X) w) k ∗ C0 c arg4 arg8 arg15 (codeN X) k ∗ X0 c arg0 arg7 arg14 X k ∗ OW (c : Thread nD τ)
    ∗ own (c : Thread nD τ) fullShare arg9 (slot (k % 2)) (n3 (tile (xwN X) (cur k))) ∗ (∃ g, own (c : Thread nD τ) fullShare arg9 (slot (1 - k % 2)) g)
    ∗ own (c : Thread nD τ) fullShare arg6 Finset.univ (n2 w) ∗ part (c : Thread nD τ) arg5 Finset.univ (doneS (min (k + 1) 48)) (sclA X))

theorem mainTrip (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (v480 : FVec F S32x128 .f32) (v605 : FVec F S32x128 .f32) (v730 : FVec F S32x128 .f32) (v855 : FVec F S32x128 .f32) (v980 : FVec F S32x128 .f32) (v1105 : FVec F S32x128 .f32) (v1230 : FVec F S32x128 .f32) (v1328 : FVec F S32x1 .f32) (v1347 : FVec F S32x4096 .bf16) (v1351 : Vec F S1x32x4096 .bf16) (k : Fin k0_t12_loop.trips) (X w : ℕ → ℕ → Elt F .bf16) :
    (mainInv c arg0 arg3 arg4 arg5 arg6 arg7 arg8 arg9 arg10 arg14 arg15 arg16 X w k.val : sProp 𝕄)
      ⊢ wp frame (wpE (defs₀ (F := F)) Variants.none (c : Thread nD τ) none) Set.univ (k0_t12_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351 k ())
          fun _ => mainInv c arg0 arg3 arg4 arg5 arg6 arg7 arg8 arg9 arg10 arg14 arg15 arg16 X w (k.val + 1) := by
  have hk : k.val < 48 := lt_of_lt_of_eq k.isLt (by decide)
  have e1 : (k.val + 1) % 2 = 1 - k.val % 2 := by omega
  have e2 : 1 - (1 - k.val % 2) = k.val % 2 := by omega
  rw [t12_body_eq, wp_bind]
  unfold mainInv
  rw [show cur k.val = k.val from if_pos hk, e1, e2, show cur (k.val + 1) = nxt k.val from rfl]
  iintro ⟨HY, HC, HX, HO, H9, ⟨%g9, H9'⟩, H6, H5⟩
  iapply (part12_wp c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k _ _ X (yN (xwN X) w) (codeN X)) $$ [HY HC HX HO]
  · isplitl [HY]; · iexact HY
    isplitl [HC]; · iexact HC
    isplitl [HX]; · iexact HX
    iexact HO
  iintro %v HY HC HX HO
  ihave HY' := (Y2_open c arg3 arg10 arg16 (yN (xwN X) w) k.val) $$ HY
  icases HY' with ⟨HYa, ⟨HYs, HYv⟩⟩
  ihave HC' := (C2_open c arg4 arg8 arg15 (codeN X) k.val) $$ HC
  icases HC' with ⟨HCa, ⟨HCs, HCv⟩⟩
  ihave HX' := (X2_open c arg0 arg7 arg14 X k.val) $$ HX
  icases HX' with ⟨HXa, ⟨HXs, HXv⟩⟩
  iapply (compute_wp c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k v.1 v.2.1 v.2.2.1 v.2.2.2.1 v.2.2.2.2 X w) $$ [HXs HCs H9' H9 H6 HYs H5]
  · isplitl [HXs]; · iexact HXs
    isplitl [HCs]; · iexact HCs
    isplitl [H9']
    · iapply (part_start fun i _ hi => absurd hi (Nat.not_lt_zero _)) $$ H9'
    isplitl [H9]; · iexact H9
    isplitl [H6]; · iexact H6
    isplitl [HYs]; · iexact HYs
    iexact H5
  iintro ⟨H7, H8, H9', H9, H6, H10, H5⟩
  isplitl [HYa HYv H10]
  · iapply (Y_next c arg3 arg10 arg16 (yN (xwN X) w) k.val)
    isplitl [HYa]; · iexact HYa
    isplitl [HYv] <;> iassumption
  isplitl [HCa HCv H8]
  · iapply (C_next c arg4 arg8 arg15 (codeN X) k.val)
    isplitl [HCa]; · iexact HCa
    isplitl [HCv] <;> iassumption
  isplitl [HXa HXv H7]
  · iapply (X_next c arg0 arg7 arg14 X k.val hk)
    isplitl [HXa]; · iexact HXa
    isplitl [HXv] <;> iassumption
  isplitl [HO]; · iexact HO
  isplitl [H9']; · iexact H9'
  isplitl [H9]
  · iexists _; iexact H9
  isplitl [H6]; · iexact H6
  iexact H5

theorem t12_trips : k0_t12_loop.trips = 48 := by decide

/-- The main loop. -/
theorem mainLoop (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (v480 : FVec F S32x128 .f32) (v605 : FVec F S32x128 .f32) (v730 : FVec F S32x128 .f32) (v855 : FVec F S32x128 .f32) (v980 : FVec F S32x128 .f32) (v1105 : FVec F S32x128 .f32) (v1230 : FVec F S32x128 .f32) (v1328 : FVec F S32x1 .f32) (v1347 : FVec F S32x4096 .bf16) (v1351 : Vec F S1x32x4096 .bf16) (X w : ℕ → ℕ → Elt F .bf16) {Q : Unit → sProp 𝕄} :
    (mainInv c arg0 arg3 arg4 arg5 arg6 arg7 arg8 arg9 arg10 arg14 arg15 arg16 X w 0 : sProp 𝕄)
      ⊢ iprop((mainInv c arg0 arg3 arg4 arg5 arg6 arg7 arg8 arg9 arg10 arg14 arg15 arg16 X w 48 -∗ Q ())
        -∗ wp frame (wpE (defs₀ (F := F)) Variants.none (c : Thread nD τ) none) Set.univ (Scf.Loop.for k0_t12_loop k0_t12_ok () (k0_t12_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351)) Q) := by
  iintro HI HQ
  iapply (Scf.wp_for frame _ Set.univ _ _ _ k0_t12_ok () _ (fun k _ => mainInv c arg0 arg3 arg4 arg5 arg6 arg7 arg8 arg9 arg10 arg14 arg15 arg16 X w k)
    (fun k _ => mainTrip c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351 k X w))
  isplitl [HI]; · iexact HI
  iintro %_ HI
  iapply HQ
  rw [show Scf.trips k0_t12_loop.lb k0_t12_loop.ub k0_t12_loop.st = 48 from t12_trips]
  iexact HI

end Cert.Proof.KernelIdeal

end
-- ==== Proof.KernelIdealChunks.lean ====
/-
  Rules for decoding the weights chunk by chunk: the loads of the scale bytes, the stores of the placed exponents, and a
  decode loop reading its chunk out of a slot.
-/
module

public import proofs.«01_k».proof.Proof.KernelIdealTrips
public import proofs.«01_k».proof.Proof.KernelIdealLoop

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

/-- Columns `256 n` on, for 256 columns. -/
def cw (n : ℕ) : Finset S4096x2816.Idx := sub2 (A := 4096) (B := 2816) 0 (256 * n) 4096 256

theorem cw_sub (n : ℕ) : cw (n + 1) ⊆ Finset.univ \ cw n := by
  intro i hi
  unfold cw at hi ⊢
  rw [Finset.mem_sdiff]
  refine ⟨Finset.mem_univ _, fun h => ?_⟩
  rw [mem_sub2] at hi h
  omega

theorem cw_sub' (n : ℕ) : cw n ⊆ Finset.univ \ cw (n + 1) := by
  intro i hi
  unfold cw at hi ⊢
  rw [Finset.mem_sdiff]
  refine ⟨Finset.mem_univ _, fun h => ?_⟩
  rw [mem_sub2] at hi h
  omega

theorem posChunk : 0 < (Sh2 4096 256).numel := by decide
theorem posScale : 0 < (S128x5632).numel := by decide

/-- Chunk `n` of the scale bytes. -/
def wsT (WS : ℕ → ℕ → Elt F .i8) (n : ℕ) : Vec F S128x256 .i8 := fun j => WS (j (0 : Fin 2)).val (256 * n + (j (1 : Fin 2)).val)

theorem expN_at (WS : ℕ → ℕ → Elt F .i8) (n : ℕ) (j : S128x256.Idx) : expN WS (j (0 : Fin 2)).val (256 * n + (j (1 : Fin 2)).val) = k0_pay137 (F := F) (wsT WS n) j := by
  obtain ⟨g, k, rfl⟩ : ∃ (g : Fin 128) (k : Fin 256), j = ix2 g k := ⟨_, _, eq_ix2 j⟩
  have hk := k.isLt
  have e1 : (256 * n + k.val) / 256 = n := by omega
  have e2 : Fin.ofNat 256 (256 * n + k.val) = k := ofNat_add n k
  have e3 : Fin.ofNat 128 g.val = g := Fin.ext (Nat.mod_eq_of_lt g.isLt)
  show expN WS g.val (256 * n + k.val) = _
  unfold expN wsT
  rw [e1, e2, e3]

section Rules

variable (c : Dev nD) {WS WP : ℕ → ℕ → Elt F .i8}

theorem ld_ws (n : ℕ) {cs : CoreSpace} {m : Memref sig .tc cs S128x5632 .i8} {off : Fin 2 → ℕ} {inb : ∀ a, off a + S128x256.size a ≤ S128x5632.size a}
    {hl : m.view.LoadsAt (Rect.unit (s := S128x5632) off S128x256.size inb).toLoadRect} {Q : Vec F S128x256 .i8 → sProp 𝕄} (ho : off = ![0, 256 * n]) :
    (own (c : Thread nD τ) fullShare m Finset.univ (n2 WS) : sProp 𝕄) ⊢ iprop((own (c : Thread nD τ) fullShare m Finset.univ (n2 WS) -∗ Q (wsT WS n))
      -∗ wp frame (wpE (defs₀ (F := F)) Variants.none (c : Thread nD τ) none) Set.univ (Prog.lift (.load m (Rect.unit (s := S128x5632) off S128x256.size inb).toLoadRect hl)) Q) := by
  iintro H HQ
  iapply (ld Variants.none _ none (Finset.subset_univ _)) $$ H
  iintro %v %hv H
  obtain rfl : v = wsT WS n := by
    rw [hv]; funext j; rw [n2_idx _ ho]; unfold wsT
    rw [Nat.zero_add]
  iapply HQ $$ H

/-- Nothing placed yet, and the low columns placed. -/
def ex0 (_ : S128x512.Idx) : Prop := False
def ex1 (i : S128x512.Idx) : Prop := (i (1 : Fin 2)).val < 256

/-- What the exponent buffer holds while chunk `n` is set up. -/
abbrev exA (m : Memref sig .tc .vmem S128x512 .i32) (P : S128x512.Idx → Prop) (WS : ℕ → ℕ → Elt F .i8) (n : ℕ) : sProp 𝕄 :=
  part (c : Thread nD τ) m Finset.univ P (n2 (expPair WS n))

theorem ld_ex {P : S128x512.Idx → Prop} {n : ℕ} {m : Memref sig .tc .vmem S128x512 .i32} {off : Fin 2 → ℕ} {inb : ∀ a, off a + S128x256.size a ≤ S128x512.size a}
    {hl : m.view.LoadsAt (Rect.unit (s := S128x512) off S128x256.size inb).toLoadRect} {Q : _ → sProp 𝕄} :
    (exA c m P WS n : sProp 𝕄) ⊢ iprop((∀ v, exA c m P WS n -∗ Q v)
      -∗ wp frame (wpE (defs₀ (F := F)) Variants.none (c : Thread nD τ) none) Set.univ (Prog.lift (.load m (Rect.unit (s := S128x512) off S128x256.size inb).toLoadRect hl)) Q) :=
  part_ld Variants.none none (Finset.subset_univ _)

theorem st_lo (n : ℕ) {m : Memref sig .tc .vmem S128x512 .i32} {off : Fin 2 → ℕ} {inb : ∀ a, off a + S128x256.size a ≤ S128x512.size a}
    {w : Vec F S128x256 .i32} {hx : (m.access (Rect.unit (s := S128x512) off S128x256.size inb)).Stores Finset.univ}
    {hm : Finset.univ = Finset.univ ∨ ∀ a, (Rect.unit (s := S128x512) off S128x256.size inb).stride a = 1} {Q : PUnit → sProp 𝕄}
    (ho : off = ![0, 0]) (hw : w = k0_pay137 (F := F) (wsT WS n)) :
    (exA c m ex0 WS n : sProp 𝕄) ⊢ iprop((exA c m ex1 WS n -∗ Q ⟨⟩)
      -∗ wp frame (wpE (defs₀ (F := F)) Variants.none (c : Thread nD τ) none) Set.univ (Prog.lift (.store m (Rect.unit (s := S128x512) off S128x256.size inb) w Finset.univ hx hm)) Q) := by
  refine part_st Variants.none none _ (Finset.subset_univ _) ?_ ?_
  · intro j _ hj hr
    refine absurd ?_ hr
    rw [mem_set2 ho rfl]
    unfold ex1 at hj
    have hb : (j (0 : Fin 2)).val < 128 := (j (0 : Fin 2)).isLt
    omega
  · intro j
    have hb : (j (1 : Fin 2)).val < 256 := (j (1 : Fin 2)).isLt
    rw [n2_emb _ ho, hw, Nat.zero_add, Nat.zero_add]; unfold expPair
    rw [if_pos hb, expN_at]

theorem st_hi (n : ℕ) {m : Memref sig .tc .vmem S128x512 .i32} {off : Fin 2 → ℕ} {inb : ∀ a, off a + S128x256.size a ≤ S128x512.size a}
    {w : Vec F S128x256 .i32} {hx : (m.access (Rect.unit (s := S128x512) off S128x256.size inb)).Stores Finset.univ}
    {hm : Finset.univ = Finset.univ ∨ ∀ a, (Rect.unit (s := S128x512) off S128x256.size inb).stride a = 1} {Q : PUnit → sProp 𝕄}
    (ho : off = ![0, 256]) (hw : w = k0_pay137 (F := F) (wsT WS (n + 11))) :
    (exA c m ex1 WS n : sProp 𝕄) ⊢ iprop((own (c : Thread nD τ) fullShare m Finset.univ (n2 (expPair WS n)) -∗ Q ⟨⟩)
      -∗ wp frame (wpE (defs₀ (F := F)) Variants.none (c : Thread nD τ) none) Set.univ (Prog.lift (.store m (Rect.unit (s := S128x512) off S128x256.size inb) w Finset.univ hx hm)) Q) := by
  iintro H HQ
  iapply (part_st Variants.none none (fun _ => True) (Finset.subset_univ _) ?_ ?_) $$ H
  · intro j _ _ hr
    by_contra hc
    refine hr ?_
    rw [mem_set2 ho rfl]
    unfold ex1 at hc
    have hb : (j (0 : Fin 2)).val < 128 := (j (0 : Fin 2)).isLt
    have hb' : (j (1 : Fin 2)).val < 512 := (j (1 : Fin 2)).isLt
    omega
  · intro j
    rw [n2_emb _ ho, hw, Nat.zero_add]; unfold expPair
    rw [if_neg (by omega), Nat.add_sub_cancel_left, expN_at]
  iintro H
  iapply HQ
  iapply (part_all fun _ _ => trivial) $$ H

/-- The loop that decodes chunk `n` out of slot `p`; afterwards the exponent buffer is free for the next chunk. -/
theorem chunkLoop {a6 : Memref sig .tc .vmem S4096x5632 .bf16} {a13 : Memref sig .tc .vmem S128x512 .i32} {m3 : Memref sig .tc .vmem S2x4096x256 .i8} {p : ℕ}
    {off3 : Fin 3 → ℕ} {inb3 : ∀ x, off3 x + (![1, 4096, 256] : Fin 3 → ℕ) x ≤ (Sh3 2 4096 256).size x} {h3 : ∀ x, (Rect.unit (s := Sh3 2 4096 256) off3 ![1, 4096, 256] inb3).stride x = 1}
    {hsq : (Sh3 1 4096 256).Squeezes (Sh2 4096 256)} (n : ℕ) (ho3 : off3 = ![p, 0, 0]) (hn : n < 11) (l : Scf.Loop 32) {hok : l.OK} (hl : l.trips = 128)
    {body : Fin l.trips → Unit → Prog (TpuEff nD τ sig (Elt F) Λ₀ .tc) Unit}
    (hb : ∀ k, IsTrip a6 a13 (Memref.squeeze (s := Sh3 1 4096 256) (m3.slice (Rect.unit off3 ![1, 4096, 256] inb3) h3) (Sh2 4096 256) hsq) n k.val (body k ()))
    {Q : Unit → sProp 𝕄} :
    (iprop(own (c : Thread nD τ) fullShare m3 (slot p) (n3 fun r k => WP r (256 * n + k)) ∗ own (c : Thread nD τ) fullShare a13 Finset.univ (n2 (expPair WS n))
      ∗ part (c : Thread nD τ) a6 Finset.univ (decoded n 0) (n2 (wN WP WS))) : sProp 𝕄)
    ⊢ iprop((own (c : Thread nD τ) fullShare m3 (slot p) (n3 fun r k => WP r (256 * n + k)) -∗ exA c a13 ex0 WS (n + 1)
        -∗ part (c : Thread nD τ) a6 Finset.univ (decoded (n + 1) 0) (n2 (wN WP WS)) -∗ Q ())
      -∗ wp frame (wpE (defs₀ (F := F)) Variants.none (c : Thread nD τ) none) Set.univ (Scf.Loop.for l hok () body) Q) := by
  iintro ⟨H3, HE, H6⟩ HQ
  ihave H3' := (slot_in ho3 inb3 h3 hsq (fun r k => WP r (256 * n + k))) $$ H3
  iapply (decLoop c n hn l hl hb) $$ [H3' HE H6]
  · unfold decInv
    isplitl [H3']; · iexact H3'
    isplitl [HE] <;> iassumption
  unfold decInv
  iintro ⟨H3, HE, H6⟩
  iapply HQ $$ [H3] [HE] [H6]
  · iapply (slot_out ho3 inb3 h3 hsq _) $$ H3
  · iapply (part_start fun _ _ h => h.elim) $$ HE
  · iapply (part_mono fun i _ h => ?_) $$ H6
    unfold decoded at h ⊢
    have hb : (i (0 : Fin 2)).val < 4096 := (i (0 : Fin 2)).isLt
    omega

end Rules

end Cert.Proof.KernelIdeal

end
-- ==== Proof.KernelIdealDecoding.lean ====
/-
  The kernel before its first tile: the scale bytes are copied, the packed weights are called chunk by chunk and decoded.
-/
module

public import proofs.«01_k».proof.Proof.KernelIdealChunks

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

theorem OW_open (c : Dev nD) : (OW (c : Thread nD τ) : sProp 𝕄) ⊢ iprop(∃ W, owes (c : Thread nD τ) 0 W) := .rfl
theorem OW_close (c : Dev nD) : (iprop(∃ W, owes (c : Thread nD τ) 0 W) : sProp 𝕄) ⊢ OW (c : Thread nD τ) := .rfl
theorem win_sub1 : win 1 ⊆ Finset.univ \ win 0 := sub2_disj (show 256 * 0 + 256 ≤ 256 * 1 by omega)

/-- The kernel up to the last chunk's exponents, and the rest of it. -/
def decodeP (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)
    (K : Vec F S128x256 .i8 → Prog (TpuEff nD τ sig (Elt F) Λ₀ .tc) PUnit) : Prog (TpuEff nD τ sig (Elt F) Λ₀ .tc) PUnit := do
  k0_part37 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  k0_part38 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  k0_part39 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  k0_part40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  k0_part41 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let c0_i32_139 : BitVec 32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let v199 : IVec S128x256 32 ← k0_part43 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 c0_i32_139
  let v227 : IVec S128x256 32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v199
  let ⟨v253, v254⟩ : Σ' (v253 : IVec S128x256 32), IVec S128x256 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v227
  k0_part46 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v253 v254
  let v310 : IVec S128x256 32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let v340 : Vec F S128x256 .i8 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v310
  K v340

def tailP (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_)
    (v340 : Vec F S128x256 .i8) : Prog (TpuEff nD τ sig (Elt F) Λ₀ .tc) PUnit := do
  let ⟨v357, v358, v379⟩ : Σ' (v357 : FVec F S32x4096 .bf16) (v358 : FVec F S32x4096 .bf16), FVec F S32x128 .bf16 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v340
  let ⟨v432, v433, v434⟩ : Σ' (v432 : IVec S32x256 1) (v433 : IVec S32x256 32), IVec S32x256 32 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v358 v379
  let ⟨v453, v472⟩ : Σ' (v453 : FVec F S32x1 .f32), FVec F S32x4096 .bf16 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v357 v432 v433 v434
  let ⟨v480, v482, v483, v530⟩ : Σ' (v480 : FVec F S32x128 .f32) (v482 : FVec F S32x4096 .bf16) (v483 : FVec F S32x4096 .bf16), FVec F S32x128 .bf16 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v453 v472
  let ⟨v573, v577⟩ : Σ' (v573 : IVec S32x1 32), IVec S32x1 32 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v483 v530
  let ⟨v605, v607, v608, v621⟩ : Σ' (v605 : FVec F S32x128 .f32) (v607 : FVec F S32x4096 .bf16) (v608 : FVec F S32x4096 .bf16), FVec F S32x128 .bf16 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v482 v573 v577
  let ⟨v676, v677, v678⟩ : Σ' (v676 : FVec F S32x1 .f32) (v677 : IVec S32x256 32), IVec S32x256 32 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v608 v621
  let ⟨v703, v719, v722⟩ : Σ' (v703 : FVec F S32x1 .f32) (v719 : FVec F S32x4096 .fp8e4m3), FVec F S32x4096 .bf16 ← k0_part56 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v607 v676 v677 v678
  let ⟨v730, v732, v733, v772⟩ : Σ' (v730 : FVec F S32x128 .f32) (v732 : FVec F S32x4096 .bf16) (v733 : FVec F S32x4096 .bf16), FVec F S32x128 .bf16 ← k0_part57 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v703 v719 v722
  let ⟨v816, v821, c0_i32_386⟩ : Σ' (v816 : IVec S32x1 32) (v821 : IVec S32x1 1), BitVec 32 ← k0_part58 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v733 v772
  let ⟨v855, v857, v858, v863⟩ : Σ' (v855 : FVec F S32x128 .f32) (v857 : FVec F S32x4096 .bf16) (v858 : FVec F S32x4096 .bf16), FVec F S32x128 .bf16 ← k0_part59 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v732 v816 v821 c0_i32_386
  let v922 : FVec F S32x128 .f32 ← k0_part60 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v858 v863
  let ⟨v953, v962, v966⟩ : Σ' (v953 : FVec F S32x1 .f32) (v962 : FVec F S32x1 .bf16), FVec F S32x4096 .bf16 ← k0_part61 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v857 v922
  let ⟨v980, v982, v983, v1014⟩ : Σ' (v980 : FVec F S32x128 .f32) (v982 : FVec F S32x4096 .bf16) (v983 : FVec F S32x4096 .bf16), FVec F S32x128 .bf16 ← k0_part62 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v953 v962 v966
  let ⟨v1064, v1066⟩ : Σ' (v1064 : IVec S32x1 32), IVec S32x1 32 ← k0_part63 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v983 v1014
  let v1105 : FVec F S32x128 .f32 ← k0_part64 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v982 v1064 v1066
  let ⟨v1107, v1108, v1165⟩ : Σ' (v1107 : FVec F S32x4096 .bf16) (v1108 : FVec F S32x4096 .bf16), FVec F S32x128 .bf16 ← k0_part65 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let ⟨v1203, v1209⟩ : Σ' (v1203 : FVec F S32x1 .f32), IVec S32x1 32 ← k0_part66 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1108 v1165
  let ⟨v1230, v1232, v1233, v1256⟩ : Σ' (v1230 : FVec F S32x128 .f32) (v1232 : FVec F S32x4096 .bf16) (v1233 : FVec F S32x4096 .bf16), FVec F S32x128 .bf16 ← k0_part67 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1107 v1203 v1209
  let v1310 : IVec S32x256 32 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1233 v1256
  let ⟨v1328, v1347, v1351⟩ : Σ' (v1328 : FVec F S32x1 .f32) (v1347 : FVec F S32x4096 .bf16), Vec F S1x32x4096 .bf16 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1232 v1310
  k0_part70 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v480 v605 v730 v855 v980 v1105 v1230 v1328 v1347 v1351
  let v1381 : Memref sig .tc .vmem S1x256x5632 .bf16 := arg10.slice (Rect.unit (s := S2x256x5632) ![1, 0, 0] S1x256x5632.size inb_S2x256x5632_S1x256x5632_1_0_0) (fun _ => rfl)
  let v1382 : Memref sig .tc .vmem S256x5632 .bf16 := v1381.squeeze S256x5632 squeezes_S1x256x5632_S256x5632
  let v1378 : DmaSems sig S1 := arg16.slice (Rect.unit (s := S2) ![1] S1.size inb_S2_S1_1)
  let v1379 : DmaSems sig S_ := v1378.squeeze S_ squeezes_S1_S_
  let v1380 : Memref sig .tc .hbm S256x5632 .bf16 := arg3.slice (Rect.unit (s := S12288x5632) ![12032, 0] S256x5632.size inb_S12288x5632_S256x5632_12032_0) (fun _ => rfl)
  Prog.lift (.waitDma2 v1379.sem v1382 v1380 ((harg10.wordExact_slice rfl _ wordsbf16_S2x256x5632_S1x256x5632_1_0_0).reshape _ _) (harg3.wordExact_slice rfl _ wordsbf16_S12288x5632_S256x5632_12032_0))
  let v1383 : DmaSems sig S1 := arg15.slice (Rect.unit (s := S2) ![1] S1.size inb_S2_S1_1)
  let v1384 : DmaSems sig S_ := v1383.squeeze S_ squeezes_S1_S_
  let v1385 : Memref sig .tc .hbm S256x4096 .fp8e4m3 := arg4.slice (Rect.unit (s := S12288x4096) ![12032, 0] S256x4096.size inb_S12288x4096_S256x4096_12032_0) (fun _ => rfl)
  let v1386 : Memref sig .tc .vmem S1x256x4096 .fp8e4m3 := arg8.slice (Rect.unit (s := S2x256x4096) ![1, 0, 0] S1x256x4096.size inb_S2x256x4096_S1x256x4096_1_0_0) (fun _ => rfl)
  let v1387 : Memref sig .tc .vmem S256x4096 .fp8e4m3 := v1386.squeeze S256x4096 squeezes_S1x256x4096_S256x4096
  Prog.lift (.waitDma2 v1384.sem v1387 v1385 ((harg8.wordExact_slice rfl _ wordsfp8e4m3_S2x256x4096_S1x256x4096_1_0_0).reshape _ _) (harg4.wordExact_slice rfl _ wordsfp8e4m3_S12288x4096_S256x4096_12032_0))
  pure ⟨⟩

set_option maxRecDepth 65536 in
theorem body_eq (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) :
    cc0_mxfp4_matmul_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 = decodeP arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 (tailP arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18) := rfl

set_option maxRecDepth 65536 in
/-- Ten chunks decoded and the eleventh begun, two tiles of rows called. -/
theorem decode_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8)
    (K : Vec F S128x256 .i8 → Prog (TpuEff nD τ sig (Elt F) Λ₀ .tc) PUnit) (Q : PUnit → sProp 𝕄)
    (g6 : S4096x5632.Idx → Elt F .bf16) (g7 g7' : S2x256x4096.Idx → Elt F .bf16) (g11 g11' : S2x4096x256.Idx → Elt F .i8) (g12 : S128x5632.Idx → Elt F .i8) (g13 : S128x512.Idx → Elt F .i32) :
    iprop(own (c : Thread nD τ) fullShare arg0 Finset.univ (n2 X) ∗ own (c : Thread nD τ) fullShare arg1 Finset.univ (n2 WP) ∗ own (c : Thread nD τ) fullShare arg2 Finset.univ (n2 WS)
      ∗ own (c : Thread nD τ) fullShare arg6 Finset.univ g6 ∗ own (c : Thread nD τ) fullShare arg7 (slot 0) g7 ∗ own (c : Thread nD τ) fullShare arg7 (slot 1) g7'
      ∗ own (c : Thread nD τ) fullShare arg11 (slot 0) g11 ∗ own (c : Thread nD τ) fullShare arg11 (slot 1) g11'
      ∗ own (c : Thread nD τ) fullShare arg12 Finset.univ g12 ∗ own (c : Thread nD τ) fullShare arg13 Finset.univ g13
      ∗ semVal ((c : Thread nD τ), .dma (cellAt arg14 0)) 0 ∗ semVal ((c : Thread nD τ), .dma (cellAt arg14 1)) 0
      ∗ semVal ((c : Thread nD τ), .dma (cellAt arg17 0)) 0 ∗ semVal ((c : Thread nD τ), .dma (cellAt arg17 1)) 0
      ∗ semVal ((c : Thread nD τ), .dma arg18.sem) 0 ∗ OW (c : Thread nD τ))
    ⊢ iprop((own (c : Thread nD τ) fullShare arg0 ((Finset.univ \ win 0) \ win 1) (n2 X) -∗ own (c : Thread nD τ) fullShare arg1 Finset.univ (n2 WP) -∗ own (c : Thread nD τ) fullShare arg2 Finset.univ (n2 WS)
        -∗ part (c : Thread nD τ) arg6 Finset.univ (decoded 10 0) (n2 (wN WP WS))
        -∗ flIn (c : Thread nD τ) EC () arg0 arg7 (cellAt arg14 0) X 0 0 -∗ flIn (c : Thread nD τ) EC () arg0 arg7 (cellAt arg14 1) X 1 1
        -∗ own (c : Thread nD τ) fullShare arg11 (slot 0) (n3 fun r k => WP r (256 * 10 + k)) -∗ own (c : Thread nD τ) fullShare arg11 (slot 1) (n3 fun r k => WP r (256 * 9 + k))
        -∗ own (c : Thread nD τ) fullShare arg12 Finset.univ (n2 WS) -∗ exA c arg13 ex1 WS 10
        -∗ semVal ((c : Thread nD τ), .dma (cellAt arg17 0)) 0 -∗ semVal ((c : Thread nD τ), .dma (cellAt arg17 1)) 0
        -∗ semVal ((c : Thread nD τ), .dma arg18.sem) 0 -∗ OW (c : Thread nD τ)
        -∗ wp frame (wpE (defs₀ (F := F)) Variants.none (c : Thread nD τ) none) Set.univ (K (wsT WS 21)) Q)
      -∗ wp frame (wpE (defs₀ (F := F)) Variants.none (c : Thread nD τ) none) Set.univ (decodeP arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 K) Q) := by
  iintro ⟨HX, HA, HB, H6, H70, H71, S0, S1, HS, HE, X0, X1, V0, V1, VS, HO⟩ HQ
  ihave H6 := (part_start (P := decoded 0 0) (C := n2 (wN WP WS)) fun i _ h => h.elim (fun h => absurd h (Nat.not_lt_zero _)) fun h => absurd h.2 (Nat.not_lt_zero _)) $$ H6
  ihave HE := (part_start (P := ex0) (C := n2 (expPair WS 0)) fun i _ h => h.elim) $$ HE
  unfold decodeP
  simp only [wp_bind, wp_pure]
  rw [k0_part37_eq_skeleton]; unfold k0_part37_skel; simp only [wp_bind, wp_pure]
  iapply (all_in Variants.none _ none EC () posScale) $$ [HB HS VS]
  · isplitl [HB]; · iexact HB
    isplitl [HS]; · iexact HS
    iexact VS
  iintro FS
  iapply (chunk_send Variants.none _ none EC () (S := Finset.univ) 0 (cellAt arg17 0) (cellAt_eq rfl _ _) rfl rfl posChunk (Finset.subset_univ _)) $$ [S0 V0 HA]
  · isplitl [S0]; · iexact S0
    isplitl [V0]; · iexact V0
    iexact HA
  iintro F0 HA
  iapply (in_send Variants.none _ none EC () (S := Finset.univ) 0 (cellAt arg14 0) (cellAt_eq rfl _ _) rfl rfl pos4096 (Finset.subset_univ _)) $$ [H70 X0 HX]
  · isplitl [H70]; · iexact H70
    isplitl [X0]; · iexact X0
    iexact HX
  iintro G0 HX
  iapply (in_send Variants.none _ none EC () (S := Finset.univ \ win 0) 1 (cellAt arg14 1) (cellAt_eq rfl _ _) rfl rfl pos4096 win_sub1) $$ [H71 X1 HX]
  · isplitl [H71]; · iexact H71
    isplitl [X1]; · iexact X1
    iexact HX
  iintro G1 HX
  ihave HO := (OW_open c) $$ HO
  iapply (wt_at Variants.none _ none EC () arg18.sem rfl rfl) $$ [FS HO]
  · isplitl [FS] <;> iassumption
  iintro ⟨HS, HB⟩ VS HO
  ihave HO := (OW_close c) $$ HO
  iapply (chunk_send Variants.none _ none EC () (S := Finset.univ \ cw 0) 1 (cellAt arg17 1) (cellAt_eq rfl _ _) rfl rfl posChunk (cw_sub 0)) $$ [S1 V1 HA]
  · isplitl [S1]; · iexact S1
    isplitl [V1]; · iexact V1
    iexact HA
  iintro F1 HA
  imodintro
  rw [k0_part38_eq_skeleton]; unfold k0_part38_skel; simp only [wp_bind, wp_pure]
  iapply (chunk_wait Variants.none _ none EC () (S := Finset.univ \ cw 1) 0 (cellAt arg17 0) (cellAt_eq rfl _ _) credit_slot (cw_sub' 0) (sdiff_right_comm _ _ _)) $$ [F0 HA HO]
  · isplitl [F0]; · iexact F0
    isplitl [HA]; · iexact HA
    iexact HO
  iintro HA S0 V0 HO
  iapply (ld_ws c 0 rfl) $$ HS
  iintro HS
  iapply (ld_ex c) $$ HE
  iintro %_ HE
  iapply (st_lo c 0 rfl rfl) $$ HE
  iintro HE
  iapply (ld_ws c 11 rfl) $$ HS
  iintro HS
  iapply (ld_ex c) $$ HE
  iintro %_ HE
  iapply (st_hi c 0 rfl rfl) $$ HE
  iintro HE
  iapply (chunkLoop c 0 rfl (by decide) k0_t1_loop (by decide) (fun k => trip1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S0 HE H6]
  · isplitl [S0]; · iexact S0
    isplitl [HE] <;> iassumption
  iintro S0 HE H6
  iapply (chunk_send Variants.none _ none EC () (S := Finset.univ \ cw 1) 2 (cellAt arg17 0) (cellAt_eq rfl _ _) rfl rfl posChunk (cw_sub 1)) $$ [S0 V0 HA]
  · isplitl [S0]; · iexact S0
    isplitl [V0]; · iexact V0
    iexact HA
  iintro F0 HA
  imodintro
  rw [k0_part39_eq_skeleton]; unfold k0_part39_skel; simp only [wp_bind, wp_pure]
  iapply (chunk_wait Variants.none _ none EC () (S := Finset.univ \ cw 2) 1 (cellAt arg17 1) (cellAt_eq rfl _ _) credit_slot (cw_sub' 1) (sdiff_right_comm _ _ _)) $$ [F1 HA HO]
  · isplitl [F1]; · iexact F1
    isplitl [HA]; · iexact HA
    iexact HO
  iintro HA S1 V1 HO
  iapply (ld_ws c 1 rfl) $$ HS
  iintro HS
  iapply (ld_ex c) $$ HE
  iintro %_ HE
  iapply (st_lo c 1 rfl rfl) $$ HE
  iintro HE
  iapply (ld_ws c 12 rfl) $$ HS
  iintro HS
  iapply (ld_ex c) $$ HE
  iintro %_ HE
  iapply (st_hi c 1 rfl rfl) $$ HE
  iintro HE
  iapply (chunkLoop c 1 rfl (by decide) k0_t2_loop (by decide) (fun k => trip2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S1 HE H6]
  · isplitl [S1]; · iexact S1
    isplitl [HE] <;> iassumption
  iintro S1 HE H6
  iapply (chunk_send Variants.none _ none EC () (S := Finset.univ \ cw 2) 3 (cellAt arg17 1) (cellAt_eq rfl _ _) rfl rfl posChunk (cw_sub 2)) $$ [S1 V1 HA]
  · isplitl [S1]; · iexact S1
    isplitl [V1]; · iexact V1
    iexact HA
  iintro F1 HA
  imodintro
  rw [k0_part40_eq_skeleton]; unfold k0_part40_skel; simp only [wp_bind, wp_pure]
  iapply (chunk_wait Variants.none _ none EC () (S := Finset.univ \ cw 3) 2 (cellAt arg17 0) (cellAt_eq rfl _ _) credit_slot (cw_sub' 2) (sdiff_right_comm _ _ _)) $$ [F0 HA HO]
  · isplitl [F0]; · iexact F0
    isplitl [HA]; · iexact HA
    iexact HO
  iintro HA S0 V0 HO
  iapply (ld_ws c 2 rfl) $$ HS
  iintro HS
  iapply (ld_ex c) $$ HE
  iintro %_ HE
  iapply (st_lo c 2 rfl rfl) $$ HE
  iintro HE
  iapply (ld_ws c 13 rfl) $$ HS
  iintro HS
  iapply (ld_ex c) $$ HE
  iintro %_ HE
  iapply (st_hi c 2 rfl rfl) $$ HE
  iintro HE
  iapply (chunkLoop c 2 rfl (by decide) k0_t3_loop (by decide) (fun k => trip3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S0 HE H6]
  · isplitl [S0]; · iexact S0
    isplitl [HE] <;> iassumption
  iintro S0 HE H6
  imodintro
  rw [k0_part41_eq_skeleton]; unfold k0_part41_skel; simp only [wp_bind, wp_pure]
  iapply (chunk_send Variants.none _ none EC () (S := Finset.univ \ cw 3) 4 (cellAt arg17 0) (cellAt_eq rfl _ _) rfl rfl posChunk (cw_sub 3)) $$ [S0 V0 HA]
  · isplitl [S0]; · iexact S0
    isplitl [V0]; · iexact V0
    iexact HA
  iintro F0 HA
  iapply (chunk_wait Variants.none _ none EC () (S := Finset.univ \ cw 4) 3 (cellAt arg17 1) (cellAt_eq rfl _ _) credit_slot (cw_sub' 3) (sdiff_right_comm _ _ _)) $$ [F1 HA HO]
  · isplitl [F1]; · iexact F1
    isplitl [HA]; · iexact HA
    iexact HO
  iintro HA S1 V1 HO
  iapply (ld_ws c 3 rfl) $$ HS
  iintro HS
  iapply (ld_ex c) $$ HE
  iintro %_ HE
  iapply (st_lo c 3 rfl rfl) $$ HE
  iintro HE
  iapply (ld_ws c 14 rfl) $$ HS
  iintro HS
  iapply (ld_ex c) $$ HE
  iintro %_ HE
  iapply (st_hi c 3 rfl rfl) $$ HE
  iintro HE
  iapply (chunkLoop c 3 rfl (by decide) k0_t4_loop (by decide) (fun k => trip4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S1 HE H6]
  · isplitl [S1]; · iexact S1
    isplitl [HE] <;> iassumption
  iintro S1 HE H6
  imodintro
  rw [k0_part42_eq_skeleton]; unfold k0_part42_skel; simp only [wp_bind, wp_pure]
  iapply (chunk_send Variants.none _ none EC () (S := Finset.univ \ cw 4) 5 (cellAt arg17 1) (cellAt_eq rfl _ _) rfl rfl posChunk (cw_sub 4)) $$ [S1 V1 HA]
  · isplitl [S1]; · iexact S1
    isplitl [V1]; · iexact V1
    iexact HA
  iintro F1 HA
  iapply (chunk_wait Variants.none _ none EC () (S := Finset.univ \ cw 5) 4 (cellAt arg17 0) (cellAt_eq rfl _ _) credit_slot (cw_sub' 4) (sdiff_right_comm _ _ _)) $$ [F0 HA HO]
  · isplitl [F0]; · iexact F0
    isplitl [HA]; · iexact HA
    iexact HO
  iintro HA S0 V0 HO
  iapply (ld_ws c 4 rfl) $$ HS
  iintro HS
  iapply (ld_ex c) $$ HE
  iintro %_ HE
  iapply (st_lo c 4 rfl rfl) $$ HE
  iintro HE
  iapply (ld_ws c 15 rfl) $$ HS
  iintro HS
  iapply (ld_ex c) $$ HE
  iintro %_ HE
  iapply (st_hi c 4 rfl rfl) $$ HE
  iintro HE
  imodintro
  rw [k0_part43_eq_skeleton]; unfold k0_part43_skel; simp only [wp_bind, wp_pure]
  iapply (chunkLoop c 4 rfl (by decide) k0_t5_loop (by decide) (fun k => trip5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S0 HE H6]
  · isplitl [S0]; · iexact S0
    isplitl [HE] <;> iassumption
  iintro S0 HE H6
  iapply (chunk_send Variants.none _ none EC () (S := Finset.univ \ cw 5) 6 (cellAt arg17 0) (cellAt_eq rfl _ _) rfl rfl posChunk (cw_sub 5)) $$ [S0 V0 HA]
  · isplitl [S0]; · iexact S0
    isplitl [V0]; · iexact V0
    iexact HA
  iintro F0 HA
  iapply (chunk_wait Variants.none _ none EC () (S := Finset.univ \ cw 6) 5 (cellAt arg17 1) (cellAt_eq rfl _ _) credit_slot (cw_sub' 5) (sdiff_right_comm _ _ _)) $$ [F1 HA HO]
  · isplitl [F1]; · iexact F1
    isplitl [HA]; · iexact HA
    iexact HO
  iintro HA S1 V1 HO
  iapply (ld_ws c 5 rfl) $$ HS
  iintro HS
  iapply (ld_ex c) $$ HE
  iintro %_ HE
  iapply (st_lo c 5 rfl rfl) $$ HE
  iintro HE
  iapply (ld_ws c 16 rfl) $$ HS
  iintro HS
  iapply (ld_ex c) $$ HE
  iintro %_ HE
  imodintro
  rw [k0_part44_eq_skeleton]; unfold k0_part44_skel; simp only [wp_bind, wp_pure]
  iapply (st_hi c 5 rfl rfl) $$ HE
  iintro HE
  iapply (chunkLoop c 5 rfl (by decide) k0_t6_loop (by decide) (fun k => trip6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S1 HE H6]
  · isplitl [S1]; · iexact S1
    isplitl [HE] <;> iassumption
  iintro S1 HE H6
  iapply (chunk_send Variants.none _ none EC () (S := Finset.univ \ cw 6) 7 (cellAt arg17 1) (cellAt_eq rfl _ _) rfl rfl posChunk (cw_sub 6)) $$ [S1 V1 HA]
  · isplitl [S1]; · iexact S1
    isplitl [V1]; · iexact V1
    iexact HA
  iintro F1 HA
  iapply (chunk_wait Variants.none _ none EC () (S := Finset.univ \ cw 7) 6 (cellAt arg17 0) (cellAt_eq rfl _ _) credit_slot (cw_sub' 6) (sdiff_right_comm _ _ _)) $$ [F0 HA HO]
  · isplitl [F0]; · iexact F0
    isplitl [HA]; · iexact HA
    iexact HO
  iintro HA S0 V0 HO
  iapply (ld_ws c 6 rfl) $$ HS
  iintro HS
  iapply (ld_ex c) $$ HE
  iintro %_ HE
  iapply (st_lo c 6 rfl rfl) $$ HE
  iintro HE
  iapply (ld_ws c 17 rfl) $$ HS
  iintro HS
  imodintro
  rw [k0_part45_eq_skeleton]; unfold k0_part45_skel; simp only [wp_bind, wp_pure]
  iapply (ld_ex c) $$ HE
  iintro %_ HE
  iapply (st_hi c 6 rfl rfl) $$ HE
  iintro HE
  iapply (chunkLoop c 6 rfl (by decide) k0_t7_loop (by decide) (fun k => trip7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S0 HE H6]
  · isplitl [S0]; · iexact S0
    isplitl [HE] <;> iassumption
  iintro S0 HE H6
  iapply (chunk_send Variants.none _ none EC () (S := Finset.univ \ cw 7) 8 (cellAt arg17 0) (cellAt_eq rfl _ _) rfl rfl posChunk (cw_sub 7)) $$ [S0 V0 HA]
  · isplitl [S0]; · iexact S0
    isplitl [V0]; · iexact V0
    iexact HA
  iintro F0 HA
  iapply (chunk_wait Variants.none _ none EC () (S := Finset.univ \ cw 8) 7 (cellAt arg17 1) (cellAt_eq rfl _ _) credit_slot (cw_sub' 7) (sdiff_right_comm _ _ _)) $$ [F1 HA HO]
  · isplitl [F1]; · iexact F1
    isplitl [HA]; · iexact HA
    iexact HO
  iintro HA S1 V1 HO
  iapply (ld_ws c 7 rfl) $$ HS
  iintro HS
  iapply (ld_ex c) $$ HE
  iintro %_ HE
  iapply (st_lo c 7 rfl rfl) $$ HE
  iintro HE
  iapply (ld_ws c 18 rfl) $$ HS
  iintro HS
  imodintro
  rw [k0_part46_eq_skeleton]; unfold k0_part46_skel; simp only [wp_bind, wp_pure]
  iapply (ld_ex c) $$ HE
  iintro %_ HE
  iapply (st_hi c 7 rfl rfl) $$ HE
  iintro HE
  iapply (chunkLoop c 7 rfl (by decide) k0_t8_loop (by decide) (fun k => trip8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ _ k)) $$ [S1 HE H6]
  · isplitl [S1]; · iexact S1
    isplitl [HE] <;> iassumption
  iintro S1 HE H6
  iapply (chunk_send Variants.none _ none EC () (S := Finset.univ \ cw 8) 9 (cellAt arg17 1) (cellAt_eq rfl _ _) rfl rfl posChunk (cw_sub 8)) $$ [S1 V1 HA]
  · isplitl [S1]; · iexact S1
    isplitl [V1]; · iexact V1
    iexact HA
  iintro F1 HA
  iapply (chunk_wait Variants.none _ none EC () (S := Finset.univ \ cw 9) 8 (cellAt arg17 0) (cellAt_eq rfl _ _) credit_slot (cw_sub' 8) (sdiff_right_comm _ _ _)) $$ [F0 HA HO]
  · isplitl [F0]; · iexact F0
    isplitl [HA]; · iexact HA
    iexact HO
  iintro HA S0 V0 HO
  iapply (ld_ws c 8 rfl) $$ HS
  iintro HS
  iapply (ld_ex c) $$ HE
  iintro %_ HE
  iapply (st_lo c 8 rfl rfl) $$ HE
  iintro HE
  imodintro
  rw [k0_part47_eq_skeleton]; unfold k0_part47_skel; simp only [wp_bind, wp_pure]
  iapply (ld_ws c 19 rfl) $$ HS
  iintro HS
  iapply (ld_ex c) $$ HE
  iintro %_ HE
  iapply (st_hi c 8 rfl rfl) $$ HE
  iintro HE
  iapply (chunkLoop c 8 rfl (by decide) k0_t9_loop (by decide) (fun k => trip9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 k)) $$ [S0 HE H6]
  · isplitl [S0]; · iexact S0
    isplitl [HE] <;> iassumption
  iintro S0 HE H6
  iapply (chunk_send Variants.none _ none EC () (S := Finset.univ \ cw 9) 10 (cellAt arg17 0) (cellAt_eq rfl _ _) rfl rfl posChunk (cw_sub 9)) $$ [S0 V0 HA]
  · isplitl [S0]; · iexact S0
    isplitl [V0]; · iexact V0
    iexact HA
  iintro F0 HA
  iapply (chunk_wait Variants.none _ none EC () (S := Finset.univ \ cw 10) 9 (cellAt arg17 1) (cellAt_eq rfl _ _) credit_slot (cw_sub' 9) (sdiff_right_comm _ _ _)) $$ [F1 HA HO]
  · isplitl [F1]; · iexact F1
    isplitl [HA]; · iexact HA
    iexact HO
  iintro HA S1 V1 HO
  iapply (ld_ws c 9 rfl) $$ HS
  iintro HS
  imodintro
  rw [k0_part48_eq_skeleton]; unfold k0_part48_skel; simp only [wp_bind, wp_pure]
  iapply (ld_ex c) $$ HE
  iintro %_ HE
  iapply (st_lo c 9 rfl rfl) $$ HE
  iintro HE
  iapply (ld_ws c 20 rfl) $$ HS
  iintro HS
  iapply (ld_ex c) $$ HE
  iintro %_ HE
  iapply (st_hi c 9 rfl rfl) $$ HE
  iintro HE
  iapply (chunkLoop c 9 rfl (by decide) k0_t10_loop (by decide) (fun k => trip10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S1 HE H6]
  · isplitl [S1]; · iexact S1
    isplitl [HE] <;> iassumption
  iintro S1 HE H6
  iapply (chunk_wait Variants.none _ none EC () (S := Finset.univ) 10 (cellAt arg17 0) (cellAt_eq rfl _ _) credit_slot (Finset.subset_univ _) rfl) $$ [F0 HA HO]
  · isplitl [F0]; · iexact F0
    isplitl [HA]; · iexact HA
    iexact HO
  iintro HA S0 V0 HO
  iapply (ld_ws c 10 rfl) $$ HS
  iintro HS
  iapply (ld_ex c) $$ HE
  iintro %_ HE
  iapply (st_lo c 10 rfl rfl) $$ HE
  iintro HE
  iapply (ld_ws c 21 rfl) $$ HS
  iintro HS
  iapply HQ $$ HX HA HB H6 G0 G1 S0 S1 HS HE V0 V1 VS HO

end Cert.Proof.KernelIdeal

end
-- ==== Proof.KernelIdealEnds.lean ====
/-
  The kernel from its last chunk on: the first tile is quantised, the main loop runs, the last tiles are sent.
-/
module

public import proofs.«01_k».proof.Proof.KernelIdealDecoding

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

theorem off56_eq : k0_off56 = ![0 / 6, 0, 256 * (0 % 6)] := by decide

theorem win_sub2 : win 0 ⊆ Finset.univ \ win 1 := fun i hi => by
  rw [Finset.mem_sdiff]
  refine ⟨Finset.mem_univ _, fun h => ?_⟩
  rw [mem_sub2] at hi h
  omega

section Ends

variable (c : Dev nD)

/-- An array not yet written: no rows done. -/
theorem no_rows {A B : ℕ} {e : EltTy} {m : Memref sig .tc .hbm (Sh2 A B) e} {g : (Sh2 A B).Idx → Elt F e} (H : ℕ → ℕ → Elt F e) :
    (own (c : Thread nD τ) fullShare m Finset.univ g : sProp 𝕄) ⊢ iprop(own (c : Thread nD τ) fullShare m (band 0 0) (n2 H) ∗ rest (c : Thread nD τ) m 0) := by
  unfold rest
  rw [band_all]
  iintro H
  ihave H' := (own_split (Finset.empty_subset Finset.univ)) $$ H
  icases H' with ⟨He, Hr⟩
  isplitl [He]
  · rw [band_nil le_rfl]
    iapply (own_congr fun i hi => absurd hi (Finset.notMem_empty i)) $$ He
  · rw [Finset.sdiff_empty]
    iexists g; iexact Hr

theorem all_rows {B : ℕ} {e : EltTy} {m : Memref sig .tc .hbm (Sh2 12288 B) e} {H : ℕ → ℕ → Elt F e} :
    (own (c : Thread nD τ) fullShare m (band 0 (256 * (47 + 1))) (n2 H) : sProp 𝕄) ⊢ own (c : Thread nD τ) fullShare m Finset.univ (n2 H) := by
  rw [show 256 * (47 + 1) = 12288 from rfl, band_all]

theorem all_scl {X : ℕ → ℕ → Elt F .bf16} {m : Memref sig .tc .vmem S8x1x1536 .f32} :
    (part (c : Thread nD τ) m Finset.univ (doneS 48) (sclA X) : sProp 𝕄) ⊢ own (c : Thread nD τ) fullShare m Finset.univ (sclA X) := by
  refine part_all fun i _ => ?_
  have h0 : (i (0 : Fin 3)).val < 8 := (i (0 : Fin 3)).isLt
  have h2 : (i (2 : Fin 3)).val < 1536 := (i (2 : Fin 3)).isLt
  unfold doneS
  omega

theorem part_any {s : Shape} {e : EltTy} {sp : Space} {m : Memref sig .tc sp s e} {P : s.Idx → Prop} {G : s.Idx → Elt F e} :
    (part (c : Thread nD τ) m Finset.univ P G : sProp 𝕄) ⊢ iprop(∃ g, own (c : Thread nD τ) fullShare m Finset.univ g) := by
  unfold part
  iintro ⟨%g, %_, H⟩
  iexists g; iexact H

theorem weights_all {m : Memref sig .tc .vmem S4096x5632 .bf16} {w : ℕ → ℕ → Elt F .bf16} :
    (part (c : Thread nD τ) m Finset.univ (decoded (10 + 1) 0) (n2 w) : sProp 𝕄) ⊢ own (c : Thread nD τ) fullShare m Finset.univ (n2 w) := by
  refine part_all fun i _ => ?_
  unfold decoded
  omega

/-- The main loop may start. -/
theorem main_start (arg0 : Memref sig .tc .hbm S12288x4096 .bf16) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg14 : DmaSems sig S2) (arg15 : DmaSems sig S2) (arg16 : DmaSems sig S2) (X w : ℕ → ℕ → Elt F .bf16)
    (g3 : S12288x5632.Idx → Elt F .bf16) (g4 : S12288x4096.Idx → Elt F .fp8e4m3) (g8' : S2x256x4096.Idx → Elt F .fp8e4m3)
    (g9' : S2x256x4096.Idx → Elt F .bf16) (g10 g10' : S2x256x5632.Idx → Elt F .bf16) :
    (iprop(own (c : Thread nD τ) fullShare arg0 (Finset.univ \ win 1) (n2 X) ∗ flIn (c : Thread nD τ) EC () arg0 arg7 (cellAt arg14 1) X 1 1 ∗ own (c : Thread nD τ) fullShare arg7 (slot 0) (n3 (tile X 0)) ∗ semVal ((c : Thread nD τ), .dma (cellAt arg14 0)) 0 ∗ own (c : Thread nD τ) fullShare arg3 Finset.univ g3 ∗ own (c : Thread nD τ) fullShare arg10 (slot 0) g10 ∗ own (c : Thread nD τ) fullShare arg10 (slot 1) g10' ∗ semVal ((c : Thread nD τ), .dma (cellAt arg16 0)) 0 ∗ semVal ((c : Thread nD τ), .dma (cellAt arg16 1)) 0 ∗ own (c : Thread nD τ) fullShare arg4 Finset.univ g4 ∗ part (c : Thread nD τ) arg8 (slot 0) (rows (32 * 8)) (n3 (tile (codeN X) 0)) ∗ own (c : Thread nD τ) fullShare arg8 (slot 1) g8' ∗ semVal ((c : Thread nD τ), .dma (cellAt arg15 0)) 0 ∗ semVal ((c : Thread nD τ), .dma (cellAt arg15 1)) 0 ∗ part (c : Thread nD τ) arg9 (slot 0) (rows (32 * 8)) (n3 (tile (xwN X) 0)) ∗ own (c : Thread nD τ) fullShare arg9 (slot 1) g9' ∗ own (c : Thread nD τ) fullShare arg6 Finset.univ (n2 w) ∗ part (c : Thread nD τ) arg5 Finset.univ (doneS 1) (sclA X) ∗ OW (c : Thread nD τ)) : sProp 𝕄) ⊢ mainInv c arg0 arg3 arg4 arg5 arg6 arg7 arg8 arg9 arg10 arg14 arg15 arg16 X w 0 := by
  have e1 : leaving c arg3 arg10 (cellAt arg16 0) (yN (xwN X) w) (2 ≤ 0) (0 - 2) 0 = _ := if_neg (by decide)
  have e2 : leaving c arg4 arg8 (cellAt arg15 1) (codeN X) (1 ≤ 0) (0 - 1) 1 = _ := if_neg (by decide)
  have e3 : coming c arg0 arg7 (cellAt arg14 1) X (0 + 1 < 48) (0 + 1) (0 - 1) 1 = _ := if_pos (by decide)
  unfold mainInv Y0 C0 X0
  rw [show 0 % 2 = 0 from rfl, show 1 - 0 = 1 from rfl, show cur 0 = 0 from rfl, e1, e2, e3, if_pos (show 0 + 1 < 48 by decide), show min (0 + 1) 48 = 1 from rfl]
  unfold idle
  iintro ⟨HX, G1, H7, X0, H3, H10, H101, Y0, Y1, H4, H8, H81, C0, C1, H9, H91, H6, H5, HO⟩
  ihave H3' := (no_rows c (yN (xwN X) w)) $$ H3
  icases H3' with ⟨H3, H3r⟩
  ihave H4' := (no_rows c (codeN X)) $$ H4
  icases H4' with ⟨H4, H4r⟩
  isplitl [H3 H3r H10 H101 Y0 Y1]
  · isplitl [H3]; · iexact H3
    isplitl [H3r]; · iexact H3r
    isplitl [H10 Y0]
    · isplitl [H10]
      · iexists _; iexact H10
      · iexact Y0
    isplitl [H101]
    · iexists g10'
      isplitr [H101]
      · ipureintro; exact fun h => absurd h (by decide)
      · iexact H101
    · iexact Y1
  isplitl [H4 H4r H8 H81 C0 C1]
  · isplitl [H4]; · iexact H4
    isplitl [H4r]; · iexact H4r
    isplitl [H81 C1]
    · isplitl [H81]
      · iexists _; iexact H81
      · iexact C1
    isplitl [H8]
    · iapply (part_all fun i _ => show (i (1 : Fin 3)).val < 256 from (i (1 : Fin 3)).isLt) $$ H8
    · iexact C0
  isplitl [HX G1 H7 X0]
  · isplitl [HX]; · iexact HX
    isplitl [G1]; · iexact G1
    isplitl [H7] <;> iassumption
  isplitl [HO]; · iexact HO
  isplitl [H9]
  · iapply (part_all fun i _ => show (i (1 : Fin 3)).val < 256 from (i (1 : Fin 3)).isLt) $$ H9
  isplitl [H91]
  · iexists _; iexact H91
  isplitl [H6] <;> iassumption

/-- What the main loop leaves. -/
theorem main_end (arg0 : Memref sig .tc .hbm S12288x4096 .bf16) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg14 : DmaSems sig S2) (arg15 : DmaSems sig S2) (arg16 : DmaSems sig S2) (X w : ℕ → ℕ → Elt F .bf16) :
    (mainInv c arg0 arg3 arg4 arg5 arg6 arg7 arg8 arg9 arg10 arg14 arg15 arg16 X w 48 : sProp 𝕄) ⊢ iprop(own (c : Thread nD τ) fullShare arg0 Finset.univ (n2 X) ∗ (∃ g, own (c : Thread nD τ) fullShare arg7 (slot 0) g) ∗ semVal ((c : Thread nD τ), .dma (cellAt arg14 0)) 0 ∗ (∃ g, own (c : Thread nD τ) fullShare arg7 (slot 1) g) ∗ semVal ((c : Thread nD τ), .dma (cellAt arg14 1)) 0 ∗ own (c : Thread nD τ) fullShare arg3 (band 0 (256 * 46)) (n2 (yN (xwN X) w)) ∗ rest (c : Thread nD τ) arg3 (256 * 47) ∗ flOut (c : Thread nD τ) EC () arg3 arg10 (cellAt arg16 0) (yN (xwN X) w) 46 0 ∗ own (c : Thread nD τ) fullShare arg10 (slot 1) (n3 (tile (yN (xwN X) w) 47)) ∗ semVal ((c : Thread nD τ), .dma (cellAt arg16 1)) 0 ∗ own (c : Thread nD τ) fullShare arg4 (band 0 (256 * 47)) (n2 (codeN X)) ∗ flOut (c : Thread nD τ) EC () arg4 arg8 (cellAt arg15 1) (codeN X) 47 1 ∗ own (c : Thread nD τ) fullShare arg8 (slot 0) (n3 (tile (codeN X) 46)) ∗ semVal ((c : Thread nD τ), .dma (cellAt arg15 0)) 0 ∗ own (c : Thread nD τ) fullShare arg9 (slot 0) (n3 (tile (xwN X) 46)) ∗ (∃ g, own (c : Thread nD τ) fullShare arg9 (slot 1) g) ∗ own (c : Thread nD τ) fullShare arg6 Finset.univ (n2 w) ∗ part (c : Thread nD τ) arg5 Finset.univ (doneS 48) (sclA X) ∗ OW (c : Thread nD τ)) := by
  have e1 : leaving c arg3 arg10 (cellAt arg16 0) (yN (xwN X) w) (2 ≤ 48) (48 - 2) 0 = _ := if_pos (by decide)
  have e2 : leaving c arg4 arg8 (cellAt arg15 1) (codeN X) (1 ≤ 48) (48 - 1) 1 = _ := if_pos (by decide)
  have e3 : coming c arg0 arg7 (cellAt arg14 1) X (48 + 1 < 48) (48 + 1) (48 - 1) 1 = _ := if_neg (by decide)
  unfold mainInv Y0 C0 X0
  rw [show 48 % 2 = 0 from rfl, show 1 - 0 = 1 from rfl, show cur 48 = 46 from rfl, e1, e2, e3, if_neg (show ¬ 48 + 1 < 48 by decide), Finset.sdiff_empty, show min (48 + 1) 48 = 48 from rfl]
  iintro ⟨⟨H3, HR, HF, ⟨%g, %hg, HT⟩, Y1⟩, ⟨H4, _, HG, H80, C0⟩, ⟨HX, ⟨H71, X1⟩, H70, X0⟩, HO, H90, H91, H6, H5⟩
  obtain rfl := hg (by decide)
  isplitl [HX]; · iexact HX
  isplitl [H70]
  · iexists _; iexact H70
  isplitl [X0]; · iexact X0
  isplitl [H71]
  · iexists _; iexact H71
  isplitl [X1]; · iexact X1
  isplitl [H3]; · iexact H3
  isplitl [HR]; · iexact HR
  isplitl [HF]; · iexact HF
  isplitl [HT]; · iexact HT
  isplitl [Y1]; · iexact Y1
  isplitl [H4]; · iexact H4
  isplitl [HG]; · iexact HG
  isplitl [H80]; · iexact H80
  isplitl [C0]; · iexact C0
  isplitl [H90]; · iexact H90
  isplitl [H91]; · iexact H91
  isplitl [H6]; · iexact H6
  isplitl [H5] <;> iassumption

end Ends

/-- What is held when the kernel returns: the results written, the inputs as they were, everything else in any state. -/
def bodyPost (c : Dev nD) (arg0 : Memref sig .tc .hbm S12288x4096 .bf16) (arg1 : Memref sig .tc .hbm S4096x2816 .i8) (arg2 : Memref sig .tc .hbm S128x5632 .i8) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg11 : Memref sig .tc .vmem S2x4096x256 .i8) (arg12 : Memref sig .tc .vmem S128x5632 .i8) (arg13 : Memref sig .tc .vmem S128x512 .i32) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) : sProp 𝕄 :=
  iprop(own (c : Thread nD τ) fullShare arg0 Finset.univ (n2 X) ∗ own (c : Thread nD τ) fullShare arg1 Finset.univ (n2 WP) ∗ own (c : Thread nD τ) fullShare arg2 Finset.univ (n2 WS) ∗ own (c : Thread nD τ) fullShare arg3 Finset.univ (n2 (yN (xwN X) (wN WP WS))) ∗ own (c : Thread nD τ) fullShare arg4 Finset.univ (n2 (codeN X)) ∗ own (c : Thread nD τ) fullShare arg5 Finset.univ (sclA X) ∗ (∃ g, own (c : Thread nD τ) fullShare arg6 Finset.univ g) ∗ (∃ g, own (c : Thread nD τ) fullShare arg7 (slot 0) g) ∗ (∃ g, own (c : Thread nD τ) fullShare arg7 (slot 1) g) ∗ (∃ g, own (c : Thread nD τ) fullShare arg8 (slot 0) g) ∗ (∃ g, own (c : Thread nD τ) fullShare arg8 (slot 1) g) ∗ (∃ g, own (c : Thread nD τ) fullShare arg9 (slot 0) g) ∗ (∃ g, own (c : Thread nD τ) fullShare arg9 (slot 1) g) ∗ (∃ g, own (c : Thread nD τ) fullShare arg10 (slot 0) g) ∗ (∃ g, own (c : Thread nD τ) fullShare arg10 (slot 1) g) ∗ (∃ g, own (c : Thread nD τ) fullShare arg11 (slot 0) g) ∗ (∃ g, own (c : Thread nD τ) fullShare arg11 (slot 1) g) ∗ (∃ g, own (c : Thread nD τ) fullShare arg12 Finset.univ g) ∗ (∃ g, own (c : Thread nD τ) fullShare arg13 Finset.univ g) ∗ semVal ((c : Thread nD τ), .dma (cellAt arg14 0)) 0 ∗ semVal ((c : Thread nD τ), .dma (cellAt arg14 1)) 0 ∗ semVal ((c : Thread nD τ), .dma (cellAt arg15 0)) 0 ∗ semVal ((c : Thread nD τ), .dma (cellAt arg15 1)) 0 ∗ semVal ((c : Thread nD τ), .dma (cellAt arg16 0)) 0 ∗ semVal ((c : Thread nD τ), .dma (cellAt arg16 1)) 0 ∗ semVal ((c : Thread nD τ), .dma (cellAt arg17 0)) 0 ∗ semVal ((c : Thread nD τ), .dma (cellAt arg17 1)) 0 ∗ semVal ((c : Thread nD τ), .dma arg18.sem) 0 ∗ OW (c : Thread nD τ))

set_option maxRecDepth 65536 in
/-- From the last chunk's exponents on. -/
theorem tail_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) (Q : PUnit → sProp 𝕄)
    (g3 : S12288x5632.Idx → Elt F .bf16) (g4 : S12288x4096.Idx → Elt F .fp8e4m3) (g5 : S8x1x1536.Idx → Elt F .f32) (g8 g8' : S2x256x4096.Idx → Elt F .fp8e4m3)
    (g9 g9' : S2x256x4096.Idx → Elt F .bf16) (g10 g10' : S2x256x5632.Idx → Elt F .bf16) :
    iprop(own (c : Thread nD τ) fullShare arg0 ((Finset.univ \ win 0) \ win 1) (n2 X) ∗ own (c : Thread nD τ) fullShare arg1 Finset.univ (n2 WP) ∗ own (c : Thread nD τ) fullShare arg2 Finset.univ (n2 WS) ∗ part (c : Thread nD τ) arg6 Finset.univ (decoded 10 0) (n2 (wN WP WS)) ∗ flIn (c : Thread nD τ) EC () arg0 arg7 (cellAt arg14 0) X 0 0 ∗ flIn (c : Thread nD τ) EC () arg0 arg7 (cellAt arg14 1) X 1 1 ∗ own (c : Thread nD τ) fullShare arg11 (slot 0) (n3 fun r k => WP r (256 * 10 + k)) ∗ own (c : Thread nD τ) fullShare arg11 (slot 1) (n3 fun r k => WP r (256 * 9 + k)) ∗ own (c : Thread nD τ) fullShare arg12 Finset.univ (n2 WS) ∗ exA c arg13 ex1 WS 10 ∗ semVal ((c : Thread nD τ), .dma (cellAt arg17 0)) 0 ∗ semVal ((c : Thread nD τ), .dma (cellAt arg17 1)) 0 ∗ semVal ((c : Thread nD τ), .dma arg18.sem) 0 ∗ OW (c : Thread nD τ) ∗ own (c : Thread nD τ) fullShare arg3 Finset.univ g3 ∗ own (c : Thread nD τ) fullShare arg4 Finset.univ g4 ∗ own (c : Thread nD τ) fullShare arg5 Finset.univ g5 ∗ own (c : Thread nD τ) fullShare arg8 (slot 0) g8 ∗ own (c : Thread nD τ) fullShare arg8 (slot 1) g8' ∗ own (c : Thread nD τ) fullShare arg9 (slot 0) g9 ∗ own (c : Thread nD τ) fullShare arg9 (slot 1) g9' ∗ own (c : Thread nD τ) fullShare arg10 (slot 0) g10 ∗ own (c : Thread nD τ) fullShare arg10 (slot 1) g10' ∗ semVal ((c : Thread nD τ), .dma (cellAt arg15 0)) 0 ∗ semVal ((c : Thread nD τ), .dma (cellAt arg15 1)) 0 ∗ semVal ((c : Thread nD τ), .dma (cellAt arg16 0)) 0 ∗ semVal ((c : Thread nD τ), .dma (cellAt arg16 1)) 0)
    ⊢ iprop((bodyPost c arg0 arg1 arg2 arg3 arg4 arg5 arg6 arg7 arg8 arg9 arg10 arg11 arg12 arg13 arg14 arg15 arg16 arg17 arg18 X WP WS -∗ Q ⟨⟩)
      -∗ wp frame (wpE (defs₀ (F := F)) Variants.none (c : Thread nD τ) none) Set.univ (tailP arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 (wsT WS 21)) Q) := by
  iintro ⟨HX, HA, HB, H6, G0, G1, S0, S1, HS, HE, V0, V1, VS, HO, H3, H4, H5, H8, H81, H9, H91, H10, H101, C0, C1, Y0, Y1⟩ HQ
  ihave H5 := (part_start (P := doneS 0) (C := sclA X) fun i _ h => absurd h (Nat.not_lt_zero _)) $$ H5
  ihave H8 := (part_start (P := rows (32 * 0)) (C := n3 (tile (codeN X) 0)) fun i _ h => absurd h (Nat.not_lt_zero _)) $$ H8
  ihave H9 := (part_start (P := rows (32 * 0)) (C := n3 (tile (xwN X) 0)) fun i _ h => absurd h (Nat.not_lt_zero _)) $$ H9
  unfold tailP
  simp only [wp_bind, wp_pure]
  rw [k0_part49_eq_skeleton]; unfold k0_part49_skel; simp only [wp_bind, wp_pure]
  iapply (ld_ex c) $$ HE
  iintro %_ HE
  iapply (st_hi c 10 rfl rfl) $$ HE
  iintro HE
  iapply (chunkLoop c 10 rfl (by decide) k0_t11_loop (by decide) (fun k => trip11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ k)) $$ [S0 HE H6]
  · isplitl [S0]; · iexact S0
    isplitl [HE] <;> iassumption
  iintro S0 HE H6
  ihave H6 := (weights_all c) $$ H6
  iapply (in_wait Variants.none _ none EC () (S := Finset.univ \ win 1) 0 (cellAt arg14 0) (cellAt_eq rfl _ _) credit_slot win_sub2 (sdiff_right_comm _ _ _)) $$ [G0 HX HO]
  · isplitl [G0]; · iexact G0
    isplitl [HX]; · iexact HX
    iexact HO
  iintro HX H7 X0 HO
  iapply (ld_blk 0 0 rfl) $$ H7
  iintro H7
  imodintro
  rw [k0_part50_eq_skeleton]; unfold k0_part50_skel; simp only [wp_bind, wp_pure]
  imodintro
  rw [k0_part51_eq_skeleton]; unfold k0_part51_skel; simp only [wp_bind, wp_pure]
  iapply (ld_any (p := 0) (a := 0) (b := 0) rfl rfl) $$ H8
  iintro %_ H8
  iapply (st_rows 0 0 rfl (codeN_at X (8 * 0 + 0))) $$ H8
  iintro H8
  imodintro
  rw [k0_part52_eq_skeleton]; unfold k0_part52_skel; simp only [wp_bind, wp_pure]
  iapply (ld_any (p := 0) (a := 0) (b := 0) rfl rfl) $$ H9
  iintro %_ H9
  iapply (st_rows 0 0 rfl (xwN_at X (8 * 0 + 0))) $$ H9
  iintro H9
  iapply (ld_blk 0 1 rfl) $$ H7
  iintro H7
  imodintro
  rw [k0_part53_eq_skeleton]; unfold k0_part53_skel; simp only [wp_bind, wp_pure]
  imodintro
  rw [k0_part54_eq_skeleton]; unfold k0_part54_skel; simp only [wp_bind, wp_pure]
  iapply (ld_any (p := 0) (a := 32) (b := 0) rfl rfl) $$ H8
  iintro %_ H8
  iapply (st_rows 0 1 rfl (codeN_at X (8 * 0 + 1))) $$ H8
  iintro H8
  iapply (ld_any (p := 0) (a := 32) (b := 0) rfl rfl) $$ H9
  iintro %_ H9
  iapply (st_rows 0 1 rfl (xwN_at X (8 * 0 + 1))) $$ H9
  iintro H9
  iapply (ld_blk 0 2 rfl) $$ H7
  iintro H7
  imodintro
  rw [k0_part55_eq_skeleton]; unfold k0_part55_skel; simp only [wp_bind, wp_pure]
  imodintro
  rw [k0_part56_eq_skeleton]; unfold k0_part56_skel; simp only [wp_bind, wp_pure]
  imodintro
  rw [k0_part57_eq_skeleton]; unfold k0_part57_skel; simp only [wp_bind, wp_pure]
  iapply (ld_any (p := 0) (a := 64) (b := 0) rfl rfl) $$ H8
  iintro %_ H8
  iapply (st_rows 0 2 rfl (codeN_at X (8 * 0 + 2))) $$ H8
  iintro H8
  iapply (ld_any (p := 0) (a := 64) (b := 0) rfl rfl) $$ H9
  iintro %_ H9
  iapply (st_rows 0 2 rfl (xwN_at X (8 * 0 + 2))) $$ H9
  iintro H9
  iapply (ld_blk 0 3 rfl) $$ H7
  iintro H7
  imodintro
  rw [k0_part58_eq_skeleton]; unfold k0_part58_skel; simp only [wp_bind, wp_pure]
  imodintro
  rw [k0_part59_eq_skeleton]; unfold k0_part59_skel; simp only [wp_bind, wp_pure]
  iapply (ld_any (p := 0) (a := 96) (b := 0) rfl rfl) $$ H8
  iintro %_ H8
  iapply (st_rows 0 3 rfl (codeN_at X (8 * 0 + 3))) $$ H8
  iintro H8
  iapply (ld_any (p := 0) (a := 96) (b := 0) rfl rfl) $$ H9
  iintro %_ H9
  iapply (st_rows 0 3 rfl (xwN_at X (8 * 0 + 3))) $$ H9
  iintro H9
  iapply (ld_blk 0 4 rfl) $$ H7
  iintro H7
  imodintro
  rw [k0_part60_eq_skeleton]; unfold k0_part60_skel; simp only [wp_bind, wp_pure]
  imodintro
  rw [k0_part61_eq_skeleton]; unfold k0_part61_skel; simp only [wp_bind, wp_pure]
  imodintro
  rw [k0_part62_eq_skeleton]; unfold k0_part62_skel; simp only [wp_bind, wp_pure]
  iapply (ld_any (p := 0) (a := 128) (b := 0) rfl rfl) $$ H8
  iintro %_ H8
  iapply (st_rows 0 4 rfl (codeN_at X (8 * 0 + 4))) $$ H8
  iintro H8
  iapply (ld_any (p := 0) (a := 128) (b := 0) rfl rfl) $$ H9
  iintro %_ H9
  iapply (st_rows 0 4 rfl (xwN_at X (8 * 0 + 4))) $$ H9
  iintro H9
  iapply (ld_blk 0 5 rfl) $$ H7
  iintro H7
  imodintro
  rw [k0_part63_eq_skeleton]; unfold k0_part63_skel; simp only [wp_bind, wp_pure]
  imodintro
  rw [k0_part64_eq_skeleton]; unfold k0_part64_skel; simp only [wp_bind, wp_pure]
  iapply (ld_any (p := 0) (a := 160) (b := 0) rfl rfl) $$ H8
  iintro %_ H8
  iapply (st_rows 0 5 rfl (codeN_at X (8 * 0 + 5))) $$ H8
  iintro H8
  iapply (ld_any (p := 0) (a := 160) (b := 0) rfl rfl) $$ H9
  iintro %_ H9
  iapply (st_rows 0 5 rfl (xwN_at X (8 * 0 + 5))) $$ H9
  iintro H9
  imodintro
  rw [k0_part65_eq_skeleton]; unfold k0_part65_skel; simp only [wp_bind, wp_pure]
  iapply (ld_blk 0 6 rfl) $$ H7
  iintro H7
  imodintro
  rw [k0_part66_eq_skeleton]; unfold k0_part66_skel; simp only [wp_bind, wp_pure]
  imodintro
  rw [k0_part67_eq_skeleton]; unfold k0_part67_skel; simp only [wp_bind, wp_pure]
  iapply (ld_any (p := 0) (a := 192) (b := 0) rfl rfl) $$ H8
  iintro %_ H8
  iapply (st_rows 0 6 rfl (codeN_at X (8 * 0 + 6))) $$ H8
  iintro H8
  iapply (ld_any (p := 0) (a := 192) (b := 0) rfl rfl) $$ H9
  iintro %_ H9
  iapply (st_rows 0 6 rfl (xwN_at X (8 * 0 + 6))) $$ H9
  iintro H9
  iapply (ld_blk 0 7 rfl) $$ H7
  iintro H7
  imodintro
  rw [k0_part68_eq_skeleton]; unfold k0_part68_skel; simp only [wp_bind, wp_pure]
  imodintro
  rw [k0_part69_eq_skeleton]; unfold k0_part69_skel; simp only [wp_bind, wp_pure]
  iapply (ld_any (p := 0) (a := 224) (b := 0) rfl rfl) $$ H8
  iintro %_ H8
  iapply (st_rows 0 7 rfl (codeN_at X (8 * 0 + 7))) $$ H8
  iintro H8
  iapply (ld_any (p := 0) (a := 224) (b := 0) rfl rfl) $$ H9
  iintro %_ H9
  imodintro
  rw [k0_part70_eq_skeleton]; unfold k0_part70_skel; simp only [wp_bind, wp_pure]
  iapply (st_rows 0 7 rfl (xwN_at X (8 * 0 + 7))) $$ H9
  iintro H9
  iapply (part_ld Variants.none none (Finset.subset_univ _)) $$ H5
  iintro %_ H5
  iapply (st_scl 0 0 1 off56_eq (Or.inr ⟨rfl, rfl⟩) rfl) $$ H5
  iintro H5
  ihave HM := (main_start c arg0 arg3 arg4 arg5 arg6 arg7 arg8 arg9 arg10 arg14 arg15 arg16 X (wN WP WS) g3 g4 g8' g9' g10 g10') $$ [HX G1 H7 X0 H3 H10 H101 Y0 Y1 H4 H8 H81 C0 C1 H9 H91 H6 H5 HO]
  · isplitl [HX]; · iexact HX
    isplitl [G1]; · iexact G1
    isplitl [H7]; · iexact H7
    isplitl [X0]; · iexact X0
    isplitl [H3]; · iexact H3
    isplitl [H10]; · iexact H10
    isplitl [H101]; · iexact H101
    isplitl [Y0]; · iexact Y0
    isplitl [Y1]; · iexact Y1
    isplitl [H4]; · iexact H4
    isplitl [H8]; · iexact H8
    isplitl [H81]; · iexact H81
    isplitl [C0]; · iexact C0
    isplitl [C1]; · iexact C1
    isplitl [H9]; · iexact H9
    isplitl [H91]; · iexact H91
    isplitl [H6]; · iexact H6
    isplitl [H5]; · iexact H5
    iexact HO
  iapply (mainLoop c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 _ _ _ _ _ _ _ _ _ _ X (wN WP WS)) $$ HM
  iintro HM
  ihave HM := (main_end c arg0 arg3 arg4 arg5 arg6 arg7 arg8 arg9 arg10 arg14 arg15 arg16 X (wN WP WS)) $$ HM
  icases HM with ⟨HX, ⟨%g70, H70⟩, X0, ⟨%g71, H71⟩, X1, H3, HR, HF, HT, Y1, H4, HG, H80, C0, H90, H91, H6, H5, HO⟩
  iapply (out_send Variants.none _ none EC () 47 (cellAt arg16 1) (cellAt_eq rfl _ _) rfl rfl pos5632 (trip_lt (by decide))) $$ [HT Y1 HR]
  · isplitl [HT]; · iexact HT
    isplitl [Y1]; · iexact Y1
    iexact HR
  iintro HT HR
  iapply (out_wait Variants.none _ none EC () 46 (cellAt arg16 0) (cellAt_eq rfl _ _) credit_sub) $$ [HF H3 HO]
  · isplitl [HF]; · iexact HF
    isplitl [H3]; · iexact H3
    iexact HO
  iintro H3 H100 Y0 HO
  imodintro
  iapply (out_wait Variants.none _ none EC () 47 (cellAt arg16 1) (cellAt_eq rfl _ _) credit_sub) $$ [HT H3 HO]
  · isplitl [HT]; · iexact HT
    isplitl [H3]; · iexact H3
    iexact HO
  iintro H3 H101 Y1 HO
  iapply (out_wait Variants.none _ none EC () 47 (cellAt arg15 1) (cellAt_eq rfl _ _) credit_sub) $$ [HG H4 HO]
  · isplitl [HG]; · iexact HG
    isplitl [H4]; · iexact H4
    iexact HO
  iintro H4 H81 C1 HO
  imodintro
  iapply HQ
  unfold bodyPost
  isplitl [HX]; · iexact HX
  isplitl [HA]; · iexact HA
  isplitl [HB]; · iexact HB
  isplitl [H3]; · iapply (all_rows c) $$ H3
  isplitl [H4]; · iapply (all_rows c) $$ H4
  isplitl [H5]; · iapply (all_scl c) $$ H5
  isplitl [H6]
  · iexists _; iexact H6
  isplitl [H70]
  · iexists _; iexact H70
  isplitl [H71]
  · iexists _; iexact H71
  isplitl [H80]
  · iexists _; iexact H80
  isplitl [H81]
  · iexists _; iexact H81
  isplitl [H90]
  · iexists _; iexact H90
  isplitl [H91]
  · iexact H91
  isplitl [H100]
  · iexists _; iexact H100
  isplitl [H101]
  · iexists _; iexact H101
  isplitl [S0]
  · iexists _; iexact S0
  isplitl [S1]
  · iexists _; iexact S1
  isplitl [HS]
  · iexists _; iexact HS
  isplitl [HE]
  · iapply (part_any c) $$ HE
  isplitl [X0]; · iexact X0
  isplitl [X1]; · iexact X1
  isplitl [C0]; · iexact C0
  isplitl [C1]; · iexact C1
  isplitl [Y0]; · iexact Y0
  isplitl [Y1]; · iexact Y1
  isplitl [V0]; · iexact V0
  isplitl [V1]; · iexact V1
  isplitl [VS]; · iexact VS
  iexact HO

end Cert.Proof.KernelIdeal

end
-- ==== Proof.KernelIdealBody.lean ====
/-
  The triple of the kernel's body: entered with its operands whole and its counters at zero, it leaves the inputs as they
  were, the results as `KernelIdealSpec` names them, and its counters at zero.
-/
module

public import proofs.«01_k».proof.Proof.KernelIdealEnds

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

variable {F : FTy → Type} [FloatOps F]

local notation "𝕄" => MT nD τ sig Unit (Elt F) ℕ (UU nD τ) ℕ

section Slots

variable (c : Dev nD) {R C : ℕ} {e : EltTy} {sp : Space} {m : Memref sig .tc sp (Sh3 2 R C) e}

theorem slots_all : (Finset.univ : Finset (Sh3 2 R C).Idx) = slot 0 ∪ slot 1 := by
  ext i
  rw [Finset.mem_union, mem_slot, mem_slot]
  have h : (i (0 : Fin 3)).val < 2 := (i (0 : Fin 3)).isLt
  constructor
  · intro _; omega
  · intro _; exact Finset.mem_univ _

theorem slots_disj : Disjoint (slot 0 : Finset (Sh3 2 R C).Idx) (slot 1) := by
  rw [Finset.disjoint_left]
  intro i h h'
  rw [mem_slot] at h h'
  omega

/-- A ring of two slots, apart and together. -/
theorem slots_split {g : (Sh3 2 R C).Idx → Elt F e} :
    (own (c : Thread nD τ) fullShare m Finset.univ g : sProp 𝕄) ⊢ iprop(own (c : Thread nD τ) fullShare m (slot 0) g ∗ own (c : Thread nD τ) fullShare m (slot 1) g) := by
  rw [slots_all]
  exact own_union slots_disj

theorem slots_join :
    (iprop((∃ g, own (c : Thread nD τ) fullShare m (slot 0) g) ∗ (∃ g, own (c : Thread nD τ) fullShare m (slot 1) g)) : sProp 𝕄) ⊢ iprop(∃ g, own (c : Thread nD τ) fullShare m Finset.univ g) := by
  rw [slots_all]
  iintro ⟨⟨%g, H⟩, ⟨%g', H'⟩⟩
  iexists (fun i => if (i (0 : Fin 3)).val = 0 then g i else g' i)
  iapply (own_join slots_disj)
  isplitl [H]
  · iapply (own_congr fun i hi => (if_pos (mem_slot.mp hi)).symm) $$ H
  · iapply (own_congr fun i hi => (if_neg (by rw [mem_slot.mp hi]; exact Nat.one_ne_zero)).symm) $$ H'

end Slots

/-- What the body is entered with, -/
def bodyIn (c : Dev nD) (arg0 : Memref sig .tc .hbm S12288x4096 .bf16) (arg1 : Memref sig .tc .hbm S4096x2816 .i8) (arg2 : Memref sig .tc .hbm S128x5632 .i8) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg11 : Memref sig .tc .vmem S2x4096x256 .i8) (arg12 : Memref sig .tc .vmem S128x5632 .i8) (arg13 : Memref sig .tc .vmem S128x512 .i32) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8)
    (g3 : S12288x5632.Idx → Elt F .bf16) (g4 : S12288x4096.Idx → Elt F .fp8e4m3) (g5 : S8x1x1536.Idx → Elt F .f32) (g6 : S4096x5632.Idx → Elt F .bf16) (g7 : S2x256x4096.Idx → Elt F .bf16)
    (g8 : S2x256x4096.Idx → Elt F .fp8e4m3) (g9 : S2x256x4096.Idx → Elt F .bf16) (g10 : S2x256x5632.Idx → Elt F .bf16) (g11 : S2x4096x256.Idx → Elt F .i8) (g12 : S128x5632.Idx → Elt F .i8) (g13 : S128x512.Idx → Elt F .i32) : sProp 𝕄 :=
  iprop(own (c : Thread nD τ) fullShare arg0 Finset.univ (n2 X) ∗ own (c : Thread nD τ) fullShare arg1 Finset.univ (n2 WP) ∗ own (c : Thread nD τ) fullShare arg2 Finset.univ (n2 WS) ∗ own (c : Thread nD τ) fullShare arg3 Finset.univ g3 ∗ own (c : Thread nD τ) fullShare arg4 Finset.univ g4 ∗ own (c : Thread nD τ) fullShare arg5 Finset.univ g5 ∗ own (c : Thread nD τ) fullShare arg6 Finset.univ g6 ∗ own (c : Thread nD τ) fullShare arg7 Finset.univ g7 ∗ own (c : Thread nD τ) fullShare arg8 Finset.univ g8 ∗ own (c : Thread nD τ) fullShare arg9 Finset.univ g9 ∗ own (c : Thread nD τ) fullShare arg10 Finset.univ g10 ∗ own (c : Thread nD τ) fullShare arg11 Finset.univ g11 ∗ own (c : Thread nD τ) fullShare arg12 Finset.univ g12 ∗ own (c : Thread nD τ) fullShare arg13 Finset.univ g13 ∗ semVal ((c : Thread nD τ), .dma (cellAt arg14 0)) 0 ∗ semVal ((c : Thread nD τ), .dma (cellAt arg14 1)) 0 ∗ semVal ((c : Thread nD τ), .dma (cellAt arg15 0)) 0 ∗ semVal ((c : Thread nD τ), .dma (cellAt arg15 1)) 0 ∗ semVal ((c : Thread nD τ), .dma (cellAt arg16 0)) 0 ∗ semVal ((c : Thread nD τ), .dma (cellAt arg16 1)) 0 ∗ semVal ((c : Thread nD τ), .dma (cellAt arg17 0)) 0 ∗ semVal ((c : Thread nD τ), .dma (cellAt arg17 1)) 0 ∗ semVal ((c : Thread nD τ), .dma arg18.sem) 0 ∗ OW (c : Thread nD τ))

/-- and what it leaves. -/
def bodyOut (c : Dev nD) (arg0 : Memref sig .tc .hbm S12288x4096 .bf16) (arg1 : Memref sig .tc .hbm S4096x2816 .i8) (arg2 : Memref sig .tc .hbm S128x5632 .i8) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg11 : Memref sig .tc .vmem S2x4096x256 .i8) (arg12 : Memref sig .tc .vmem S128x5632 .i8) (arg13 : Memref sig .tc .vmem S128x512 .i32) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) : sProp 𝕄 :=
  iprop(own (c : Thread nD τ) fullShare arg0 Finset.univ (n2 X) ∗ own (c : Thread nD τ) fullShare arg1 Finset.univ (n2 WP) ∗ own (c : Thread nD τ) fullShare arg2 Finset.univ (n2 WS) ∗ own (c : Thread nD τ) fullShare arg3 Finset.univ (n2 (yN (xwN X) (wN WP WS))) ∗ own (c : Thread nD τ) fullShare arg4 Finset.univ (n2 (codeN X)) ∗ own (c : Thread nD τ) fullShare arg5 Finset.univ (sclA X) ∗ (∃ g, own (c : Thread nD τ) fullShare arg6 Finset.univ g) ∗ (∃ g, own (c : Thread nD τ) fullShare arg7 Finset.univ g) ∗ (∃ g, own (c : Thread nD τ) fullShare arg8 Finset.univ g) ∗ (∃ g, own (c : Thread nD τ) fullShare arg9 Finset.univ g) ∗ (∃ g, own (c : Thread nD τ) fullShare arg10 Finset.univ g) ∗ (∃ g, own (c : Thread nD τ) fullShare arg11 Finset.univ g) ∗ (∃ g, own (c : Thread nD τ) fullShare arg12 Finset.univ g) ∗ (∃ g, own (c : Thread nD τ) fullShare arg13 Finset.univ g) ∗ semVal ((c : Thread nD τ), .dma (cellAt arg14 0)) 0 ∗ semVal ((c : Thread nD τ), .dma (cellAt arg14 1)) 0 ∗ semVal ((c : Thread nD τ), .dma (cellAt arg15 0)) 0 ∗ semVal ((c : Thread nD τ), .dma (cellAt arg15 1)) 0 ∗ semVal ((c : Thread nD τ), .dma (cellAt arg16 0)) 0 ∗ semVal ((c : Thread nD τ), .dma (cellAt arg16 1)) 0 ∗ semVal ((c : Thread nD τ), .dma (cellAt arg17 0)) 0 ∗ semVal ((c : Thread nD τ), .dma (cellAt arg17 1)) 0 ∗ semVal ((c : Thread nD τ), .dma arg18.sem) 0 ∗ OW (c : Thread nD τ))

theorem bodyOut_of (c : Dev nD) (arg0 : Memref sig .tc .hbm S12288x4096 .bf16) (arg1 : Memref sig .tc .hbm S4096x2816 .i8) (arg2 : Memref sig .tc .hbm S128x5632 .i8) (arg3 : Memref sig .tc .hbm S12288x5632 .bf16) (arg4 : Memref sig .tc .hbm S12288x4096 .fp8e4m3) (arg5 : Memref sig .tc .vmem S8x1x1536 .f32) (arg6 : Memref sig .tc .vmem S4096x5632 .bf16) (arg7 : Memref sig .tc .vmem S2x256x4096 .bf16) (arg8 : Memref sig .tc .vmem S2x256x4096 .fp8e4m3) (arg9 : Memref sig .tc .vmem S2x256x4096 .bf16) (arg10 : Memref sig .tc .vmem S2x256x5632 .bf16) (arg11 : Memref sig .tc .vmem S2x4096x256 .i8) (arg12 : Memref sig .tc .vmem S128x5632 .i8) (arg13 : Memref sig .tc .vmem S128x512 .i32) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) :
    (bodyPost c arg0 arg1 arg2 arg3 arg4 arg5 arg6 arg7 arg8 arg9 arg10 arg11 arg12 arg13 arg14 arg15 arg16 arg17 arg18 X WP WS : sProp 𝕄) ⊢ bodyOut c arg0 arg1 arg2 arg3 arg4 arg5 arg6 arg7 arg8 arg9 arg10 arg11 arg12 arg13 arg14 arg15 arg16 arg17 arg18 X WP WS := by
  unfold bodyPost bodyOut
  iintro ⟨HX, HA, HB, H3, H4, H5, H6, H70, H71, H80, H81, H90, H91, H100, H101, S0, S1, HS, HE, X0, X1, C0, C1, Y0, Y1, V0, V1, VS, HO⟩
  isplitl [HX]; · iexact HX
  isplitl [HA]; · iexact HA
  isplitl [HB]; · iexact HB
  isplitl [H3]; · iexact H3
  isplitl [H4]; · iexact H4
  isplitl [H5]; · iexact H5
  isplitl [H6]; · iexact H6
  isplitl [H70 H71]
  · iapply (slots_join c)
    isplitl [H70] <;> iassumption
  isplitl [H80 H81]
  · iapply (slots_join c)
    isplitl [H80] <;> iassumption
  isplitl [H90 H91]
  · iapply (slots_join c)
    isplitl [H90] <;> iassumption
  isplitl [H100 H101]
  · iapply (slots_join c)
    isplitl [H100] <;> iassumption
  isplitl [S0 S1]
  · iapply (slots_join c)
    isplitl [S0] <;> iassumption
  isplitl [HS]; · iexact HS
  isplitl [HE]; · iexact HE
  isplitl [X0]; · iexact X0
  isplitl [X1]; · iexact X1
  isplitl [C0]; · iexact C0
  isplitl [C1]; · iexact C1
  isplitl [Y0]; · iexact Y0
  isplitl [Y1]; · iexact Y1
  isplitl [V0]; · iexact V0
  isplitl [V1]; · iexact V1
  isplitl [VS]; · iexact VS
  iexact HO

/-- The body's triple. -/
theorem body_wp (c : Dev nD) (arg0 : Memref sig .tc .hbm S12288x4096 .bf16) (harg0 : arg0.IsWhole) (arg1 : Memref sig .tc .hbm S4096x2816 .i8) (harg1 : arg1.IsWhole) (arg2 : Memref sig .tc .hbm S128x5632 .i8) (harg2 : arg2.IsWhole) (arg3 : Memref sig .tc .hbm S12288x5632 .bf16) (harg3 : arg3.IsWhole) (arg4 : Memref sig .tc .hbm S12288x4096 .fp8e4m3) (harg4 : arg4.IsWhole) (arg5 : Memref sig .tc .vmem S8x1x1536 .f32) (harg5 : arg5.IsWhole) (arg6 : Memref sig .tc .vmem S4096x5632 .bf16) (harg6 : arg6.IsWhole) (arg7 : Memref sig .tc .vmem S2x256x4096 .bf16) (harg7 : arg7.IsWhole) (arg8 : Memref sig .tc .vmem S2x256x4096 .fp8e4m3) (harg8 : arg8.IsWhole) (arg9 : Memref sig .tc .vmem S2x256x4096 .bf16) (harg9 : arg9.IsWhole) (arg10 : Memref sig .tc .vmem S2x256x5632 .bf16) (harg10 : arg10.IsWhole) (arg11 : Memref sig .tc .vmem S2x4096x256 .i8) (harg11 : arg11.IsWhole) (arg12 : Memref sig .tc .vmem S128x5632 .i8) (harg12 : arg12.IsWhole) (arg13 : Memref sig .tc .vmem S128x512 .i32) (harg13 : arg13.IsWhole) (arg14 : DmaSems sig S2) (arg15 : DmaSems sig S2) (arg16 : DmaSems sig S2) (arg17 : DmaSems sig S2) (arg18 : DmaSems sig S_) (X : ℕ → ℕ → Elt F .bf16) (WP WS : ℕ → ℕ → Elt F .i8) (Q : PUnit → sProp 𝕄)
    (g3 : S12288x5632.Idx → Elt F .bf16) (g4 : S12288x4096.Idx → Elt F .fp8e4m3) (g5 : S8x1x1536.Idx → Elt F .f32) (g6 : S4096x5632.Idx → Elt F .bf16) (g7 : S2x256x4096.Idx → Elt F .bf16)
    (g8 : S2x256x4096.Idx → Elt F .fp8e4m3) (g9 : S2x256x4096.Idx → Elt F .bf16) (g10 : S2x256x5632.Idx → Elt F .bf16) (g11 : S2x4096x256.Idx → Elt F .i8) (g12 : S128x5632.Idx → Elt F .i8) (g13 : S128x512.Idx → Elt F .i32) :
    (bodyIn c arg0 arg1 arg2 arg3 arg4 arg5 arg6 arg7 arg8 arg9 arg10 arg11 arg12 arg13 arg14 arg15 arg16 arg17 arg18 X WP WS g3 g4 g5 g6 g7 g8 g9 g10 g11 g12 g13 : sProp 𝕄)
      ⊢ iprop((bodyOut c arg0 arg1 arg2 arg3 arg4 arg5 arg6 arg7 arg8 arg9 arg10 arg11 arg12 arg13 arg14 arg15 arg16 arg17 arg18 X WP WS -∗ Q ⟨⟩)
        -∗ wp frame (wpE (defs₀ (F := F)) Variants.none (c : Thread nD τ) none) Set.univ (cc0_mxfp4_matmul arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18) Q) := by
  rw [cc0_mxfp4_matmul_eq_skeleton, body_eq]
  unfold bodyIn
  iintro ⟨HX, HA, HB, H3, H4, H5, H6, H7, H8, H9, H10, H11, H12, H13, X0, X1, C0, C1, Y0, Y1, V0, V1, VS, HO⟩ HQ
  ihave H7 := (slots_split c) $$ H7
  icases H7 with ⟨H7, H7'⟩
  ihave H8 := (slots_split c) $$ H8
  icases H8 with ⟨H8, H8'⟩
  ihave H9 := (slots_split c) $$ H9
  icases H9 with ⟨H9, H9'⟩
  ihave H10 := (slots_split c) $$ H10
  icases H10 with ⟨H10, H10'⟩
  ihave H11 := (slots_split c) $$ H11
  icases H11 with ⟨H11, H11'⟩
  iapply (decode_wp c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 X WP WS) $$ [HX HA HB H6 H7 H7' H11 H11' H12 H13 X0 X1 V0 V1 VS HO]
  · isplitl [HX]; · iexact HX
    isplitl [HA]; · iexact HA
    isplitl [HB]; · iexact HB
    isplitl [H6]; · iexact H6
    isplitl [H7]; · iexact H7
    isplitl [H7']; · iexact H7'
    isplitl [H11]; · iexact H11
    isplitl [H11']; · iexact H11'
    isplitl [H12]; · iexact H12
    isplitl [H13]; · iexact H13
    isplitl [X0]; · iexact X0
    isplitl [X1]; · iexact X1
    isplitl [V0]; · iexact V0
    isplitl [V1]; · iexact V1
    isplitl [VS]; · iexact VS
    iexact HO
  iintro HX HA HB H6 G0 G1 S0 S1 HS HE V0 V1 VS HO
  iapply (tail_wp c arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 X WP WS Q) $$ [HX HA HB H6 G0 G1 S0 S1 HS HE V0 V1 VS HO H3 H4 H5 H8 H8' H9 H9' H10 H10' C0 C1 Y0 Y1]
  · isplitl [HX]; · iexact HX
    isplitl [HA]; · iexact HA
    isplitl [HB]; · iexact HB
    isplitl [H6]; · iexact H6
    isplitl [G0]; · iexact G0
    isplitl [G1]; · iexact G1
    isplitl [S0]; · iexact S0
    isplitl [S1]; · iexact S1
    isplitl [HS]; · iexact HS
    isplitl [HE]; · iexact HE
    isplitl [V0]; · iexact V0
    isplitl [V1]; · iexact V1
    isplitl [VS]; · iexact VS
    isplitl [HO]; · iexact HO
    isplitl [H3]; · iexact H3
    isplitl [H4]; · iexact H4
    isplitl [H5]; · iexact H5
    isplitl [H8]; · iexact H8
    isplitl [H8']; · iexact H8'
    isplitl [H9]; · iexact H9
    isplitl [H9']; · iexact H9'
    isplitl [H10]; · iexact H10
    isplitl [H10']; · iexact H10'
    isplitl [C0]; · iexact C0
    isplitl [C1]; · iexact C1
    isplitl [Y0]; · iexact Y0
    iexact Y1
  iintro HP
  iapply HQ
  iapply (bodyOut_of c arg0 arg1 arg2 arg3 arg4 arg5 arg6 arg7 arg8 arg9 arg10 arg11 arg12 arg13 arg14 arg15 arg16 arg17 arg18 X WP WS) $$ HP

end Cert.Proof.KernelIdeal

end
-- ==== Proof.KernelIdealEntry.lean ====
/-
  The body obligation of the launch: the kernel's operands out of the buffers the pipeline hands it, and back.
-/
module

public import proofs.«01_k».proof.Proof.KernelIdealBody
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

open Idealize.ShloMosaic.Pipeline (Dat Cfg Window BodyObligation cellOf)

variable {F : FTy → Type} [FloatOps F]

local notation "𝕄" => MT nD τ sig Unit (Elt F) ℕ (UU nD τ) ℕ

/-! ### Whole buffers -/

section Whole

variable (c : Dev nD)

theorem own_univ {sp : Space} {s : Shape} {e : EltTy} (m : Memref sig .tc sp s e) (g : s.Idx → Elt F e) :
    (Steps.own (c : Thread nD τ) fullShare m Finset.univ g : sProp 𝕄) = owns (c : Thread nD τ) m fullShare g := by
  unfold Steps.own owns
  rw [View.setOn_univ]

theorem own_of_pt (b : Ref sig .tc) (g : Buf (Elt F) ((c : Thread nD τ).loc b)) :
    (((c : Thread nD τ).loc b) ↦{fullShare} g : sProp 𝕄) ⊢ own (c : Thread nD τ) fullShare (Memref.whole b) Finset.univ g := by
  rw [own_univ, owns_whole_eq]
  iintro H
  iexists g
  isplitr; · ipureintro; rfl
  iexact H

theorem pt_of_own (b : Ref sig .tc) (g : Buf (Elt F) ((c : Thread nD τ).loc b)) :
    (own (c : Thread nD τ) fullShare (Memref.whole b) Finset.univ g : sProp 𝕄) ⊢ (((c : Thread nD τ).loc b) ↦{fullShare} g) := by
  rw [own_univ, owns_whole_eq]
  iintro ⟨%f, %hf, H⟩
  subst hf
  iexact H

theorem pt_of_any (b : Ref sig .tc) :
    (iprop(∃ g, own (c : Thread nD τ) fullShare (Memref.whole b) Finset.univ g) : sProp 𝕄) ⊢ iprop(∃ g : Buf (Elt F) ((c : Thread nD τ).loc b), ((c : Thread nD τ).loc b) ↦{fullShare} g) := by
  iintro ⟨%g, H⟩
  iexists g
  iapply (pt_of_own c b g) $$ H

end Whole

/-! ### The kernel's own counters -/

/-- The kernel's semaphores: two for each of four rings and one for the scale bytes. -/
abbrev osem : Fin 9 → SemLoc sig := fun i => .dma ⟨1 + i.val, by have h := i.isLt; show 1 + i.val < 10; omega⟩

abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0)

theorem ownSemFacts : Pipeline.OwnSemFacts spec0 osem := by decide

theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8] (by decide) (by decide)

theorem cells_eq : cellAt cc0_scratch8 0 = 1 ∧ cellAt cc0_scratch8 1 = 2 ∧ cellAt cc0_scratch9 0 = 3 ∧ cellAt cc0_scratch9 1 = 4
    ∧ cellAt cc0_scratch10 0 = 5 ∧ cellAt cc0_scratch10 1 = 6 ∧ cellAt cc0_scratch11 0 = 7 ∧ cellAt cc0_scratch11 1 = 8 ∧ (cc0_scratch12).sem = 9 := by decide

/-! ### The launch memory, and what the kernel makes of it -/

variable (m : (ℓ : Loc nD τ sig) → Buf (Elt F) ℓ) (ρ : Dev nD → PrngReg)

/-- The three inputs by row and column. -/
def inX (c : Dev nD) : ℕ → ℕ → Elt F .bf16 := at2 (A := 12288) (B := 4096) (V m c main_v0)
def inWP (c : Dev nD) : ℕ → ℕ → Elt F .i8 := at2 (A := 4096) (B := 2816) (V m c main_arg1)
def inWS (c : Dev nD) : ℕ → ℕ → Elt F .i8 := at2 (A := 128) (B := 5632) (V m c main_arg2)

/-- The three results. -/
def outY (c : Dev nD) : S12288x5632.Idx → Elt F .bf16 := n2 (yN (xwN (inX m c)) (wN (inWP m c) (inWS m c)))
def outC (c : Dev nD) : S12288x4096.Idx → Elt F .fp8e4m3 := n2 (codeN (inX m c))
def outS (c : Dev nD) : S8x1x1536.Idx → Elt F .f32 := sclA (inX m c)

/-- The arrays the pipeline does not stage, as launched, -/
def Φ₀ (c : Dev nD) : sProp 𝕄 :=
  iprop(((c : Thread nD τ).loc main_v0 ↦{fullShare} V m c main_v0) ∗ ((c : Thread nD τ).loc main_arg1 ↦{fullShare} V m c main_arg1) ∗ ((c : Thread nD τ).loc main_arg2 ↦{fullShare} V m c main_arg2)
    ∗ ((c : Thread nD τ).loc main_v1_0 ↦{fullShare} V m c main_v1_0) ∗ ((c : Thread nD τ).loc main_v1_1 ↦{fullShare} V m c main_v1_1) ∗ sems0 c
    ∗ Pipeline.scopedRest (Ix := Unit) (Name := ℕ) (U := UU nD τ) (Lvl := ℕ) (Val := Elt F) spec0 c)

/-- and with the results written. -/
def Φ₁ (c : Dev nD) : sProp 𝕄 :=
  iprop(((c : Thread nD τ).loc main_v0 ↦{fullShare} V m c main_v0) ∗ ((c : Thread nD τ).loc main_arg1 ↦{fullShare} V m c main_arg1) ∗ ((c : Thread nD τ).loc main_arg2 ↦{fullShare} V m c main_arg2)
    ∗ ((c : Thread nD τ).loc main_v1_0 ↦{fullShare} outY m c) ∗ ((c : Thread nD τ).loc main_v1_1 ↦{fullShare} outC m c) ∗ sems0 c
    ∗ Pipeline.scopedRest (Ix := Unit) (Name := ℕ) (U := UU nD τ) (Lvl := ℕ) (Val := Elt F) spec0 c)

/-- The proof data on core `c`. -/
def dats (_ : Fin 1) (c : Dev nD) : Dat τ (Elt F) Unit ℕ (UU nD τ) ℕ cfg0 c where
  A w := V m c (Pipeline.arrRef spec0 w)
  after w _ := match w with | ⟨0, _⟩ => outS m c
  Φ k := if k.val = 0 then Φ₀ m c else Φ₁ m c
  q _ := fullShare
  owed _ := 0

theorem A_eq (c : Dev nD) (w : Fin cfg0.W) : (dats m 0 c).A w = V m c (Pipeline.arrRef spec0 w) := by
  dsimp only [dats]

theorem Φ_zero (c : Dev nD) : (dats m 0 c).Φ 0 = Φ₀ m c := by dsimp only [dats]; exact if_pos rfl
theorem Φ_last (c : Dev nD) : (dats m 0 c).Φ (Fin.last cfg0.N) = Φ₁ m c := by
  dsimp only [dats]
  refine if_neg ?_
  rw [Fin.val_last, show cfg0.N = 1 from N_0]
  exact Nat.one_ne_zero

theorem Φ_succ (c : Dev nD) : (dats m 0 c).Φ t0_0.succ = Φ₁ m c := by dsimp only [dats]; exact if_neg (Nat.succ_ne_zero _)

abbrev 𝒱₀ : Variants := Variants.none

theorem inX_n2 (c : Dev nD) : n2 (inX m c) = V m c main_v0 := n2_at2 _
theorem inWP_n2 (c : Dev nD) : n2 (inWP m c) = V m c main_arg1 := n2_at2 _
theorem inWS_n2 (c : Dev nD) : n2 (inWS m c) = V m c main_arg2 := n2_at2 _

set_option maxRecDepth 65536 in
theorem body_in (c : Dev nD) (g5 : S8x1x1536.Idx → Elt F .f32) :
    (iprop(Φ₀ m c ∗ own (c : Thread nD τ) fullShare (win0_0.stage (cfg0.slots t0_0 0)) Finset.univ g5 ∗ OW (c : Thread nD τ)) : sProp 𝕄)
      ⊢ iprop(∃ g6 g7 g8 g9 g10 g11 g12 g13, bodyIn c (Memref.whole main_v0) (Memref.whole main_arg1) (Memref.whole main_arg2) (Memref.whole main_v1_0) (Memref.whole main_v1_1) (win0_0.stage (cfg0.slots t0_0 0)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) cc0_scratch8 cc0_scratch9 cc0_scratch10 cc0_scratch11 cc0_scratch12 (inX m c) (inWP m c) (inWS m c) (V m c main_v1_0) (V m c main_v1_1) g5 g6 g7 g8 g9 g10 g11 g12 g13) := by
  obtain ⟨e0, e1, e2, e3, e4, e5, e6, e7, e8⟩ := cells_eq
  unfold Φ₀ bodyIn
  rw [scopedRest0_eq, e0, e1, e2, e3, e4, e5, e6, e7, e8, inX_n2, inWP_n2, inWS_n2]
  iintro ⟨⟨HX, HA, HB, H3, H4, ⟨X0, X1, C0, C1, Y0, Y1, V0, V1, VS⟩, ⟨%f0, R0⟩, ⟨%f1, R1⟩, ⟨%f2, R2⟩, ⟨%f3, R3⟩, ⟨%f4, R4⟩, ⟨%f5, R5⟩, ⟨%f6, R6⟩, ⟨%f7, R7⟩⟩, H5, HO⟩
  iexists f0, f1, f2, f3, f4, f5, f6, f7
  isplitl [HX]; · iapply (own_of_pt c) $$ HX
  isplitl [HA]; · iapply (own_of_pt c) $$ HA
  isplitl [HB]; · iapply (own_of_pt c) $$ HB
  isplitl [H3]; · iapply (own_of_pt c) $$ H3
  isplitl [H4]; · iapply (own_of_pt c) $$ H4
  isplitl [H5]; · iexact H5
  isplitl [R0]; · iapply (own_of_pt c) $$ R0
  isplitl [R1]; · iapply (own_of_pt c) $$ R1
  isplitl [R2]; · iapply (own_of_pt c) $$ R2
  isplitl [R3]; · iapply (own_of_pt c) $$ R3
  isplitl [R4]; · iapply (own_of_pt c) $$ R4
  isplitl [R5]; · iapply (own_of_pt c) $$ R5
  isplitl [R6]; · iapply (own_of_pt c) $$ R6
  isplitl [R7]; · iapply (own_of_pt c) $$ R7
  isplitl [X0]; · iexact X0
  isplitl [X1]; · iexact X1
  isplitl [C0]; · iexact C0
  isplitl [C1]; · iexact C1
  isplitl [Y0]; · iexact Y0
  isplitl [Y1]; · iexact Y1
  isplitl [V0]; · iexact V0
  isplitl [V1]; · iexact V1
  isplitl [VS]; · iexact VS
  iexact HO

set_option maxRecDepth 65536 in
theorem body_out (c : Dev nD) :
    (bodyOut c (Memref.whole main_v0) (Memref.whole main_arg1) (Memref.whole main_arg2) (Memref.whole main_v1_0) (Memref.whole main_v1_1) (win0_0.stage (cfg0.slots t0_0 0)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) cc0_scratch8 cc0_scratch9 cc0_scratch10 cc0_scratch11 cc0_scratch12 (inX m c) (inWP m c) (inWS m c) : sProp 𝕄)
      ⊢ iprop(Φ₁ m c ∗ own (c : Thread nD τ) fullShare (win0_0.stage (cfg0.slots t0_0 0)) Finset.univ (outS m c) ∗ OW (c : Thread nD τ)) := by
  obtain ⟨e0, e1, e2, e3, e4, e5, e6, e7, e8⟩ := cells_eq
  unfold Φ₁ bodyOut outY outC outS
  rw [scopedRest0_eq, e0, e1, e2, e3, e4, e5, e6, e7, e8, inX_n2, inWP_n2, inWS_n2]
  iintro ⟨HX, HA, HB, H3, H4, H5, R0, R1, R2, R3, R4, R5, R6, R7, X0, X1, C0, C1, Y0, Y1, V0, V1, VS, HO⟩
  isplitr [H5 HO]
  · isplitl [HX]; · iapply (pt_of_own c) $$ HX
    isplitl [HA]; · iapply (pt_of_own c) $$ HA
    isplitl [HB]; · iapply (pt_of_own c) $$ HB
    isplitl [H3]; · iapply (pt_of_own c) $$ H3
    isplitl [H4]; · iapply (pt_of_own c) $$ H4
    isplitl [X0 X1 C0 C1 Y0 Y1 V0 V1 VS]
    · isplitl [X0]; · iexact X0
      isplitl [X1]; · iexact X1
      isplitl [C0]; · iexact C0
      isplitl [C1]; · iexact C1
      isplitl [Y0]; · iexact Y0
      isplitl [Y1]; · iexact Y1
      isplitl [V0]; · iexact V0
      isplitl [V1]; · iexact V1
      iexact VS
    isplitl [R0]; · iapply (pt_of_any c cc0_scratch0) $$ R0
    isplitl [R1]; · iapply (pt_of_any c cc0_scratch1) $$ R1
    isplitl [R2]; · iapply (pt_of_any c cc0_scratch2) $$ R2
    isplitl [R3]; · iapply (pt_of_any c cc0_scratch3) $$ R3
    isplitl [R4]; · iapply (pt_of_any c cc0_scratch4) $$ R4
    isplitl [R5]; · iapply (pt_of_any c cc0_scratch5) $$ R5
    isplitl [R6]; · iapply (pt_of_any c cc0_scratch6) $$ R6
    iapply (pt_of_any c cc0_scratch7) $$ R7
  · isplitl [H5] <;> iassumption

/-- The body obligation. -/
theorem body_obligation (c : Dev nD) : BodyObligation (dats m 0 c) (defs₀ (F := F)) 𝒱₀ () Set.univ := fun t => by
  obtain rfl := fin_N0 t
  rw [bigSep_W0, bigSep_W0]
  rw [show (dats m 0 c).Φ t0_0.castSucc = Φ₀ m c from Φ_zero m c, show (dats m 0 c).Φ t0_0.succ = Φ₁ m c from Φ_succ m c]
  unfold Dat.owesAt Pipeline.owesWithin
  rw [show (dats m 0 c).owed t0_0.castSucc = 0 from rfl, show (dats m 0 c).owed t0_0.succ = 0 from rfl]
  have ha : (dats m 0 c).after 0 t0_0 = outS m c := by dsimp only [dats]
  have hend : (Steps.own (c : Thread nD τ) fullShare (win0_0.stage (cfg0.slots t0_0 0)) Finset.univ (outS m c) : sProp 𝕄)
      ⊢ owns (c : Thread nD τ) ((cfg0.win 0).stage (cfg0.slots t0_0 0)) fullShare ((dats m 0 c).after 0 t0_0) := by
    rw [own_univ, ha]
  rw [show cfg0.idle 0 (cfg0.grid.coords t0_0) = false from rfl]
  dsimp only
  iintro ⟨HP, ⟨%W, %hW, HO⟩, ⟨%d0, H0⟩⟩
  ihave HI := (body_in m c _) $$ [HP HO H0]
  · isplitl [HP]; · iexact HP
    isplitl [H0]
    · rw [own_univ]; iexact H0
    · unfold OW
      iexists W; iexact HO
  icases HI with ⟨%g6, %g7, %g8, %g9, %g10, %g11, %g12, %g13, HI⟩
  iapply (body_wp c (Memref.whole main_v0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (win0_0.stage (cfg0.slots t0_0 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (inX m c) (inWP m c) (inWS m c) _ _ _ _ g6 g7 g8 g9 g10 g11 g12 g13) $$ HI
  iintro HE
  ihave HE := (body_out m c) $$ HE
  icases HE with ⟨HP, H0, HO⟩
  unfold OW
  icases HO with ⟨%W', HO⟩
  isplitl [HP]; · iexact HP
  isplitl [HO]
  · iexists W'; isplitr; · ipureintro; exact fun _ _ => Or.inl trivial
    iexact HO
  iapply hend $$ H0

end Cert.Proof.KernelIdeal

end
-- ==== Proof.KernelIdealRun.lean ====
/-
  The launch: one host reshape, then the kernel's region; every fair run ends with the arguments unchanged, the results
  written and every counter at zero.
-/
module

public import proofs.«01_k».proof.Proof.KernelIdealEntry
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions

@[expose] public section

noncomputable section

namespace Cert.Proof.KernelIdeal

open Cert.KernelIdeal Cert.KernelIdeal.Gen Cert.Proof.Steps
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds

open Idealize.ShloMosaic.Pipeline (Dat Cfg Window BodyObligation cellOf)

variable {F : FTy → Type} [FloatOps F]

local notation "𝕄" => MT nD τ sig Unit (Elt F) ℕ (UU nD τ) ℕ

/-- The pipeline's algebra within the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- Core `c`'s buffers at launch. -/
abbrev V₀ (c : Dev nD) : Valuation τ sig (Elt F) := fun b => m (c, b)

/-- The unscoped buffers: the set the host operation runs within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The launch element: the pipeline's staging cell and transfers; no counter yet. -/
def u₀ : UU nD τ := (initOf (Pipeline.cells cfgs cellOf_inj) (Pipeline.launchToks cfgs cellOf_inj), 1)

/-- An array's contents after the run. -/
def finalA (c : Dev nD) (w : Fin cfg0.W) : Buf (Elt F) ((cfg0.win w).arr.view.loc (c : Thread nD τ)) := (dats m 0 c).arrAt w cfg0.N

/-- What the run leaves on core `c`: the scale's array as the pipeline computes it, the arguments as launched, the two
    other results. -/
def QC (c : Dev nD) (s : MemSt nD τ sig (Elt F)) : Prop :=
  (∀ w : Fin cfg0.W, s.mem ((cfg0.win w).arr.view.loc (c : Thread nD τ)) = finalA m c w)
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1_0) = outY m c ∧ s.mem ((c : Thread nD τ).loc main_v1_1) = outC m c

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operation. -/
abbrev R (c : Dev nD) : sProp 𝕄 := iprop(∃ W, owes (c : Thread nD τ) (0 : CellTallies nD τ sig Unit) W)

/-- The host segment. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the region leaves for the end. -/
abbrev Tₙ (c : Dev nD) : sProp 𝕄 :=
  iprop((dats m 0 c).arrays ((dats m 0 c).arrAt · cfg0.N) ∗ ((c : Thread nD τ).loc main_arg0 ↦{fullShare} V m c main_arg0) ∗ ((c : Thread nD τ).loc main_arg1 ↦{fullShare} V m c main_arg1)
    ∗ ((c : Thread nD τ).loc main_arg2 ↦{fullShare} V m c main_arg2) ∗ ((c : Thread nD τ).loc main_v1_0 ↦{fullShare} outY m c) ∗ ((c : Thread nD τ).loc main_v1_1 ↦{fullShare} outC m c))

set_option backward.isDefEq.respectTransparency.types false in
/-- The region. -/
def reg0 : Pipeline.RegionSeg (pcfgs (F := F)) adm (dats m) () defs₀ 𝒱₀ L lv 0 where
  win := launch0.win.to₀
  block_pos := launch0.block_pos
  stage_whole := launch0.stage_whole
  K := Fin 9
  osem := osem
  ho := ownSemFacts
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(((c : Thread nD τ).loc main_v0 ↦{fullShare} V m c main_v0) ∗ ((c : Thread nD τ).loc main_arg1 ↦{fullShare} V m c main_arg1) ∗ ((c : Thread nD τ).loc main_arg2 ↦{fullShare} V m c main_arg2)
    ∗ ((c : Thread nD τ).loc main_v1_0 ↦{fullShare} V m c main_v1_0) ∗ ((c : Thread nD τ).loc main_v1_1 ↦{fullShare} V m c main_v1_1) ∗ sems0 c)
  Y c := iprop(((c : Thread nD τ).loc main_arg1 ↦{fullShare} V m c main_arg1) ∗ ((c : Thread nD τ).loc main_arg2 ↦{fullShare} V m c main_arg2)
    ∗ ((c : Thread nD τ).loc main_v1_0 ↦{fullShare} outY m c) ∗ ((c : Thread nD τ).loc main_v1_1 ↦{fullShare} outC m c))
  Z c := (c : Thread nD τ).loc main_arg0 ↦{fullShare} V m c main_arg0
  hentry c := by
    rw [show StableHlo.held (c : Thread nD τ) ucRefs (StableHlo.after hostOps0 (V₀ m c)) = unscopedBufs c (V m c) from (unscopedBufs_held c _).symm,
      ownSems0_eq]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    iintro ⟨⟨Hub, HO⟩, Hos, -⟩
    ihave H := hsplit $$ Hub
    icases H with ⟨Ha, H0, H1, H2, HX, H3, H4⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [H0]
    · isplitl [HX]; · iexact HX
      isplitl [H1]; · iexact H1
      isplitl [H2]; · iexact H2
      isplitl [H3]; · iexact H3
      isplitl [H4]; · iexact H4
      iexact Hos
    iexact H0
  hin c := by
    rw [Φ_zero]; unfold Φ₀
    iintro ⟨⟨HX, H1, H2, H3, H4, Hos⟩, -, Hr⟩
    isplitl [HX]; · iexact HX
    isplitl [H1]; · iexact H1
    isplitl [H2]; · iexact H2
    isplitl [H3]; · iexact H3
    isplitl [H4]; · iexact H4
    isplitl [Hos] <;> iassumption
  hout c := by
    rw [ownSems0_eq, Φ_last]; unfold Φ₁
    iintro ⟨-, H1, H2, H3, H4, Hos, Hr⟩
    isplitl [H1 H2 H3 H4]
    · isplitl [H1]; · iexact H1
      isplitl [H2]; · iexact H2
      isplitl [H3] <;> iassumption
    isplitl [Hos] <;> iassumption
  hexit c := by
    iintro ⟨Ha, HO, ⟨H1, H2, H3, H4⟩, HZ⟩
    imodintro
    isplitr [HO]
    · isplitl [Ha]; · iexact Ha
      isplitl [HZ]; · iexact HZ
      isplitl [H1]; · iexact H1
      isplitl [H2]; · iexact H2
      isplitl [H3] <;> iassumption
    · unfold Pipeline.Dat.owesAt Pipeline.owesWithin
      icases HO with ⟨%W, -, HO⟩; iexists W; iexact HO

/-- The program as the list of the two. -/
abbrev segs : List (Pipeline.Seg (pcfgs (F := F)) adm (dats m) () defs₀ 𝒱₀ L lv) := [.host (seg0 m), .region (reg0 m)]

set_option backward.isDefEq.respectTransparency.types false in
/-- Every fair execution ends, faults nowhere, and leaves what `QC` says and every counter at zero. -/
theorem run_main : θ_run defs (onTc (τ := τ) (main (F := F))) (s₀ m ρ) (fun r => (∀ c, QC m c r.2) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => QC m c s)
    (hfin := fun c s' => by
      dsimp only [Tₙ]; rw [V_main_arg0, V_main_arg1, V_main_arg2]
      iintro ⟨⟨Ha, H0, H1, H2, H3, H4⟩, HSI⟩
      icombine HSI H0 gives %h0
      icombine HSI H1 gives %h1
      icombine HSI H2 gives %h2
      icombine HSI H3 gives %h3
      icombine HSI H4 gives %h4
      ihave Hr := (Pipeline.arrays_read (pcfgs (F := F)) adm (dats m) launch0.arr_whole c ((dats m 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h2, Buf.eq_of_forall_mem_univ h3, Buf.eq_of_forall_mem_univ h4⟩
      iexact HSI)
    (hQ := fun _ h hz => ⟨h, funext fun g => hz g (.inr (by revert g; decide))⟩)

/-- The frame: the arguments unchanged, every counter at zero. -/
theorem frame : θ_run defs (onTc (τ := τ) (main (F := F))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c).2.1, (h.1 c).2.2.1, (h.1 c).2.2.2.1⟩, h.2⟩) (run_main m ρ)

end Cert.Proof.KernelIdeal

end
-- ==== Proof.KernelIdealFinal.lean ====
/-
  The kernel's run with its values: its three results as functions of the launched inputs.
-/
module

public import proofs.«01_k».proof.Proof.KernelIdealRun
public import Idealize.ShloMosaic.Lib.Pipeline.Value
public import Idealize.ShloMosaic.Lib.Affine
public import Idealize.ShloMosaic.Lib.Claim
public import Idealize.ShloMosaic.Lib.Pointwise

@[expose] public section

noncomputable section

namespace Cert.Proof.KernelIdeal

open Cert.KernelIdeal Cert.KernelIdeal.Gen Cert.Proof.Steps
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- The one grid point. -/
def t₀ : Fin cfg0.N := ⟨0, by decide⟩

/-- The scales' array after the run, read through its one block, is what the one point wrote back. -/
theorem scales_out : ((cfg0.win (0 : Fin 1)).blk t₀).view.read (Elt F) ((dats (F := F) m 0 c).arrAt (0 : Fin 1) cfg0.N)
    = (dats (F := F) m 0 c).flushed (0 : Fin 1) t₀ := by
  rw [show cfg0.N = (t₀ : Fin cfg0.N).val + 1 from rfl, (dats (F := F) m 0 c).arrAt_succ (0 : Fin 1) t₀]
  rw [show (cfg0.win (0 : Fin 1)).flush t₀ = true from by decide, if_pos rfl]
  exact View.read_write_univ _ _

theorem finalS : finalA m c 0 = outS m c := by
  have ho := scales_out m c
  have hz : (fun a => (win0_0.index t₀) a * main_v1_2.ty.shape.size a) = fun _ => 0 := funext fun a => Nat.zero_mul _
  have hr := fun f => Memref.read_access_unit_zero (Elt F) main_v1_2 hz (fun a => by fin_cases a <;> decide) f
  rw [hr] at ho
  refine ho.trans ?_
  show (cfg0.win (0 : Fin 1)).cut _ ((dats (F := F) m 0 c).after 0 t₀) = _
  dsimp only [dats]
  rfl

/-- The run: the three results, and the arguments end unchanged. -/
theorem run : θ_run (defs (F := F)) (onTc (τ := τ) (main (F := F))) ⟨m, fun _ => 0, ρ⟩ fun r => ∀ c : Dev nD,
    r.2.mem ((c : Thread nD τ).loc main_v1_0) = outY m c
      ∧ r.2.mem ((c : Thread nD τ).loc main_v1_1) = outC m c
      ∧ r.2.mem ((c : Thread nD τ).loc main_v1_2) = outS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).2.2.2.2.1, (h.1 c).2.2.2.2.2, ((h.1 c).1 0).trans (finalS m c),
    (h.1 c).2.1, (h.1 c).2.2.1, (h.1 c).2.2.2.1⟩) (run_main m ρ)

/-- The activations, a row per token. -/
theorem V_rows : V m c main_v0 = shapeCast S12288x4096 (m ((c : Thread nD τ).loc main_arg0)) shapeCasts_S8x1536x4096_S12288x4096 := by
  unfold V
  entry_read
  rfl

theorem rows_at {α : Type} (x : S8x1536x4096.Idx → α) (r : Fin 12288) (k : Fin 4096) :
    shapeCast S12288x4096 x shapeCasts_S8x1536x4096_S12288x4096 (ix2 r k) = x (ix3 (⟨r.val / 1536, by omega⟩ : Fin 8) (⟨r.val % 1536, by omega⟩ : Fin 1536) k) := by
  pointwise

/-- By row and column they are the argument's. -/
theorem inX_at (r : Fin 12288) (k : Fin 4096) : inX m c r.val k.val
    = m ((c : Thread nD τ).loc main_arg0) (ix3 (⟨r.val / 1536, by omega⟩ : Fin 8) (⟨r.val % 1536, by omega⟩ : Fin 1536) k) := by
  refine Eq.trans ?_ (rows_at (m ((c : Thread nD τ).loc main_arg0)) r k)
  unfold inX at2
  rw [V_rows, show Fin.ofNat 12288 r.val = r from Fin.ext (Nat.mod_eq_of_lt r.isLt), show Fin.ofNat 4096 k.val = k from Fin.ext (Nat.mod_eq_of_lt k.isLt)]
  rfl

theorem inWP_at (r : Fin 4096) (k : Fin 2816) : inWP m c r.val k.val = m ((c : Thread nD τ).loc main_arg1) (ix2 r k) := by
  unfold inWP at2
  rw [V_main_arg1, show Fin.ofNat 4096 r.val = r from Fin.ext (Nat.mod_eq_of_lt r.isLt), show Fin.ofNat 2816 k.val = k from Fin.ext (Nat.mod_eq_of_lt k.isLt)]
  rfl

theorem inWS_at (r : Fin 128) (k : Fin 5632) : inWS m c r.val k.val = m ((c : Thread nD τ).loc main_arg2) (ix2 r k) := by
  unfold inWS at2
  rw [V_main_arg2, show Fin.ofNat 128 r.val = r from Fin.ext (Nat.mod_eq_of_lt r.isLt), show Fin.ofNat 5632 k.val = k from Fin.ext (Nat.mod_eq_of_lt k.isLt)]
  rfl

end Cert.Proof.KernelIdeal

end
-- ==== Proof.ReferenceHost.lean ====
/-
  What the reference's host operations leave in the buffers its body and its third result read: each as a composition of
  the stages of the reference, at any float instance.
-/
module

public import proofs.«01_k».proof.Proof.Gen.ReferenceIdeal.Frame
public import Idealize.ShloMosaic.Lib.Claim

@[expose] public section

set_option maxRecDepth 16384

noncomputable section

namespace Cert.Proof.Reference

open Cert.ReferenceIdeal Cert.ReferenceIdeal.Gen Idealize.ShloMosaic Idealize.ShloMosaic.TcCoe Idealize.SL.Sem

section Stages
variable {F : FTy → Type} [FloatOps F]

/-- The activations, a row per token. -/
def rowsV (x : FVec F S8x1536x4096 .bf16) : FVec F S12288x4096 .f32 :=
  extf .f32 (shapeCast S12288x4096 x shapeCasts_S8x1536x4096_S12288x4096 : FVec F S12288x4096 .bf16) bitsLt_bf16_f32

/-- A constant, once per row. -/
def rowC (w : BitVec 32) : FVec F S12288x1 .f32 := broadcastInDim S12288x1 ![] bcast_S_S12288x1 (constant S_ .f32 w)

/-- Each row's greatest magnitude over the largest code. -/
def quotV (x : FVec F S12288x4096 .f32) : FVec F S12288x1 .f32 :=
  mulf (broadcastInDim S12288x1 ![0] bcast_S12288_S12288x1_0
    (Host.reduce FloatOps.maximumf (Host.absf x) (constant S_ .f32 0xFF800000#32) reducesTo_S12288x4096_S12288_d1 h_S_))
    (rowC 0x3B124925#32)

/-- The exponents tried. -/
def expsV : FVec F S254 .f32 :=
  addf (broadcastInDim S254 ![] bcast_S_S254 (constant S_ .f32 0xC2FA0000#32)) (sitofp .f32 (iotaInDim S254 32 0))

/-- The least exponent whose power of two exceeds each quotient. -/
def leastV (q : FVec F S12288x1 .f32) : FVec F S12288 .f32 :=
  Host.reduce FloatOps.minimumf
    (select (cmpf .olt (broadcastInDim S12288x254 ![0, 1] bcast_S12288x1_S12288x254_0_1 q)
        (broadcastInDim S12288x254 ![0, 1] bcast_S1x254_S12288x254_0_1 (broadcastInDim S1x254 ![1] bcast_S254_S1x254_1
          (Host.powf (broadcastInDim S254 ![] bcast_S_S254 (constant S_ .f32 0x40000000#32)) expsV))))
      (broadcastInDim S12288x254 ![1] bcast_S254_S12288x254_1 expsV)
      (broadcastInDim S12288x254 ![] bcast_S_S12288x254 (constant S_ .f32 0x7F800000#32)))
    (constant S_ .f32 0x7F800000#32) reducesTo_S12288x254_S12288_d1 h_S_

/-- Each quotient's exponent. -/
def expoV (q : FVec F S12288x1 .f32) : FVec F S12288x1 .f32 :=
  select (cmpf .olt q (rowC 0x00800000#32)) (rowC 0x00000000#32) (broadcastInDim S12288x1 ![0] bcast_S12288_S12288x1_0 (leastV q))

/-- Powers of two, once per row -/
def powV (e : FVec F S12288x1 .f32) : FVec F S12288x1 .f32 :=
  select (cmpf .olt e (rowC 0xC2FC0000#32)) (rowC 0x00000000#32)
    (select (cmpf .ogt e (rowC 0x42FE0000#32)) (rowC 0x7F800000#32) (Host.powf (rowC 0x40000000#32) e))

/-- A constant, once per group scale. -/
def grpC (w : BitVec 32) : FVec F S128x5632 .f32 := broadcastInDim S128x5632 ![] bcast_S_S128x5632 (constant S_ .f32 w)

/-- and once per group scale. -/
def powW (e : FVec F S128x5632 .f32) : FVec F S128x5632 .f32 :=
  select (cmpf .olt e (grpC 0xC2FC0000#32)) (grpC 0x00000000#32)
    (select (cmpf .ogt e (grpC 0x42FE0000#32)) (grpC 0x7F800000#32) (Host.powf (grpC 0x40000000#32) e))

/-- The group scales. -/
def grpV (s : IVec S128x5632 8) : FVec F S128x5632 .bf16 :=
  truncf .bf16 (powW (sitofp .f32 (subi (extui 32 s natLt_8_32) (broadcastInDim S128x5632 ![] bcast_S_S128x5632 (constantI S_ 32 127#32)))))
    bitsLt_bf16_f32

/-- An integer, and a number, once per packed weight. -/
def pakI (w : BitVec 32) : IVec S4096x2816 32 := broadcastInDim S4096x2816 ![] bcast_S_S4096x2816 (constantI S_ 32 w)
def pakC (w : BitVec 16) : FVec F S4096x2816 .bf16 := broadcastInDim S4096x2816 ![] bcast_S_S4096x2816 (constant S_ .bf16 w)

/-- Whether a bit of a code is set. -/
def bitV (c : IVec S4096x2816 32) (w : BitVec 32) : IVec S4096x2816 1 := cmpi .ne (andi c (pakI w)) (pakI 0#32)

/-- The magnitudes of four-bit codes. -/
def magV (c : IVec S4096x2816 32) : FVec F S4096x2816 .bf16 :=
  select (bitV c 4#32)
    (select (bitV c 2#32) (select (bitV c 1#32) (pakC 0x40C0#16) (pakC 0x4080#16)) (select (bitV c 1#32) (pakC 0x4040#16) (pakC 0x4000#16)))
    (select (bitV c 2#32) (select (bitV c 1#32) (pakC 0x3FC0#16) (pakC 0x3F80#16)) (select (bitV c 1#32) (pakC 0x3F00#16) (pakC 0x0000#16)))

/-- The numbers the codes stand for. -/
def numV (c : IVec S4096x2816 32) : FVec F S4096x2816 .bf16 := select (bitV c 8#32) (Host.negf (magV c)) (magV c)

/-- Half the weights times their group scales. -/
def scaledV (w : FVec F S4096x2816 .bf16) (s : FVec F S128x2816 .bf16) : FVec F S4096x2816 .bf16 :=
  shapeCast S4096x2816 (mulf (shapeCast S128x32x2816 w shapeCasts_S4096x2816_S128x32x2816 : FVec F S128x32x2816 .bf16)
    (broadcastInDim S128x32x2816 ![0, 1, 2] bcast_S128x1x2816_S128x32x2816_0_1_2
      (broadcastInDim S128x1x2816 ![0, 2] bcast_S128x2816_S128x1x2816_0_2 s)))
    shapeCasts_S128x32x2816_S4096x2816

/-- The weights of the first half of the outputs, and of the second. -/
def loV (p : IVec S4096x2816 8) (s : IVec S128x5632 8) : FVec F S4096x2816 .bf16 :=
  scaledV (numV (andi (extui 32 p natLt_8_32) (pakI 15#32))) (extractStridedSlice S128x2816 ![0, 0] (grpV s) slices_S128x5632_S128x2816_0_0)
def hiV (p : IVec S4096x2816 8) (s : IVec S128x5632 8) : FVec F S4096x2816 .bf16 :=
  scaledV (numV (Host.shrsi (extui 32 p natLt_8_32) (pakI 4#32))) (extractStridedSlice S128x2816 ![0, 2816] (grpV s) slices_S128x5632_S128x2816_0_2816)

end Stages

section Entry
variable {F : FTy → Type} [FloatOps F] (m : (ℓ : Loc nD τ sig) → Buf (Elt F) ℓ) (c : Dev nD)

theorem V_rows : V m c main_v1 = rowsV (m ((c : Thread nD τ).loc main_arg0)) := by
  unfold V
  simp only [List.flatten_cons, List.flatten_nil, List.append_nil, List.cons_append, List.nil_append]
  entry_read
  rfl

theorem V_scale : V m c main_v29 = powV (expoV (quotV (rowsV (m ((c : Thread nD τ).loc main_arg0))))) := by
  unfold V
  simp only [List.flatten_cons, List.flatten_nil, List.append_nil, List.cons_append, List.nil_append]
  entry_read
  simp -implicitDefEqProofs only [StableHlo.TRef.toBuf, StableHlo.TRef.ofBuf, cast_cast, cast_eq]
  simp only [powV, expoV, quotV, rowsV, leastV, expsV, rowC]
  rfl

theorem V_inv : V m c main_v38 = powV (Host.negf (expoV (quotV (rowsV (m ((c : Thread nD τ).loc main_arg0)))))) := by
  unfold V
  simp only [List.flatten_cons, List.flatten_nil, List.append_nil, List.cons_append, List.nil_append]
  entry_read
  simp -implicitDefEqProofs only [StableHlo.TRef.toBuf, StableHlo.TRef.ofBuf, cast_cast, cast_eq]
  simp only [powV, expoV, quotV, rowsV, leastV, expsV, rowC]
  rfl

theorem V_scale_out : V m c main_v39
    = shapeCast S8x1x1536 (powV (expoV (quotV (rowsV (m ((c : Thread nD τ).loc main_arg0)))))) shapeCasts_S12288x1_S8x1x1536 := by
  unfold V
  simp only [List.flatten_cons, List.flatten_nil, List.append_nil, List.cons_append, List.nil_append]
  entry_read
  simp -implicitDefEqProofs only [StableHlo.TRef.toBuf, StableHlo.TRef.ofBuf, cast_cast, cast_eq]
  simp only [powV, expoV, quotV, rowsV, leastV, expsV, rowC]
  rfl

theorem V_lo : V m c main_v86 = loV (m ((c : Thread nD τ).loc main_arg1)) (m ((c : Thread nD τ).loc main_arg2)) := by
  unfold V
  simp only [List.flatten_cons, List.flatten_nil, List.append_nil, List.cons_append, List.nil_append]
  entry_read
  rfl

theorem V_hi : V m c main_v119 = hiV (m ((c : Thread nD τ).loc main_arg1)) (m ((c : Thread nD τ).loc main_arg2)) := by
  unfold V
  simp only [List.flatten_cons, List.flatten_nil, List.append_nil, List.cons_append, List.nil_append]
  entry_read
  rfl

end Entry

end Cert.Proof.Reference

end
-- ==== Proof.ReferenceRun.lean ====
/-
  The reference's run with its values: what its three results hold, from the stages of the reference.
-/
module

public import proofs.«01_k».proof.Proof.ReferenceHost
public import proofs.«01_k».proof.Proof.Gen.ReferenceIdeal.Value
public import Idealize.ShloMosaic.Lib.Pipeline.Value
public import Idealize.ShloMosaic.Lib.Affine

@[expose] public section

noncomputable section

namespace Cert.Proof.Reference

open Cert.ReferenceIdeal Cert.ReferenceIdeal.Gen Cert.ReferenceIdeal.Value Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- The one grid point. -/
def t₀ : Fin cfg0.N := ⟨0, by decide⟩

/-- The whole-buffer loads read the buffers and each covering store leaves its payload. -/
theorem out5_eq (x0 : Vec F S12288x4096 .f32) (x1 x2 : Vec F S12288x1 .f32) (x3 x4 : Vec F S4096x2816 .bf16) :
    out0_5 x0 x1 x2 x3 x4 = k0_pay2 x0 x2 x1 x3 x4 := by
  have hz : (![0, 0] : Fin 2 → Nat) = fun _ => 0 := funext fun a => by fin_cases a <;> rfl
  unfold out0_5
  rw [View.canon_unit_zero (S := S12288x5632) hz, View.ld_unit_zero (S := S12288x4096) hz, View.ld_unit_zero (S := S12288x1) hz,
    View.ld_unit_zero (S := S12288x1) hz, View.ld_unit_zero (S := S4096x2816) hz, View.ld_unit_zero (S := S4096x2816) hz]

theorem out6_eq (x0 : Vec F S12288x4096 .f32) (x1 x2 : Vec F S12288x1 .f32) (x3 x4 : Vec F S4096x2816 .bf16) :
    out0_6 x0 x1 x2 x3 x4 = k0_pay1 x0 x2 := by
  have hz : (![0, 0] : Fin 2 → Nat) = fun _ => 0 := funext fun a => by fin_cases a <;> rfl
  unfold out0_6
  rw [View.canon_unit_zero (S := S12288x4096) hz, View.ld_unit_zero (S := S12288x4096) hz, View.ld_unit_zero (S := S12288x1) hz]

theorem iblk0 : iblk m c 0 t₀ = V m c main_v1 := by
  have hz : (fun a => (win0_0.index t₀) a * main_v1.ty.shape.size a) = fun _ => 0 := funext fun a => Nat.zero_mul _
  exact Memref.read_access_unit_zero (Elt F) main_v1 hz (fun a => by fin_cases a <;> decide) _

theorem iblk1 : iblk m c 1 t₀ = V m c main_v29 := by
  have hz : (fun a => (win0_1.index t₀) a * main_v29.ty.shape.size a) = fun _ => 0 := funext fun a => Nat.zero_mul _
  exact Memref.read_access_unit_zero (Elt F) main_v29 hz (fun a => by fin_cases a <;> decide) _

theorem iblk2 : iblk m c 2 t₀ = V m c main_v38 := by
  have hz : (fun a => (win0_2.index t₀) a * main_v38.ty.shape.size a) = fun _ => 0 := funext fun a => Nat.zero_mul _
  exact Memref.read_access_unit_zero (Elt F) main_v38 hz (fun a => by fin_cases a <;> decide) _

theorem iblk3 : iblk m c 3 t₀ = V m c main_v86 := by
  have hz : (fun a => (win0_3.index t₀) a * main_v86.ty.shape.size a) = fun _ => 0 := funext fun a => Nat.zero_mul _
  exact Memref.read_access_unit_zero (Elt F) main_v86 hz (fun a => by fin_cases a <;> decide) _

theorem iblk4 : iblk m c 4 t₀ = V m c main_v119 := by
  have hz : (fun a => (win0_4.index t₀) a * main_v119.ty.shape.size a) = fun _ => 0 := funext fun a => Nat.zero_mul _
  exact Memref.read_access_unit_zero (Elt F) main_v119 hz (fun a => by fin_cases a <;> decide) _

theorem final5 : (dats m 0 c).arrAt 5 cfg0.N = k0_pay2 (V m c main_v1) (V m c main_v38) (V m c main_v29) (V m c main_v86) (V m c main_v119) := by
  have ho := blocks5 m c t₀ (by decide)
  have hz : (fun a => (win0_5.index t₀) a * main_v120_0.ty.shape.size a) = fun _ => 0 := funext fun a => Nat.zero_mul _
  have hr := fun f => Memref.read_access_unit_zero (Elt F) main_v120_0 hz (fun a => by fin_cases a <;> decide) f
  rw [hr, flushed5, out5_eq, iblk0, iblk1, iblk2, iblk3, iblk4] at ho
  exact ho

theorem final6 : (dats m 0 c).arrAt 6 cfg0.N = k0_pay1 (V m c main_v1) (V m c main_v38) := by
  have ho := blocks6 m c t₀ (by decide)
  have hz : (fun a => (win0_6.index t₀) a * main_v120_1.ty.shape.size a) = fun _ => 0 := funext fun a => Nat.zero_mul _
  have hr := fun f => Memref.read_access_unit_zero (Elt F) main_v120_1 hz (fun a => by fin_cases a <;> decide) f
  rw [hr, flushed6, out6_eq, iblk0, iblk2] at ho
  exact ho

/-- The run: the product, the codes and the scales as the stages give them, and the arguments end unchanged. -/
theorem run : θ_run (defs (F := F)) (onTc (τ := τ) (main (F := F))) ⟨m, fun _ => 0, ρ⟩ fun r => ∀ c : Dev nD,
    r.2.mem ((c : Thread nD τ).loc main_v120_0) = k0_pay2 (V m c main_v1) (V m c main_v38) (V m c main_v29) (V m c main_v86) (V m c main_v119)
      ∧ r.2.mem ((c : Thread nD τ).loc main_v120_1) = k0_pay1 (V m c main_v1) (V m c main_v38)
      ∧ r.2.mem ((c : Thread nD τ).loc main_v39) = V m c main_v39
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post5 m r h c).trans (final5 m c), (post6 m r h c).trans (final6 m c),
      (h c).2 main_v39 (Pipeline.mem_restRefs_of main_v39 (by decide) (by decide)),
      kept_main_arg0 m r h c, kept_main_arg1 m r h c, kept_main_arg2 m r h c⟩) (run_main m ρ)

end Cert.Proof.Reference

end
-- ==== Proof.Rungs.lean ====
/-
  The power-of-two quantiser's numbers: the f32 words with an empty fraction are powers of two; counting how many of them
  exceed `q` finds the binade of `q`, which is also the least power of two above `q`.
-/
module

public import Idealize.ShloMosaic.PureOps.Ideal
public import Idealize.ShloMosaic.Lib.IdealHost

@[expose] public section

noncomputable section

namespace Cert.Proof.Rungs

open Idealize.ShloMosaic

/-! ### Words with an empty fraction -/

/-- The word with biased exponent `n`. -/
def word (n : ℕ) : BitVec 32 := BitVec.ofNat 32 (n * 2 ^ 23)

theorem word_ex (n : ℕ) (h : n < 256) : ((word n).extractLsb' 23 8).toNat = n := by
  unfold word
  rw [BitVec.extractLsb'_toNat, BitVec.toNat_ofNat, Nat.shiftRight_eq_div_pow]
  omega

theorem word_fr (n : ℕ) (h : n < 256) : ((word n).extractLsb' 0 23).toNat = 0 := by
  unfold word
  rw [BitVec.extractLsb'_toNat, BitVec.toNat_ofNat, Nat.shiftRight_zero]
  omega

theorem word_sgn (n : ℕ) (h : n < 256) : ((word n).extractLsb' 31 1 == 1#1) = false := by
  have : (word n).extractLsb' 31 1 = 0#1 := by
    apply BitVec.eq_of_toNat_eq
    unfold word
    rw [BitVec.extractLsb'_toNat, BitVec.toNat_ofNat, Nat.shiftRight_eq_div_pow, BitVec.toNat_ofNat]
    omega
  rw [this]; rfl

/-- `2` to an integer, as an extended real. -/
def two (e : ℤ) : EReal := (((2 : ℝ) ^ e : ℝ) : EReal)

theorem two_lt {a b : ℤ} : two a < two b ↔ a < b := by
  unfold two
  rw [EReal.coe_lt_coe_iff]
  exact zpow_lt_zpow_iff_right₀ (by norm_num)

theorem two_le {a b : ℤ} : two a ≤ two b ↔ a ≤ b := by
  unfold two
  rw [EReal.coe_le_coe_iff]
  exact zpow_le_zpow_iff_right₀ (by norm_num)

theorem ofBits_word (n : ℕ) (h1 : 1 ≤ n) (h2 : n ≤ 254) : Ideal.ofBits .f32 (word n) = two ((n : ℤ) - 127) := by
  show Ideal.ieee 8 23 (word n) = _
  unfold Ideal.ieee two
  simp only [word_ex n (by omega), word_fr n (by omega), word_sgn n (by omega)]
  rw [if_neg (by norm_num; omega), if_neg (by omega)]
  congr 1
  rw [show ((n : ℤ) - (2 ^ (8 - 1) - 1) - ((23 : ℕ) : ℤ)) = ((n : ℤ) - 127) - 23 by norm_num, zpow_sub₀ (by norm_num)]
  norm_num
  exact mul_div_cancel₀ _ (by norm_num)

theorem ofBits_word_zero : Ideal.ofBits .f32 (word 0) = 0 := by
  show Ideal.ieee 8 23 (word 0) = _
  unfold Ideal.ieee
  simp only [word_ex 0 (by omega), word_fr 0 (by omega), word_sgn 0 (by omega)]
  norm_num

theorem ofBits_word_top : Ideal.ofBits .f32 (word 255) = ⊤ := by
  show Ideal.ieee 8 23 (word 255) = _
  unfold Ideal.ieee
  simp only [word_ex 255 (by omega), word_fr 255 (by omega), word_sgn 255 (by omega)]
  norm_num

/-! ### The binade of `q` -/

/-- `q` lies in the binade `n`: below the normal range for `0`, else from `2 ^ (n - 127)` to twice that. -/
def Binade (q : EReal) (n : ℕ) : Prop := q < two ((n : ℤ) - 126) ∧ (n = 0 ∨ two ((n : ℤ) - 127) ≤ q)

theorem exists_binade {q : EReal} {N : ℕ} (h : q < two ((N : ℤ) - 126)) : ∃ n ≤ N, Binade q n := by
  classical
  have hex : ∃ n : ℕ, q < two ((n : ℤ) - 126) := ⟨N, h⟩
  refine ⟨Nat.find hex, Nat.find_min' hex h, Nat.find_spec hex, ?_⟩
  rcases Nat.eq_zero_or_pos (Nat.find hex) with h0 | h0
  · exact Or.inl h0
  · right
    have := Nat.find_min hex (m := Nat.find hex - 1) (by omega)
    rw [not_lt] at this
    rwa [show (((Nat.find hex - 1 : ℕ) : ℤ) - 126) = ((Nat.find hex : ℕ) : ℤ) - 127 by push_cast [Nat.cast_sub h0]; ring] at this

/-- Which words exceed a `q ≥ 0` of binade `n`: those past it. -/
theorem lt_word {q : EReal} {n : ℕ} (h0 : 0 ≤ q) (hn : n ≤ 253) (h : Binade q n) (b : ℕ) (hb : b < 256) :
    q < Ideal.ofBits .f32 (word b) ↔ n < b := by
  rcases Nat.eq_zero_or_pos b with rfl | hb0
  · rw [ofBits_word_zero]
    exact ⟨fun h' => absurd h' (not_lt.2 h0), fun h' => absurd h' (Nat.not_lt_zero _)⟩
  by_cases hb255 : b = 255
  · subst hb255
    rw [ofBits_word_top]
    exact ⟨fun _ => by omega, fun _ => lt_of_lt_of_le h.1 le_top⟩
  rw [ofBits_word b hb0 (by omega)]
  constructor
  · intro h'
    by_contra hc
    rcases h.2 with h2 | h2
    · omega
    · have := lt_of_le_of_lt h2 h'
      rw [two_lt] at this
      omega
  · intro h'
    refine lt_of_lt_of_le h.1 ?_
    rw [two_le]; omega

/-- So counting them finds the binade. -/
theorem count_words {q : EReal} {n : ℕ} (h0 : 0 ≤ q) (hn : n ≤ 253) (h : Binade q n) :
    (Finset.univ.filter fun b : Fin 256 => q < Ideal.ofBits .f32 (word b.val)).card = 255 - n := by
  have e : (Finset.univ.filter fun b : Fin 256 => q < Ideal.ofBits .f32 (word b.val)) = Finset.Ioi (⟨n, by omega⟩ : Fin 256) := by
    ext b
    rw [Finset.mem_filter, Finset.mem_Ioi, lt_word h0 hn h b.val b.isLt]
    exact ⟨fun hh => hh.2, fun hh => ⟨Finset.mem_univ _, hh⟩⟩
  rw [e, Fin.card_Ioi]

/-- The exponent the quantiser takes for binade `n`: the least power of two above, and one below the normal range. -/
def ex (n : ℕ) : ℤ := if n = 0 then 0 else (n : ℤ) - 126

/-! ### The quotient whose binade is sought -/

/-- The greatest magnitude among 4096 numbers. -/
def amax (f : Fin 4096 → EReal) : EReal := Finset.univ.fold max ⊥ fun k => max (f k) (-f k)

theorem amax_nonneg (f : Fin 4096 → EReal) : 0 ≤ amax f := by
  unfold amax
  rw [Finset.le_fold_max]
  right
  refine ⟨0, Finset.mem_univ _, ?_⟩
  rw [le_max_iff]
  rcases le_total 0 (f 0) with h | h
  · exact Or.inl h
  · exact Or.inr (by rw [EReal.le_neg]; simpa using h)

/-- The multiplier a row's greatest magnitude is divided by. -/
def recip : EReal := Ideal.ofBits .f32 991054117#32

end Cert.Proof.Rungs

end
-- ==== Proof.KernelIdealQuant.lean ====
/-
  One block of 32 rows quantised, read at an index over the extended reals.
-/
module

public import proofs.«01_k».proof.Proof.KernelIdealSpec
public import proofs.«01_k».proof.Proof.Rungs
public import Idealize.ShloMosaic.Lib.Pointwise
public import Idealize.ShloMosaic.Lib.IndicatorCount

@[expose] public section

noncomputable section

namespace Cert.Proof.KernelIdeal

open Cert.KernelIdeal Cert.KernelIdeal.Gen Cert.Proof.Steps Cert.Proof.Rungs
open Idealize.ShloMosaic Idealize.SL.Sem

section Stages
variable {F : FTy → Type} [FloatOps F]

/-- The stages of a row's exponent: the greatest magnitude, -/
def amaxV (v1423 : FVec F S32x4096 .bf16) (v1474 : FVec F S32x128 .bf16) : FVec F S32x1 .f32 :=
  have v1475 : FVec F S32x128 .bf16 := extractStridedSlice S32x128 ![0, 3328] v1423 slices_S32x4096_o0_3328_S32x128
  have v1476 : FVec F S32x128 .bf16 := maximumf v1474 v1475
  have v1477 : FVec F S32x128 .bf16 := extractStridedSlice S32x128 ![0, 3456] v1423 slices_S32x4096_o0_3456_S32x128
  have v1478 : FVec F S32x128 .bf16 := maximumf v1476 v1477
  have v1479 : FVec F S32x128 .bf16 := extractStridedSlice S32x128 ![0, 3584] v1423 slices_S32x4096_o0_3584_S32x128
  have v1480 : FVec F S32x128 .bf16 := maximumf v1478 v1479
  have v1481 : FVec F S32x128 .bf16 := extractStridedSlice S32x128 ![0, 3712] v1423 slices_S32x4096_o0_3712_S32x128
  have v1482 : FVec F S32x128 .bf16 := maximumf v1480 v1481
  have v1483 : FVec F S32x128 .bf16 := extractStridedSlice S32x128 ![0, 3840] v1423 slices_S32x4096_o0_3840_S32x128
  have v1484 : FVec F S32x128 .bf16 := maximumf v1482 v1483
  have v1485 : FVec F S32x128 .bf16 := extractStridedSlice S32x128 ![0, 3968] v1423 slices_S32x4096_o0_3968_S32x128
  have v1486 : FVec F S32x128 .bf16 := maximumf v1484 v1485
  have v1487 : FVec F S32x128 .f32 := extf .f32 v1486 bitsLt_bf16_f32
  have v1488 : FVec F S32 .f32 := multiReduction .maximumf [1] S32 v1487 0xFF800000#32 reduces_S32x128_S32 (.inl rfl) rfl
  shapeCast S32x1 v1488 shapeCasts_S32_S32x1

/-- the number of powers of two above its quotient, -/
def countV (v1489 : FVec F S32x1 .f32) : IVec S32x1 32 :=
  have v1491 : FVec F S32x1 .f32 := mulf v1489 (broadcast S32x1 (Scalar.ofBits .f32 0x3B124925#32))
  have v1494 : IVec S32x256 32 := shli (iota .tc S32x256 32 [1] iota_S32x256_d1_w32) (broadcast S32x256 23#32)
  have v1495 : FVec F S32x256 .f32 := bitcastToFloat .f32 v1494
  have v1496 : FVec F S32x256 .f32 := broadcastTo S32x256 v1491 broadcasts_S32x1_S32x256
  have v1497 : IVec S32x256 1 := cmpf .olt v1496 v1495
  have v1500 : IVec S32x256 32 := select v1497 (broadcast S32x256 1#32) (broadcast S32x256 0#32)
  have v1501 : IVec S32 32 := multiReductionI .add [1] S32 v1500 0#32 reduces_S32x256_S32 rfl
  shapeCast S32x1 v1501 shapeCasts_S32_S32x1

/-- and the exponent from that number. -/
def expV (v1502 : IVec S32x1 32) : IVec S32x1 32 :=
  have v1504 : IVec S32x1 32 := subi (broadcast S32x1 255#32) v1502
  have v1506 : IVec S32x1 32 := subi v1504 (broadcast S32x1 126#32)
  have v1508 : IVec S32x1 1 := cmpi .eq v1504 (broadcast S32x1 0#32)
  have v1510 : IVec S32x1 1 := cmpi .eq v1504 (broadcast S32x1 255#32)
  select (ori v1508 v1510) (broadcast S32x1 0#32) v1506

theorem pay37_eq (a : FVec F S32x4096 .bf16) (b : FVec F S32x128 .bf16) : k0_pay37 a b = expV (countV (amaxV a b)) := rfl

end Stages

/-! ### The greatest magnitude of a row -/

/-- The 32 strips of 128 lanes cover a row. -/
theorem strips (g : ℕ → EReal) (M : EReal)
    (H : ∀ l, l < 128 → g l ≤ M ∧ g (128 + l) ≤ M ∧ g (256 + l) ≤ M ∧ g (384 + l) ≤ M ∧ g (512 + l) ≤ M ∧ g (640 + l) ≤ M ∧ g (768 + l) ≤ M ∧ g (896 + l) ≤ M ∧ g (1024 + l) ≤ M ∧ g (1152 + l) ≤ M ∧ g (1280 + l) ≤ M ∧ g (1408 + l) ≤ M ∧ g (1536 + l) ≤ M ∧ g (1664 + l) ≤ M ∧ g (1792 + l) ≤ M ∧ g (1920 + l) ≤ M ∧ g (2048 + l) ≤ M ∧ g (2176 + l) ≤ M ∧ g (2304 + l) ≤ M ∧ g (2432 + l) ≤ M ∧ g (2560 + l) ≤ M ∧ g (2688 + l) ≤ M ∧ g (2816 + l) ≤ M ∧ g (2944 + l) ≤ M ∧ g (3072 + l) ≤ M ∧ g (3200 + l) ≤ M ∧ g (3328 + l) ≤ M ∧ g (3456 + l) ≤ M ∧ g (3584 + l) ≤ M ∧ g (3712 + l) ≤ M ∧ g (3840 + l) ≤ M ∧ g (3968 + l) ≤ M) :
    ∀ k, k < 4096 → g k ≤ M := by
  intro k hk
  obtain ⟨h0, h1, h2, h3, h4, h5, h6, h7, h8, h9, h10, h11, h12, h13, h14, h15, h16, h17, h18, h19, h20, h21, h22, h23, h24, h25, h26, h27, h28, h29, h30, h31⟩ := H (k % 128) (Nat.mod_lt _ (by norm_num))
  have e : k = 128 * (k / 128) + k % 128 := (Nat.div_add_mod k 128).symm
  generalize k % 128 = l at *
  have hq : k / 128 < 32 := by omega
  generalize k / 128 = q at *
  subst e
  interval_cases q
  · simpa using h0
  all_goals assumption

theorem ofBits_neg_inf : Ideal.ofBits .f32 4286578688#32 = ⊥ := by
  show Ideal.ieee 8 23 (4286578688#32) = _
  unfold Ideal.ieee
  rw [show ((4286578688#32).extractLsb' 23 8).toNat = 255 from by decide, show ((4286578688#32).extractLsb' 0 23).toNat = 0 from by decide,
    show ((4286578688#32).extractLsb' (8 + 23) 1 == 1#1) = true from by decide]
  norm_num

/-- A number of the row by its position. -/
def at4 (v : Vec Ideal S1x32x4096 .bf16) (r : Fin 32) (n : ℕ) : EReal :=
  max (v (ix3 (0 : Fin 1) r (Fin.ofNat 4096 n)) : EReal) (-(v (ix3 (0 : Fin 1) r (Fin.ofNat 4096 n)) : EReal))

theorem at4_eq (v : Vec Ideal S1x32x4096 .bf16) (r : Fin 32) (n : ℕ) (h : n < 4096) :
    (FloatOps.absf (F := Ideal) (φ := .bf16) (v (ix3 (0 : Fin 1) r ⟨n, h⟩)) : EReal) = at4 v r n := by
  unfold at4
  rw [show Fin.ofNat 4096 n = ⟨n, h⟩ from Fin.ext (Nat.mod_eq_of_lt h)]
  rfl

theorem amaxV_at (v : Vec Ideal S1x32x4096 .bf16) (r : Fin 32) :
    amaxV (k0_pay35 v) (k0_pay36 v) (ix2 r (0 : Fin 1)) = amax fun k => v (ix3 (0 : Fin 1) r k) := by
  pointwise [amaxV, k0_pay36, k0_pay35, k0_pay34]
  simp only [at4_eq, ofBits_neg_inf]
  refine eq_of_forall_ge_iff fun M => ?_
  unfold amax
  rw [Finset.fold_max_le, Finset.fold_max_le]
  refine and_congr_right fun _ => ⟨fun H k _ => ?_, fun H l _ => ?_⟩
  · have := strips (at4 v r) M (fun l hl => by simpa only [max_le_iff, and_assoc] using H ⟨l, hl⟩ (Finset.mem_univ _)) k.val k.isLt
    unfold at4 at this
    rwa [show Fin.ofNat 4096 k.val = k from Fin.ext (Nat.mod_eq_of_lt k.isLt)] at this
  · simp only [max_le_iff]
    have H' : ∀ n, at4 v r n ≤ M := fun n => H (Fin.ofNat 4096 n) (Finset.mem_univ _)
    simp only [H', and_self]

/-! ### Its exponent -/

theorem shl_word : ∀ x : Fin 256, IntOp.shli ArithUnit.vector (BitVec.ofNat 32 x.val) 23#32 = word x.val := by decide

theorem fold_card (p : Fin 256 → Prop) [DecidablePred p] :
    Finset.univ.fold IntOp.addi (0#32) (fun k => if p k then 1#32 else 0#32) = BitVec.ofNat 32 (Finset.univ.filter p).card := by
  have := IndicatorCount.fold_addi_setWidth_eq_card (w := 32) (fun k => if p k then 1#1 else 0#1) Finset.univ
  rw [show (fun k => (if p k then 1#1 else 0#1 : BitVec 1).setWidth 32) = fun k => if p k then 1#32 else 0#32 from by
    funext k; split <;> rfl] at this
  rw [this]
  congr 2
  ext k
  simp only [Finset.mem_filter, Finset.mem_univ, true_and]
  by_cases h : p k <;> simp [h]

theorem countV_at (a : FVec Ideal S32x1 .f32) (r : Fin 32) {n : ℕ} (h0 : 0 ≤ a (ix2 r (0 : Fin 1)) * recip) (hn : n ≤ 253)
    (h : Binade (a (ix2 r (0 : Fin 1)) * recip) n) : countV a (ix2 r (0 : Fin 1)) = BitVec.ofNat 32 (255 - n) := by
  pointwise [countV]
  rw [← count_words h0 hn h, ← fold_card]
  simp only [shl_word]
  rfl

/-- The exponent's word. -/
def expW (c : BitVec 32) : BitVec 32 :=
  Scalar.select (IntOp.ori (IntOp.cmpi CmpIPredicate.eq (IntOp.subi (255#32) c) 0#32) (IntOp.cmpi CmpIPredicate.eq (IntOp.subi (255#32) c) 255#32))
    (0#32) (IntOp.subi (IntOp.subi (255#32) c) 126#32)

theorem expV_at (c : IVec S32x1 32) (r : Fin 32) : expV c (ix2 r (0 : Fin 1)) = expW (c (ix2 r (0 : Fin 1))) := by
  pointwise [expV]
  rfl

theorem scl_word : ∀ n : Fin 253, IntOp.shli ArithUnit.vector (IntOp.addi (expW (BitVec.ofNat 32 (255 - n.val))) 127#32) 23#32
    = word (if n.val = 0 then 127 else n.val + 1) := by decide

theorem inv_word : ∀ n : Fin 253, IntOp.shli ArithUnit.vector (IntOp.addi (IntOp.subi (0#32) (expW (BitVec.ofNat 32 (255 - n.val)))) 127#32) 23#32
    = word (if n.val = 0 then 127 else 253 - n.val) := by decide

section Row
variable (v : Vec Ideal S1x32x4096 .bf16) (r : Fin 32) {n : ℕ} (hn : n ≤ 252)
  (h : Binade (amax (fun k => v (ix3 (0 : Fin 1) r k)) * recip) n) (hr : 0 ≤ recip)

include hn h hr

theorem pay37_at : k0_pay37 (k0_pay35 v) (k0_pay36 v) (ix2 r (0 : Fin 1)) = expW (BitVec.ofNat 32 (255 - n)) := by
  rw [pay37_eq, expV_at, countV_at (n := n)]
  · rw [amaxV_at]; exact mul_nonneg (amax_nonneg _) hr
  · omega
  · rw [amaxV_at]; exact h

/-- The row's scale, -/
theorem qScl_at : qScl v (ix2 r (0 : Fin 1)) = two (ex n) := by
  pointwise [qScl, k0_pay38]
  rw [pay37_at v r hn h hr, scl_word ⟨n, by omega⟩]
  unfold ex
  dsimp only
  split
  · rw [ofBits_word 127 (by norm_num) (by norm_num)]; norm_num
  · rw [ofBits_word (n + 1) (by omega) (by omega)]; congr 1; push_cast; ring

/-- its codes, -/
theorem qCode_at (k : Fin 4096) : qCode v (ix3 (0 : Fin 1) r k)
    = min (max (v (ix3 (0 : Fin 1) r k) * two (-ex n)) (Ideal.ofBits .bf16 50144#16)) (Ideal.ofBits .bf16 17376#16) := by
  pointwise [qCode, k0_pay41, k0_pay40, k0_pay39, k0_pay34]
  rw [pay37_at v r hn h hr, inv_word ⟨n, by omega⟩]
  have e : Ideal.ofBits .f32 (word (if n = 0 then 127 else 253 - n)) = two (-ex n) := by
    unfold ex
    split
    · rw [ofBits_word 127 (by norm_num) (by norm_num)]; norm_num
    · rw [ofBits_word (253 - n) (by omega) (by omega)]; congr 1; push_cast [Nat.cast_sub (show n ≤ 253 by omega)]; ring
  dsimp only
  rw [e]

/-- and the values they stand for. -/
theorem qXw_at (k : Fin 4096) : qXw v (ix3 (0 : Fin 1) r k) = qCode v (ix3 (0 : Fin 1) r k) * qScl v (ix2 r (0 : Fin 1)) := by
  pointwise [qXw, qCode, k0_pay42, k0_pay41, k0_pay40, k0_pay39, k0_pay34]
  rfl

end Row

end Cert.Proof.KernelIdeal

end
-- ==== Proof.Words.lean ====
/-
  The words of four-bit weights and of their group exponents: bytes of a word of four, the two nibbles of a byte spread to
  an fp8 pattern, and an exponent byte placed in both halves of a word.
-/
module

public import proofs.«01_k».proof.Proof.Rungs
public import Idealize.ShloMosaic.Lib.Pointwise
public import Idealize.ShloMosaic.Lib.BitcastFour

@[expose] public section

set_option maxRecDepth 16384

noncomputable section

namespace Cert.Proof.Words

open Cert.Proof.Rungs
open Idealize.ShloMosaic Idealize.SL.Sem

/-! ### Bytes and halves of words -/

abbrev A32 : Shape := ⟨2, ![32, 256]⟩
abbrev A16 : Shape := ⟨2, ![16, 256]⟩
abbrev A8 : Shape := ⟨2, ![8, 256]⟩

theorem bytes_in (s : IVec A32 8) (h : A32.Bitcasts 8 A8 32) (g : Fin 8) (l : Fin 256) (b : ℕ) (hb : b < 4) :
    (bitcast A8 32 s h (ix2 g l)).extractLsb' (8 * b) 8 = s (ix2 (⟨4 * g.val + b, by omega⟩ : Fin 32) l) := by
  apply BitVec.eq_of_getLsbD_eq
  intro i hi
  have := bitcast_8_32_getLsbD_ix2 s h g l (8 * b + i) (by omega) ⟨4 * g.val + b, by omega⟩ (by show 4 * g.val + b = _; omega)
  rw [BitVec.getLsbD_extractLsb', decide_eq_true hi, Bool.true_and]
  refine this.trans ?_
  rw [show (8 * b + i) % 8 = i by omega]
  rfl

theorem bytes_out (y : IVec A8 32) (h : A8.Bitcasts 32 A32 8) (r : Fin 32) (l : Fin 256) :
    bitcast A32 8 y h (ix2 r l) = (y (ix2 (⟨r.val / 4, by omega⟩ : Fin 8) l)).extractLsb' (8 * (r.val % 4)) 8 := by
  apply BitVec.eq_of_getLsbD_eq
  intro i hi
  rw [bitcast_getLsbD y h _ i hi (by norm_num), BitVec.getLsbD_extractLsb', decide_eq_true hi, Bool.true_and]
  have row : A32.row (ix2 r l) = r.val := rfl
  have ep : (A32.row (ix2 r l) * 8 + i) / 32 = r.val / 4 := by rw [row]; omega
  have eq : (A32.row (ix2 r l) * 8 + i) % 32 = 8 * (r.val % 4) + i := by rw [row]; omega
  rw [eq]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

theorem halves_out (y : IVec A8 32) (h : A8.Bitcasts 32 A16 16) (r : Fin 16) (l : Fin 256) :
    bitcast A16 16 y h (ix2 r l) = (y (ix2 (⟨r.val / 2, by omega⟩ : Fin 8) l)).extractLsb' (16 * (r.val % 2)) 16 := by
  rw [bitcast_32_16]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-! ### Nibbles -/

/-- The fp8 pattern of a four-bit code: its sign, two exponent bits and one fraction bit. -/
def pat (n : ℕ) : BitVec 8 := BitVec.ofNat 8 (n % 8 * 4 + n / 8 * 128)

/-- The low nibbles of a word spread, and the high ones. -/
def lowW (w : BitVec 32) : BitVec 32 :=
  IntOp.ori (IntOp.shli ArithUnit.vector (IntOp.andi w 117901063#32) 2#32) (IntOp.shli ArithUnit.vector (IntOp.andi w 134744072#32) 4#32)
def highW (w : BitVec 32) : BitVec 32 :=
  IntOp.ori (IntOp.shrui ArithUnit.vector (IntOp.andi w 1886417008#32) 2#32) (IntOp.andi w 2155905152#32)

theorem low_pat : ∀ x : Fin 256, ((BitVec.ofNat 8 x.val &&& 7#8) <<< 2) ||| ((BitVec.ofNat 8 x.val &&& 8#8) <<< 4) = pat (x.val % 16) := by decide

theorem high_pat : ∀ x : Fin 256, ((BitVec.ofNat 8 x.val &&& 112#8) >>> 2) ||| (BitVec.ofNat 8 x.val &&& 128#8) = pat (x.val / 16) := by decide

theorem lowW_byte (w : BitVec 32) (b : ℕ) (hb : b < 4) : (lowW w).extractLsb' (8 * b) 8 = pat ((w.extractLsb' (8 * b) 8).toNat % 16) := by
  have e := low_pat ⟨(w.extractLsb' (8 * b) 8).toNat, (w.extractLsb' (8 * b) 8).isLt⟩
  rw [← e]
  dsimp only
  rw [BitVec.ofNat_toNat, BitVec.setWidth_eq]
  show ((w &&& 117901063#32) <<< 2 ||| (w &&& 134744072#32) <<< 4).extractLsb' (8 * b) 8 = _
  apply BitVec.eq_of_getLsbD_eq
  intro i hi
  interval_cases b <;> interval_cases i <;> simp

theorem highW_byte (w : BitVec 32) (b : ℕ) (hb : b < 4) : (highW w).extractLsb' (8 * b) 8 = pat ((w.extractLsb' (8 * b) 8).toNat / 16) := by
  have e := high_pat ⟨(w.extractLsb' (8 * b) 8).toNat, (w.extractLsb' (8 * b) 8).isLt⟩
  rw [← e]
  dsimp only
  rw [BitVec.ofNat_toNat, BitVec.setWidth_eq]
  show ((w &&& 1886417008#32) >>> 2 ||| (w &&& 2155905152#32)).extractLsb' (8 * b) 8 = _
  apply BitVec.eq_of_getLsbD_eq
  intro i hi
  interval_cases b <;> interval_cases i <;> simp

/-- The number a four-bit code stands for. -/
def num (n : ℕ) : EReal :=
  ((((if n / 8 = 0 then 1 else -1) * (if n % 8 / 2 = 0 then (n % 2 : ℕ) / 2 else (2 + (n % 2 : ℕ)) * 2 ^ (n % 8 / 2) / 4 : ℝ)) : ℝ) : EReal)

theorem num_pat : ∀ n : Fin 16, Ideal.ofBits .fp8e4m3 (pat n.val) * Ideal.ofBits .bf16 17024#16 = num n.val := by
  have h64 : Ideal.ofBits .bf16 17024#16 = ((64 : ℝ) : EReal) := by
    simp [Ideal.ofBits, Ideal.ieee, -EReal.coe_mul]; norm_num
  rw [h64]
  intro n
  fin_cases n <;> (simp [Ideal.ofBits, Ideal.e4m3fn, pat, num, -EReal.coe_mul, ← EReal.coe_mul]; try norm_num)

/-! ### Group exponents -/

/-- An exponent byte in both halves of a word. -/
def grpW (s : BitVec 8) : BitVec 32 :=
  IntOp.ori (IntOp.shli ArithUnit.vector (BitVec.setWidth 32 s) 7#32)
    (IntOp.shli ArithUnit.vector (IntOp.shli ArithUnit.vector (BitVec.setWidth 32 s) 7#32) 16#32)

theorem grpW_half : ∀ (s : Fin 256) (b : Fin 2), (grpW (BitVec.ofNat 8 s.val)).extractLsb' (16 * b.val) 16 = BitVec.ofNat 16 (s.val * 2 ^ 7) := by decide

/-- The number an exponent byte stands for. -/
def grp (s : ℕ) : EReal := if s = 0 then 0 else if s = 255 then ⊤ else two ((s : ℤ) - 127)

theorem grp_half (n : ℕ) (h : n < 256) : Ideal.ofBits .bf16 (BitVec.ofNat 16 (n * 2 ^ 7)) = grp n := by
  have hex : ((BitVec.ofNat 16 (n * 2 ^ 7)).extractLsb' 7 8).toNat = n := by
    rw [BitVec.extractLsb'_toNat, BitVec.toNat_ofNat, Nat.shiftRight_eq_div_pow]; omega
  have hfr : ((BitVec.ofNat 16 (n * 2 ^ 7)).extractLsb' 0 7).toNat = 0 := by
    rw [BitVec.extractLsb'_toNat, BitVec.toNat_ofNat, Nat.shiftRight_zero]; omega
  have hsg : ((BitVec.ofNat 16 (n * 2 ^ 7)).extractLsb' 15 1 == 1#1) = false := by
    have : (BitVec.ofNat 16 (n * 2 ^ 7)).extractLsb' 15 1 = 0#1 := by
      apply BitVec.eq_of_toNat_eq
      rw [BitVec.extractLsb'_toNat, BitVec.toNat_ofNat, Nat.shiftRight_eq_div_pow]
      show _ = 0
      omega
    rw [this]; rfl
  show Ideal.ieee 8 7 (BitVec.ofNat 16 (n * 2 ^ 7)) = _
  unfold Ideal.ieee grp
  simp only [hex, hfr, hsg]
  by_cases h0 : n = 0
  · subst h0; norm_num
  by_cases h1 : n = 255
  · subst h1; norm_num
  rw [if_neg (by norm_num; omega), if_neg h0, if_neg h0, if_neg h1]
  unfold two
  congr 1
  rw [show ((n : ℤ) - (2 ^ (8 - 1) - 1) - ((7 : ℕ) : ℤ)) = ((n : ℤ) - 127) - 7 by norm_num, zpow_sub₀ (by norm_num)]
  norm_num
  exact mul_div_cancel₀ _ (by norm_num)

end Cert.Proof.Words

end
-- ==== Proof.KernelIdealValues.lean ====
/-
  The kernel's payloads at an index, over the extended reals: the scales of a tile, the decoded weights and the product.
-/
module

public import proofs.«01_k».proof.Proof.KernelIdealQuant
public import proofs.«01_k».proof.Proof.Words

@[expose] public section

set_option maxRecDepth 16384

noncomputable section

namespace Cert.Proof.KernelIdeal

open Cert.KernelIdeal Cert.KernelIdeal.Gen Cert.Proof.Steps Cert.Proof.Rungs Cert.Proof.Words
open Idealize.ShloMosaic Idealize.SL.Sem

/-- The scales of a tile are those of its eight blocks. -/
theorem tile_at (X : ℕ → ℕ → Elt Ideal .bf16) (T : ℕ) (r : Fin 256) :
    tileScl X T (ix3 (0 : Fin 1) (0 : Fin 1) r) = qScl (blk X (8 * T + r.val / 32)) (ix2 (Fin.ofNat 32 r.val) (0 : Fin 1)) := by
  pointwise [tileScl, k0_pay123, k0_pay43]
  have key : ∀ (d a : ℕ) (ha : a < 32) (e : r.val = 32 * d + a),
      qScl (blk X (8 * T + d)) (ix2 (⟨a, ha⟩ : Fin 32) (0 : Fin 1)) = qScl (blk X (8 * T + r.val / 32)) (ix2 (Fin.ofNat 32 r.val) (0 : Fin 1)) := by
    intro d a ha e
    rw [show r.val / 32 = d by omega, show (⟨a, ha⟩ : Fin 32) = Fin.ofNat 32 r.val from Fin.ext (by show a = r.val % 32; omega)]
  split
  · exact key 0 _ _ (by omega)
  split
  · exact key 1 _ _ (by omega)
  split
  · exact key 2 _ _ (by omega)
  split
  · exact key 3 _ _ (by omega)
  split
  · exact key 4 _ _ (by omega)
  split
  · exact key 5 _ _ (by omega)
  split
  · exact key 6 _ _ (by omega)
  · exact key 7 _ _ (by omega)

theorem prod_at (a : Vec Ideal S1x256x4096 .bf16) (b : Vec Ideal S4096x512 .bf16) (r : Fin 256) (k : Fin 512) :
    prod a b (ix3 (0 : Fin 1) r k) = ∑ x : Fin 4096, a (ix3 0 r x) * b (ix2 x k) := by
  pointwise [prod, k0_pay126]

/-! ### The weights -/

/-- The exponent of a group, read at sixteen bits. -/
theorem half_at (e : Vec Ideal S1x256 .i32) (r : Fin 16) (l : Fin 256) (s : BitVec 8) (he : e (ix2 0 l) = grpW s) :
    Ideal.ofBits .bf16 (bitcast S16x256 16 (broadcastTo S8x256 e broadcasts_S1x256_S8x256) bitcasts_S8x256_w32_S16x256_w16 (ix2 r l)) = grp s.toNat := by
  have h1 : (broadcastTo S8x256 e broadcasts_S1x256_S8x256 : IVec S8x256 32) (ix2 (⟨r.val / 2, by omega⟩ : Fin 8) l) = grpW s := by
    pointwise
    exact he
  have h2 := grpW_half ⟨s.toNat, s.isLt⟩ ⟨r.val % 2, Nat.mod_lt _ (by norm_num)⟩
  dsimp only at h2
  rw [BitVec.ofNat_toNat, BitVec.setWidth_eq] at h2
  rw [← grp_half s.toNat s.isLt, ← h2, ← h1]
  exact congrArg _ (halves_out _ _ r l)

theorem low_at (p : Vec Ideal S32x256 .i8) (e : Vec Ideal S1x256 .i32) (r : Fin 32) (l : Fin 256) (s : BitVec 8) (he : e (ix2 0 l) = grpW s) :
    k0_pay2 (F := Ideal) p e (ix2 r l) = num (BitVec.toNat (p (ix2 r l)) % 16) * grp s.toNat := by
  pointwise [k0_pay2, k0_pay1]
  have hw : bitcast S32x256 8 (ori (shli (andi (bitcast S8x256 32 p bitcasts_S32x256_w8_S8x256_w32) (broadcast S8x256 117901063#32)) (broadcast S8x256 2#32)) (shli (andi (bitcast S8x256 32 p bitcasts_S32x256_w8_S8x256_w32) (broadcast S8x256 134744072#32)) (broadcast S8x256 4#32))) bitcasts_S8x256_w32_S32x256_w8 (ix2 r l)
      = pat (BitVec.toNat (p (ix2 r l)) % 16) := by
    refine (bytes_out _ _ r l).trans ?_
    refine (lowW_byte (bitcast S8x256 32 p bitcasts_S32x256_w8_S8x256_w32 (ix2 (⟨r.val / 4, by omega⟩ : Fin 8) l)) _ (Nat.mod_lt _ (by norm_num))).trans ?_
    rw [show (bitcast S8x256 32 p bitcasts_S32x256_w8_S8x256_w32 (ix2 (⟨r.val / 4, by omega⟩ : Fin 8) l)).extractLsb' (8 * (r.val % 4)) 8 = p (ix2 r l) from
      (bytes_in p _ _ l (r.val % 4) (Nat.mod_lt _ (by norm_num))).trans
        (congrArg (fun i : Fin 32 => p (ix2 i l)) (Fin.ext (Nat.div_add_mod r.val 4)))]
  rw [hw, num_pat ⟨_, Nat.mod_lt _ (by norm_num)⟩]
  congr 1
  split
  · exact half_at e _ l s he
  · exact half_at e _ l s he

theorem high_at (p : Vec Ideal S32x256 .i8) (e : Vec Ideal S1x256 .i32) (r : Fin 32) (l : Fin 256) (s : BitVec 8) (he : e (ix2 0 l) = grpW s) :
    k0_pay139 (F := Ideal) (k0_pay3 p) e (ix2 r l) = num (BitVec.toNat (p (ix2 r l)) / 16) * grp s.toNat := by
  pointwise [k0_pay139, k0_pay3, k0_pay1]
  have hw : bitcast S32x256 8 (ori (shrui (andi (bitcast S8x256 32 p bitcasts_S32x256_w8_S8x256_w32) (broadcast S8x256 1886417008#32)) (broadcast S8x256 2#32)) (andi (bitcast S8x256 32 p bitcasts_S32x256_w8_S8x256_w32) (broadcast S8x256 2155905152#32))) bitcasts_S8x256_w32_S32x256_w8 (ix2 r l)
      = pat (BitVec.toNat (p (ix2 r l)) / 16) := by
    refine (bytes_out _ _ r l).trans ?_
    refine (highW_byte (bitcast S8x256 32 p bitcasts_S32x256_w8_S8x256_w32 (ix2 (⟨r.val / 4, by omega⟩ : Fin 8) l)) _ (Nat.mod_lt _ (by norm_num))).trans ?_
    rw [show (bitcast S8x256 32 p bitcasts_S32x256_w8_S8x256_w32 (ix2 (⟨r.val / 4, by omega⟩ : Fin 8) l)).extractLsb' (8 * (r.val % 4)) 8 = p (ix2 r l) from
      (bytes_in p _ _ l (r.val % 4) (Nat.mod_lt _ (by norm_num))).trans
        (congrArg (fun i : Fin 32 => p (ix2 i l)) (Fin.ext (Nat.div_add_mod r.val 4)))]
  rw [hw, num_pat ⟨_, by have := BitVec.isLt (p (ix2 r l)); omega⟩]
  congr 1
  split
  · exact half_at e _ l s he
  · exact half_at e _ l s he

theorem expN_val (WS : ℕ → ℕ → Elt Ideal .i8) (g k : ℕ) (hg : g < 128) : expN WS g k = grpW (WS g k) := by
  have e : ∀ (a : Fin 128) (b : Fin 256), k0_pay137 (F := Ideal) (fun j => WS (j (0 : Fin 2)).val (256 * (k / 256) + (j (1 : Fin 2)).val)) (ix2 a b)
      = grpW (WS a.val (256 * (k / 256) + b.val)) := by
    intro a b
    pointwise [k0_pay137]
    rfl
  refine (e (Fin.ofNat 128 g) (Fin.ofNat 256 k)).trans ?_
  show grpW (WS (g % 128) (256 * (k / 256) + k % 256)) = _
  rw [Nat.mod_eq_of_lt hg, Nat.div_add_mod]

theorem wN_val (WP WS : ℕ → ℕ → Elt Ideal .i8) (r k : ℕ) (hr : r < 4096) : wN WP WS r k
    = if k < 2816 then num (BitVec.toNat (WP r k) % 16) * grp (BitVec.toNat (WS (r / 32) k))
      else num (BitVec.toNat (WP r (k - 2816)) / 16) * grp (BitVec.toNat (WS (r / 32) k)) := by
  have he : expN WS (r / 32) (256 * (k / 256) + k % 256) = grpW (WS (r / 32) k) := by
    rw [Nat.div_add_mod, expN_val _ _ _ (by omega)]
  unfold wN
  by_cases h : k / 256 < 11
  · rw [if_pos h, if_pos (by omega)]
    refine (low_at _ _ (Fin.ofNat 32 r) (Fin.ofNat 256 k) (WS (r / 32) k) he).trans ?_
    show num (BitVec.toNat (WP (32 * (r / 32) + r % 32) (256 * (k / 256) + k % 256)) % 16) * _ = _
    rw [Nat.div_add_mod, Nat.div_add_mod]
  · rw [if_neg h, if_neg (by omega)]
    refine (high_at _ _ (Fin.ofNat 32 r) (Fin.ofNat 256 k) (WS (r / 32) k) he).trans ?_
    show num (BitVec.toNat (WP (32 * (r / 32) + r % 32) (256 * (k / 256 - 11) + k % 256)) / 16) * _ = _
    rw [Nat.div_add_mod, show 256 * (k / 256 - 11) + k % 256 = k - 2816 by omega]

/-! ### The product -/

theorem yN_val (xw w : ℕ → ℕ → Elt Ideal .bf16) (r k : ℕ) : yN xw w r k = ∑ x : Fin 4096, (xw r x.val * w x.val k : EReal) := by
  refine (prod_at _ _ (Fin.ofNat 256 r) (Fin.ofNat 512 k)).trans ?_
  show ∑ x : Fin 4096, (xw (256 * (r / 256) + r % 256) x.val * w x.val (512 * (k / 512) + k % 512) : EReal) = _
  rw [Nat.div_add_mod, Nat.div_add_mod]

/-! ### A row -/

section Row
variable (X : ℕ → ℕ → Elt Ideal .bf16) (r : ℕ) {n : ℕ} (hn : n ≤ 252) (h : Binade (amax (fun k : Fin 4096 => X r k.val) * recip) n)
  (hr : 0 ≤ recip)

theorem blk_at (k : Fin 4096) : blk X (r / 32) (ix3 (0 : Fin 1) (Fin.ofNat 32 r) k) = X r k.val := by
  show X (32 * (r / 32) + r % 32) k.val = _
  rw [Nat.div_add_mod]

include h in
theorem blk_binade : Binade (amax (fun k => blk X (r / 32) (ix3 (0 : Fin 1) (Fin.ofNat 32 r) k)) * recip) n := by
  simp only [blk_at]
  exact h

include hn h hr

theorem sclN_val : sclN X r = two (ex n) := by
  refine (tile_at X (r / 256) (Fin.ofNat 256 r)).trans ?_
  show qScl (blk X (8 * (r / 256) + r % 256 / 32)) (ix2 (Fin.ofNat 32 (r % 256)) (0 : Fin 1)) = _
  rw [show 8 * (r / 256) + r % 256 / 32 = r / 32 by omega, show Fin.ofNat 32 (r % 256) = Fin.ofNat 32 r from Fin.ext (by show r % 256 % 32 = r % 32; omega)]
  exact qScl_at _ _ hn (blk_binade X r h) hr

theorem codeN_val (k : ℕ) (hk : k < 4096) : codeN X r k
    = min (max (X r k * two (-ex n)) (Ideal.ofBits .bf16 50144#16)) (Ideal.ofBits .bf16 17376#16) := by
  refine (qCode_at _ _ hn (blk_binade X r h) hr (Fin.ofNat 4096 k)).trans ?_
  rw [blk_at]
  show min (max (X r (k % 4096) * two (-ex n)) _) _ = _
  rw [Nat.mod_eq_of_lt hk]

theorem xwN_val (k : ℕ) : xwN X r k = (codeN X r k : EReal) * two (ex n) := by
  refine (qXw_at _ _ hn (blk_binade X r h) hr (Fin.ofNat 4096 k)).trans ?_
  rw [qScl_at _ _ hn (blk_binade X r h) hr]
  rfl

end Row

end Cert.Proof.KernelIdeal

end
-- ==== Proof.ReferenceQuant.lean ====
/-
  The reference's quantiser at a row, over the extended reals: the exponent of a row whose quotient lies in a binade, its
  scale and the scale's reciprocal, and the row's codes.
-/
module

public import proofs.«01_k».proof.Proof.ReferenceHost
public import proofs.«01_k».proof.Proof.Rungs
public import Idealize.ShloMosaic.Lib.Pointwise

@[expose] public section

set_option maxRecDepth 16384

noncomputable section

namespace Cert.Proof.Reference

open Cert.ReferenceIdeal Cert.ReferenceIdeal.Gen Cert.Proof.Rungs
open Idealize.ShloMosaic Idealize.ShloMosaic.TcCoe Idealize.SL.Sem

/-! ### Constants and powers -/

/-- An integer as an extended real. -/
def re (z : ℤ) : EReal := ((z : ℝ) : EReal)

theorem re_lt {a b : ℤ} : re a < re b ↔ a < b := by unfold re; rw [EReal.coe_lt_coe_iff]; exact Int.cast_lt

theorem re_le {a b : ℤ} : re a ≤ re b ↔ a ≤ b := by unfold re; rw [EReal.coe_le_coe_iff]; exact Int.cast_le

theorem ofBits_m125 : Ideal.ofBits .f32 3271163904#32 = re (-125) := by
  simp [Ideal.ofBits, Ideal.ieee, re, -EReal.coe_mul]; norm_num

theorem ofBits_m126 : Ideal.ofBits .f32 3271294976#32 = re (-126) := by
  simp [Ideal.ofBits, Ideal.ieee, re, -EReal.coe_mul]; norm_num

theorem ofBits_127 : Ideal.ofBits .f32 1123942400#32 = re 127 := by
  simp [Ideal.ofBits, Ideal.ieee, re, -EReal.coe_mul]; norm_num

theorem ofBits_2 : Ideal.ofBits .f32 1073741824#32 = ((2 : ℝ) : EReal) := by
  simp [Ideal.ofBits, Ideal.ieee, -EReal.coe_mul]; norm_num

theorem ofBits_top : Ideal.ofBits .f32 2139095040#32 = ⊤ := ofBits_word_top

theorem ofBits_least : Ideal.ofBits .f32 8388608#32 = two (-126) := by
  have := ofBits_word 1 (by norm_num) (by norm_num)
  norm_num at this
  exact this

theorem pow_two (z : ℤ) : Ideal.pow (Ideal.ofBits .f32 1073741824#32) (re z) = two z := by
  rw [ofBits_2]
  show ((Real.rpow 2 (z : ℝ) : ℝ) : EReal) = _
  unfold two
  congr 1
  exact Real.rpow_intCast 2 z

/-! ### A row's exponent -/

theorem tried (i : Fin 254) : Ideal.ofBits .f32 3271163904#32 + FloatOps.sitofp (F := Ideal) .f32 (BitVec.ofNat 32 i.val) = re ((i.val : ℤ) - 125) := by
  rw [ofBits_m125]
  show re (-125) + (((BitVec.ofNat 32 i.val).toInt : ℝ) : EReal) = _
  rw [show (BitVec.ofNat 32 i.val).toInt = (i.val : ℤ) by
    rw [BitVec.toInt_eq_toNat_of_lt (by rw [BitVec.toNat_ofNat]; omega), BitVec.toNat_ofNat]; omega]
  unfold re
  rw [← EReal.coe_add]
  congr 1
  push_cast
  ring

theorem least_at (q : FVec Ideal S12288x1 .f32) (r : Fin 12288) {n : ℕ} (h1 : 1 ≤ n) (hn : n ≤ 252) (h : Binade (q (ix2 r 0)) n) :
    leastV q (ix1 r) = re ((n : ℤ) - 126) := by
  pointwise [leastV, expsV]
  simp only [tried, pow_two, ofBits_top]
  apply le_antisymm
  · rw [Finset.fold_min_le]
    right
    refine ⟨⟨n - 1, by omega⟩, Finset.mem_univ _, ?_⟩
    have e : (((n - 1 : ℕ) : ℤ) - 125) = (n : ℤ) - 126 := by omega
    dsimp only
    rw [e, if_pos h.1]
  · rw [Finset.le_fold_min]
    refine ⟨le_top, fun i _ => ?_⟩
    split
    · rename_i hi
      rw [re_le]
      rcases h.2 with h2 | h2
      · omega
      · have := two_lt.1 (lt_of_le_of_lt h2 hi)
        omega
    · exact le_top

theorem expo_at (q : FVec Ideal S12288x1 .f32) (r : Fin 12288) {n : ℕ} (hn : n ≤ 252) (h : Binade (q (ix2 r 0)) n) :
    expoV q (ix2 r 0) = re (ex n) := by
  pointwise [expoV, rowC]
  rw [ofBits_least]
  unfold ex
  rcases Nat.eq_zero_or_pos n with rfl | h0
  · rw [if_pos (by simpa using h.1), if_pos rfl]; simp [re]
  · rw [if_neg (by
      rcases h.2 with h2 | h2
      · omega
      · exact not_lt.2 (le_trans (two_le.2 (by omega)) h2)), if_neg (by omega), least_at q r h0 hn h]

/-- A power of two in the normal range. -/
theorem pow_at (e : FVec Ideal S12288x1 .f32) (r : Fin 12288) {z : ℤ} (h1 : -126 ≤ z) (h2 : z ≤ 127) (h : e (ix2 r 0) = re z) :
    powV e (ix2 r 0) = two z := by
  pointwise [powV, rowC]
  rw [h, ofBits_m126, ofBits_127, if_neg (by rw [re_lt]; omega), if_neg (by rw [re_lt]; omega), pow_two]

/-! ### A row's quotient -/

theorem rows_at (x : FVec Ideal S8x1536x4096 .bf16) (r : Fin 12288) (k : Fin 4096) :
    rowsV x (ix2 r k) = x (ix3 (⟨r.val / 1536, by omega⟩ : Fin 8) (⟨r.val % 1536, by omega⟩ : Fin 1536) k) := by
  pointwise [rowsV]

theorem max_row {A B : ℕ} {u : Shape} (x : FVec Ideal ⟨2, ![A, B]⟩ .f32) (init : u.Idx → Ideal .f32)
    (h : (⟨2, ![A, B]⟩ : Shape).ReducesTo [1] ⟨1, ![A]⟩) (hu : 0 < u.numel) (r : Fin A) :
    Host.reduce FloatOps.maximumf x init h hu (ix1 r) = Finset.univ.fold max (init (Shape.Idx.first hu)) fun k : Fin B => x (ix2 r k) := by
  simp only [pointwise]

theorem times_at (y : FVec Ideal S12288 .f32) (w : BitVec 32) (r : Fin 12288) :
    mulf (broadcastInDim S12288x1 ![0] bcast_S12288_S12288x1_0 y) (rowC w) (ix2 r 0) = y (ix1 r) * Ideal.ofBits .f32 w := by
  pointwise [rowC]

theorem amax_row (x : FVec Ideal S12288x4096 .f32) (r : Fin 12288) :
    (Finset.univ.fold max ((constant S_ .f32 0xFF800000#32 : FVec Ideal S_ .f32) (Shape.Idx.first h_S_))
      fun k : Fin 4096 => (Host.absf x : FVec Ideal S12288x4096 .f32) (ix2 r k)) = amax fun k => x (ix2 r k) := by
  have e : (constant S_ .f32 0xFF800000#32 : FVec Ideal S_ .f32) (Shape.Idx.first h_S_) = ⊥ := by
    show Ideal.ieee 8 23 4286578688#32 = _
    simp [Ideal.ieee]
  unfold amax
  rw [e]
  exact Finset.fold_congr fun k _ => rfl

theorem greatest_at (x : FVec Ideal S12288x4096 .f32) (r : Fin 12288) :
    Host.reduce FloatOps.maximumf (Host.absf x) (constant S_ .f32 0xFF800000#32) reducesTo_S12288x4096_S12288_d1 h_S_ (ix1 r)
      = amax fun k => x (ix2 r k) := by
  refine (max_row (A := 12288) (B := 4096) (u := S_) (Host.absf x) _ _ _ r).trans ?_
  exact amax_row x r

theorem quot_at (x : FVec Ideal S12288x4096 .f32) (r : Fin 12288) : quotV x (ix2 r 0) = amax (fun k => x (ix2 r k)) * recip := by
  unfold quotV recip
  rw [times_at, greatest_at]

/-! ### The scale, its reciprocal and the codes -/

theorem ex_ge (n : ℕ) : -126 ≤ ex n := by unfold ex; split <;> omega

theorem ex_le {n : ℕ} (hn : n ≤ 252) : ex n ≤ 126 := by unfold ex; split <;> omega

theorem re_neg (z : ℤ) : -re z = re (-z) := by
  unfold re
  rw [← EReal.coe_neg, Int.cast_neg]

theorem neg_at (e : FVec Ideal S12288x1 .f32) (r : Fin 12288) : (Host.negf e : FVec Ideal S12288x1 .f32) (ix2 r 0) = -(e (ix2 r 0)) := rfl

section Row
variable (x : FVec Ideal S12288x4096 .f32) (r : Fin 12288) {n : ℕ} (hn : n ≤ 252) (h : Binade (amax (fun k => x (ix2 r k)) * recip) n)

include hn h

theorem exp_at : expoV (quotV x) (ix2 r 0) = re (ex n) := expo_at (quotV x) r hn ((quot_at x r).symm ▸ h)

theorem scale_at : powV (expoV (quotV x)) (ix2 r 0) = two (ex n) :=
  pow_at (expoV (quotV x)) r (ex_ge n) (le_trans (ex_le hn) (by norm_num)) (exp_at x r hn h)

theorem inv_at : powV (Host.negf (expoV (quotV x))) (ix2 r 0) = two (-ex n) :=
  pow_at (Host.negf (expoV (quotV x))) r (by have := ex_le hn; omega) (by have := ex_ge n; omega)
    ((neg_at (expoV (quotV x)) r).trans ((congrArg Neg.neg (exp_at x r hn h)).trans (re_neg _)))

end Row

/-! ### The body's two results -/

theorem code_at (P0 : Vec Ideal S12288x4096 .f32) (P1 : Vec Ideal S12288x1 .f32) (r : Fin 12288) (k : Fin 4096) :
    k0_pay1 (F := Ideal) P0 P1 (ix2 r k)
      = min (Ideal.ofBits .f32 1138753536#32) (max (Ideal.ofBits .f32 3286237184#32) (P0 (ix2 r k) * P1 (ix2 r 0))) := by
  pointwise [k0_pay1]

theorem prod_at (P0 : Vec Ideal S12288x4096 .f32) (P1 P2 : Vec Ideal S12288x1 .f32) (a b : Vec Ideal S4096x2816 .bf16) (r : Fin 12288) (k : Fin 5632) :
    k0_pay2 (F := Ideal) P0 P1 P2 a b (ix2 r k)
      = ∑ x : Fin 4096, k0_pay1 (F := Ideal) P0 P1 (ix2 r x) * P2 (ix2 r 0)
          * (if h : k.val < 2816 then a (ix2 x ⟨k.val, h⟩) else b (ix2 x ⟨k.val - 2816, by omega⟩)) := by
  pointwise [k0_pay2]
  split
  · exact Finset.sum_congr rfl fun x _ => rfl
  · exact Finset.sum_congr rfl fun x _ => rfl

end Cert.Proof.Reference

end
-- ==== Proof.ReferenceWeights.lean ====
/-
  The reference's weights at an index, over the extended reals: the number a nibble stands for times the power of two its
  group's exponent stands for.
-/
module

public import proofs.«01_k».proof.Proof.ReferenceQuant
public import proofs.«01_k».proof.Proof.Words

@[expose] public section

set_option maxRecDepth 16384

noncomputable section

namespace Cert.Proof.Reference

open Cert.ReferenceIdeal Cert.ReferenceIdeal.Gen Cert.Proof.Rungs Cert.Proof.Words
open Idealize.ShloMosaic Idealize.ShloMosaic.TcCoe Idealize.SL.Sem

/-! ### Numbers of codes -/

/-- Whether a bit of a code is set, at one code. -/
def bit (c w : BitVec 32) : BitVec 1 := IntOp.cmpi .ne (IntOp.andi c w) 0#32

/-- The number of one code. -/
def mag (c : BitVec 32) : EReal :=
  Scalar.select (bit c 4#32)
    (Scalar.select (bit c 2#32) (Scalar.select (bit c 1#32) (Ideal.ofBits .bf16 16576#16) (Ideal.ofBits .bf16 16512#16))
      (Scalar.select (bit c 1#32) (Ideal.ofBits .bf16 16448#16) (Ideal.ofBits .bf16 16384#16)))
    (Scalar.select (bit c 2#32) (Scalar.select (bit c 1#32) (Ideal.ofBits .bf16 16320#16) 1)
      (Scalar.select (bit c 1#32) (Ideal.ofBits .bf16 16128#16) 0))

theorem numV_at (c : IVec S4096x2816 32) (i : Fin 4096) (k : Fin 2816) :
    numV (F := Ideal) c (ix2 i k) = Scalar.select (bit (c (ix2 i k)) 8#32) (-mag (c (ix2 i k))) (mag (c (ix2 i k))) := by
  pointwise [numV, magV, bitV, pakI, pakC]
  rfl

theorem num_code : ∀ n : Fin 16, Scalar.select (bit (BitVec.ofNat 32 n.val) 8#32) (-mag (BitVec.ofNat 32 n.val)) (mag (BitVec.ofNat 32 n.val)) = num n.val := by
  have b1 : ∀ n : Fin 16, bit (BitVec.ofNat 32 n.val) 1#32 = BitVec.ofNat 1 (n.val % 2) := by decide
  have b2 : ∀ n : Fin 16, bit (BitVec.ofNat 32 n.val) 2#32 = BitVec.ofNat 1 (n.val / 2 % 2) := by decide
  have b4 : ∀ n : Fin 16, bit (BitVec.ofNat 32 n.val) 4#32 = BitVec.ofNat 1 (n.val / 4 % 2) := by decide
  have b8 : ∀ n : Fin 16, bit (BitVec.ofNat 32 n.val) 8#32 = BitVec.ofNat 1 (n.val / 8) := by decide
  have v6 : Ideal.ofBits .bf16 16576#16 = ((6 : ℝ) : EReal) := by simp [Ideal.ofBits, Ideal.ieee, -EReal.coe_mul]; norm_num
  have v4 : Ideal.ofBits .bf16 16512#16 = ((4 : ℝ) : EReal) := by simp [Ideal.ofBits, Ideal.ieee, -EReal.coe_mul]; norm_num
  have v3 : Ideal.ofBits .bf16 16448#16 = ((3 : ℝ) : EReal) := by simp [Ideal.ofBits, Ideal.ieee, -EReal.coe_mul]; norm_num
  have v2 : Ideal.ofBits .bf16 16384#16 = ((2 : ℝ) : EReal) := by simp [Ideal.ofBits, Ideal.ieee, -EReal.coe_mul]; norm_num
  have v15 : Ideal.ofBits .bf16 16320#16 = ((3 / 2 : ℝ) : EReal) := by simp [Ideal.ofBits, Ideal.ieee, -EReal.coe_mul]; norm_num
  have v05 : Ideal.ofBits .bf16 16128#16 = ((1 / 2 : ℝ) : EReal) := by simp [Ideal.ofBits, Ideal.ieee, -EReal.coe_mul]; norm_num
  intro n
  unfold mag
  rw [b1, b2, b4, b8, v6, v4, v3, v2, v15, v05]
  fin_cases n <;> simp [Scalar.select, num, ← EReal.coe_neg] <;> norm_num

/-! ### Group exponents -/

theorem grpV_at (s : IVec S128x5632 8) (g : Fin 128) (k : Fin 5632) : grpV (F := Ideal) s (ix2 g k) = grp (s (ix2 g k)).toNat := by
  pointwise [grpV, powW, grpC]
  have e : (FloatOps.sitofp (F := Ideal) .f32 (IntOp.subi (BitVec.setWidth 32 (s (ix2 g k))) 127#32)) = re ((s (ix2 g k)).toNat - 127) := by
    have key : ∀ x : Fin 256, (IntOp.subi (BitVec.setWidth 32 (BitVec.ofNat 8 x.val)) 127#32).toInt = (x.val : ℤ) - 127 := by decide
    have := key ⟨(s (ix2 g k)).toNat, (s (ix2 g k)).isLt⟩
    dsimp only at this
    rw [BitVec.ofNat_toNat, BitVec.setWidth_eq] at this
    exact congrArg re this
  rw [e, ofBits_m126, ofBits_127, ofBits_top, pow_two]
  simp only [re_lt]
  have hs := (s (ix2 g k)).isLt
  unfold grp
  by_cases h0 : (s (ix2 g k)).toNat = 0
  · rw [if_pos (by omega), if_pos h0]
  by_cases h1 : (s (ix2 g k)).toNat = 255
  · rw [if_neg (by omega), if_pos (by omega), if_neg h0, if_pos h1]
  · rw [if_neg (by omega), if_neg (by omega), if_neg h0, if_neg h1]

/-! ### The weights -/

theorem lo_at (p : IVec S4096x2816 8) (s : IVec S128x5632 8) (i : Fin 4096) (k : Fin 2816) :
    loV (F := Ideal) p s (ix2 i k) = num ((p (ix2 i k)).toNat % 16) * grp (s (ix2 (⟨i.val / 32, by omega⟩ : Fin 128) (⟨k.val, by omega⟩ : Fin 5632))).toNat := by
  pointwise [loV, scaledV]
  rw [numV_at, grpV_at]
  congr 1
  rw [← num_code ⟨(p (ix2 i k)).toNat % 16, by omega⟩]
  have key : ∀ x : Fin 256, IntOp.andi (BitVec.setWidth 32 (BitVec.ofNat 8 x.val)) 15#32 = BitVec.ofNat 32 (x.val % 16) := by decide
  have := key ⟨(p (ix2 i k)).toNat, (p (ix2 i k)).isLt⟩
  dsimp only at this
  rw [BitVec.ofNat_toNat, BitVec.setWidth_eq] at this
  dsimp only
  rw [← this]
  rfl

theorem hi_at (p : IVec S4096x2816 8) (s : IVec S128x5632 8) (i : Fin 4096) (k : Fin 2816) :
    hiV (F := Ideal) p s (ix2 i k) = num ((p (ix2 i k)).toNat / 16) * grp (s (ix2 (⟨i.val / 32, by omega⟩ : Fin 128) (⟨2816 + k.val, by omega⟩ : Fin 5632))).toNat := by
  pointwise [hiV, scaledV]
  rw [numV_at, grpV_at]
  congr 1
  have hp := (p (ix2 i k)).isLt
  rw [← num_code ⟨(p (ix2 i k)).toNat / 16, by omega⟩]
  have key : ∀ x : Fin 256, IntOp.shrsi ArithUnit.host (BitVec.setWidth 32 (BitVec.ofNat 8 x.val)) 4#32 = BitVec.ofNat 32 (x.val / 16) := by decide
  have := key ⟨(p (ix2 i k)).toNat, (p (ix2 i k)).isLt⟩
  dsimp only at this
  rw [BitVec.ofNat_toNat, BitVec.setWidth_eq] at this
  dsimp only
  rw [← this]
  rfl

end Cert.Proof.Reference

end
-- ==== Proof.Finite.lean ====
/-
  What the precondition gives: every activation is finite, so every row's quotient lies in a binade the quantiser reaches.
-/
module

public import proofs.«01_k».proof.Proof.Rungs
public import proofs.«01_k».proof.Proof.Gen.Pre_finite
public import Idealize.ShloMosaic.Lib.Pointwise
public import Idealize.ShloMosaic.Lib.ReduceAll

@[expose] public section

set_option maxRecDepth 16384

noncomputable section

namespace Cert.Proof.Rungs

open Idealize.ShloMosaic

/-- The largest finite activation. -/
def big : EReal := Ideal.ofBits .f32 2139029504#32

theorem recip_val : recip = (((9586981 : ℝ) * 2 ^ (-32 : ℤ) : ℝ) : EReal) := by
  unfold recip
  simp [Ideal.ofBits, Ideal.ieee, -EReal.coe_mul]

theorem big_val : big = (((16711680 : ℝ) * 2 ^ (104 : ℤ) : ℝ) : EReal) := by
  unfold big
  simp [Ideal.ofBits, Ideal.ieee, -EReal.coe_mul]

theorem recip_nonneg : 0 ≤ recip := by
  rw [recip_val, ← EReal.coe_zero, EReal.coe_le_coe_iff]
  positivity

theorem quot_lt {f : Fin 4096 → EReal} (h : ∀ k, max (f k) (-f k) ≤ big) : amax f * recip < two 126 := by
  have h1 : amax f ≤ big := by
    unfold amax
    rw [Finset.fold_max_le]
    exact ⟨bot_le, fun k _ => h k⟩
  refine lt_of_le_of_lt (mul_le_mul_of_nonneg_right h1 recip_nonneg) ?_
  rw [recip_val, big_val, ← EReal.coe_mul]
  unfold two
  rw [EReal.coe_lt_coe_iff]
  norm_num

theorem row_binade {f : Fin 4096 → EReal} (h : ∀ k, max (f k) (-f k) ≤ big) : ∃ n ≤ 252, Binade (amax f * recip) n :=
  exists_binade (N := 252) (by simpa using quot_lt h)

open Cert.Pre_finite Cert.Pre_finite.Gen in
theorem finite_at (x : FVec Ideal S8x1536x4096 .bf16) (p : IVec S4096x2816 8) (s : IVec S128x5632 8)
    (h : Cert.Pre_finite.fn (F := Ideal) x p s = fun _ => 1#1) (i : S8x1536x4096.Idx) : max (x i) (-x i) ≤ big := by
  have h0 := congrFun h (ix0)
  unfold Cert.Pre_finite.fn at h0
  have : Subsingleton S_.Idx := ⟨fun a b => funext fun k => k.elim0⟩
  have h1 := Host.reduce_andi_all _ _ _ _ _ h0 i
  have h2 : BitVec.ofBool (decide (max (x i) (-x i) ≤ big)) = 1#1 := h1
  by_contra hc
  rw [decide_eq_false hc] at h2
  exact absurd h2 (by decide)

end Cert.Proof.Rungs

end
-- ==== Proof.Agree.lean ====
/-
  The kernel's three results and the reference's are the same functions of the inputs over the extended reals, for finite
  activations.
-/
module

public import proofs.«01_k».proof.Proof.KernelIdealValues
public import proofs.«01_k».proof.Proof.KernelIdealBlocks
public import proofs.«01_k».proof.Proof.ReferenceWeights
public import proofs.«01_k».proof.Proof.Finite

@[expose] public section

set_option maxRecDepth 16384

noncomputable section

namespace Cert.Proof.Agree

open Cert.ReferenceIdeal Cert.ReferenceIdeal.Gen Cert.Proof.Rungs Cert.Proof.Words Cert.Proof.Reference
open Idealize.ShloMosaic Idealize.ShloMosaic.TcCoe Idealize.SL.Sem
open Cert.Proof.KernelIdeal (sclN codeN xwN wN yN sclA)

theorem low_code : Ideal.ofBits .bf16 50144#16 = Ideal.ofBits .f32 3286237184#32 := by
  have e1 : Ideal.ofBits .bf16 50144#16 = ((-448 : ℝ) : EReal) := by simp [Ideal.ofBits, Ideal.ieee, -EReal.coe_mul]; norm_num
  have e2 : Ideal.ofBits .f32 3286237184#32 = ((-448 : ℝ) : EReal) := by simp [Ideal.ofBits, Ideal.ieee, -EReal.coe_mul]; norm_num
  rw [e1, e2]

theorem high_code : Ideal.ofBits .bf16 17376#16 = Ideal.ofBits .f32 1138753536#32 := by
  have e1 : Ideal.ofBits .bf16 17376#16 = ((448 : ℝ) : EReal) := by simp [Ideal.ofBits, Ideal.ieee, -EReal.coe_mul]; norm_num
  have e2 : Ideal.ofBits .f32 1138753536#32 = ((448 : ℝ) : EReal) := by simp [Ideal.ofBits, Ideal.ieee, -EReal.coe_mul]; norm_num
  rw [e1, e2]

/-! ### A row -/

section Rows
variable (x : FVec Ideal S8x1536x4096 .bf16) (X : ℕ → ℕ → EReal)
  (hX : ∀ (r : Fin 12288) (k : Fin 4096), X r.val k.val = rowsV (F := Ideal) x (ix2 r k)) (hf : ∀ i, max (x i) (-x i) ≤ big)

include hf in
theorem row_n (r : Fin 12288) : ∃ n ≤ 252, Binade (amax (fun k => rowsV (F := Ideal) x (ix2 r k)) * recip) n :=
  row_binade fun k => by rw [rows_at]; exact hf _

/-- The reference's scales, their reciprocals and its codes. -/
abbrev scl : FVec Ideal S12288x1 .f32 := powV (expoV (quotV (rowsV x)))
abbrev inv : FVec Ideal S12288x1 .f32 := powV (Host.negf (expoV (quotV (rowsV x))))

include hX in
theorem row_X {r : Fin 12288} {n : ℕ} (h : Binade (amax (fun k => rowsV (F := Ideal) x (ix2 r k)) * recip) n) :
    Binade (amax (fun k : Fin 4096 => X r.val k.val) * recip) n := by
  simp only [hX]
  exact h

include hX hf

theorem scale_eq (r : Fin 12288) : sclN (F := Ideal) X r.val = scl x (ix2 r 0) := by
  obtain ⟨n, hn, h⟩ := row_n x hf r
  exact (KernelIdeal.sclN_val X r.val hn (row_X x X hX h) recip_nonneg).trans (scale_at (rowsV x) r hn h).symm

theorem code_eq (r : Fin 12288) (k : Fin 4096) : codeN (F := Ideal) X r.val k.val = k0_pay1 (F := Ideal) (rowsV x) (inv x) (ix2 r k) := by
  obtain ⟨n, hn, h⟩ := row_n x hf r
  refine (KernelIdeal.codeN_val X r.val hn (row_X x X hX h) recip_nonneg k.val k.isLt).trans ?_
  refine Eq.trans ?_ (code_at (rowsV x) (inv x) r k).symm
  rw [hX, show inv x (ix2 r 0) = two (-ex n) from inv_at (rowsV x) r hn h, low_code, high_code, min_comm, max_comm]

theorem value_eq (r : Fin 12288) (k : Fin 4096) :
    xwN (F := Ideal) X r.val k.val = (k0_pay1 (F := Ideal) (rowsV x) (inv x) (ix2 r k) * scl x (ix2 r 0) : EReal) := by
  obtain ⟨n, hn, h⟩ := row_n x hf r
  refine (KernelIdeal.xwN_val X r.val hn (row_X x X hX h) recip_nonneg k.val).trans ?_
  rw [code_eq x X hX hf r k, show scl x (ix2 r 0) = two (ex n) from scale_at (rowsV x) r hn h]

/-! ### The product -/

variable (p : IVec S4096x2816 8) (s : IVec S128x5632 8) (WP WS : ℕ → ℕ → BitVec 8)
  (hP : ∀ (i : Fin 4096) (k : Fin 2816), WP i.val k.val = p (ix2 i k)) (hS : ∀ (g : Fin 128) (k : Fin 5632), WS g.val k.val = s (ix2 g k))

omit hX hf in
include hP hS in
theorem weight_eq (i : Fin 4096) (k : Fin 5632) : (wN (F := Ideal) WP WS i.val k.val : EReal)
    = if h : k.val < 2816 then loV (F := Ideal) p s (ix2 i ⟨k.val, h⟩) else hiV (F := Ideal) p s (ix2 i ⟨k.val - 2816, by omega⟩) := by
  refine (KernelIdeal.wN_val WP WS i.val k.val i.isLt).trans ?_
  have hg := hS ⟨i.val / 32, by omega⟩ k
  by_cases h : k.val < 2816
  · have hp := hP i ⟨k.val, h⟩
    dsimp only at hg hp
    rw [if_pos h, dif_pos h, lo_at, hg, hp]
  · have hp := hP i ⟨k.val - 2816, by omega⟩
    dsimp only at hg hp
    rw [if_neg h, dif_neg h, hi_at, hg, hp]
    have e : (⟨2816 + (k.val - 2816), by omega⟩ : Fin 5632) = k := Fin.ext (by show 2816 + (k.val - 2816) = k.val; omega)
    rw [e]

include hP hS in
theorem prod_eq (r : Fin 12288) (k : Fin 5632) : (yN (F := Ideal) (xwN X) (wN WP WS) r.val k.val : EReal)
    = k0_pay2 (F := Ideal) (rowsV x) (inv x) (scl x) (loV (F := Ideal) p s) (hiV (F := Ideal) p s) (ix2 r k) := by
  refine (KernelIdeal.yN_val _ _ r.val k.val).trans ?_
  refine Eq.trans ?_ (prod_at (rowsV x) (inv x) (scl x) (loV (F := Ideal) p s) (hiV (F := Ideal) p s) r k).symm
  refine Finset.sum_congr rfl fun i _ => ?_
  exact congrArg₂ (· * ·) (value_eq x X hX hf r i) (weight_eq p s WP WS hP hS i k)

/-! ### The three results -/

omit hX hf in
theorem scales_at (y : FVec Ideal S12288x1 .f32) (a : Fin 8) (b : Fin 1536) :
    shapeCast S8x1x1536 y shapeCasts_S12288x1_S8x1x1536 (ix3 a (0 : Fin 1) b) = y (ix2 (⟨1536 * a.val + b.val, by omega⟩ : Fin 12288) 0) := by
  pointwise
  simp only [mul_comm]

omit hX hf in
theorem bound (a : Fin 8) (b : Fin 1536) : 1536 * a.val + b.val < 12288 := by omega

theorem scales_eq : sclA (F := Ideal) X = shapeCast S8x1x1536 (scl x) shapeCasts_S12288x1_S8x1x1536 := by
  funext j
  have hj : j = ix3 (j 0 : Fin 8) (0 : Fin 1) (j 2 : Fin 1536) := by
    funext a
    fin_cases a
    · rfl
    · exact Subsingleton.elim (α := Fin 1) _ _
    · rfl
  refine (scale_eq x X hX hf ⟨1536 * (j 0 : Fin 8).val + (j 2 : Fin 1536).val, bound (j 0) (j 2)⟩).trans ?_
  refine Eq.trans ?_ (congrArg _ hj.symm)
  exact (scales_at (scl x) (j 0) (j 2)).symm

theorem codes_eq : (Steps.n2 (codeN (F := Ideal) X) : S12288x4096.Idx → EReal) = k0_pay1 (F := Ideal) (rowsV x) (inv x) := by
  funext j
  exact (code_eq x X hX hf (j 0) (j 1)).trans (congrArg _ (ix2_eta (n0 := 12288) (n1 := 4096) j))

include hP hS in
theorem prods_eq : (Steps.n2 (yN (F := Ideal) (xwN X) (wN WP WS)) : S12288x5632.Idx → EReal)
    = k0_pay2 (F := Ideal) (rowsV x) (inv x) (scl x) (loV (F := Ideal) p s) (hiV (F := Ideal) p s) := by
  funext j
  exact (prod_eq x X hX hf p s WP WS hP hS (j 0) (j 1)).trans (congrArg _ (ix2_eta (n0 := 12288) (n1 := 5632) j))

end Rows

end Cert.Proof.Agree

end
-- ==== Proof.lean ====
module

public import proofs.«01_k».proof.Defs
public import proofs.«01_k».proof.Proof.KernelRun
public import proofs.«01_k».proof.Proof.KernelIdealRun
public import proofs.«01_k».proof.Proof.KernelIdealFinal
public import proofs.«01_k».proof.Proof.ReferenceRun
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_finite

@[expose] public section

noncomputable section

namespace Cert.Proof

open Idealize.ShloMosaic Idealize.ShloMosaic.TcCoe Idealize.SL.Sem
open Cert.Proof.Agree
open Cert.Proof.KernelIdeal (outY outC outS inX inWP inWS inX_at inWP_at inWS_at)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => outY m c, fun c => outC m c, fun c => outS m c, KernelIdeal.run m g, ?_⟩
  refine (θ_run Cert.ReferenceIdeal.defs _ _).mono (fun r h c => ?_) (Reference.run m' g')
  obtain ⟨hy, hc, hs, h0, h1, h2⟩ := h c
  obtain ⟨a0, a1, a2⟩ := hargs c
  have hf := Rungs.finite_at _ _ _ (hpre c)
  have hX := fun (r : Fin 12288) (k : Fin 4096) => (inX_at m c r k).trans (Reference.rows_at _ r k).symm
  rw [Reference.V_rows, Reference.V_inv, a0] at hc
  rw [Reference.V_rows, Reference.V_inv, Reference.V_scale, Reference.V_lo, Reference.V_hi, a0, a1, a2] at hy
  rw [Reference.V_scale_out, a0] at hs
  exact ⟨hy.trans (prods_eq _ (inX m c) hX hf _ _ (inWP m c) (inWS m c) (inWP_at m c) (inWS_at m c)).symm,
    hc.trans (codes_eq _ (inX m c) hX hf).symm, hs.trans (scales_eq _ (inX m c) hX hf).symm, h0, h1, h2⟩

theorem claim : Cert.Claim := ⟨Cert.Kernel.Gen.facts, Cert.KernelIdeal.Gen.facts, Cert.ReferenceIdeal.Gen.facts, Cert.Pre_finite.Gen.facts,
  fun m ρ _ => Cert.Proof.Kernel.frame m ρ,
  fun m ρ _ => Cert.Proof.KernelIdeal.frame m ρ,
  fun m ρ _ => Cert.Proof.KernelIdeal.frame m ρ,
  fun m ρ _ => Cert.ReferenceIdeal.Gen.frame m ρ,
  fun m ρ _ => Cert.ReferenceIdeal.Gen.frame m ρ,
  trivial,
  algebraic⟩

end Cert.Proof

end
